-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x18432 : Shape := ⟨3, ![2, 128, 18432]⟩
abbrev S2x128x144 : Shape := ⟨3, ![2, 128, 144]⟩
abbrev S2304x18432 : Shape := ⟨2, ![2304, 18432]⟩
abbrev S18x144 : Shape := ⟨2, ![18, 144]⟩
abbrev S256x18432 : Shape := ⟨2, ![256, 18432]⟩
abbrev S256x144 : Shape := ⟨2, ![256, 144]⟩
abbrev S256x2304 : Shape := ⟨2, ![256, 2304]⟩
abbrev S256x18 : Shape := ⟨2, ![256, 18]⟩
abbrev S144x256 : Shape := ⟨2, ![144, 256]⟩
abbrev S18432x256 : Shape := ⟨2, ![18432, 256]⟩
abbrev S4x768x1536 : Shape := ⟨3, ![4, 768, 1536]⟩
abbrev S768x256 : Shape := ⟨2, ![768, 256]⟩
abbrev S18x1x256 : Shape := ⟨3, ![18, 1, 256]⟩
abbrev S12 : Shape := ⟨1, ![12]⟩
abbrev S2x4 : Shape := ⟨2, ![2, 4]⟩
abbrev S3 : Shape := ⟨1, ![3]⟩
abbrev S4 : Shape := ⟨1, ![4]⟩
abbrev S1 : Shape := ⟨1, ![1]⟩
abbrev S_ : Shape := ⟨0, ![]⟩
abbrev S256x1536 : Shape := ⟨2, ![256, 1536]⟩
abbrev S1x1 : Shape := ⟨2, ![1, 1]⟩
abbrev S1x768x1536 : Shape := ⟨3, ![1, 768, 1536]⟩
abbrev S768x1536 : Shape := ⟨2, ![768, 1536]⟩
abbrev S256x128 : Shape := ⟨2, ![256, 128]⟩
abbrev S128x256 : Shape := ⟨2, ![128, 256]⟩
abbrev S256x16 : Shape := ⟨2, ![256, 16]⟩
abbrev S16x256 : Shape := ⟨2, ![16, 256]⟩
abbrev S256x256 : Shape := ⟨2, ![256, 256]⟩
abbrev S1x256 : Shape := ⟨2, ![1, 256]⟩
abbrev S8x16x256 : Shape := ⟨3, ![8, 16, 256]⟩
abbrev S1x16x256 : Shape := ⟨3, ![1, 16, 256]⟩
abbrev S1x128x128 : Shape := ⟨3, ![1, 128, 128]⟩
abbrev S128x128 : Shape := ⟨2, ![128, 128]⟩
abbrev S16x128 : Shape := ⟨2, ![16, 128]⟩
abbrev S8x16x128 : Shape := ⟨3, ![8, 16, 128]⟩
abbrev S1x16x128 : Shape := ⟨3, ![1, 16, 128]⟩
abbrev S128 : Shape := ⟨1, ![128]⟩
abbrev S1x128 : Shape := ⟨2, ![1, 128]⟩
abbrev S255x128 : Shape := ⟨2, ![255, 128]⟩
abbrev S1x1x128 : Shape := ⟨3, ![1, 1, 128]⟩
abbrev S256x768 : Shape := ⟨2, ![256, 768]⟩
abbrev S18x256 : Shape := ⟨2, ![18, 256]⟩

abbrev nBuf : Space → Nat
  | .hbm => 10
  | .vmem => 11
  | .smem => 2
  | _ => 0

abbrev bufTy : (tb : Table) → Fin (tcTables nBuf tb) → BufTy
  | .hbm, ⟨0, _⟩ => ⟨S2x128x18432, .fp8e4m3⟩
  | .hbm, ⟨1, _⟩ => ⟨S2x128x144, .f32⟩
  | .hbm, ⟨2, _⟩ => ⟨S2304x18432, .fp8e4m3⟩
  | .hbm, ⟨3, _⟩ => ⟨S18x144, .f32⟩
  | .hbm, ⟨4, _⟩ => ⟨S2304x18432, .fp8e4m3⟩
  | .hbm, ⟨5, _⟩ => ⟨S18x144, .f32⟩
  | .hbm, ⟨6, _⟩ => ⟨S256x18432, .fp8e4m3⟩
  | .hbm, ⟨7, _⟩ => ⟨S256x144, .f32⟩
  | .hbm, ⟨8, _⟩ => ⟨S256x2304, .fp8e4m3⟩
  | .hbm, ⟨9, _⟩ => ⟨S256x18, .f32⟩
  | .local _ .vmem, ⟨0, _⟩ => ⟨S256x18432, .fp8e4m3⟩
  | .local _ .vmem, ⟨1, _⟩ => ⟨S256x144, .f32⟩
  | .local _ .vmem, ⟨2, _⟩ => ⟨S144x256, .f32⟩
  | .local _ .vmem, ⟨3, _⟩ => ⟨S18432x256, .bf16⟩
  | .local _ .vmem, ⟨4, _⟩ => ⟨S4x768x1536, .fp8e4m3⟩
  | .local _ .vmem, ⟨5, _⟩ => ⟨S4x768x1536, .fp8e4m3⟩
  | .local _ .vmem, ⟨6, _⟩ => ⟨S768x256, .f32⟩
  | .local _ .vmem, ⟨7, _⟩ => ⟨S768x256, .f32⟩
  | .local _ .vmem, ⟨8, _⟩ => ⟨S256x2304, .fp8e4m3⟩
  | .local _ .vmem, ⟨9, _⟩ => ⟨S18x1x256, .f32⟩
  | .local _ .vmem, ⟨10, _⟩ => ⟨S256x18, .f32⟩
  | .local _ .smem, ⟨0, _⟩ => ⟨S18x144, .f32⟩
  | .local _ .smem, ⟨1, _⟩ => ⟨S18x144, .f32⟩
  | _, _ => ⟨S2x128x18432, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch8 : Ref sig .tc := ⟨.vmem, 6, rfl⟩
abbrev cc0_scratch9 : Ref sig .tc := ⟨.vmem, 7, rfl⟩
abbrev cc0_scratch10 : Ref sig .tc := ⟨.vmem, 8, rfl⟩
abbrev cc0_scratch11 : Ref sig .tc := ⟨.vmem, 9, rfl⟩
abbrev cc0_scratch12 : Ref sig .tc := ⟨.vmem, 10, rfl⟩
abbrev cc0_scratch6 : Ref sig .tc := ⟨.smem, 0, rfl⟩
abbrev cc0_scratch7 : Ref sig .tc := ⟨.smem, 1, rfl⟩

abbrev nD : Nat := 1
abbrev τ : Topo := Topo.v7x

variable {F : FTy → Type} [FloatOps F]

abbrev grid0 : Pipeline.Grid := .none

def k0_off1 (c0_i32_8_r0 : BitVec 32) : Fin 2 → Nat :=
  let c0_i32_9_r0 : BitVec 32 := 0#32
  let c4_i32_r0 : BitVec 32 := 4#32
  let v12_r0 : BitVec 32 := Scalar.remsi c0_i32_8_r0 c4_i32_r0
  ![0, v12_r0.toNat]
def k0_off1_at (r : Fin 8) : BitVec 32 :=
  if r.val < 4 then
    if r.val < 2 then
      if r.val < 1 then
        0#32
      else
        1#32
    else
      if r.val < 3 then
        2#32
      else
        3#32
  else
    if r.val < 6 then
      if r.val < 5 then
        12#32
      else
        15#32
    else
      if r.val < 7 then
        24#32
      else
        27#32
def k0_off2 (c0_i32_8_r0 : BitVec 32) : Fin 3 → Nat :=
  let c4_i32_r0 : BitVec 32 := 4#32
  let v12_r0 : BitVec 32 := Scalar.remsi c0_i32_8_r0 c4_i32_r0
  let c0_i32_10_r0 : BitVec 32 := 0#32
  let c0_i32_11_r0 : BitVec 32 := 0#32
  ![v12_r0.toNat, 0, 0]
def k0_off2_at (r : Fin 8) : BitVec 32 :=
  if r.val < 4 then
    if r.val < 2 then
      if r.val < 1 then
        0#32
      else
        1#32
    else
      if r.val < 3 then
        2#32
      else
        3#32
  else
    if r.val < 6 then
      if r.val < 5 then
        12#32
      else
        15#32
    else
      if r.val < 7 then
        24#32
      else
        27#32
def k0_off3 (c0_i32_5_r0 : BitVec 32) (c0_i32_6_r0 : BitVec 32) : Fin 2 → Nat :=
  let c12_i32_r0 : BitVec 32 := 12#32
  let v10_r0 : BitVec 32 := Scalar.divsi c0_i32_5_r0 c12_i32_r0
  let c768_i32_r0 : BitVec 32 := 768#32
  let v13_r0 : BitVec 32 := Scalar.muli v10_r0 c768_i32_r0
  let c12_i32_7_r0 : BitVec 32 := 12#32
  let v11_r0 : BitVec 32 := Scalar.remsi c0_i32_6_r0 c12_i32_7_r0
  let c1536_i32_r0 : BitVec 32 := 1536#32
  let v14_r0 : BitVec 32 := Scalar.muli v11_r0 c1536_i32_r0
  ![v13_r0.toNat, v14_r0.toNat]
def k0_off3_at (r : Fin 8) : BitVec 32 × BitVec 32 :=
  if r.val < 4 then
    if r.val < 2 then
      if r.val < 1 then
        (0#32, 0#32)
      else
        (1#32, 1#32)
    else
      if r.val < 3 then
        (2#32, 2#32)
      else
        (3#32, 3#32)
  else
    if r.val < 6 then
      if r.val < 5 then
        (12#32, 12#32)
      else
        (15#32, 15#32)
    else
      if r.val < 7 then
        (24#32, 24#32)
      else
        (27#32, 27#32)
def k0_off4 (c0_i32_8_r0 : BitVec 32) : Fin 2 → Nat :=
  let c1_i32_12_r0 : BitVec 32 := 1#32
  let c4_i32_r0 : BitVec 32 := 4#32
  let v12_r0 : BitVec 32 := Scalar.remsi c0_i32_8_r0 c4_i32_r0
  ![1, v12_r0.toNat]
def k0_off4_at (r : Fin 8) : BitVec 32 :=
  if r.val < 4 then
    if r.val < 2 then
      if r.val < 1 then
        0#32
      else
        1#32
    else
      if r.val < 3 then
        2#32
      else
        3#32
  else
    if r.val < 6 then
      if r.val < 5 then
        12#32
      else
        15#32
    else
      if r.val < 7 then
        24#32
      else
        27#32
def k0_mult1 : BitVec 32 :=
  let c0_i32_94_r0 : BitVec 32 := 0#32
  c0_i32_94_r0
def k0_off5 (c0_i32_100_r0 : BitVec 32) : Fin 3 → Nat :=
  let c4_i32_101_r0 : BitVec 32 := 4#32
  let v149_r0 : BitVec 32 := Scalar.remsi c0_i32_100_r0 c4_i32_101_r0
  let v184_r0 : Index := Scalar.indexCast v149_r0
  let c0_135_r0 : Index := 0#32
  let c0_136_r0 : Index := 0#32
  ![v184_r0.toNat, 0, 0]
def k0_off6 (c0_i32_100_r0 : BitVec 32) : Fin 3 → Nat :=
  let c4_i32_101_r0 : BitVec 32 := 4#32
  let v149_r0 : BitVec 32 := Scalar.remsi c0_i32_100_r0 c4_i32_101_r0
  let v196_r0 : Index := Scalar.indexCast v149_r0
  let c0_139_r0 : Index := 0#32
  let c128_140_r0 : Index := 128#32
  ![v196_r0.toNat, 0, 128]
def k0_mult2 : BitVec 32 :=
  let c1_i32_151_r0 : BitVec 32 := 1#32
  let c72_i32_r0 : BitVec 32 := 72#32
  let v234_r0 : BitVec 32 := Scalar.remsi c1_i32_151_r0 c72_i32_r0
  let c256_i32_r0 : BitVec 32 := 256#32
  let v235_r0 : BitVec 32 := Scalar.muli v234_r0 c256_i32_r0
  v235_r0
def k0_off7 (c1_i32_151_r0 : BitVec 32) : Fin 2 → Nat :=
  let c0_152_r0 : Index := 0#32
  let c72_i32_r0 : BitVec 32 := 72#32
  let v234_r0 : BitVec 32 := Scalar.remsi c1_i32_151_r0 c72_i32_r0
  let c256_i32_r0 : BitVec 32 := 256#32
  let v235_r0 : BitVec 32 := Scalar.muli v234_r0 c256_i32_r0
  let v236_r0 : BitVec 32 := v235_r0
  let v237_r0 : Index := Scalar.indexCast v236_r0
  ![0, v237_r0.toNat]
def k0_off8 (c1_i32_151_r0 : BitVec 32) (c0_i32_154_r0 : BitVec 32) : Fin 2 → Nat :=
  let c72_i32_r0 : BitVec 32 := 72#32
  let v234_r0 : BitVec 32 := Scalar.remsi c1_i32_151_r0 c72_i32_r0
  let c2_i32_153_r0 : BitVec 32 := 2#32
  let v241_r0 : BitVec 32 := Scalar.muli v234_r0 c2_i32_153_r0
  let v242_r0 : BitVec 32 := Scalar.addi v241_r0 c0_i32_154_r0
  let v243_r0 : Index := Scalar.indexCast v242_r0
  let c0_155_r0 : Index := 0#32
  ![v243_r0.toNat, 0]
def k0_off9 (c1_i32_151_r0 : BitVec 32) : Fin 2 → Nat :=
  let c72_i32_r0 : BitVec 32 := 72#32
  let v234_r0 : BitVec 32 := Scalar.remsi c1_i32_151_r0 c72_i32_r0
  let c256_i32_r0 : BitVec 32 := 256#32
  let v235_r0 : BitVec 32 := Scalar.muli v234_r0 c256_i32_r0
  let v236_r0 : BitVec 32 := v235_r0
  let v268_r0 : Index := Scalar.indexCast v236_r0
  let c0_159_r0 : Index := 0#32
  ![v268_r0.toNat, 0]
def k0_off10 (c0_i32_100_r0 : BitVec 32) : Fin 3 → Nat :=
  let c4_i32_101_r0 : BitVec 32 := 4#32
  let v149_r0 : BitVec 32 := Scalar.remsi c0_i32_100_r0 c4_i32_101_r0
  let v272_r0 : Index := Scalar.indexCast v149_r0
  let c128_160_r0 : Index := 128#32
  let c0_161_r0 : Index := 0#32
  ![v272_r0.toNat, 128, 0]
def k0_off11 (c0_i32_100_r0 : BitVec 32) : Fin 3 → Nat :=
  let c4_i32_101_r0 : BitVec 32 := 4#32
  let v149_r0 : BitVec 32 := Scalar.remsi c0_i32_100_r0 c4_i32_101_r0
  let v284_r0 : Index := Scalar.indexCast v149_r0
  let c128_164_r0 : Index := 128#32
  let c128_165_r0 : Index := 128#32
  ![v284_r0.toNat, 128, 128]
def k0_off12 (c0_i32_100_r0 : BitVec 32) : Fin 3 → Nat :=
  let c4_i32_101_r0 : BitVec 32 := 4#32
  let v149_r0 : BitVec 32 := Scalar.remsi c0_i32_100_r0 c4_i32_101_r0
  let v322_r0 : Index := Scalar.indexCast v149_r0
  let c256_r0 : Index := 256#32
  let c0_176_r0 : Index := 0#32
  ![v322_r0.toNat, 256, 0]
def k0_off13 (c0_i32_100_r0 : BitVec 32) : Fin 3 → Nat :=
  let c4_i32_101_r0 : BitVec 32 := 4#32
  let v149_r0 : BitVec 32 := Scalar.remsi c0_i32_100_r0 c4_i32_101_r0
  let v334_r0 : Index := Scalar.indexCast v149_r0
  let c256_178_r0 : Index := 256#32
  let c128_179_r0 : Index := 128#32
  ![v334_r0.toNat, 256, 128]
def k0_off14 (c0_i32_100_r0 : BitVec 32) : Fin 3 → Nat :=
  let c4_i32_101_r0 : BitVec 32 := 4#32
  let v149_r0 : BitVec 32 := Scalar.remsi c0_i32_100_r0 c4_i32_101_r0
  let v372_r0 : Index := Scalar.indexCast v149_r0
  let c384_r0 : Index := 384#32
  let c0_190_r0 : Index := 0#32
  ![v372_r0.toNat, 384, 0]
def k0_off15 (c0_i32_100_r0 : BitVec 32) : Fin 3 → Nat :=
  let c4_i32_101_r0 : BitVec 32 := 4#32
  let v149_r0 : BitVec 32 := Scalar.remsi c0_i32_100_r0 c4_i32_101_r0
  let v384_r0 : Index := Scalar.indexCast v149_r0
  let c384_192_r0 : Index := 384#32
  let c128_193_r0 : Index := 128#32
  ![v384_r0.toNat, 384, 128]
def k0_off16 (c0_i32_100_r0 : BitVec 32) : Fin 3 → Nat :=
  let c4_i32_101_r0 : BitVec 32 := 4#32
  let v149_r0 : BitVec 32 := Scalar.remsi c0_i32_100_r0 c4_i32_101_r0
  let v422_r0 : Index := Scalar.indexCast v149_r0
  let c512_r0 : Index := 512#32
  let c0_204_r0 : Index := 0#32
  ![v422_r0.toNat, 512, 0]
def k0_off17 (c0_i32_100_r0 : BitVec 32) : Fin 3 → Nat :=
  let c4_i32_101_r0 : BitVec 32 := 4#32
  let v149_r0 : BitVec 32 := Scalar.remsi c0_i32_100_r0 c4_i32_101_r0
  let v434_r0 : Index := Scalar.indexCast v149_r0
  let c512_206_r0 : Index := 512#32
  let c128_207_r0 : Index := 128#32
  ![v434_r0.toNat, 512, 128]
def k0_off18 (c0_i32_100_r0 : BitVec 32) : Fin 3 → Nat :=
  let c4_i32_101_r0 : BitVec 32 := 4#32
  let v149_r0 : BitVec 32 := Scalar.remsi c0_i32_100_r0 c4_i32_101_r0
  let v472_r0 : Index := Scalar.indexCast v149_r0
  let c640_r0 : Index := 640#32
  let c0_218_r0 : Index := 0#32
  ![v472_r0.toNat, 640, 0]
def k0_off19 (c0_i32_100_r0 : BitVec 32) : Fin 3 → Nat :=
  let c4_i32_101_r0 : BitVec 32 := 4#32
  let v149_r0 : BitVec 32 := Scalar.remsi c0_i32_100_r0 c4_i32_101_r0
  let v484_r0 : Index := Scalar.indexCast v149_r0
  let c640_220_r0 : Index := 640#32
  let c128_221_r0 : Index := 128#32
  ![v484_r0.toNat, 640, 128]
def k0_off20 (c0_i32_100_r0 : BitVec 32) : Fin 3 → Nat :=
  let c4_i32_101_r0 : BitVec 32 := 4#32
  let v149_r0 : BitVec 32 := Scalar.remsi c0_i32_100_r0 c4_i32_101_r0
  let v522_r0 : Index := Scalar.indexCast v149_r0
  let c0_232_r0 : Index := 0#32
  let c256_233_r0 : Index := 256#32
  ![v522_r0.toNat, 0, 256]
def k0_off21 (c0_i32_100_r0 : BitVec 32) : Fin 3 → Nat :=
  let c4_i32_101_r0 : BitVec 32 := 4#32
  let v149_r0 : BitVec 32 := Scalar.remsi c0_i32_100_r0 c4_i32_101_r0
  let v534_r0 : Index := Scalar.indexCast v149_r0
  let c0_236_r0 : Index := 0#32
  let c384_237_r0 : Index := 384#32
  ![v534_r0.toNat, 0, 384]
def k0_mult3 : BitVec 32 :=
  let c2_i32_248_r0 : BitVec 32 := 2#32
  let c72_i32_249_r0 : BitVec 32 := 72#32
  let v572_r0 : BitVec 32 := Scalar.remsi c2_i32_248_r0 c72_i32_249_r0
  let c256_i32_250_r0 : BitVec 32 := 256#32
  let v573_r0 : BitVec 32 := Scalar.muli v572_r0 c256_i32_250_r0
  v573_r0
def k0_off22 (c0_i32_100_r0 : BitVec 32) : Fin 3 → Nat :=
  let c4_i32_101_r0 : BitVec 32 := 4#32
  let v149_r0 : BitVec 32 := Scalar.remsi c0_i32_100_r0 c4_i32_101_r0
  let v610_r0 : Index := Scalar.indexCast v149_r0
  let c128_259_r0 : Index := 128#32
  let c256_260_r0 : Index := 256#32
  ![v610_r0.toNat, 128, 256]
def k0_off23 (c0_i32_100_r0 : BitVec 32) : Fin 3 → Nat :=
  let c4_i32_101_r0 : BitVec 32 := 4#32
  let v149_r0 : BitVec 32 := Scalar.remsi c0_i32_100_r0 c4_i32_101_r0
  let v622_r0 : Index := Scalar.indexCast v149_r0
  let c128_263_r0 : Index := 128#32
  let c384_264_r0 : Index := 384#32
  ![v622_r0.toNat, 128, 384]
def k0_off24 (c0_i32_100_r0 : BitVec 32) : Fin 3 → Nat :=
  let c4_i32_101_r0 : BitVec 32 := 4#32
  let v149_r0 : BitVec 32 := Scalar.remsi c0_i32_100_r0 c4_i32_101_r0
  let v660_r0 : Index := Scalar.indexCast v149_r0
  let c256_275_r0 : Index := 256#32
  let c256_276_r0 : Index := 256#32
  ![v660_r0.toNat, 256, 256]
def k0_off25 (c0_i32_100_r0 : BitVec 32) : Fin 3 → Nat :=
  let c4_i32_101_r0 : BitVec 32 := 4#32
  let v149_r0 : BitVec 32 := Scalar.remsi c0_i32_100_r0 c4_i32_101_r0
  let v672_r0 : Index := Scalar.indexCast v149_r0
  let c256_279_r0 : Index := 256#32
  let c384_280_r0 : Index := 384#32
  ![v672_r0.toNat, 256, 384]
def k0_off26 (c0_i32_100_r0 : BitVec 32) : Fin 3 → Nat :=
  let c4_i32_101_r0 : BitVec 32 := 4#32
  let v149_r0 : BitVec 32 := Scalar.remsi c0_i32_100_r0 c4_i32_101_r0
  let v710_r0 : Index := Scalar.indexCast v149_r0
  let c384_291_r0 : Index := 384#32
  let c256_292_r0 : Index := 256#32
  ![v710_r0.toNat, 384, 256]
def k0_off27 (c0_i32_100_r0 : BitVec 32) : Fin 3 → Nat :=
  let c4_i32_101_r0 : BitVec 32 := 4#32
  let v149_r0 : BitVec 32 := Scalar.remsi c0_i32_100_r0 c4_i32_101_r0
  let v722_r0 : Index := Scalar.indexCast v149_r0
  let c384_295_r0 : Index := 384#32
  let c384_296_r0 : Index := 384#32
  ![v722_r0.toNat, 384, 384]
def k0_off28 (c0_i32_100_r0 : BitVec 32) : Fin 3 → Nat :=
  let c4_i32_101_r0 : BitVec 32 := 4#32
  let v149_r0 : BitVec 32 := Scalar.remsi c0_i32_100_r0 c4_i32_101_r0
  let v760_r0 : Index := Scalar.indexCast v149_r0
  let c512_307_r0 : Index := 512#32
  let c256_308_r0 : Index := 256#32
  ![v760_r0.toNat, 512, 256]
def k0_off29 (c0_i32_100_r0 : BitVec 32) : Fin 3 → Nat :=
  let c4_i32_101_r0 : BitVec 32 := 4#32
  let v149_r0 : BitVec 32 := Scalar.remsi c0_i32_100_r0 c4_i32_101_r0
  let v772_r0 : Index := Scalar.indexCast v149_r0
  let c512_311_r0 : Index := 512#32
  let c384_312_r0 : Index := 384#32
  ![v772_r0.toNat, 512, 384]
def k0_off30 (c0_i32_100_r0 : BitVec 32) : Fin 3 → Nat :=
  let c4_i32_101_r0 : BitVec 32 := 4#32
  let v149_r0 : BitVec 32 := Scalar.remsi c0_i32_100_r0 c4_i32_101_r0
  let v810_r0 : Index := Scalar.indexCast v149_r0
  let c640_323_r0 : Index := 640#32
  let c256_324_r0 : Index := 256#32
  ![v810_r0.toNat, 640, 256]
def k0_off31 (c0_i32_100_r0 : BitVec 32) : Fin 3 → Nat :=
  let c4_i32_101_r0 : BitVec 32 := 4#32
  let v149_r0 : BitVec 32 := Scalar.remsi c0_i32_100_r0 c4_i32_101_r0
  let v822_r0 : Index := Scalar.indexCast v149_r0
  let c640_327_r0 : Index := 640#32
  let c384_328_r0 : Index := 384#32
  ![v822_r0.toNat, 640, 384]
def k0_off32 (c0_i32_100_r0 : BitVec 32) : Fin 3 → Nat :=
  let c4_i32_101_r0 : BitVec 32 := 4#32
  let v149_r0 : BitVec 32 := Scalar.remsi c0_i32_100_r0 c4_i32_101_r0
  let v860_r0 : Index := Scalar.indexCast v149_r0
  let c0_339_r0 : Index := 0#32
  let c512_340_r0 : Index := 512#32
  ![v860_r0.toNat, 0, 512]
def k0_off33 (c0_i32_100_r0 : BitVec 32) : Fin 3 → Nat :=
  let c4_i32_101_r0 : BitVec 32 := 4#32
  let v149_r0 : BitVec 32 := Scalar.remsi c0_i32_100_r0 c4_i32_101_r0
  let v872_r0 : Index := Scalar.indexCast v149_r0
  let c0_343_r0 : Index := 0#32
  let c640_344_r0 : Index := 640#32
  ![v872_r0.toNat, 0, 640]
def k0_mult4 : BitVec 32 :=
  let c3_i32_355_r0 : BitVec 32 := 3#32
  let c72_i32_356_r0 : BitVec 32 := 72#32
  let v910_r0 : BitVec 32 := Scalar.remsi c3_i32_355_r0 c72_i32_356_r0
  let c256_i32_357_r0 : BitVec 32 := 256#32
  let v911_r0 : BitVec 32 := Scalar.muli v910_r0 c256_i32_357_r0
  v911_r0
def k0_off34 (c0_i32_100_r0 : BitVec 32) : Fin 3 → Nat :=
  let c4_i32_101_r0 : BitVec 32 := 4#32
  let v149_r0 : BitVec 32 := Scalar.remsi c0_i32_100_r0 c4_i32_101_r0
  let v948_r0 : Index := Scalar.indexCast v149_r0
  let c128_366_r0 : Index := 128#32
  let c512_367_r0 : Index := 512#32
  ![v948_r0.toNat, 128, 512]
def k0_off35 (c0_i32_100_r0 : BitVec 32) : Fin 3 → Nat :=
  let c4_i32_101_r0 : BitVec 32 := 4#32
  let v149_r0 : BitVec 32 := Scalar.remsi c0_i32_100_r0 c4_i32_101_r0
  let v960_r0 : Index := Scalar.indexCast v149_r0
  let c128_370_r0 : Index := 128#32
  let c640_371_r0 : Index := 640#32
  ![v960_r0.toNat, 128, 640]
def k0_off36 (c0_i32_100_r0 : BitVec 32) : Fin 3 → Nat :=
  let c4_i32_101_r0 : BitVec 32 := 4#32
  let v149_r0 : BitVec 32 := Scalar.remsi c0_i32_100_r0 c4_i32_101_r0
  let v998_r0 : Index := Scalar.indexCast v149_r0
  let c256_382_r0 : Index := 256#32
  let c512_383_r0 : Index := 512#32
  ![v998_r0.toNat, 256, 512]
def k0_off37 (c0_i32_100_r0 : BitVec 32) : Fin 3 → Nat :=
  let c4_i32_101_r0 : BitVec 32 := 4#32
  let v149_r0 : BitVec 32 := Scalar.remsi c0_i32_100_r0 c4_i32_101_r0
  let v1010_r0 : Index := Scalar.indexCast v149_r0
  let c256_386_r0 : Index := 256#32
  let c640_387_r0 : Index := 640#32
  ![v1010_r0.toNat, 256, 640]
def k0_off38 (c0_i32_100_r0 : BitVec 32) : Fin 3 → Nat :=
  let c4_i32_101_r0 : BitVec 32 := 4#32
  let v149_r0 : BitVec 32 := Scalar.remsi c0_i32_100_r0 c4_i32_101_r0
  let v1048_r0 : Index := Scalar.indexCast v149_r0
  let c384_398_r0 : Index := 384#32
  let c512_399_r0 : Index := 512#32
  ![v1048_r0.toNat, 384, 512]
def k0_off39 (c0_i32_100_r0 : BitVec 32) : Fin 3 → Nat :=
  let c4_i32_101_r0 : BitVec 32 := 4#32
  let v149_r0 : BitVec 32 := Scalar.remsi c0_i32_100_r0 c4_i32_101_r0
  let v1060_r0 : Index := Scalar.indexCast v149_r0
  let c384_402_r0 : Index := 384#32
  let c640_403_r0 : Index := 640#32
  ![v1060_r0.toNat, 384, 640]
def k0_off40 (c0_i32_100_r0 : BitVec 32) : Fin 3 → Nat :=
  let c4_i32_101_r0 : BitVec 32 := 4#32
  let v149_r0 : BitVec 32 := Scalar.remsi c0_i32_100_r0 c4_i32_101_r0
  let v1098_r0 : Index := Scalar.indexCast v149_r0
  let c512_414_r0 : Index := 512#32
  let c512_415_r0 : Index := 512#32
  ![v1098_r0.toNat, 512, 512]
def k0_off41 (c0_i32_100_r0 : BitVec 32) : Fin 3 → Nat :=
  let c4_i32_101_r0 : BitVec 32 := 4#32
  let v149_r0 : BitVec 32 := Scalar.remsi c0_i32_100_r0 c4_i32_101_r0
  let v1110_r0 : Index := Scalar.indexCast v149_r0
  let c512_418_r0 : Index := 512#32
  let c640_419_r0 : Index := 640#32
  ![v1110_r0.toNat, 512, 640]
def k0_off42 (c0_i32_100_r0 : BitVec 32) : Fin 3 → Nat :=
  let c4_i32_101_r0 : BitVec 32 := 4#32
  let v149_r0 : BitVec 32 := Scalar.remsi c0_i32_100_r0 c4_i32_101_r0
  let v1148_r0 : Index := Scalar.indexCast v149_r0
  let c640_430_r0 : Index := 640#32
  let c512_431_r0 : Index := 512#32
  ![v1148_r0.toNat, 640, 512]
def k0_off43 (c0_i32_100_r0 : BitVec 32) : Fin 3 → Nat :=
  let c4_i32_101_r0 : BitVec 32 := 4#32
  let v149_r0 : BitVec 32 := Scalar.remsi c0_i32_100_r0 c4_i32_101_r0
  let v1160_r0 : Index := Scalar.indexCast v149_r0
  let c640_434_r0 : Index := 640#32
  let c640_435_r0 : Index := 640#32
  ![v1160_r0.toNat, 640, 640]
def k0_off44 (c0_i32_100_r0 : BitVec 32) : Fin 3 → Nat :=
  let c4_i32_101_r0 : BitVec 32 := 4#32
  let v149_r0 : BitVec 32 := Scalar.remsi c0_i32_100_r0 c4_i32_101_r0
  let v1198_r0 : Index := Scalar.indexCast v149_r0
  let c0_446_r0 : Index := 0#32
  let c768_r0 : Index := 768#32
  ![v1198_r0.toNat, 0, 768]
def k0_off45 (c0_i32_100_r0 : BitVec 32) : Fin 3 → Nat :=
  let c4_i32_101_r0 : BitVec 32 := 4#32
  let v149_r0 : BitVec 32 := Scalar.remsi c0_i32_100_r0 c4_i32_101_r0
  let v1210_r0 : Index := Scalar.indexCast v149_r0
  let c0_448_r0 : Index := 0#32
  let c896_r0 : Index := 896#32
  ![v1210_r0.toNat, 0, 896]
def k0_mult5 : BitVec 32 :=
  let c4_i32_458_r0 : BitVec 32 := 4#32
  let c72_i32_459_r0 : BitVec 32 := 72#32
  let v1248_r0 : BitVec 32 := Scalar.remsi c4_i32_458_r0 c72_i32_459_r0
  let c256_i32_460_r0 : BitVec 32 := 256#32
  let v1249_r0 : BitVec 32 := Scalar.muli v1248_r0 c256_i32_460_r0
  v1249_r0
def k0_off46 (c0_i32_100_r0 : BitVec 32) : Fin 3 → Nat :=
  let c4_i32_101_r0 : BitVec 32 := 4#32
  let v149_r0 : BitVec 32 := Scalar.remsi c0_i32_100_r0 c4_i32_101_r0
  let v1286_r0 : Index := Scalar.indexCast v149_r0
  let c128_469_r0 : Index := 128#32
  let c768_470_r0 : Index := 768#32
  ![v1286_r0.toNat, 128, 768]
def k0_off47 (c0_i32_100_r0 : BitVec 32) : Fin 3 → Nat :=
  let c4_i32_101_r0 : BitVec 32 := 4#32
  let v149_r0 : BitVec 32 := Scalar.remsi c0_i32_100_r0 c4_i32_101_r0
  let v1298_r0 : Index := Scalar.indexCast v149_r0
  let c128_473_r0 : Index := 128#32
  let c896_474_r0 : Index := 896#32
  ![v1298_r0.toNat, 128, 896]
def k0_off48 (c0_i32_100_r0 : BitVec 32) : Fin 3 → Nat :=
  let c4_i32_101_r0 : BitVec 32 := 4#32
  let v149_r0 : BitVec 32 := Scalar.remsi c0_i32_100_r0 c4_i32_101_r0
  let v1336_r0 : Index := Scalar.indexCast v149_r0
  let c256_485_r0 : Index := 256#32
  let c768_486_r0 : Index := 768#32
  ![v1336_r0.toNat, 256, 768]
def k0_off49 (c0_i32_100_r0 : BitVec 32) : Fin 3 → Nat :=
  let c4_i32_101_r0 : BitVec 32 := 4#32
  let v149_r0 : BitVec 32 := Scalar.remsi c0_i32_100_r0 c4_i32_101_r0
  let v1348_r0 : Index := Scalar.indexCast v149_r0
  let c256_489_r0 : Index := 256#32
  let c896_490_r0 : Index := 896#32
  ![v1348_r0.toNat, 256, 896]
def k0_off50 (c0_i32_100_r0 : BitVec 32) : Fin 3 → Nat :=
  let c4_i32_101_r0 : BitVec 32 := 4#32
  let v149_r0 : BitVec 32 := Scalar.remsi c0_i32_100_r0 c4_i32_101_r0
  let v1386_r0 : Index := Scalar.indexCast v149_r0
  let c384_501_r0 : Index := 384#32
  let c768_502_r0 : Index := 768#32
  ![v1386_r0.toNat, 384, 768]
def k0_off51 (c0_i32_100_r0 : BitVec 32) : Fin 3 → Nat :=
  let c4_i32_101_r0 : BitVec 32 := 4#32
  let v149_r0 : BitVec 32 := Scalar.remsi c0_i32_100_r0 c4_i32_101_r0
  let v1398_r0 : Index := Scalar.indexCast v149_r0
  let c384_505_r0 : Index := 384#32
  let c896_506_r0 : Index := 896#32
  ![v1398_r0.toNat, 384, 896]
def k0_off52 (c0_i32_100_r0 : BitVec 32) : Fin 3 → Nat :=
  let c4_i32_101_r0 : BitVec 32 := 4#32
  let v149_r0 : BitVec 32 := Scalar.remsi c0_i32_100_r0 c4_i32_101_r0
  let v1436_r0 : Index := Scalar.indexCast v149_r0
  let c512_517_r0 : Index := 512#32
  let c768_518_r0 : Index := 768#32
  ![v1436_r0.toNat, 512, 768]
def k0_off53 (c0_i32_100_r0 : BitVec 32) : Fin 3 → Nat :=
  let c4_i32_101_r0 : BitVec 32 := 4#32
  let v149_r0 : BitVec 32 := Scalar.remsi c0_i32_100_r0 c4_i32_101_r0
  let v1448_r0 : Index := Scalar.indexCast v149_r0
  let c512_521_r0 : Index := 512#32
  let c896_522_r0 : Index := 896#32
  ![v1448_r0.toNat, 512, 896]
def k0_off54 (c0_i32_100_r0 : BitVec 32) : Fin 3 → Nat :=
  let c4_i32_101_r0 : BitVec 32 := 4#32
  let v149_r0 : BitVec 32 := Scalar.remsi c0_i32_100_r0 c4_i32_101_r0
  let v1486_r0 : Index := Scalar.indexCast v149_r0
  let c640_533_r0 : Index := 640#32
  let c768_534_r0 : Index := 768#32
  ![v1486_r0.toNat, 640, 768]
def k0_off55 (c0_i32_100_r0 : BitVec 32) : Fin 3 → Nat :=
  let c4_i32_101_r0 : BitVec 32 := 4#32
  let v149_r0 : BitVec 32 := Scalar.remsi c0_i32_100_r0 c4_i32_101_r0
  let v1498_r0 : Index := Scalar.indexCast v149_r0
  let c640_537_r0 : Index := 640#32
  let c896_538_r0 : Index := 896#32
  ![v1498_r0.toNat, 640, 896]
def k0_off56 (c0_i32_100_r0 : BitVec 32) : Fin 3 → Nat :=
  let c4_i32_101_r0 : BitVec 32 := 4#32
  let v149_r0 : BitVec 32 := Scalar.remsi c0_i32_100_r0 c4_i32_101_r0
  let v1536_r0 : Index := Scalar.indexCast v149_r0
  let c0_549_r0 : Index := 0#32
  let c1024_r0 : Index := 1024#32
  ![v1536_r0.toNat, 0, 1024]
def k0_off57 (c0_i32_100_r0 : BitVec 32) : Fin 3 → Nat :=
  let c4_i32_101_r0 : BitVec 32 := 4#32
  let v149_r0 : BitVec 32 := Scalar.remsi c0_i32_100_r0 c4_i32_101_r0
  let v1548_r0 : Index := Scalar.indexCast v149_r0
  let c0_551_r0 : Index := 0#32
  let c1152_r0 : Index := 1152#32
  ![v1548_r0.toNat, 0, 1152]
def k0_mult6 : BitVec 32 :=
  let c5_i32_561_r0 : BitVec 32 := 5#32
  let c72_i32_562_r0 : BitVec 32 := 72#32
  let v1586_r0 : BitVec 32 := Scalar.remsi c5_i32_561_r0 c72_i32_562_r0
  let c256_i32_563_r0 : BitVec 32 := 256#32
  let v1587_r0 : BitVec 32 := Scalar.muli v1586_r0 c256_i32_563_r0
  v1587_r0
def k0_off58 (c0_i32_100_r0 : BitVec 32) : Fin 3 → Nat :=
  let c4_i32_101_r0 : BitVec 32 := 4#32
  let v149_r0 : BitVec 32 := Scalar.remsi c0_i32_100_r0 c4_i32_101_r0
  let v1624_r0 : Index := Scalar.indexCast v149_r0
  let c128_572_r0 : Index := 128#32
  let c1024_573_r0 : Index := 1024#32
  ![v1624_r0.toNat, 128, 1024]
def k0_off59 (c0_i32_100_r0 : BitVec 32) : Fin 3 → Nat :=
  let c4_i32_101_r0 : BitVec 32 := 4#32
  let v149_r0 : BitVec 32 := Scalar.remsi c0_i32_100_r0 c4_i32_101_r0
  let v1636_r0 : Index := Scalar.indexCast v149_r0
  let c128_576_r0 : Index := 128#32
  let c1152_577_r0 : Index := 1152#32
  ![v1636_r0.toNat, 128, 1152]
def k0_off60 (c0_i32_100_r0 : BitVec 32) : Fin 3 → Nat :=
  let c4_i32_101_r0 : BitVec 32 := 4#32
  let v149_r0 : BitVec 32 := Scalar.remsi c0_i32_100_r0 c4_i32_101_r0
  let v1674_r0 : Index := Scalar.indexCast v149_r0
  let c256_588_r0 : Index := 256#32
  let c1024_589_r0 : Index := 1024#32
  ![v1674_r0.toNat, 256, 1024]
def k0_off61 (c0_i32_100_r0 : BitVec 32) : Fin 3 → Nat :=
  let c4_i32_101_r0 : BitVec 32 := 4#32
  let v149_r0 : BitVec 32 := Scalar.remsi c0_i32_100_r0 c4_i32_101_r0
  let v1686_r0 : Index := Scalar.indexCast v149_r0
  let c256_592_r0 : Index := 256#32
  let c1152_593_r0 : Index := 1152#32
  ![v1686_r0.toNat, 256, 1152]
def k0_off62 (c0_i32_100_r0 : BitVec 32) : Fin 3 → Nat :=
  let c4_i32_101_r0 : BitVec 32 := 4#32
  let v149_r0 : BitVec 32 := Scalar.remsi c0_i32_100_r0 c4_i32_101_r0
  let v1724_r0 : Index := Scalar.indexCast v149_r0
  let c384_604_r0 : Index := 384#32
  let c1024_605_r0 : Index := 1024#32
  ![v1724_r0.toNat, 384, 1024]
def k0_off63 (c0_i32_100_r0 : BitVec 32) : Fin 3 → Nat :=
  let c4_i32_101_r0 : BitVec 32 := 4#32
  let v149_r0 : BitVec 32 := Scalar.remsi c0_i32_100_r0 c4_i32_101_r0
  let v1736_r0 : Index := Scalar.indexCast v149_r0
  let c384_608_r0 : Index := 384#32
  let c1152_609_r0 : Index := 1152#32
  ![v1736_r0.toNat, 384, 1152]
def k0_off64 (c0_i32_100_r0 : BitVec 32) : Fin 3 → Nat :=
  let c4_i32_101_r0 : BitVec 32 := 4#32
  let v149_r0 : BitVec 32 := Scalar.remsi c0_i32_100_r0 c4_i32_101_r0
  let v1774_r0 : Index := Scalar.indexCast v149_r0
  let c512_620_r0 : Index := 512#32
  let c1024_621_r0 : Index := 1024#32
  ![v1774_r0.toNat, 512, 1024]
def k0_off65 (c0_i32_100_r0 : BitVec 32) : Fin 3 → Nat :=
  let c4_i32_101_r0 : BitVec 32 := 4#32
  let v149_r0 : BitVec 32 := Scalar.remsi c0_i32_100_r0 c4_i32_101_r0
  let v1786_r0 : Index := Scalar.indexCast v149_r0
  let c512_624_r0 : Index := 512#32
  let c1152_625_r0 : Index := 1152#32
  ![v1786_r0.toNat, 512, 1152]
def k0_off66 (c0_i32_100_r0 : BitVec 32) : Fin 3 → Nat :=
  let c4_i32_101_r0 : BitVec 32 := 4#32
  let v149_r0 : BitVec 32 := Scalar.remsi c0_i32_100_r0 c4_i32_101_r0
  let v1824_r0 : Index := Scalar.indexCast v149_r0
  let c640_636_r0 : Index := 640#32
  let c1024_637_r0 : Index := 1024#32
  ![v1824_r0.toNat, 640, 1024]
def k0_off67 (c0_i32_100_r0 : BitVec 32) : Fin 3 → Nat :=
  let c4_i32_101_r0 : BitVec 32 := 4#32
  let v149_r0 : BitVec 32 := Scalar.remsi c0_i32_100_r0 c4_i32_101_r0
  let v1836_r0 : Index := Scalar.indexCast v149_r0
  let c640_640_r0 : Index := 640#32
  let c1152_641_r0 : Index := 1152#32
  ![v1836_r0.toNat, 640, 1152]
def k0_off68 (c0_i32_100_r0 : BitVec 32) : Fin 3 → Nat :=
  let c4_i32_101_r0 : BitVec 32 := 4#32
  let v149_r0 : BitVec 32 := Scalar.remsi c0_i32_100_r0 c4_i32_101_r0
  let v1874_r0 : Index := Scalar.indexCast v149_r0
  let c0_652_r0 : Index := 0#32
  let c1280_r0 : Index := 1280#32
  ![v1874_r0.toNat, 0, 1280]
def k0_off69 (c0_i32_100_r0 : BitVec 32) : Fin 3 → Nat :=
  let c4_i32_101_r0 : BitVec 32 := 4#32
  let v149_r0 : BitVec 32 := Scalar.remsi c0_i32_100_r0 c4_i32_101_r0
  let v1886_r0 : Index := Scalar.indexCast v149_r0
  let c0_654_r0 : Index := 0#32
  let c1408_r0 : Index := 1408#32
  ![v1886_r0.toNat, 0, 1408]
def k0_mult7 : BitVec 32 :=
  let c6_i32_664_r0 : BitVec 32 := 6#32
  let c72_i32_665_r0 : BitVec 32 := 72#32
  let v1924_r0 : BitVec 32 := Scalar.remsi c6_i32_664_r0 c72_i32_665_r0
  let c256_i32_666_r0 : BitVec 32 := 256#32
  let v1925_r0 : BitVec 32 := Scalar.muli v1924_r0 c256_i32_666_r0
  v1925_r0
def k0_off70 (c0_i32_100_r0 : BitVec 32) : Fin 3 → Nat :=
  let c4_i32_101_r0 : BitVec 32 := 4#32
  let v149_r0 : BitVec 32 := Scalar.remsi c0_i32_100_r0 c4_i32_101_r0
  let v1962_r0 : Index := Scalar.indexCast v149_r0
  let c128_675_r0 : Index := 128#32
  let c1280_676_r0 : Index := 1280#32
  ![v1962_r0.toNat, 128, 1280]
def k0_off71 (c0_i32_100_r0 : BitVec 32) : Fin 3 → Nat :=
  let c4_i32_101_r0 : BitVec 32 := 4#32
  let v149_r0 : BitVec 32 := Scalar.remsi c0_i32_100_r0 c4_i32_101_r0
  let v1974_r0 : Index := Scalar.indexCast v149_r0
  let c128_679_r0 : Index := 128#32
  let c1408_680_r0 : Index := 1408#32
  ![v1974_r0.toNat, 128, 1408]
def k0_off72 (c0_i32_100_r0 : BitVec 32) : Fin 3 → Nat :=
  let c4_i32_101_r0 : BitVec 32 := 4#32
  let v149_r0 : BitVec 32 := Scalar.remsi c0_i32_100_r0 c4_i32_101_r0
  let v2012_r0 : Index := Scalar.indexCast v149_r0
  let c256_691_r0 : Index := 256#32
  let c1280_692_r0 : Index := 1280#32
  ![v2012_r0.toNat, 256, 1280]
def k0_off73 (c0_i32_100_r0 : BitVec 32) : Fin 3 → Nat :=
  let c4_i32_101_r0 : BitVec 32 := 4#32
  let v149_r0 : BitVec 32 := Scalar.remsi c0_i32_100_r0 c4_i32_101_r0
  let v2024_r0 : Index := Scalar.indexCast v149_r0
  let c256_695_r0 : Index := 256#32
  let c1408_696_r0 : Index := 1408#32
  ![v2024_r0.toNat, 256, 1408]
def k0_off74 (c0_i32_100_r0 : BitVec 32) : Fin 3 → Nat :=
  let c4_i32_101_r0 : BitVec 32 := 4#32
  let v149_r0 : BitVec 32 := Scalar.remsi c0_i32_100_r0 c4_i32_101_r0
  let v2062_r0 : Index := Scalar.indexCast v149_r0
  let c384_707_r0 : Index := 384#32
  let c1280_708_r0 : Index := 1280#32
  ![v2062_r0.toNat, 384, 1280]
def k0_off75 (c0_i32_100_r0 : BitVec 32) : Fin 3 → Nat :=
  let c4_i32_101_r0 : BitVec 32 := 4#32
  let v149_r0 : BitVec 32 := Scalar.remsi c0_i32_100_r0 c4_i32_101_r0
  let v2074_r0 : Index := Scalar.indexCast v149_r0
  let c384_711_r0 : Index := 384#32
  let c1408_712_r0 : Index := 1408#32
  ![v2074_r0.toNat, 384, 1408]
def k0_off76 (c0_i32_100_r0 : BitVec 32) : Fin 3 → Nat :=
  let c4_i32_101_r0 : BitVec 32 := 4#32
  let v149_r0 : BitVec 32 := Scalar.remsi c0_i32_100_r0 c4_i32_101_r0
  let v2112_r0 : Index := Scalar.indexCast v149_r0
  let c512_723_r0 : Index := 512#32
  let c1280_724_r0 : Index := 1280#32
  ![v2112_r0.toNat, 512, 1280]
def k0_off77 (c0_i32_100_r0 : BitVec 32) : Fin 3 → Nat :=
  let c4_i32_101_r0 : BitVec 32 := 4#32
  let v149_r0 : BitVec 32 := Scalar.remsi c0_i32_100_r0 c4_i32_101_r0
  let v2124_r0 : Index := Scalar.indexCast v149_r0
  let c512_727_r0 : Index := 512#32
  let c1408_728_r0 : Index := 1408#32
  ![v2124_r0.toNat, 512, 1408]
def k0_off78 (c0_i32_100_r0 : BitVec 32) : Fin 3 → Nat :=
  let c4_i32_101_r0 : BitVec 32 := 4#32
  let v149_r0 : BitVec 32 := Scalar.remsi c0_i32_100_r0 c4_i32_101_r0
  let v2162_r0 : Index := Scalar.indexCast v149_r0
  let c640_739_r0 : Index := 640#32
  let c1280_740_r0 : Index := 1280#32
  ![v2162_r0.toNat, 640, 1280]
def k0_off79 (c0_i32_100_r0 : BitVec 32) : Fin 3 → Nat :=
  let c4_i32_101_r0 : BitVec 32 := 4#32
  let v149_r0 : BitVec 32 := Scalar.remsi c0_i32_100_r0 c4_i32_101_r0
  let v2174_r0 : Index := Scalar.indexCast v149_r0
  let c640_743_r0 : Index := 640#32
  let c1408_744_r0 : Index := 1408#32
  ![v2174_r0.toNat, 640, 1408]
@[reducible] def k0_t1_loop : Scf.Loop 32 :=
  let c0_i32_755_r0 : BitVec 32 := 0#32
  let c11_i32_756_r0 : BitVec 32 := 11#32
  let v2212_r0 : BitVec 32 := Scalar.addi c0_i32_755_r0 c11_i32_756_r0
  let c1_i32_757_r0 : BitVec 32 := 1#32
  ⟨c0_i32_755_r0, v2212_r0, c1_i32_757_r0⟩
def k0_off80 (k0_t1 : Fin k0_t1_loop.trips) : Fin 2 → Nat :=
  let c0_i32_2433_r0 : BitVec 32 := 0#32
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2430_r0 : BitVec 32 := 4#32
  let v6937_r0 : BitVec 32 := Scalar.remsi v6933_r0 c4_i32_2430_r0
  ![0, v6937_r0.toNat]
def k0_off81 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2430_r0 : BitVec 32 := 4#32
  let v6937_r0 : BitVec 32 := Scalar.remsi v6933_r0 c4_i32_2430_r0
  let c0_i32_2434_r0 : BitVec 32 := 0#32
  let c0_i32_2435_r0 : BitVec 32 := 0#32
  ![v6937_r0.toNat, 0, 0]
def k0_off82 (k0_t1 : Fin k0_t1_loop.trips) : Fin 2 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c12_i32_2428_r0 : BitVec 32 := 12#32
  let v6935_r0 : BitVec 32 := Scalar.divsi v6933_r0 c12_i32_2428_r0
  let c768_i32_2431_r0 : BitVec 32 := 768#32
  let v6938_r0 : BitVec 32 := Scalar.muli v6935_r0 c768_i32_2431_r0
  let c12_i32_2429_r0 : BitVec 32 := 12#32
  let v6936_r0 : BitVec 32 := Scalar.remsi v6933_r0 c12_i32_2429_r0
  let c1536_i32_2432_r0 : BitVec 32 := 1536#32
  let v6939_r0 : BitVec 32 := Scalar.muli v6936_r0 c1536_i32_2432_r0
  ![v6938_r0.toNat, v6939_r0.toNat]
def k0_off83 (k0_t1 : Fin k0_t1_loop.trips) : Fin 2 → Nat :=
  let c1_i32_2436_r0 : BitVec 32 := 1#32
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2430_r0 : BitVec 32 := 4#32
  let v6937_r0 : BitVec 32 := Scalar.remsi v6933_r0 c4_i32_2430_r0
  ![1, v6937_r0.toNat]
def k0_cond1 (k0_t1 : Fin k0_t1_loop.trips) : BitVec 1 :=
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let c1_i32_2439_r0 : BitVec 32 := 1#32
  let v6950_r0 : BitVec 32 := Scalar.addi v6932_r0 c1_i32_2439_r0
  let c12_i32_2440_r0 : BitVec 32 := 12#32
  let v6951_r0 : BitVec 1 := Scalar.cmpi .slt v6950_r0 c12_i32_2440_r0
  let v6952_r0 : BitVec 32 := Scalar.extui v6951_r0
  let c0_i32_2441_r0 : BitVec 32 := 0#32
  let v6953_r0 : BitVec 1 := Scalar.cmpi .ne v6952_r0 c0_i32_2441_r0
  v6953_r0

def k0_off84 (k0_t1 : Fin k0_t1_loop.trips) : Fin 1 → Nat :=
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let c1_i32_3243_r0 : BitVec 32 := 1#32
  let v9437_r0 : BitVec 32 := Scalar.addi v6932_r0 c1_i32_3243_r0
  ![v9437_r0.toNat]
def k0_off85 (k0_t1 : Fin k0_t1_loop.trips) : Fin 2 → Nat :=
  let c0_i32_3245_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let c1_i32_3243_r0 : BitVec 32 := 1#32
  let v9437_r0 : BitVec 32 := Scalar.addi v6932_r0 c1_i32_3243_r0
  let c1536_i32_3244_r0 : BitVec 32 := 1536#32
  let v9438_r0 : BitVec 32 := Scalar.muli v9437_r0 c1536_i32_3244_r0
  ![0, v9438_r0.toNat]
def k0_cond2 (k0_t1 : Fin k0_t1_loop.trips) : BitVec 1 :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2442_r0 : BitVec 32 := 4#32
  let v6954_r0 : BitVec 32 := Scalar.addi v6933_r0 c4_i32_2442_r0
  let c1_i32_2443_r0 : BitVec 32 := 1#32
  let v6955_r0 : BitVec 32 := Scalar.subi v6954_r0 c1_i32_2443_r0
  let c36_i32_r0 : BitVec 32 := 36#32
  let v6956_r0 : BitVec 1 := Scalar.cmpi .slt v6955_r0 c36_i32_r0
  let v6957_r0 : BitVec 32 := Scalar.extui v6956_r0
  let c0_i32_2444_r0 : BitVec 32 := 0#32
  let v6958_r0 : BitVec 1 := Scalar.cmpi .ne v6957_r0 c0_i32_2444_r0
  v6958_r0

def k0_off86 (k0_t1 : Fin k0_t1_loop.trips) : Fin 2 → Nat :=
  let c0_i32_3248_r0 : BitVec 32 := 0#32
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2442_r0 : BitVec 32 := 4#32
  let v6954_r0 : BitVec 32 := Scalar.addi v6933_r0 c4_i32_2442_r0
  let c1_i32_2443_r0 : BitVec 32 := 1#32
  let v6955_r0 : BitVec 32 := Scalar.subi v6954_r0 c1_i32_2443_r0
  let c4_i32_3245_r0 : BitVec 32 := 4#32
  let v9439_r0 : BitVec 32 := Scalar.remsi v6955_r0 c4_i32_3245_r0
  ![0, v9439_r0.toNat]
def k0_off87 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2442_r0 : BitVec 32 := 4#32
  let v6954_r0 : BitVec 32 := Scalar.addi v6933_r0 c4_i32_2442_r0
  let c1_i32_2443_r0 : BitVec 32 := 1#32
  let v6955_r0 : BitVec 32 := Scalar.subi v6954_r0 c1_i32_2443_r0
  let c4_i32_3245_r0 : BitVec 32 := 4#32
  let v9439_r0 : BitVec 32 := Scalar.remsi v6955_r0 c4_i32_3245_r0
  let c0_i32_3249_r0 : BitVec 32 := 0#32
  let c0_i32_3250_r0 : BitVec 32 := 0#32
  ![v9439_r0.toNat, 0, 0]
def k0_off88 (k0_t1 : Fin k0_t1_loop.trips) : Fin 2 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2442_r0 : BitVec 32 := 4#32
  let v6954_r0 : BitVec 32 := Scalar.addi v6933_r0 c4_i32_2442_r0
  let c1_i32_2443_r0 : BitVec 32 := 1#32
  let v6955_r0 : BitVec 32 := Scalar.subi v6954_r0 c1_i32_2443_r0
  let c12_i32_3243_r0 : BitVec 32 := 12#32
  let v9437_r0 : BitVec 32 := Scalar.divsi v6955_r0 c12_i32_3243_r0
  let c768_i32_3246_r0 : BitVec 32 := 768#32
  let v9440_r0 : BitVec 32 := Scalar.muli v9437_r0 c768_i32_3246_r0
  let c12_i32_3244_r0 : BitVec 32 := 12#32
  let v9438_r0 : BitVec 32 := Scalar.remsi v6955_r0 c12_i32_3244_r0
  let c1536_i32_3247_r0 : BitVec 32 := 1536#32
  let v9441_r0 : BitVec 32 := Scalar.muli v9438_r0 c1536_i32_3247_r0
  ![v9440_r0.toNat, v9441_r0.toNat]
def k0_off89 (k0_t1 : Fin k0_t1_loop.trips) : Fin 2 → Nat :=
  let c1_i32_3251_r0 : BitVec 32 := 1#32
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2442_r0 : BitVec 32 := 4#32
  let v6954_r0 : BitVec 32 := Scalar.addi v6933_r0 c4_i32_2442_r0
  let c1_i32_2443_r0 : BitVec 32 := 1#32
  let v6955_r0 : BitVec 32 := Scalar.subi v6954_r0 c1_i32_2443_r0
  let c4_i32_3245_r0 : BitVec 32 := 4#32
  let v9439_r0 : BitVec 32 := Scalar.remsi v6955_r0 c4_i32_3245_r0
  ![1, v9439_r0.toNat]
def k0_off90 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v6961_r0 : Index := Scalar.indexCast v6934_r0
  let c0_2447_r0 : Index := 0#32
  let c0_2448_r0 : Index := 0#32
  ![v6961_r0.toNat, 0, 0]
def k0_off91 (k0_t1 : Fin k0_t1_loop.trips) (c0_i32_2446_r0 : BitVec 32) (c0_i32_2450_r0 : BitVec 32) : Fin 2 → Nat :=
  let c0_2451_r0 : Index := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2445_r0 : BitVec 32 := 6#32
  let v6959_r0 : BitVec 32 := Scalar.muli v6932_r0 c6_i32_2445_r0
  let v6960_r0 : BitVec 32 := Scalar.addi v6959_r0 c0_i32_2446_r0
  let c2_i32_2449_r0 : BitVec 32 := 2#32
  let v6964_r0 : BitVec 32 := Scalar.muli v6960_r0 c2_i32_2449_r0
  let v6965_r0 : BitVec 32 := Scalar.addi v6964_r0 c0_i32_2450_r0
  let v6966_r0 : Index := Scalar.indexCast v6965_r0
  ![0, v6966_r0.toNat]
def k0_off92 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v6976_r0 : Index := Scalar.indexCast v6934_r0
  let c0_2452_r0 : Index := 0#32
  let c128_2453_r0 : Index := 128#32
  ![v6976_r0.toNat, 0, 128]
def k0_mult8 (k0_t1 : Fin k0_t1_loop.trips) : BitVec 32 :=
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2445_r0 : BitVec 32 := 6#32
  let v6959_r0 : BitVec 32 := Scalar.muli v6932_r0 c6_i32_2445_r0
  let c0_i32_2446_r0 : BitVec 32 := 0#32
  let v6960_r0 : BitVec 32 := Scalar.addi v6959_r0 c0_i32_2446_r0
  let c1_i32_2467_r0 : BitVec 32 := 1#32
  let v7023_r0 : BitVec 32 := Scalar.addi v6960_r0 c1_i32_2467_r0
  let c72_i32_2468_r0 : BitVec 32 := 72#32
  let v7024_r0 : BitVec 32 := Scalar.remsi v7023_r0 c72_i32_2468_r0
  let c256_i32_2469_r0 : BitVec 32 := 256#32
  let v7025_r0 : BitVec 32 := Scalar.muli v7024_r0 c256_i32_2469_r0
  v7025_r0
def k0_off93 (k0_t1 : Fin k0_t1_loop.trips) (c0_i32_2446_r0 : BitVec 32) : Fin 2 → Nat :=
  let c0_2470_r0 : Index := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2445_r0 : BitVec 32 := 6#32
  let v6959_r0 : BitVec 32 := Scalar.muli v6932_r0 c6_i32_2445_r0
  let v6960_r0 : BitVec 32 := Scalar.addi v6959_r0 c0_i32_2446_r0
  let c1_i32_2467_r0 : BitVec 32 := 1#32
  let v7023_r0 : BitVec 32 := Scalar.addi v6960_r0 c1_i32_2467_r0
  let c72_i32_2468_r0 : BitVec 32 := 72#32
  let v7024_r0 : BitVec 32 := Scalar.remsi v7023_r0 c72_i32_2468_r0
  let c256_i32_2469_r0 : BitVec 32 := 256#32
  let v7025_r0 : BitVec 32 := Scalar.muli v7024_r0 c256_i32_2469_r0
  let v7026_r0 : BitVec 32 := v7025_r0
  let v7027_r0 : Index := Scalar.indexCast v7026_r0
  ![0, v7027_r0.toNat]
def k0_off94 (k0_t1 : Fin k0_t1_loop.trips) (c0_i32_2446_r0 : BitVec 32) (c0_i32_2472_r0 : BitVec 32) : Fin 2 → Nat :=
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2445_r0 : BitVec 32 := 6#32
  let v6959_r0 : BitVec 32 := Scalar.muli v6932_r0 c6_i32_2445_r0
  let v6960_r0 : BitVec 32 := Scalar.addi v6959_r0 c0_i32_2446_r0
  let c1_i32_2467_r0 : BitVec 32 := 1#32
  let v7023_r0 : BitVec 32 := Scalar.addi v6960_r0 c1_i32_2467_r0
  let c72_i32_2468_r0 : BitVec 32 := 72#32
  let v7024_r0 : BitVec 32 := Scalar.remsi v7023_r0 c72_i32_2468_r0
  let c2_i32_2471_r0 : BitVec 32 := 2#32
  let v7031_r0 : BitVec 32 := Scalar.muli v7024_r0 c2_i32_2471_r0
  let v7032_r0 : BitVec 32 := Scalar.addi v7031_r0 c0_i32_2472_r0
  let v7033_r0 : Index := Scalar.indexCast v7032_r0
  let c0_2473_r0 : Index := 0#32
  ![v7033_r0.toNat, 0]
def k0_off95 (k0_t1 : Fin k0_t1_loop.trips) (c0_i32_2446_r0 : BitVec 32) : Fin 2 → Nat :=
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2445_r0 : BitVec 32 := 6#32
  let v6959_r0 : BitVec 32 := Scalar.muli v6932_r0 c6_i32_2445_r0
  let v6960_r0 : BitVec 32 := Scalar.addi v6959_r0 c0_i32_2446_r0
  let c1_i32_2467_r0 : BitVec 32 := 1#32
  let v7023_r0 : BitVec 32 := Scalar.addi v6960_r0 c1_i32_2467_r0
  let c72_i32_2468_r0 : BitVec 32 := 72#32
  let v7024_r0 : BitVec 32 := Scalar.remsi v7023_r0 c72_i32_2468_r0
  let c256_i32_2469_r0 : BitVec 32 := 256#32
  let v7025_r0 : BitVec 32 := Scalar.muli v7024_r0 c256_i32_2469_r0
  let v7026_r0 : BitVec 32 := v7025_r0
  let v7058_r0 : Index := Scalar.indexCast v7026_r0
  let c0_2477_r0 : Index := 0#32
  ![v7058_r0.toNat, 0]
def k0_off96 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7062_r0 : Index := Scalar.indexCast v6934_r0
  let c128_2478_r0 : Index := 128#32
  let c0_2479_r0 : Index := 0#32
  ![v7062_r0.toNat, 128, 0]
def k0_off97 (k0_t1 : Fin k0_t1_loop.trips) (c0_i32_2446_r0 : BitVec 32) (c0_i32_2481_r0 : BitVec 32) : Fin 2 → Nat :=
  let c1_2482_r0 : Index := 1#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2445_r0 : BitVec 32 := 6#32
  let v6959_r0 : BitVec 32 := Scalar.muli v6932_r0 c6_i32_2445_r0
  let v6960_r0 : BitVec 32 := Scalar.addi v6959_r0 c0_i32_2446_r0
  let c2_i32_2480_r0 : BitVec 32 := 2#32
  let v7065_r0 : BitVec 32 := Scalar.muli v6960_r0 c2_i32_2480_r0
  let v7066_r0 : BitVec 32 := Scalar.addi v7065_r0 c0_i32_2481_r0
  let v7067_r0 : Index := Scalar.indexCast v7066_r0
  ![1, v7067_r0.toNat]
def k0_off98 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7077_r0 : Index := Scalar.indexCast v6934_r0
  let c128_2483_r0 : Index := 128#32
  let c128_2484_r0 : Index := 128#32
  ![v7077_r0.toNat, 128, 128]
def k0_off99 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7124_r0 : Index := Scalar.indexCast v6934_r0
  let c256_2498_r0 : Index := 256#32
  let c0_2499_r0 : Index := 0#32
  ![v7124_r0.toNat, 256, 0]
def k0_off100 (k0_t1 : Fin k0_t1_loop.trips) (c0_i32_2446_r0 : BitVec 32) (c0_i32_2501_r0 : BitVec 32) : Fin 2 → Nat :=
  let c2_2502_r0 : Index := 2#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2445_r0 : BitVec 32 := 6#32
  let v6959_r0 : BitVec 32 := Scalar.muli v6932_r0 c6_i32_2445_r0
  let v6960_r0 : BitVec 32 := Scalar.addi v6959_r0 c0_i32_2446_r0
  let c2_i32_2500_r0 : BitVec 32 := 2#32
  let v7127_r0 : BitVec 32 := Scalar.muli v6960_r0 c2_i32_2500_r0
  let v7128_r0 : BitVec 32 := Scalar.addi v7127_r0 c0_i32_2501_r0
  let v7129_r0 : Index := Scalar.indexCast v7128_r0
  ![2, v7129_r0.toNat]
def k0_off101 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7139_r0 : Index := Scalar.indexCast v6934_r0
  let c256_2503_r0 : Index := 256#32
  let c128_2504_r0 : Index := 128#32
  ![v7139_r0.toNat, 256, 128]
def k0_off102 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7186_r0 : Index := Scalar.indexCast v6934_r0
  let c384_2518_r0 : Index := 384#32
  let c0_2519_r0 : Index := 0#32
  ![v7186_r0.toNat, 384, 0]
def k0_off103 (k0_t1 : Fin k0_t1_loop.trips) (c0_i32_2446_r0 : BitVec 32) (c0_i32_2521_r0 : BitVec 32) : Fin 2 → Nat :=
  let c3_2522_r0 : Index := 3#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2445_r0 : BitVec 32 := 6#32
  let v6959_r0 : BitVec 32 := Scalar.muli v6932_r0 c6_i32_2445_r0
  let v6960_r0 : BitVec 32 := Scalar.addi v6959_r0 c0_i32_2446_r0
  let c2_i32_2520_r0 : BitVec 32 := 2#32
  let v7189_r0 : BitVec 32 := Scalar.muli v6960_r0 c2_i32_2520_r0
  let v7190_r0 : BitVec 32 := Scalar.addi v7189_r0 c0_i32_2521_r0
  let v7191_r0 : Index := Scalar.indexCast v7190_r0
  ![3, v7191_r0.toNat]
def k0_off104 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7201_r0 : Index := Scalar.indexCast v6934_r0
  let c384_2523_r0 : Index := 384#32
  let c128_2524_r0 : Index := 128#32
  ![v7201_r0.toNat, 384, 128]
def k0_off105 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7248_r0 : Index := Scalar.indexCast v6934_r0
  let c512_2538_r0 : Index := 512#32
  let c0_2539_r0 : Index := 0#32
  ![v7248_r0.toNat, 512, 0]
def k0_off106 (k0_t1 : Fin k0_t1_loop.trips) (c0_i32_2446_r0 : BitVec 32) (c0_i32_2541_r0 : BitVec 32) : Fin 2 → Nat :=
  let c4_2542_r0 : Index := 4#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2445_r0 : BitVec 32 := 6#32
  let v6959_r0 : BitVec 32 := Scalar.muli v6932_r0 c6_i32_2445_r0
  let v6960_r0 : BitVec 32 := Scalar.addi v6959_r0 c0_i32_2446_r0
  let c2_i32_2540_r0 : BitVec 32 := 2#32
  let v7251_r0 : BitVec 32 := Scalar.muli v6960_r0 c2_i32_2540_r0
  let v7252_r0 : BitVec 32 := Scalar.addi v7251_r0 c0_i32_2541_r0
  let v7253_r0 : Index := Scalar.indexCast v7252_r0
  ![4, v7253_r0.toNat]
def k0_off107 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7263_r0 : Index := Scalar.indexCast v6934_r0
  let c512_2543_r0 : Index := 512#32
  let c128_2544_r0 : Index := 128#32
  ![v7263_r0.toNat, 512, 128]
def k0_off108 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7310_r0 : Index := Scalar.indexCast v6934_r0
  let c640_2558_r0 : Index := 640#32
  let c0_2559_r0 : Index := 0#32
  ![v7310_r0.toNat, 640, 0]
def k0_off109 (k0_t1 : Fin k0_t1_loop.trips) (c0_i32_2446_r0 : BitVec 32) (c0_i32_2561_r0 : BitVec 32) : Fin 2 → Nat :=
  let c5_2562_r0 : Index := 5#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2445_r0 : BitVec 32 := 6#32
  let v6959_r0 : BitVec 32 := Scalar.muli v6932_r0 c6_i32_2445_r0
  let v6960_r0 : BitVec 32 := Scalar.addi v6959_r0 c0_i32_2446_r0
  let c2_i32_2560_r0 : BitVec 32 := 2#32
  let v7313_r0 : BitVec 32 := Scalar.muli v6960_r0 c2_i32_2560_r0
  let v7314_r0 : BitVec 32 := Scalar.addi v7313_r0 c0_i32_2561_r0
  let v7315_r0 : Index := Scalar.indexCast v7314_r0
  ![5, v7315_r0.toNat]
def k0_off110 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7325_r0 : Index := Scalar.indexCast v6934_r0
  let c640_2563_r0 : Index := 640#32
  let c128_2564_r0 : Index := 128#32
  ![v7325_r0.toNat, 640, 128]
def k0_off111 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7374_r0 : Index := Scalar.indexCast v6934_r0
  let c0_2580_r0 : Index := 0#32
  let c256_2581_r0 : Index := 256#32
  ![v7374_r0.toNat, 0, 256]
def k0_off112 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7389_r0 : Index := Scalar.indexCast v6934_r0
  let c0_2585_r0 : Index := 0#32
  let c384_2586_r0 : Index := 384#32
  ![v7389_r0.toNat, 0, 384]
def k0_mult9 (k0_t1 : Fin k0_t1_loop.trips) : BitVec 32 :=
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2578_r0 : BitVec 32 := 6#32
  let v7372_r0 : BitVec 32 := Scalar.muli v6932_r0 c6_i32_2578_r0
  let c1_i32_2579_r0 : BitVec 32 := 1#32
  let v7373_r0 : BitVec 32 := Scalar.addi v7372_r0 c1_i32_2579_r0
  let c1_i32_2600_r0 : BitVec 32 := 1#32
  let v7436_r0 : BitVec 32 := Scalar.addi v7373_r0 c1_i32_2600_r0
  let c72_i32_2601_r0 : BitVec 32 := 72#32
  let v7437_r0 : BitVec 32 := Scalar.remsi v7436_r0 c72_i32_2601_r0
  let c256_i32_2602_r0 : BitVec 32 := 256#32
  let v7438_r0 : BitVec 32 := Scalar.muli v7437_r0 c256_i32_2602_r0
  v7438_r0
def k0_off113 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7475_r0 : Index := Scalar.indexCast v6934_r0
  let c128_2611_r0 : Index := 128#32
  let c256_2612_r0 : Index := 256#32
  ![v7475_r0.toNat, 128, 256]
def k0_off114 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7490_r0 : Index := Scalar.indexCast v6934_r0
  let c128_2616_r0 : Index := 128#32
  let c384_2617_r0 : Index := 384#32
  ![v7490_r0.toNat, 128, 384]
def k0_off115 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7537_r0 : Index := Scalar.indexCast v6934_r0
  let c256_2631_r0 : Index := 256#32
  let c256_2632_r0 : Index := 256#32
  ![v7537_r0.toNat, 256, 256]
def k0_off116 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7552_r0 : Index := Scalar.indexCast v6934_r0
  let c256_2636_r0 : Index := 256#32
  let c384_2637_r0 : Index := 384#32
  ![v7552_r0.toNat, 256, 384]
def k0_off117 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7599_r0 : Index := Scalar.indexCast v6934_r0
  let c384_2651_r0 : Index := 384#32
  let c256_2652_r0 : Index := 256#32
  ![v7599_r0.toNat, 384, 256]
def k0_off118 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7614_r0 : Index := Scalar.indexCast v6934_r0
  let c384_2656_r0 : Index := 384#32
  let c384_2657_r0 : Index := 384#32
  ![v7614_r0.toNat, 384, 384]
def k0_off119 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7661_r0 : Index := Scalar.indexCast v6934_r0
  let c512_2671_r0 : Index := 512#32
  let c256_2672_r0 : Index := 256#32
  ![v7661_r0.toNat, 512, 256]
def k0_off120 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7676_r0 : Index := Scalar.indexCast v6934_r0
  let c512_2676_r0 : Index := 512#32
  let c384_2677_r0 : Index := 384#32
  ![v7676_r0.toNat, 512, 384]
def k0_off121 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7723_r0 : Index := Scalar.indexCast v6934_r0
  let c640_2691_r0 : Index := 640#32
  let c256_2692_r0 : Index := 256#32
  ![v7723_r0.toNat, 640, 256]
def k0_off122 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7738_r0 : Index := Scalar.indexCast v6934_r0
  let c640_2696_r0 : Index := 640#32
  let c384_2697_r0 : Index := 384#32
  ![v7738_r0.toNat, 640, 384]
def k0_off123 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7787_r0 : Index := Scalar.indexCast v6934_r0
  let c0_2713_r0 : Index := 0#32
  let c512_2714_r0 : Index := 512#32
  ![v7787_r0.toNat, 0, 512]
def k0_off124 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7802_r0 : Index := Scalar.indexCast v6934_r0
  let c0_2718_r0 : Index := 0#32
  let c640_2719_r0 : Index := 640#32
  ![v7802_r0.toNat, 0, 640]
def k0_mult10 (k0_t1 : Fin k0_t1_loop.trips) : BitVec 32 :=
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2711_r0 : BitVec 32 := 6#32
  let v7785_r0 : BitVec 32 := Scalar.muli v6932_r0 c6_i32_2711_r0
  let c2_i32_2712_r0 : BitVec 32 := 2#32
  let v7786_r0 : BitVec 32 := Scalar.addi v7785_r0 c2_i32_2712_r0
  let c1_i32_2733_r0 : BitVec 32 := 1#32
  let v7849_r0 : BitVec 32 := Scalar.addi v7786_r0 c1_i32_2733_r0
  let c72_i32_2734_r0 : BitVec 32 := 72#32
  let v7850_r0 : BitVec 32 := Scalar.remsi v7849_r0 c72_i32_2734_r0
  let c256_i32_2735_r0 : BitVec 32 := 256#32
  let v7851_r0 : BitVec 32 := Scalar.muli v7850_r0 c256_i32_2735_r0
  v7851_r0
def k0_off125 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7888_r0 : Index := Scalar.indexCast v6934_r0
  let c128_2744_r0 : Index := 128#32
  let c512_2745_r0 : Index := 512#32
  ![v7888_r0.toNat, 128, 512]
def k0_off126 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7903_r0 : Index := Scalar.indexCast v6934_r0
  let c128_2749_r0 : Index := 128#32
  let c640_2750_r0 : Index := 640#32
  ![v7903_r0.toNat, 128, 640]
def k0_off127 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7950_r0 : Index := Scalar.indexCast v6934_r0
  let c256_2764_r0 : Index := 256#32
  let c512_2765_r0 : Index := 512#32
  ![v7950_r0.toNat, 256, 512]
def k0_off128 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v7965_r0 : Index := Scalar.indexCast v6934_r0
  let c256_2769_r0 : Index := 256#32
  let c640_2770_r0 : Index := 640#32
  ![v7965_r0.toNat, 256, 640]
def k0_off129 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8012_r0 : Index := Scalar.indexCast v6934_r0
  let c384_2784_r0 : Index := 384#32
  let c512_2785_r0 : Index := 512#32
  ![v8012_r0.toNat, 384, 512]
def k0_off130 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8027_r0 : Index := Scalar.indexCast v6934_r0
  let c384_2789_r0 : Index := 384#32
  let c640_2790_r0 : Index := 640#32
  ![v8027_r0.toNat, 384, 640]
def k0_off131 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8074_r0 : Index := Scalar.indexCast v6934_r0
  let c512_2804_r0 : Index := 512#32
  let c512_2805_r0 : Index := 512#32
  ![v8074_r0.toNat, 512, 512]
def k0_off132 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8089_r0 : Index := Scalar.indexCast v6934_r0
  let c512_2809_r0 : Index := 512#32
  let c640_2810_r0 : Index := 640#32
  ![v8089_r0.toNat, 512, 640]
def k0_off133 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8136_r0 : Index := Scalar.indexCast v6934_r0
  let c640_2824_r0 : Index := 640#32
  let c512_2825_r0 : Index := 512#32
  ![v8136_r0.toNat, 640, 512]
def k0_off134 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8151_r0 : Index := Scalar.indexCast v6934_r0
  let c640_2829_r0 : Index := 640#32
  let c640_2830_r0 : Index := 640#32
  ![v8151_r0.toNat, 640, 640]
def k0_off135 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8200_r0 : Index := Scalar.indexCast v6934_r0
  let c0_2846_r0 : Index := 0#32
  let c768_2847_r0 : Index := 768#32
  ![v8200_r0.toNat, 0, 768]
def k0_off136 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8215_r0 : Index := Scalar.indexCast v6934_r0
  let c0_2851_r0 : Index := 0#32
  let c896_2852_r0 : Index := 896#32
  ![v8215_r0.toNat, 0, 896]
def k0_mult11 (k0_t1 : Fin k0_t1_loop.trips) : BitVec 32 :=
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2844_r0 : BitVec 32 := 6#32
  let v8198_r0 : BitVec 32 := Scalar.muli v6932_r0 c6_i32_2844_r0
  let c3_i32_2845_r0 : BitVec 32 := 3#32
  let v8199_r0 : BitVec 32 := Scalar.addi v8198_r0 c3_i32_2845_r0
  let c1_i32_2866_r0 : BitVec 32 := 1#32
  let v8262_r0 : BitVec 32 := Scalar.addi v8199_r0 c1_i32_2866_r0
  let c72_i32_2867_r0 : BitVec 32 := 72#32
  let v8263_r0 : BitVec 32 := Scalar.remsi v8262_r0 c72_i32_2867_r0
  let c256_i32_2868_r0 : BitVec 32 := 256#32
  let v8264_r0 : BitVec 32 := Scalar.muli v8263_r0 c256_i32_2868_r0
  v8264_r0
def k0_off137 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8301_r0 : Index := Scalar.indexCast v6934_r0
  let c128_2877_r0 : Index := 128#32
  let c768_2878_r0 : Index := 768#32
  ![v8301_r0.toNat, 128, 768]
def k0_off138 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8316_r0 : Index := Scalar.indexCast v6934_r0
  let c128_2882_r0 : Index := 128#32
  let c896_2883_r0 : Index := 896#32
  ![v8316_r0.toNat, 128, 896]
def k0_off139 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8363_r0 : Index := Scalar.indexCast v6934_r0
  let c256_2897_r0 : Index := 256#32
  let c768_2898_r0 : Index := 768#32
  ![v8363_r0.toNat, 256, 768]
def k0_off140 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8378_r0 : Index := Scalar.indexCast v6934_r0
  let c256_2902_r0 : Index := 256#32
  let c896_2903_r0 : Index := 896#32
  ![v8378_r0.toNat, 256, 896]
def k0_off141 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8425_r0 : Index := Scalar.indexCast v6934_r0
  let c384_2917_r0 : Index := 384#32
  let c768_2918_r0 : Index := 768#32
  ![v8425_r0.toNat, 384, 768]
def k0_off142 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8440_r0 : Index := Scalar.indexCast v6934_r0
  let c384_2922_r0 : Index := 384#32
  let c896_2923_r0 : Index := 896#32
  ![v8440_r0.toNat, 384, 896]
def k0_off143 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8487_r0 : Index := Scalar.indexCast v6934_r0
  let c512_2937_r0 : Index := 512#32
  let c768_2938_r0 : Index := 768#32
  ![v8487_r0.toNat, 512, 768]
def k0_off144 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8502_r0 : Index := Scalar.indexCast v6934_r0
  let c512_2942_r0 : Index := 512#32
  let c896_2943_r0 : Index := 896#32
  ![v8502_r0.toNat, 512, 896]
def k0_off145 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8549_r0 : Index := Scalar.indexCast v6934_r0
  let c640_2957_r0 : Index := 640#32
  let c768_2958_r0 : Index := 768#32
  ![v8549_r0.toNat, 640, 768]
def k0_off146 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8564_r0 : Index := Scalar.indexCast v6934_r0
  let c640_2962_r0 : Index := 640#32
  let c896_2963_r0 : Index := 896#32
  ![v8564_r0.toNat, 640, 896]
def k0_off147 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8613_r0 : Index := Scalar.indexCast v6934_r0
  let c0_2979_r0 : Index := 0#32
  let c1024_2980_r0 : Index := 1024#32
  ![v8613_r0.toNat, 0, 1024]
def k0_off148 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8628_r0 : Index := Scalar.indexCast v6934_r0
  let c0_2984_r0 : Index := 0#32
  let c1152_2985_r0 : Index := 1152#32
  ![v8628_r0.toNat, 0, 1152]
def k0_mult12 (k0_t1 : Fin k0_t1_loop.trips) : BitVec 32 :=
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2977_r0 : BitVec 32 := 6#32
  let v8611_r0 : BitVec 32 := Scalar.muli v6932_r0 c6_i32_2977_r0
  let c4_i32_2978_r0 : BitVec 32 := 4#32
  let v8612_r0 : BitVec 32 := Scalar.addi v8611_r0 c4_i32_2978_r0
  let c1_i32_2999_r0 : BitVec 32 := 1#32
  let v8675_r0 : BitVec 32 := Scalar.addi v8612_r0 c1_i32_2999_r0
  let c72_i32_3000_r0 : BitVec 32 := 72#32
  let v8676_r0 : BitVec 32 := Scalar.remsi v8675_r0 c72_i32_3000_r0
  let c256_i32_3001_r0 : BitVec 32 := 256#32
  let v8677_r0 : BitVec 32 := Scalar.muli v8676_r0 c256_i32_3001_r0
  v8677_r0
def k0_off149 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8714_r0 : Index := Scalar.indexCast v6934_r0
  let c128_3010_r0 : Index := 128#32
  let c1024_3011_r0 : Index := 1024#32
  ![v8714_r0.toNat, 128, 1024]
def k0_off150 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8729_r0 : Index := Scalar.indexCast v6934_r0
  let c128_3015_r0 : Index := 128#32
  let c1152_3016_r0 : Index := 1152#32
  ![v8729_r0.toNat, 128, 1152]
def k0_off151 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8776_r0 : Index := Scalar.indexCast v6934_r0
  let c256_3030_r0 : Index := 256#32
  let c1024_3031_r0 : Index := 1024#32
  ![v8776_r0.toNat, 256, 1024]
def k0_off152 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8791_r0 : Index := Scalar.indexCast v6934_r0
  let c256_3035_r0 : Index := 256#32
  let c1152_3036_r0 : Index := 1152#32
  ![v8791_r0.toNat, 256, 1152]
def k0_off153 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8838_r0 : Index := Scalar.indexCast v6934_r0
  let c384_3050_r0 : Index := 384#32
  let c1024_3051_r0 : Index := 1024#32
  ![v8838_r0.toNat, 384, 1024]
def k0_off154 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8853_r0 : Index := Scalar.indexCast v6934_r0
  let c384_3055_r0 : Index := 384#32
  let c1152_3056_r0 : Index := 1152#32
  ![v8853_r0.toNat, 384, 1152]
def k0_off155 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8900_r0 : Index := Scalar.indexCast v6934_r0
  let c512_3070_r0 : Index := 512#32
  let c1024_3071_r0 : Index := 1024#32
  ![v8900_r0.toNat, 512, 1024]
def k0_off156 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8915_r0 : Index := Scalar.indexCast v6934_r0
  let c512_3075_r0 : Index := 512#32
  let c1152_3076_r0 : Index := 1152#32
  ![v8915_r0.toNat, 512, 1152]
def k0_off157 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8962_r0 : Index := Scalar.indexCast v6934_r0
  let c640_3090_r0 : Index := 640#32
  let c1024_3091_r0 : Index := 1024#32
  ![v8962_r0.toNat, 640, 1024]
def k0_off158 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v8977_r0 : Index := Scalar.indexCast v6934_r0
  let c640_3095_r0 : Index := 640#32
  let c1152_3096_r0 : Index := 1152#32
  ![v8977_r0.toNat, 640, 1152]
def k0_off159 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v9026_r0 : Index := Scalar.indexCast v6934_r0
  let c0_3112_r0 : Index := 0#32
  let c1280_3113_r0 : Index := 1280#32
  ![v9026_r0.toNat, 0, 1280]
def k0_off160 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v9041_r0 : Index := Scalar.indexCast v6934_r0
  let c0_3117_r0 : Index := 0#32
  let c1408_3118_r0 : Index := 1408#32
  ![v9041_r0.toNat, 0, 1408]
def k0_mult13 (k0_t1 : Fin k0_t1_loop.trips) : BitVec 32 :=
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_3110_r0 : BitVec 32 := 6#32
  let v9024_r0 : BitVec 32 := Scalar.muli v6932_r0 c6_i32_3110_r0
  let c5_i32_3111_r0 : BitVec 32 := 5#32
  let v9025_r0 : BitVec 32 := Scalar.addi v9024_r0 c5_i32_3111_r0
  let c1_i32_3132_r0 : BitVec 32 := 1#32
  let v9088_r0 : BitVec 32 := Scalar.addi v9025_r0 c1_i32_3132_r0
  let c72_i32_3133_r0 : BitVec 32 := 72#32
  let v9089_r0 : BitVec 32 := Scalar.remsi v9088_r0 c72_i32_3133_r0
  let c256_i32_3134_r0 : BitVec 32 := 256#32
  let v9090_r0 : BitVec 32 := Scalar.muli v9089_r0 c256_i32_3134_r0
  v9090_r0
def k0_off161 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v9127_r0 : Index := Scalar.indexCast v6934_r0
  let c128_3143_r0 : Index := 128#32
  let c1280_3144_r0 : Index := 1280#32
  ![v9127_r0.toNat, 128, 1280]
def k0_off162 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v9142_r0 : Index := Scalar.indexCast v6934_r0
  let c128_3148_r0 : Index := 128#32
  let c1408_3149_r0 : Index := 1408#32
  ![v9142_r0.toNat, 128, 1408]
def k0_off163 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v9189_r0 : Index := Scalar.indexCast v6934_r0
  let c256_3163_r0 : Index := 256#32
  let c1280_3164_r0 : Index := 1280#32
  ![v9189_r0.toNat, 256, 1280]
def k0_off164 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v9204_r0 : Index := Scalar.indexCast v6934_r0
  let c256_3168_r0 : Index := 256#32
  let c1408_3169_r0 : Index := 1408#32
  ![v9204_r0.toNat, 256, 1408]
def k0_off165 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v9251_r0 : Index := Scalar.indexCast v6934_r0
  let c384_3183_r0 : Index := 384#32
  let c1280_3184_r0 : Index := 1280#32
  ![v9251_r0.toNat, 384, 1280]
def k0_off166 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v9266_r0 : Index := Scalar.indexCast v6934_r0
  let c384_3188_r0 : Index := 384#32
  let c1408_3189_r0 : Index := 1408#32
  ![v9266_r0.toNat, 384, 1408]
def k0_off167 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v9313_r0 : Index := Scalar.indexCast v6934_r0
  let c512_3203_r0 : Index := 512#32
  let c1280_3204_r0 : Index := 1280#32
  ![v9313_r0.toNat, 512, 1280]
def k0_off168 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v9328_r0 : Index := Scalar.indexCast v6934_r0
  let c512_3208_r0 : Index := 512#32
  let c1408_3209_r0 : Index := 1408#32
  ![v9328_r0.toNat, 512, 1408]
def k0_off169 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v9375_r0 : Index := Scalar.indexCast v6934_r0
  let c640_3223_r0 : Index := 640#32
  let c1280_3224_r0 : Index := 1280#32
  ![v9375_r0.toNat, 640, 1280]
def k0_off170 (k0_t1 : Fin k0_t1_loop.trips) : Fin 3 → Nat :=
  let c0_i32_2426_r0 : BitVec 32 := 0#32
  let c1_i32_2425_r0 : BitVec 32 := 1#32
  let c0_i32_755_r0 : BitVec 32 := 0#32
  let c1_i32_757_r0 : BitVec 32 := 1#32
  let arg25_r0 : BitVec 32 := Scf.iv c0_i32_755_r0 c1_i32_757_r0 k0_t1
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c0_i32_2426_r0 v6932_r0
  let c4_i32_2427_r0 : BitVec 32 := 4#32
  let v6934_r0 : BitVec 32 := Scalar.remsi v6933_r0 c4_i32_2427_r0
  let v9390_r0 : Index := Scalar.indexCast v6934_r0
  let c640_3228_r0 : Index := 640#32
  let c1408_3229_r0 : Index := 1408#32
  ![v9390_r0.toNat, 640, 1408]
def k0_mult14 : BitVec 32 :=
  let c1_i32_808_r0 : BitVec 32 := 1#32
  let c72_i32_809_r0 : BitVec 32 := 72#32
  let v2302_r0 : BitVec 32 := Scalar.remsi c1_i32_808_r0 c72_i32_809_r0
  let c256_i32_810_r0 : BitVec 32 := 256#32
  let v2303_r0 : BitVec 32 := Scalar.muli v2302_r0 c256_i32_810_r0
  v2303_r0
def k0_mult15 : BitVec 32 :=
  let c2_i32_928_r0 : BitVec 32 := 2#32
  let c72_i32_929_r0 : BitVec 32 := 72#32
  let v2647_r0 : BitVec 32 := Scalar.remsi c2_i32_928_r0 c72_i32_929_r0
  let c256_i32_930_r0 : BitVec 32 := 256#32
  let v2648_r0 : BitVec 32 := Scalar.muli v2647_r0 c256_i32_930_r0
  v2648_r0
def k0_mult16 : BitVec 32 :=
  let c3_i32_1028_r0 : BitVec 32 := 3#32
  let c72_i32_1029_r0 : BitVec 32 := 72#32
  let v2952_r0 : BitVec 32 := Scalar.remsi c3_i32_1028_r0 c72_i32_1029_r0
  let c256_i32_1030_r0 : BitVec 32 := 256#32
  let v2953_r0 : BitVec 32 := Scalar.muli v2952_r0 c256_i32_1030_r0
  v2953_r0
def k0_mult17 : BitVec 32 :=
  let c4_i32_1128_r0 : BitVec 32 := 4#32
  let c72_i32_1129_r0 : BitVec 32 := 72#32
  let v3257_r0 : BitVec 32 := Scalar.remsi c4_i32_1128_r0 c72_i32_1129_r0
  let c256_i32_1130_r0 : BitVec 32 := 256#32
  let v3258_r0 : BitVec 32 := Scalar.muli v3257_r0 c256_i32_1130_r0
  v3258_r0
def k0_mult18 : BitVec 32 :=
  let c5_i32_1228_r0 : BitVec 32 := 5#32
  let c72_i32_1229_r0 : BitVec 32 := 72#32
  let v3562_r0 : BitVec 32 := Scalar.remsi c5_i32_1228_r0 c72_i32_1229_r0
  let c256_i32_1230_r0 : BitVec 32 := 256#32
  let v3563_r0 : BitVec 32 := Scalar.muli v3562_r0 c256_i32_1230_r0
  v3563_r0
def k0_mult19 : BitVec 32 :=
  let c6_i32_1328_r0 : BitVec 32 := 6#32
  let c72_i32_1329_r0 : BitVec 32 := 72#32
  let v3867_r0 : BitVec 32 := Scalar.remsi c6_i32_1328_r0 c72_i32_1329_r0
  let c256_i32_1330_r0 : BitVec 32 := 256#32
  let v3868_r0 : BitVec 32 := Scalar.muli v3867_r0 c256_i32_1330_r0
  v3868_r0
def k0_mult20 : BitVec 32 :=
  let c0_i32_1412_r0 : BitVec 32 := 0#32
  let c2_i32_1413_r0 : BitVec 32 := 2#32
  let v4122_r0 : BitVec 32 := Scalar.divsi c0_i32_1412_r0 c2_i32_1413_r0
  let c128_i32_r0 : BitVec 32 := 128#32
  let v4124_r0 : BitVec 32 := Scalar.muli v4122_r0 c128_i32_r0
  v4124_r0
def k0_mult21 : BitVec 32 :=
  let c0_i32_1414_r0 : BitVec 32 := 0#32
  let c2_i32_1415_r0 : BitVec 32 := 2#32
  let v4123_r0 : BitVec 32 := Scalar.remsi c0_i32_1414_r0 c2_i32_1415_r0
  let c128_i32_1416_r0 : BitVec 32 := 128#32
  let v4126_r0 : BitVec 32 := Scalar.muli v4123_r0 c128_i32_1416_r0
  v4126_r0
def k0_off171 : Fin 2 → Nat :=
  let c0_i32_1412_r0 : BitVec 32 := 0#32
  let c2_i32_1413_r0 : BitVec 32 := 2#32
  let v4122_r0 : BitVec 32 := Scalar.divsi c0_i32_1412_r0 c2_i32_1413_r0
  let c128_i32_r0 : BitVec 32 := 128#32
  let v4124_r0 : BitVec 32 := Scalar.muli v4122_r0 c128_i32_r0
  let v4125_r0 : BitVec 32 := v4124_r0
  let v4128_r0 : Index := Scalar.indexCast v4125_r0
  let c0_i32_1414_r0 : BitVec 32 := 0#32
  let c2_i32_1415_r0 : BitVec 32 := 2#32
  let v4123_r0 : BitVec 32 := Scalar.remsi c0_i32_1414_r0 c2_i32_1415_r0
  let c128_i32_1416_r0 : BitVec 32 := 128#32
  let v4126_r0 : BitVec 32 := Scalar.muli v4123_r0 c128_i32_1416_r0
  let v4127_r0 : BitVec 32 := v4126_r0
  let v4129_r0 : Index := Scalar.indexCast v4127_r0
  ![v4128_r0.toNat, v4129_r0.toNat]
def k0_mult22 : BitVec 32 :=
  let c0_i32_1430_r0 : BitVec 32 := 0#32
  let c0_i32_1412_r0 : BitVec 32 := 0#32
  let c2_i32_1413_r0 : BitVec 32 := 2#32
  let v4122_r0 : BitVec 32 := Scalar.divsi c0_i32_1412_r0 c2_i32_1413_r0
  let c128_i32_1429_r0 : BitVec 32 := 128#32
  let v4184_r0 : BitVec 32 := Scalar.muli v4122_r0 c128_i32_1429_r0
  let v4185_r0 : BitVec 32 := Scalar.addi c0_i32_1430_r0 v4184_r0
  v4185_r0
def k0_off172 (c0_i32_1430_r0 : BitVec 32) : Fin 2 → Nat :=
  let c0_i32_1414_r0 : BitVec 32 := 0#32
  let c2_i32_1415_r0 : BitVec 32 := 2#32
  let v4123_r0 : BitVec 32 := Scalar.remsi c0_i32_1414_r0 c2_i32_1415_r0
  let c128_i32_1416_r0 : BitVec 32 := 128#32
  let v4126_r0 : BitVec 32 := Scalar.muli v4123_r0 c128_i32_1416_r0
  let v4127_r0 : BitVec 32 := v4126_r0
  let v4187_r0 : Index := Scalar.indexCast v4127_r0
  let c0_i32_1412_r0 : BitVec 32 := 0#32
  let c2_i32_1413_r0 : BitVec 32 := 2#32
  let v4122_r0 : BitVec 32 := Scalar.divsi c0_i32_1412_r0 c2_i32_1413_r0
  let c128_i32_1429_r0 : BitVec 32 := 128#32
  let v4184_r0 : BitVec 32 := Scalar.muli v4122_r0 c128_i32_1429_r0
  let v4185_r0 : BitVec 32 := Scalar.addi c0_i32_1430_r0 v4184_r0
  let v4186_r0 : BitVec 32 := v4185_r0
  let v4188_r0 : Index := Scalar.indexCast v4186_r0
  ![v4187_r0.toNat, v4188_r0.toNat]
def k0_off173 (c0_i32_1431_r0 : BitVec 32) : Fin 3 → Nat :=
  let c0_i32_1412_r0 : BitVec 32 := 0#32
  let c2_i32_1413_r0 : BitVec 32 := 2#32
  let v4122_r0 : BitVec 32 := Scalar.divsi c0_i32_1412_r0 c2_i32_1413_r0
  let v4192_r0 : BitVec 32 := Scalar.addi c0_i32_1431_r0 v4122_r0
  let v4193_r0 : Index := Scalar.indexCast v4192_r0
  let c0_1432_r0 : Index := 0#32
  let c0_i32_1414_r0 : BitVec 32 := 0#32
  let c2_i32_1415_r0 : BitVec 32 := 2#32
  let v4123_r0 : BitVec 32 := Scalar.remsi c0_i32_1414_r0 c2_i32_1415_r0
  let c128_i32_1416_r0 : BitVec 32 := 128#32
  let v4126_r0 : BitVec 32 := Scalar.muli v4123_r0 c128_i32_1416_r0
  let v4127_r0 : BitVec 32 := v4126_r0
  let v4194_r0 : Index := Scalar.indexCast v4127_r0
  ![v4193_r0.toNat, 0, v4194_r0.toNat]
@[reducible] def k0_t2_loop : Scf.Loop 32 :=
  let c0_i32_1433_r0 : BitVec 32 := 0#32
  let c11_i32_1434_r0 : BitVec 32 := 11#32
  let v4198_r0 : BitVec 32 := Scalar.addi c0_i32_1433_r0 c11_i32_1434_r0
  let c1_i32_1435_r0 : BitVec 32 := 1#32
  ⟨c0_i32_1433_r0, v4198_r0, c1_i32_1435_r0⟩
def k0_off174 (k0_t2 : Fin k0_t2_loop.trips) : Fin 2 → Nat :=
  let c0_i32_2433_r0 : BitVec 32 := 0#32
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2430_r0 : BitVec 32 := 4#32
  let v6937_r0 : BitVec 32 := Scalar.remsi v6933_r0 c4_i32_2430_r0
  ![0, v6937_r0.toNat]
def k0_off175 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2430_r0 : BitVec 32 := 4#32
  let v6937_r0 : BitVec 32 := Scalar.remsi v6933_r0 c4_i32_2430_r0
  let c0_i32_2434_r0 : BitVec 32 := 0#32
  let c0_i32_2435_r0 : BitVec 32 := 0#32
  ![v6937_r0.toNat, 0, 0]
def k0_off176 (k0_t2 : Fin k0_t2_loop.trips) : Fin 2 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c12_i32_2428_r0 : BitVec 32 := 12#32
  let v6935_r0 : BitVec 32 := Scalar.divsi v6933_r0 c12_i32_2428_r0
  let c768_i32_2431_r0 : BitVec 32 := 768#32
  let v6938_r0 : BitVec 32 := Scalar.muli v6935_r0 c768_i32_2431_r0
  let c12_i32_2429_r0 : BitVec 32 := 12#32
  let v6936_r0 : BitVec 32 := Scalar.remsi v6933_r0 c12_i32_2429_r0
  let c1536_i32_2432_r0 : BitVec 32 := 1536#32
  let v6939_r0 : BitVec 32 := Scalar.muli v6936_r0 c1536_i32_2432_r0
  ![v6938_r0.toNat, v6939_r0.toNat]
def k0_off177 (k0_t2 : Fin k0_t2_loop.trips) : Fin 2 → Nat :=
  let c1_i32_2436_r0 : BitVec 32 := 1#32
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2430_r0 : BitVec 32 := 4#32
  let v6937_r0 : BitVec 32 := Scalar.remsi v6933_r0 c4_i32_2430_r0
  ![1, v6937_r0.toNat]
def k0_cond3 (k0_t2 : Fin k0_t2_loop.trips) : BitVec 1 :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2439_r0 : BitVec 32 := 4#32
  let v6950_r0 : BitVec 32 := Scalar.addi v6933_r0 c4_i32_2439_r0
  let c1_i32_2440_r0 : BitVec 32 := 1#32
  let v6951_r0 : BitVec 32 := Scalar.subi v6950_r0 c1_i32_2440_r0
  let c36_i32_r0 : BitVec 32 := 36#32
  let v6952_r0 : BitVec 1 := Scalar.cmpi .slt v6951_r0 c36_i32_r0
  let v6953_r0 : BitVec 32 := Scalar.extui v6952_r0
  let c0_i32_2441_r0 : BitVec 32 := 0#32
  let v6954_r0 : BitVec 1 := Scalar.cmpi .ne v6953_r0 c0_i32_2441_r0
  v6954_r0

def k0_off178 (k0_t2 : Fin k0_t2_loop.trips) : Fin 2 → Nat :=
  let c0_i32_3229_r0 : BitVec 32 := 0#32
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2439_r0 : BitVec 32 := 4#32
  let v6950_r0 : BitVec 32 := Scalar.addi v6933_r0 c4_i32_2439_r0
  let c1_i32_2440_r0 : BitVec 32 := 1#32
  let v6951_r0 : BitVec 32 := Scalar.subi v6950_r0 c1_i32_2440_r0
  let c4_i32_3226_r0 : BitVec 32 := 4#32
  let v9313_r0 : BitVec 32 := Scalar.remsi v6951_r0 c4_i32_3226_r0
  ![0, v9313_r0.toNat]
def k0_off179 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2439_r0 : BitVec 32 := 4#32
  let v6950_r0 : BitVec 32 := Scalar.addi v6933_r0 c4_i32_2439_r0
  let c1_i32_2440_r0 : BitVec 32 := 1#32
  let v6951_r0 : BitVec 32 := Scalar.subi v6950_r0 c1_i32_2440_r0
  let c4_i32_3226_r0 : BitVec 32 := 4#32
  let v9313_r0 : BitVec 32 := Scalar.remsi v6951_r0 c4_i32_3226_r0
  let c0_i32_3230_r0 : BitVec 32 := 0#32
  let c0_i32_3231_r0 : BitVec 32 := 0#32
  ![v9313_r0.toNat, 0, 0]
def k0_off180 (k0_t2 : Fin k0_t2_loop.trips) : Fin 2 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2439_r0 : BitVec 32 := 4#32
  let v6950_r0 : BitVec 32 := Scalar.addi v6933_r0 c4_i32_2439_r0
  let c1_i32_2440_r0 : BitVec 32 := 1#32
  let v6951_r0 : BitVec 32 := Scalar.subi v6950_r0 c1_i32_2440_r0
  let c12_i32_3224_r0 : BitVec 32 := 12#32
  let v9311_r0 : BitVec 32 := Scalar.divsi v6951_r0 c12_i32_3224_r0
  let c768_i32_3227_r0 : BitVec 32 := 768#32
  let v9314_r0 : BitVec 32 := Scalar.muli v9311_r0 c768_i32_3227_r0
  let c12_i32_3225_r0 : BitVec 32 := 12#32
  let v9312_r0 : BitVec 32 := Scalar.remsi v6951_r0 c12_i32_3225_r0
  let c1536_i32_3228_r0 : BitVec 32 := 1536#32
  let v9315_r0 : BitVec 32 := Scalar.muli v9312_r0 c1536_i32_3228_r0
  ![v9314_r0.toNat, v9315_r0.toNat]
def k0_off181 (k0_t2 : Fin k0_t2_loop.trips) : Fin 2 → Nat :=
  let c1_i32_3232_r0 : BitVec 32 := 1#32
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2439_r0 : BitVec 32 := 4#32
  let v6950_r0 : BitVec 32 := Scalar.addi v6933_r0 c4_i32_2439_r0
  let c1_i32_2440_r0 : BitVec 32 := 1#32
  let v6951_r0 : BitVec 32 := Scalar.subi v6950_r0 c1_i32_2440_r0
  let c4_i32_3226_r0 : BitVec 32 := 4#32
  let v9313_r0 : BitVec 32 := Scalar.remsi v6951_r0 c4_i32_3226_r0
  ![1, v9313_r0.toNat]
def k0_off182 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v6957_r0 : Index := Scalar.indexCast v6934_r0
  let c0_2444_r0 : Index := 0#32
  let c0_2445_r0 : Index := 0#32
  ![v6957_r0.toNat, 0, 0]
def k0_off183 (k0_t2 : Fin k0_t2_loop.trips) (c0_i32_2443_r0 : BitVec 32) (c0_i32_2447_r0 : BitVec 32) : Fin 2 → Nat :=
  let c6_2448_r0 : Index := 6#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2442_r0 : BitVec 32 := 6#32
  let v6955_r0 : BitVec 32 := Scalar.muli v6932_r0 c6_i32_2442_r0
  let v6956_r0 : BitVec 32 := Scalar.addi v6955_r0 c0_i32_2443_r0
  let c2_i32_2446_r0 : BitVec 32 := 2#32
  let v6960_r0 : BitVec 32 := Scalar.muli v6956_r0 c2_i32_2446_r0
  let v6961_r0 : BitVec 32 := Scalar.addi v6960_r0 c0_i32_2447_r0
  let v6962_r0 : Index := Scalar.indexCast v6961_r0
  ![6, v6962_r0.toNat]
def k0_off184 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v6972_r0 : Index := Scalar.indexCast v6934_r0
  let c0_2449_r0 : Index := 0#32
  let c128_2450_r0 : Index := 128#32
  ![v6972_r0.toNat, 0, 128]
def k0_mult23 (k0_t2 : Fin k0_t2_loop.trips) : BitVec 32 :=
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2442_r0 : BitVec 32 := 6#32
  let v6955_r0 : BitVec 32 := Scalar.muli v6932_r0 c6_i32_2442_r0
  let c0_i32_2443_r0 : BitVec 32 := 0#32
  let v6956_r0 : BitVec 32 := Scalar.addi v6955_r0 c0_i32_2443_r0
  let c1_i32_2464_r0 : BitVec 32 := 1#32
  let v7019_r0 : BitVec 32 := Scalar.addi v6956_r0 c1_i32_2464_r0
  let c72_i32_2465_r0 : BitVec 32 := 72#32
  let v7020_r0 : BitVec 32 := Scalar.remsi v7019_r0 c72_i32_2465_r0
  let c256_i32_2466_r0 : BitVec 32 := 256#32
  let v7021_r0 : BitVec 32 := Scalar.muli v7020_r0 c256_i32_2466_r0
  v7021_r0
def k0_off185 (k0_t2 : Fin k0_t2_loop.trips) (c0_i32_2443_r0 : BitVec 32) : Fin 2 → Nat :=
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2442_r0 : BitVec 32 := 6#32
  let v6955_r0 : BitVec 32 := Scalar.muli v6932_r0 c6_i32_2442_r0
  let v6956_r0 : BitVec 32 := Scalar.addi v6955_r0 c0_i32_2443_r0
  let c1_i32_2464_r0 : BitVec 32 := 1#32
  let v7019_r0 : BitVec 32 := Scalar.addi v6956_r0 c1_i32_2464_r0
  let c72_i32_2465_r0 : BitVec 32 := 72#32
  let v7020_r0 : BitVec 32 := Scalar.remsi v7019_r0 c72_i32_2465_r0
  let c256_i32_2466_r0 : BitVec 32 := 256#32
  let v7021_r0 : BitVec 32 := Scalar.muli v7020_r0 c256_i32_2466_r0
  let v7022_r0 : BitVec 32 := v7021_r0
  let v7023_r0 : Index := Scalar.indexCast v7022_r0
  let c0_2467_r0 : Index := 0#32
  ![v7023_r0.toNat, 0]
def k0_off186 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7025_r0 : Index := Scalar.indexCast v6934_r0
  let c128_2468_r0 : Index := 128#32
  let c0_2469_r0 : Index := 0#32
  ![v7025_r0.toNat, 128, 0]
def k0_off187 (k0_t2 : Fin k0_t2_loop.trips) (c0_i32_2443_r0 : BitVec 32) (c0_i32_2471_r0 : BitVec 32) : Fin 2 → Nat :=
  let c7_2472_r0 : Index := 7#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2442_r0 : BitVec 32 := 6#32
  let v6955_r0 : BitVec 32 := Scalar.muli v6932_r0 c6_i32_2442_r0
  let v6956_r0 : BitVec 32 := Scalar.addi v6955_r0 c0_i32_2443_r0
  let c2_i32_2470_r0 : BitVec 32 := 2#32
  let v7028_r0 : BitVec 32 := Scalar.muli v6956_r0 c2_i32_2470_r0
  let v7029_r0 : BitVec 32 := Scalar.addi v7028_r0 c0_i32_2471_r0
  let v7030_r0 : Index := Scalar.indexCast v7029_r0
  ![7, v7030_r0.toNat]
def k0_off188 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7040_r0 : Index := Scalar.indexCast v6934_r0
  let c128_2473_r0 : Index := 128#32
  let c128_2474_r0 : Index := 128#32
  ![v7040_r0.toNat, 128, 128]
def k0_off189 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7087_r0 : Index := Scalar.indexCast v6934_r0
  let c256_2488_r0 : Index := 256#32
  let c0_2489_r0 : Index := 0#32
  ![v7087_r0.toNat, 256, 0]
def k0_off190 (k0_t2 : Fin k0_t2_loop.trips) (c0_i32_2443_r0 : BitVec 32) (c0_i32_2491_r0 : BitVec 32) : Fin 2 → Nat :=
  let c8_2492_r0 : Index := 8#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2442_r0 : BitVec 32 := 6#32
  let v6955_r0 : BitVec 32 := Scalar.muli v6932_r0 c6_i32_2442_r0
  let v6956_r0 : BitVec 32 := Scalar.addi v6955_r0 c0_i32_2443_r0
  let c2_i32_2490_r0 : BitVec 32 := 2#32
  let v7090_r0 : BitVec 32 := Scalar.muli v6956_r0 c2_i32_2490_r0
  let v7091_r0 : BitVec 32 := Scalar.addi v7090_r0 c0_i32_2491_r0
  let v7092_r0 : Index := Scalar.indexCast v7091_r0
  ![8, v7092_r0.toNat]
def k0_off191 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7102_r0 : Index := Scalar.indexCast v6934_r0
  let c256_2493_r0 : Index := 256#32
  let c128_2494_r0 : Index := 128#32
  ![v7102_r0.toNat, 256, 128]
def k0_off192 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7149_r0 : Index := Scalar.indexCast v6934_r0
  let c384_2508_r0 : Index := 384#32
  let c0_2509_r0 : Index := 0#32
  ![v7149_r0.toNat, 384, 0]
def k0_off193 (k0_t2 : Fin k0_t2_loop.trips) (c0_i32_2443_r0 : BitVec 32) (c0_i32_2511_r0 : BitVec 32) : Fin 2 → Nat :=
  let c9_2512_r0 : Index := 9#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2442_r0 : BitVec 32 := 6#32
  let v6955_r0 : BitVec 32 := Scalar.muli v6932_r0 c6_i32_2442_r0
  let v6956_r0 : BitVec 32 := Scalar.addi v6955_r0 c0_i32_2443_r0
  let c2_i32_2510_r0 : BitVec 32 := 2#32
  let v7152_r0 : BitVec 32 := Scalar.muli v6956_r0 c2_i32_2510_r0
  let v7153_r0 : BitVec 32 := Scalar.addi v7152_r0 c0_i32_2511_r0
  let v7154_r0 : Index := Scalar.indexCast v7153_r0
  ![9, v7154_r0.toNat]
def k0_off194 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7164_r0 : Index := Scalar.indexCast v6934_r0
  let c384_2513_r0 : Index := 384#32
  let c128_2514_r0 : Index := 128#32
  ![v7164_r0.toNat, 384, 128]
def k0_off195 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7211_r0 : Index := Scalar.indexCast v6934_r0
  let c512_2528_r0 : Index := 512#32
  let c0_2529_r0 : Index := 0#32
  ![v7211_r0.toNat, 512, 0]
def k0_off196 (k0_t2 : Fin k0_t2_loop.trips) (c0_i32_2443_r0 : BitVec 32) (c0_i32_2531_r0 : BitVec 32) : Fin 2 → Nat :=
  let c10_2532_r0 : Index := 10#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2442_r0 : BitVec 32 := 6#32
  let v6955_r0 : BitVec 32 := Scalar.muli v6932_r0 c6_i32_2442_r0
  let v6956_r0 : BitVec 32 := Scalar.addi v6955_r0 c0_i32_2443_r0
  let c2_i32_2530_r0 : BitVec 32 := 2#32
  let v7214_r0 : BitVec 32 := Scalar.muli v6956_r0 c2_i32_2530_r0
  let v7215_r0 : BitVec 32 := Scalar.addi v7214_r0 c0_i32_2531_r0
  let v7216_r0 : Index := Scalar.indexCast v7215_r0
  ![10, v7216_r0.toNat]
def k0_off197 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7226_r0 : Index := Scalar.indexCast v6934_r0
  let c512_2533_r0 : Index := 512#32
  let c128_2534_r0 : Index := 128#32
  ![v7226_r0.toNat, 512, 128]
def k0_off198 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7273_r0 : Index := Scalar.indexCast v6934_r0
  let c640_2548_r0 : Index := 640#32
  let c0_2549_r0 : Index := 0#32
  ![v7273_r0.toNat, 640, 0]
def k0_off199 (k0_t2 : Fin k0_t2_loop.trips) (c0_i32_2443_r0 : BitVec 32) (c0_i32_2551_r0 : BitVec 32) : Fin 2 → Nat :=
  let c11_2552_r0 : Index := 11#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2442_r0 : BitVec 32 := 6#32
  let v6955_r0 : BitVec 32 := Scalar.muli v6932_r0 c6_i32_2442_r0
  let v6956_r0 : BitVec 32 := Scalar.addi v6955_r0 c0_i32_2443_r0
  let c2_i32_2550_r0 : BitVec 32 := 2#32
  let v7276_r0 : BitVec 32 := Scalar.muli v6956_r0 c2_i32_2550_r0
  let v7277_r0 : BitVec 32 := Scalar.addi v7276_r0 c0_i32_2551_r0
  let v7278_r0 : Index := Scalar.indexCast v7277_r0
  ![11, v7278_r0.toNat]
def k0_off200 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7288_r0 : Index := Scalar.indexCast v6934_r0
  let c640_2553_r0 : Index := 640#32
  let c128_2554_r0 : Index := 128#32
  ![v7288_r0.toNat, 640, 128]
def k0_off201 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7337_r0 : Index := Scalar.indexCast v6934_r0
  let c0_2570_r0 : Index := 0#32
  let c256_2571_r0 : Index := 256#32
  ![v7337_r0.toNat, 0, 256]
def k0_off202 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7352_r0 : Index := Scalar.indexCast v6934_r0
  let c0_2575_r0 : Index := 0#32
  let c384_2576_r0 : Index := 384#32
  ![v7352_r0.toNat, 0, 384]
def k0_mult24 (k0_t2 : Fin k0_t2_loop.trips) : BitVec 32 :=
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2568_r0 : BitVec 32 := 6#32
  let v7335_r0 : BitVec 32 := Scalar.muli v6932_r0 c6_i32_2568_r0
  let c1_i32_2569_r0 : BitVec 32 := 1#32
  let v7336_r0 : BitVec 32 := Scalar.addi v7335_r0 c1_i32_2569_r0
  let c1_i32_2590_r0 : BitVec 32 := 1#32
  let v7399_r0 : BitVec 32 := Scalar.addi v7336_r0 c1_i32_2590_r0
  let c72_i32_2591_r0 : BitVec 32 := 72#32
  let v7400_r0 : BitVec 32 := Scalar.remsi v7399_r0 c72_i32_2591_r0
  let c256_i32_2592_r0 : BitVec 32 := 256#32
  let v7401_r0 : BitVec 32 := Scalar.muli v7400_r0 c256_i32_2592_r0
  v7401_r0
def k0_off203 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7405_r0 : Index := Scalar.indexCast v6934_r0
  let c128_2594_r0 : Index := 128#32
  let c256_2595_r0 : Index := 256#32
  ![v7405_r0.toNat, 128, 256]
def k0_off204 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7420_r0 : Index := Scalar.indexCast v6934_r0
  let c128_2599_r0 : Index := 128#32
  let c384_2600_r0 : Index := 384#32
  ![v7420_r0.toNat, 128, 384]
def k0_off205 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7467_r0 : Index := Scalar.indexCast v6934_r0
  let c256_2614_r0 : Index := 256#32
  let c256_2615_r0 : Index := 256#32
  ![v7467_r0.toNat, 256, 256]
def k0_off206 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7482_r0 : Index := Scalar.indexCast v6934_r0
  let c256_2619_r0 : Index := 256#32
  let c384_2620_r0 : Index := 384#32
  ![v7482_r0.toNat, 256, 384]
def k0_off207 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7529_r0 : Index := Scalar.indexCast v6934_r0
  let c384_2634_r0 : Index := 384#32
  let c256_2635_r0 : Index := 256#32
  ![v7529_r0.toNat, 384, 256]
def k0_off208 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7544_r0 : Index := Scalar.indexCast v6934_r0
  let c384_2639_r0 : Index := 384#32
  let c384_2640_r0 : Index := 384#32
  ![v7544_r0.toNat, 384, 384]
def k0_off209 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7591_r0 : Index := Scalar.indexCast v6934_r0
  let c512_2654_r0 : Index := 512#32
  let c256_2655_r0 : Index := 256#32
  ![v7591_r0.toNat, 512, 256]
def k0_off210 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7606_r0 : Index := Scalar.indexCast v6934_r0
  let c512_2659_r0 : Index := 512#32
  let c384_2660_r0 : Index := 384#32
  ![v7606_r0.toNat, 512, 384]
def k0_off211 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7653_r0 : Index := Scalar.indexCast v6934_r0
  let c640_2674_r0 : Index := 640#32
  let c256_2675_r0 : Index := 256#32
  ![v7653_r0.toNat, 640, 256]
def k0_off212 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7668_r0 : Index := Scalar.indexCast v6934_r0
  let c640_2679_r0 : Index := 640#32
  let c384_2680_r0 : Index := 384#32
  ![v7668_r0.toNat, 640, 384]
def k0_off213 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7717_r0 : Index := Scalar.indexCast v6934_r0
  let c0_2696_r0 : Index := 0#32
  let c512_2697_r0 : Index := 512#32
  ![v7717_r0.toNat, 0, 512]
def k0_off214 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7732_r0 : Index := Scalar.indexCast v6934_r0
  let c0_2701_r0 : Index := 0#32
  let c640_2702_r0 : Index := 640#32
  ![v7732_r0.toNat, 0, 640]
def k0_mult25 (k0_t2 : Fin k0_t2_loop.trips) : BitVec 32 :=
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2694_r0 : BitVec 32 := 6#32
  let v7715_r0 : BitVec 32 := Scalar.muli v6932_r0 c6_i32_2694_r0
  let c2_i32_2695_r0 : BitVec 32 := 2#32
  let v7716_r0 : BitVec 32 := Scalar.addi v7715_r0 c2_i32_2695_r0
  let c1_i32_2716_r0 : BitVec 32 := 1#32
  let v7779_r0 : BitVec 32 := Scalar.addi v7716_r0 c1_i32_2716_r0
  let c72_i32_2717_r0 : BitVec 32 := 72#32
  let v7780_r0 : BitVec 32 := Scalar.remsi v7779_r0 c72_i32_2717_r0
  let c256_i32_2718_r0 : BitVec 32 := 256#32
  let v7781_r0 : BitVec 32 := Scalar.muli v7780_r0 c256_i32_2718_r0
  v7781_r0
def k0_off215 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7785_r0 : Index := Scalar.indexCast v6934_r0
  let c128_2720_r0 : Index := 128#32
  let c512_2721_r0 : Index := 512#32
  ![v7785_r0.toNat, 128, 512]
def k0_off216 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7800_r0 : Index := Scalar.indexCast v6934_r0
  let c128_2725_r0 : Index := 128#32
  let c640_2726_r0 : Index := 640#32
  ![v7800_r0.toNat, 128, 640]
def k0_off217 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7847_r0 : Index := Scalar.indexCast v6934_r0
  let c256_2740_r0 : Index := 256#32
  let c512_2741_r0 : Index := 512#32
  ![v7847_r0.toNat, 256, 512]
def k0_off218 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7862_r0 : Index := Scalar.indexCast v6934_r0
  let c256_2745_r0 : Index := 256#32
  let c640_2746_r0 : Index := 640#32
  ![v7862_r0.toNat, 256, 640]
def k0_off219 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7909_r0 : Index := Scalar.indexCast v6934_r0
  let c384_2760_r0 : Index := 384#32
  let c512_2761_r0 : Index := 512#32
  ![v7909_r0.toNat, 384, 512]
def k0_off220 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7924_r0 : Index := Scalar.indexCast v6934_r0
  let c384_2765_r0 : Index := 384#32
  let c640_2766_r0 : Index := 640#32
  ![v7924_r0.toNat, 384, 640]
def k0_off221 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7971_r0 : Index := Scalar.indexCast v6934_r0
  let c512_2780_r0 : Index := 512#32
  let c512_2781_r0 : Index := 512#32
  ![v7971_r0.toNat, 512, 512]
def k0_off222 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v7986_r0 : Index := Scalar.indexCast v6934_r0
  let c512_2785_r0 : Index := 512#32
  let c640_2786_r0 : Index := 640#32
  ![v7986_r0.toNat, 512, 640]
def k0_off223 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8033_r0 : Index := Scalar.indexCast v6934_r0
  let c640_2800_r0 : Index := 640#32
  let c512_2801_r0 : Index := 512#32
  ![v8033_r0.toNat, 640, 512]
def k0_off224 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8048_r0 : Index := Scalar.indexCast v6934_r0
  let c640_2805_r0 : Index := 640#32
  let c640_2806_r0 : Index := 640#32
  ![v8048_r0.toNat, 640, 640]
def k0_off225 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8097_r0 : Index := Scalar.indexCast v6934_r0
  let c0_2822_r0 : Index := 0#32
  let c768_2823_r0 : Index := 768#32
  ![v8097_r0.toNat, 0, 768]
def k0_off226 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8112_r0 : Index := Scalar.indexCast v6934_r0
  let c0_2827_r0 : Index := 0#32
  let c896_2828_r0 : Index := 896#32
  ![v8112_r0.toNat, 0, 896]
def k0_mult26 (k0_t2 : Fin k0_t2_loop.trips) : BitVec 32 :=
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2820_r0 : BitVec 32 := 6#32
  let v8095_r0 : BitVec 32 := Scalar.muli v6932_r0 c6_i32_2820_r0
  let c3_i32_2821_r0 : BitVec 32 := 3#32
  let v8096_r0 : BitVec 32 := Scalar.addi v8095_r0 c3_i32_2821_r0
  let c1_i32_2842_r0 : BitVec 32 := 1#32
  let v8159_r0 : BitVec 32 := Scalar.addi v8096_r0 c1_i32_2842_r0
  let c72_i32_2843_r0 : BitVec 32 := 72#32
  let v8160_r0 : BitVec 32 := Scalar.remsi v8159_r0 c72_i32_2843_r0
  let c256_i32_2844_r0 : BitVec 32 := 256#32
  let v8161_r0 : BitVec 32 := Scalar.muli v8160_r0 c256_i32_2844_r0
  v8161_r0
def k0_off227 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8165_r0 : Index := Scalar.indexCast v6934_r0
  let c128_2846_r0 : Index := 128#32
  let c768_2847_r0 : Index := 768#32
  ![v8165_r0.toNat, 128, 768]
def k0_off228 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8180_r0 : Index := Scalar.indexCast v6934_r0
  let c128_2851_r0 : Index := 128#32
  let c896_2852_r0 : Index := 896#32
  ![v8180_r0.toNat, 128, 896]
def k0_off229 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8227_r0 : Index := Scalar.indexCast v6934_r0
  let c256_2866_r0 : Index := 256#32
  let c768_2867_r0 : Index := 768#32
  ![v8227_r0.toNat, 256, 768]
def k0_off230 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8242_r0 : Index := Scalar.indexCast v6934_r0
  let c256_2871_r0 : Index := 256#32
  let c896_2872_r0 : Index := 896#32
  ![v8242_r0.toNat, 256, 896]
def k0_off231 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8289_r0 : Index := Scalar.indexCast v6934_r0
  let c384_2886_r0 : Index := 384#32
  let c768_2887_r0 : Index := 768#32
  ![v8289_r0.toNat, 384, 768]
def k0_off232 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8304_r0 : Index := Scalar.indexCast v6934_r0
  let c384_2891_r0 : Index := 384#32
  let c896_2892_r0 : Index := 896#32
  ![v8304_r0.toNat, 384, 896]
def k0_off233 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8351_r0 : Index := Scalar.indexCast v6934_r0
  let c512_2906_r0 : Index := 512#32
  let c768_2907_r0 : Index := 768#32
  ![v8351_r0.toNat, 512, 768]
def k0_off234 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8366_r0 : Index := Scalar.indexCast v6934_r0
  let c512_2911_r0 : Index := 512#32
  let c896_2912_r0 : Index := 896#32
  ![v8366_r0.toNat, 512, 896]
def k0_off235 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8413_r0 : Index := Scalar.indexCast v6934_r0
  let c640_2926_r0 : Index := 640#32
  let c768_2927_r0 : Index := 768#32
  ![v8413_r0.toNat, 640, 768]
def k0_off236 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8428_r0 : Index := Scalar.indexCast v6934_r0
  let c640_2931_r0 : Index := 640#32
  let c896_2932_r0 : Index := 896#32
  ![v8428_r0.toNat, 640, 896]
def k0_off237 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8477_r0 : Index := Scalar.indexCast v6934_r0
  let c0_2948_r0 : Index := 0#32
  let c1024_2949_r0 : Index := 1024#32
  ![v8477_r0.toNat, 0, 1024]
def k0_off238 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8492_r0 : Index := Scalar.indexCast v6934_r0
  let c0_2953_r0 : Index := 0#32
  let c1152_2954_r0 : Index := 1152#32
  ![v8492_r0.toNat, 0, 1152]
def k0_mult27 (k0_t2 : Fin k0_t2_loop.trips) : BitVec 32 :=
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2946_r0 : BitVec 32 := 6#32
  let v8475_r0 : BitVec 32 := Scalar.muli v6932_r0 c6_i32_2946_r0
  let c4_i32_2947_r0 : BitVec 32 := 4#32
  let v8476_r0 : BitVec 32 := Scalar.addi v8475_r0 c4_i32_2947_r0
  let c1_i32_2968_r0 : BitVec 32 := 1#32
  let v8539_r0 : BitVec 32 := Scalar.addi v8476_r0 c1_i32_2968_r0
  let c72_i32_2969_r0 : BitVec 32 := 72#32
  let v8540_r0 : BitVec 32 := Scalar.remsi v8539_r0 c72_i32_2969_r0
  let c256_i32_2970_r0 : BitVec 32 := 256#32
  let v8541_r0 : BitVec 32 := Scalar.muli v8540_r0 c256_i32_2970_r0
  v8541_r0
def k0_off239 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8545_r0 : Index := Scalar.indexCast v6934_r0
  let c128_2972_r0 : Index := 128#32
  let c1024_2973_r0 : Index := 1024#32
  ![v8545_r0.toNat, 128, 1024]
def k0_off240 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8560_r0 : Index := Scalar.indexCast v6934_r0
  let c128_2977_r0 : Index := 128#32
  let c1152_2978_r0 : Index := 1152#32
  ![v8560_r0.toNat, 128, 1152]
def k0_off241 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8607_r0 : Index := Scalar.indexCast v6934_r0
  let c256_2992_r0 : Index := 256#32
  let c1024_2993_r0 : Index := 1024#32
  ![v8607_r0.toNat, 256, 1024]
def k0_off242 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8622_r0 : Index := Scalar.indexCast v6934_r0
  let c256_2997_r0 : Index := 256#32
  let c1152_2998_r0 : Index := 1152#32
  ![v8622_r0.toNat, 256, 1152]
def k0_off243 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8669_r0 : Index := Scalar.indexCast v6934_r0
  let c384_3012_r0 : Index := 384#32
  let c1024_3013_r0 : Index := 1024#32
  ![v8669_r0.toNat, 384, 1024]
def k0_off244 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8684_r0 : Index := Scalar.indexCast v6934_r0
  let c384_3017_r0 : Index := 384#32
  let c1152_3018_r0 : Index := 1152#32
  ![v8684_r0.toNat, 384, 1152]
def k0_off245 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8731_r0 : Index := Scalar.indexCast v6934_r0
  let c512_3032_r0 : Index := 512#32
  let c1024_3033_r0 : Index := 1024#32
  ![v8731_r0.toNat, 512, 1024]
def k0_off246 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8746_r0 : Index := Scalar.indexCast v6934_r0
  let c512_3037_r0 : Index := 512#32
  let c1152_3038_r0 : Index := 1152#32
  ![v8746_r0.toNat, 512, 1152]
def k0_off247 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8793_r0 : Index := Scalar.indexCast v6934_r0
  let c640_3052_r0 : Index := 640#32
  let c1024_3053_r0 : Index := 1024#32
  ![v8793_r0.toNat, 640, 1024]
def k0_off248 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8808_r0 : Index := Scalar.indexCast v6934_r0
  let c640_3057_r0 : Index := 640#32
  let c1152_3058_r0 : Index := 1152#32
  ![v8808_r0.toNat, 640, 1152]
def k0_off249 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8857_r0 : Index := Scalar.indexCast v6934_r0
  let c0_3074_r0 : Index := 0#32
  let c1280_3075_r0 : Index := 1280#32
  ![v8857_r0.toNat, 0, 1280]
def k0_off250 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8872_r0 : Index := Scalar.indexCast v6934_r0
  let c0_3079_r0 : Index := 0#32
  let c1408_3080_r0 : Index := 1408#32
  ![v8872_r0.toNat, 0, 1408]
def k0_mult28 (k0_t2 : Fin k0_t2_loop.trips) : BitVec 32 :=
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_3072_r0 : BitVec 32 := 6#32
  let v8855_r0 : BitVec 32 := Scalar.muli v6932_r0 c6_i32_3072_r0
  let c5_i32_3073_r0 : BitVec 32 := 5#32
  let v8856_r0 : BitVec 32 := Scalar.addi v8855_r0 c5_i32_3073_r0
  let c1_i32_3094_r0 : BitVec 32 := 1#32
  let v8919_r0 : BitVec 32 := Scalar.addi v8856_r0 c1_i32_3094_r0
  let c72_i32_3095_r0 : BitVec 32 := 72#32
  let v8920_r0 : BitVec 32 := Scalar.remsi v8919_r0 c72_i32_3095_r0
  let c256_i32_3096_r0 : BitVec 32 := 256#32
  let v8921_r0 : BitVec 32 := Scalar.muli v8920_r0 c256_i32_3096_r0
  v8921_r0
def k0_off251 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8925_r0 : Index := Scalar.indexCast v6934_r0
  let c128_3098_r0 : Index := 128#32
  let c1280_3099_r0 : Index := 1280#32
  ![v8925_r0.toNat, 128, 1280]
def k0_off252 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8940_r0 : Index := Scalar.indexCast v6934_r0
  let c128_3103_r0 : Index := 128#32
  let c1408_3104_r0 : Index := 1408#32
  ![v8940_r0.toNat, 128, 1408]
def k0_off253 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v8987_r0 : Index := Scalar.indexCast v6934_r0
  let c256_3118_r0 : Index := 256#32
  let c1280_3119_r0 : Index := 1280#32
  ![v8987_r0.toNat, 256, 1280]
def k0_off254 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v9002_r0 : Index := Scalar.indexCast v6934_r0
  let c256_3123_r0 : Index := 256#32
  let c1408_3124_r0 : Index := 1408#32
  ![v9002_r0.toNat, 256, 1408]
def k0_off255 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v9049_r0 : Index := Scalar.indexCast v6934_r0
  let c384_3138_r0 : Index := 384#32
  let c1280_3139_r0 : Index := 1280#32
  ![v9049_r0.toNat, 384, 1280]
def k0_off256 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v9064_r0 : Index := Scalar.indexCast v6934_r0
  let c384_3143_r0 : Index := 384#32
  let c1408_3144_r0 : Index := 1408#32
  ![v9064_r0.toNat, 384, 1408]
def k0_off257 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v9111_r0 : Index := Scalar.indexCast v6934_r0
  let c512_3158_r0 : Index := 512#32
  let c1280_3159_r0 : Index := 1280#32
  ![v9111_r0.toNat, 512, 1280]
def k0_off258 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v9126_r0 : Index := Scalar.indexCast v6934_r0
  let c512_3163_r0 : Index := 512#32
  let c1408_3164_r0 : Index := 1408#32
  ![v9126_r0.toNat, 512, 1408]
def k0_off259 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v9173_r0 : Index := Scalar.indexCast v6934_r0
  let c640_3178_r0 : Index := 640#32
  let c1280_3179_r0 : Index := 1280#32
  ![v9173_r0.toNat, 640, 1280]
def k0_off260 (k0_t2 : Fin k0_t2_loop.trips) : Fin 3 → Nat :=
  let c12_i32_2426_r0 : BitVec 32 := 12#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c12_i32_2426_r0 v6932_r0
  let c4_i32_2427_r0 : BitVec 32 := 4#32
  let v6934_r0 : BitVec 32 := Scalar.remsi v6933_r0 c4_i32_2427_r0
  let v9188_r0 : Index := Scalar.indexCast v6934_r0
  let c640_3183_r0 : Index := 640#32
  let c1408_3184_r0 : Index := 1408#32
  ![v9188_r0.toNat, 640, 1408]
def k0_mult29 (k0_t2 : Fin k0_t2_loop.trips) : BitVec 32 :=
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let c2_i32_3198_r0 : BitVec 32 := 2#32
  let v9235_r0 : BitVec 32 := Scalar.divsi v6932_r0 c2_i32_3198_r0
  let c128_i32_3200_r0 : BitVec 32 := 128#32
  let v9237_r0 : BitVec 32 := Scalar.muli v9235_r0 c128_i32_3200_r0
  v9237_r0
def k0_mult30 (k0_t2 : Fin k0_t2_loop.trips) : BitVec 32 :=
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let c2_i32_3199_r0 : BitVec 32 := 2#32
  let v9236_r0 : BitVec 32 := Scalar.remsi v6932_r0 c2_i32_3199_r0
  let c128_i32_3201_r0 : BitVec 32 := 128#32
  let v9239_r0 : BitVec 32 := Scalar.muli v9236_r0 c128_i32_3201_r0
  v9239_r0
def k0_off261 (k0_t2 : Fin k0_t2_loop.trips) : Fin 2 → Nat :=
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let c2_i32_3198_r0 : BitVec 32 := 2#32
  let v9235_r0 : BitVec 32 := Scalar.divsi v6932_r0 c2_i32_3198_r0
  let c128_i32_3200_r0 : BitVec 32 := 128#32
  let v9237_r0 : BitVec 32 := Scalar.muli v9235_r0 c128_i32_3200_r0
  let v9238_r0 : BitVec 32 := v9237_r0
  let v9241_r0 : Index := Scalar.indexCast v9238_r0
  let c2_i32_3199_r0 : BitVec 32 := 2#32
  let v9236_r0 : BitVec 32 := Scalar.remsi v6932_r0 c2_i32_3199_r0
  let c128_i32_3201_r0 : BitVec 32 := 128#32
  let v9239_r0 : BitVec 32 := Scalar.muli v9236_r0 c128_i32_3201_r0
  let v9240_r0 : BitVec 32 := v9239_r0
  let v9242_r0 : Index := Scalar.indexCast v9240_r0
  ![v9241_r0.toNat, v9242_r0.toNat]
def k0_mult31 (k0_t2 : Fin k0_t2_loop.trips) : BitVec 32 :=
  let c0_i32_3221_r0 : BitVec 32 := 0#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let c2_i32_3198_r0 : BitVec 32 := 2#32
  let v9235_r0 : BitVec 32 := Scalar.divsi v6932_r0 c2_i32_3198_r0
  let c128_i32_3220_r0 : BitVec 32 := 128#32
  let v9297_r0 : BitVec 32 := Scalar.muli v9235_r0 c128_i32_3220_r0
  let v9298_r0 : BitVec 32 := Scalar.addi c0_i32_3221_r0 v9297_r0
  v9298_r0
def k0_off262 (k0_t2 : Fin k0_t2_loop.trips) : Fin 2 → Nat :=
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let c2_i32_3199_r0 : BitVec 32 := 2#32
  let v9236_r0 : BitVec 32 := Scalar.remsi v6932_r0 c2_i32_3199_r0
  let c128_i32_3201_r0 : BitVec 32 := 128#32
  let v9239_r0 : BitVec 32 := Scalar.muli v9236_r0 c128_i32_3201_r0
  let v9240_r0 : BitVec 32 := v9239_r0
  let v9300_r0 : Index := Scalar.indexCast v9240_r0
  let c0_i32_3221_r0 : BitVec 32 := 0#32
  let c2_i32_3198_r0 : BitVec 32 := 2#32
  let v9235_r0 : BitVec 32 := Scalar.divsi v6932_r0 c2_i32_3198_r0
  let c128_i32_3220_r0 : BitVec 32 := 128#32
  let v9297_r0 : BitVec 32 := Scalar.muli v9235_r0 c128_i32_3220_r0
  let v9298_r0 : BitVec 32 := Scalar.addi c0_i32_3221_r0 v9297_r0
  let v9299_r0 : BitVec 32 := v9298_r0
  let v9301_r0 : Index := Scalar.indexCast v9299_r0
  ![v9300_r0.toNat, v9301_r0.toNat]
def k0_off263 (k0_t2 : Fin k0_t2_loop.trips) : Fin 3 → Nat :=
  let c0_i32_3222_r0 : BitVec 32 := 0#32
  let c1_i32_2425_r0 : BitVec 32 := 1#32
  let c0_i32_1433_r0 : BitVec 32 := 0#32
  let c1_i32_1435_r0 : BitVec 32 := 1#32
  let arg25_r0 : BitVec 32 := Scf.iv c0_i32_1433_r0 c1_i32_1435_r0 k0_t2
  let c1_i32_2424_r0 : BitVec 32 := 1#32
  let v6931_r0 : BitVec 32 := Scalar.muli arg25_r0 c1_i32_2424_r0
  let v6932_r0 : BitVec 32 := Scalar.addi c1_i32_2425_r0 v6931_r0
  let c2_i32_3198_r0 : BitVec 32 := 2#32
  let v9235_r0 : BitVec 32 := Scalar.divsi v6932_r0 c2_i32_3198_r0
  let v9305_r0 : BitVec 32 := Scalar.addi c0_i32_3222_r0 v9235_r0
  let v9306_r0 : Index := Scalar.indexCast v9305_r0
  let c0_3223_r0 : Index := 0#32
  let c2_i32_3199_r0 : BitVec 32 := 2#32
  let v9236_r0 : BitVec 32 := Scalar.remsi v6932_r0 c2_i32_3199_r0
  let c128_i32_3201_r0 : BitVec 32 := 128#32
  let v9239_r0 : BitVec 32 := Scalar.muli v9236_r0 c128_i32_3201_r0
  let v9240_r0 : BitVec 32 := v9239_r0
  let v9307_r0 : Index := Scalar.indexCast v9240_r0
  ![v9306_r0.toNat, 0, v9307_r0.toNat]
def k0_mult32 : BitVec 32 :=
  let c1_i32_1489_r0 : BitVec 32 := 1#32
  let c72_i32_1490_r0 : BitVec 32 := 72#32
  let v4292_r0 : BitVec 32 := Scalar.remsi c1_i32_1489_r0 c72_i32_1490_r0
  let c256_i32_1491_r0 : BitVec 32 := 256#32
  let v4293_r0 : BitVec 32 := Scalar.muli v4292_r0 c256_i32_1491_r0
  v4293_r0
def k0_mult33 : BitVec 32 :=
  let c2_i32_1604_r0 : BitVec 32 := 2#32
  let c72_i32_1605_r0 : BitVec 32 := 72#32
  let v4637_r0 : BitVec 32 := Scalar.remsi c2_i32_1604_r0 c72_i32_1605_r0
  let c256_i32_1606_r0 : BitVec 32 := 256#32
  let v4638_r0 : BitVec 32 := Scalar.muli v4637_r0 c256_i32_1606_r0
  v4638_r0
def k0_mult34 : BitVec 32 :=
  let c3_i32_1704_r0 : BitVec 32 := 3#32
  let c72_i32_1705_r0 : BitVec 32 := 72#32
  let v4942_r0 : BitVec 32 := Scalar.remsi c3_i32_1704_r0 c72_i32_1705_r0
  let c256_i32_1706_r0 : BitVec 32 := 256#32
  let v4943_r0 : BitVec 32 := Scalar.muli v4942_r0 c256_i32_1706_r0
  v4943_r0
def k0_mult35 : BitVec 32 :=
  let c4_i32_1804_r0 : BitVec 32 := 4#32
  let c72_i32_1805_r0 : BitVec 32 := 72#32
  let v5247_r0 : BitVec 32 := Scalar.remsi c4_i32_1804_r0 c72_i32_1805_r0
  let c256_i32_1806_r0 : BitVec 32 := 256#32
  let v5248_r0 : BitVec 32 := Scalar.muli v5247_r0 c256_i32_1806_r0
  v5248_r0
def k0_mult36 : BitVec 32 :=
  let c5_i32_1904_r0 : BitVec 32 := 5#32
  let c72_i32_1905_r0 : BitVec 32 := 72#32
  let v5552_r0 : BitVec 32 := Scalar.remsi c5_i32_1904_r0 c72_i32_1905_r0
  let c256_i32_1906_r0 : BitVec 32 := 256#32
  let v5553_r0 : BitVec 32 := Scalar.muli v5552_r0 c256_i32_1906_r0
  v5553_r0
def k0_mult37 : BitVec 32 :=
  let c6_i32_2004_r0 : BitVec 32 := 6#32
  let c72_i32_2005_r0 : BitVec 32 := 72#32
  let v5857_r0 : BitVec 32 := Scalar.remsi c6_i32_2004_r0 c72_i32_2005_r0
  let c256_i32_2006_r0 : BitVec 32 := 256#32
  let v5858_r0 : BitVec 32 := Scalar.muli v5857_r0 c256_i32_2006_r0
  v5858_r0
def k0_mult38 : BitVec 32 :=
  let c0_i32_2088_r0 : BitVec 32 := 0#32
  let c2_i32_2089_r0 : BitVec 32 := 2#32
  let v6112_r0 : BitVec 32 := Scalar.divsi c0_i32_2088_r0 c2_i32_2089_r0
  let c128_i32_2092_r0 : BitVec 32 := 128#32
  let v6114_r0 : BitVec 32 := Scalar.muli v6112_r0 c128_i32_2092_r0
  v6114_r0
def k0_mult39 : BitVec 32 :=
  let c0_i32_2090_r0 : BitVec 32 := 0#32
  let c2_i32_2091_r0 : BitVec 32 := 2#32
  let v6113_r0 : BitVec 32 := Scalar.remsi c0_i32_2090_r0 c2_i32_2091_r0
  let c128_i32_2093_r0 : BitVec 32 := 128#32
  let v6116_r0 : BitVec 32 := Scalar.muli v6113_r0 c128_i32_2093_r0
  v6116_r0
def k0_mult40 : BitVec 32 :=
  let c768_i32_2113_r0 : BitVec 32 := 768#32
  let c0_i32_2088_r0 : BitVec 32 := 0#32
  let c2_i32_2089_r0 : BitVec 32 := 2#32
  let v6112_r0 : BitVec 32 := Scalar.divsi c0_i32_2088_r0 c2_i32_2089_r0
  let c128_i32_2112_r0 : BitVec 32 := 128#32
  let v6174_r0 : BitVec 32 := Scalar.muli v6112_r0 c128_i32_2112_r0
  let v6175_r0 : BitVec 32 := Scalar.addi c768_i32_2113_r0 v6174_r0
  v6175_r0
@[reducible] def k0_t3_loop : Scf.Loop 32 :=
  let c0_i32_2116_r0 : BitVec 32 := 0#32
  let c11_i32_2117_r0 : BitVec 32 := 11#32
  let v6188_r0 : BitVec 32 := Scalar.addi c0_i32_2116_r0 c11_i32_2117_r0
  let c1_i32_2118_r0 : BitVec 32 := 1#32
  ⟨c0_i32_2116_r0, v6188_r0, c1_i32_2118_r0⟩
def k0_off264 (k0_t3 : Fin k0_t3_loop.trips) : Fin 2 → Nat :=
  let c0_i32_2433_r0 : BitVec 32 := 0#32
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2430_r0 : BitVec 32 := 4#32
  let v6937_r0 : BitVec 32 := Scalar.remsi v6933_r0 c4_i32_2430_r0
  ![0, v6937_r0.toNat]
def k0_off265 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2430_r0 : BitVec 32 := 4#32
  let v6937_r0 : BitVec 32 := Scalar.remsi v6933_r0 c4_i32_2430_r0
  let c0_i32_2434_r0 : BitVec 32 := 0#32
  let c0_i32_2435_r0 : BitVec 32 := 0#32
  ![v6937_r0.toNat, 0, 0]
def k0_off266 (k0_t3 : Fin k0_t3_loop.trips) : Fin 2 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c12_i32_2428_r0 : BitVec 32 := 12#32
  let v6935_r0 : BitVec 32 := Scalar.divsi v6933_r0 c12_i32_2428_r0
  let c768_i32_2431_r0 : BitVec 32 := 768#32
  let v6938_r0 : BitVec 32 := Scalar.muli v6935_r0 c768_i32_2431_r0
  let c12_i32_2429_r0 : BitVec 32 := 12#32
  let v6936_r0 : BitVec 32 := Scalar.remsi v6933_r0 c12_i32_2429_r0
  let c1536_i32_2432_r0 : BitVec 32 := 1536#32
  let v6939_r0 : BitVec 32 := Scalar.muli v6936_r0 c1536_i32_2432_r0
  ![v6938_r0.toNat, v6939_r0.toNat]
def k0_off267 (k0_t3 : Fin k0_t3_loop.trips) : Fin 2 → Nat :=
  let c1_i32_2436_r0 : BitVec 32 := 1#32
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2430_r0 : BitVec 32 := 4#32
  let v6937_r0 : BitVec 32 := Scalar.remsi v6933_r0 c4_i32_2430_r0
  ![1, v6937_r0.toNat]
def k0_cond4 (k0_t3 : Fin k0_t3_loop.trips) : BitVec 1 :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2439_r0 : BitVec 32 := 4#32
  let v6950_r0 : BitVec 32 := Scalar.addi v6933_r0 c4_i32_2439_r0
  let c1_i32_2440_r0 : BitVec 32 := 1#32
  let v6951_r0 : BitVec 32 := Scalar.subi v6950_r0 c1_i32_2440_r0
  let c36_i32_r0 : BitVec 32 := 36#32
  let v6952_r0 : BitVec 1 := Scalar.cmpi .slt v6951_r0 c36_i32_r0
  let v6953_r0 : BitVec 32 := Scalar.extui v6952_r0
  let c0_i32_2441_r0 : BitVec 32 := 0#32
  let v6954_r0 : BitVec 1 := Scalar.cmpi .ne v6953_r0 c0_i32_2441_r0
  v6954_r0

def k0_off268 (k0_t3 : Fin k0_t3_loop.trips) : Fin 2 → Nat :=
  let c0_i32_3229_r0 : BitVec 32 := 0#32
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2439_r0 : BitVec 32 := 4#32
  let v6950_r0 : BitVec 32 := Scalar.addi v6933_r0 c4_i32_2439_r0
  let c1_i32_2440_r0 : BitVec 32 := 1#32
  let v6951_r0 : BitVec 32 := Scalar.subi v6950_r0 c1_i32_2440_r0
  let c4_i32_3226_r0 : BitVec 32 := 4#32
  let v9313_r0 : BitVec 32 := Scalar.remsi v6951_r0 c4_i32_3226_r0
  ![0, v9313_r0.toNat]
def k0_off269 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2439_r0 : BitVec 32 := 4#32
  let v6950_r0 : BitVec 32 := Scalar.addi v6933_r0 c4_i32_2439_r0
  let c1_i32_2440_r0 : BitVec 32 := 1#32
  let v6951_r0 : BitVec 32 := Scalar.subi v6950_r0 c1_i32_2440_r0
  let c4_i32_3226_r0 : BitVec 32 := 4#32
  let v9313_r0 : BitVec 32 := Scalar.remsi v6951_r0 c4_i32_3226_r0
  let c0_i32_3230_r0 : BitVec 32 := 0#32
  let c0_i32_3231_r0 : BitVec 32 := 0#32
  ![v9313_r0.toNat, 0, 0]
def k0_off270 (k0_t3 : Fin k0_t3_loop.trips) : Fin 2 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2439_r0 : BitVec 32 := 4#32
  let v6950_r0 : BitVec 32 := Scalar.addi v6933_r0 c4_i32_2439_r0
  let c1_i32_2440_r0 : BitVec 32 := 1#32
  let v6951_r0 : BitVec 32 := Scalar.subi v6950_r0 c1_i32_2440_r0
  let c12_i32_3224_r0 : BitVec 32 := 12#32
  let v9311_r0 : BitVec 32 := Scalar.divsi v6951_r0 c12_i32_3224_r0
  let c768_i32_3227_r0 : BitVec 32 := 768#32
  let v9314_r0 : BitVec 32 := Scalar.muli v9311_r0 c768_i32_3227_r0
  let c12_i32_3225_r0 : BitVec 32 := 12#32
  let v9312_r0 : BitVec 32 := Scalar.remsi v6951_r0 c12_i32_3225_r0
  let c1536_i32_3228_r0 : BitVec 32 := 1536#32
  let v9315_r0 : BitVec 32 := Scalar.muli v9312_r0 c1536_i32_3228_r0
  ![v9314_r0.toNat, v9315_r0.toNat]
def k0_off271 (k0_t3 : Fin k0_t3_loop.trips) : Fin 2 → Nat :=
  let c1_i32_3232_r0 : BitVec 32 := 1#32
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2439_r0 : BitVec 32 := 4#32
  let v6950_r0 : BitVec 32 := Scalar.addi v6933_r0 c4_i32_2439_r0
  let c1_i32_2440_r0 : BitVec 32 := 1#32
  let v6951_r0 : BitVec 32 := Scalar.subi v6950_r0 c1_i32_2440_r0
  let c4_i32_3226_r0 : BitVec 32 := 4#32
  let v9313_r0 : BitVec 32 := Scalar.remsi v6951_r0 c4_i32_3226_r0
  ![1, v9313_r0.toNat]
def k0_off272 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v6957_r0 : Index := Scalar.indexCast v6934_r0
  let c0_2444_r0 : Index := 0#32
  let c0_2445_r0 : Index := 0#32
  ![v6957_r0.toNat, 0, 0]
def k0_off273 (k0_t3 : Fin k0_t3_loop.trips) (c0_i32_2443_r0 : BitVec 32) (c0_i32_2447_r0 : BitVec 32) : Fin 2 → Nat :=
  let c12_2448_r0 : Index := 12#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2442_r0 : BitVec 32 := 6#32
  let v6955_r0 : BitVec 32 := Scalar.muli v6932_r0 c6_i32_2442_r0
  let v6956_r0 : BitVec 32 := Scalar.addi v6955_r0 c0_i32_2443_r0
  let c2_i32_2446_r0 : BitVec 32 := 2#32
  let v6960_r0 : BitVec 32 := Scalar.muli v6956_r0 c2_i32_2446_r0
  let v6961_r0 : BitVec 32 := Scalar.addi v6960_r0 c0_i32_2447_r0
  let v6962_r0 : Index := Scalar.indexCast v6961_r0
  ![12, v6962_r0.toNat]
def k0_off274 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v6972_r0 : Index := Scalar.indexCast v6934_r0
  let c0_2449_r0 : Index := 0#32
  let c128_2450_r0 : Index := 128#32
  ![v6972_r0.toNat, 0, 128]
def k0_mult41 (k0_t3 : Fin k0_t3_loop.trips) : BitVec 32 :=
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2442_r0 : BitVec 32 := 6#32
  let v6955_r0 : BitVec 32 := Scalar.muli v6932_r0 c6_i32_2442_r0
  let c0_i32_2443_r0 : BitVec 32 := 0#32
  let v6956_r0 : BitVec 32 := Scalar.addi v6955_r0 c0_i32_2443_r0
  let c1_i32_2464_r0 : BitVec 32 := 1#32
  let v7019_r0 : BitVec 32 := Scalar.addi v6956_r0 c1_i32_2464_r0
  let c72_i32_2465_r0 : BitVec 32 := 72#32
  let v7020_r0 : BitVec 32 := Scalar.remsi v7019_r0 c72_i32_2465_r0
  let c256_i32_2466_r0 : BitVec 32 := 256#32
  let v7021_r0 : BitVec 32 := Scalar.muli v7020_r0 c256_i32_2466_r0
  v7021_r0
def k0_off275 (k0_t3 : Fin k0_t3_loop.trips) (c0_i32_2443_r0 : BitVec 32) : Fin 2 → Nat :=
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2442_r0 : BitVec 32 := 6#32
  let v6955_r0 : BitVec 32 := Scalar.muli v6932_r0 c6_i32_2442_r0
  let v6956_r0 : BitVec 32 := Scalar.addi v6955_r0 c0_i32_2443_r0
  let c1_i32_2464_r0 : BitVec 32 := 1#32
  let v7019_r0 : BitVec 32 := Scalar.addi v6956_r0 c1_i32_2464_r0
  let c72_i32_2465_r0 : BitVec 32 := 72#32
  let v7020_r0 : BitVec 32 := Scalar.remsi v7019_r0 c72_i32_2465_r0
  let c256_i32_2466_r0 : BitVec 32 := 256#32
  let v7021_r0 : BitVec 32 := Scalar.muli v7020_r0 c256_i32_2466_r0
  let v7022_r0 : BitVec 32 := v7021_r0
  let v7023_r0 : Index := Scalar.indexCast v7022_r0
  let c0_2467_r0 : Index := 0#32
  ![v7023_r0.toNat, 0]
def k0_off276 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7025_r0 : Index := Scalar.indexCast v6934_r0
  let c128_2468_r0 : Index := 128#32
  let c0_2469_r0 : Index := 0#32
  ![v7025_r0.toNat, 128, 0]
def k0_off277 (k0_t3 : Fin k0_t3_loop.trips) (c0_i32_2443_r0 : BitVec 32) (c0_i32_2471_r0 : BitVec 32) : Fin 2 → Nat :=
  let c13_2472_r0 : Index := 13#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2442_r0 : BitVec 32 := 6#32
  let v6955_r0 : BitVec 32 := Scalar.muli v6932_r0 c6_i32_2442_r0
  let v6956_r0 : BitVec 32 := Scalar.addi v6955_r0 c0_i32_2443_r0
  let c2_i32_2470_r0 : BitVec 32 := 2#32
  let v7028_r0 : BitVec 32 := Scalar.muli v6956_r0 c2_i32_2470_r0
  let v7029_r0 : BitVec 32 := Scalar.addi v7028_r0 c0_i32_2471_r0
  let v7030_r0 : Index := Scalar.indexCast v7029_r0
  ![13, v7030_r0.toNat]
def k0_off278 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7040_r0 : Index := Scalar.indexCast v6934_r0
  let c128_2473_r0 : Index := 128#32
  let c128_2474_r0 : Index := 128#32
  ![v7040_r0.toNat, 128, 128]
def k0_off279 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7087_r0 : Index := Scalar.indexCast v6934_r0
  let c256_2488_r0 : Index := 256#32
  let c0_2489_r0 : Index := 0#32
  ![v7087_r0.toNat, 256, 0]
def k0_off280 (k0_t3 : Fin k0_t3_loop.trips) (c0_i32_2443_r0 : BitVec 32) (c0_i32_2491_r0 : BitVec 32) : Fin 2 → Nat :=
  let c14_2492_r0 : Index := 14#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2442_r0 : BitVec 32 := 6#32
  let v6955_r0 : BitVec 32 := Scalar.muli v6932_r0 c6_i32_2442_r0
  let v6956_r0 : BitVec 32 := Scalar.addi v6955_r0 c0_i32_2443_r0
  let c2_i32_2490_r0 : BitVec 32 := 2#32
  let v7090_r0 : BitVec 32 := Scalar.muli v6956_r0 c2_i32_2490_r0
  let v7091_r0 : BitVec 32 := Scalar.addi v7090_r0 c0_i32_2491_r0
  let v7092_r0 : Index := Scalar.indexCast v7091_r0
  ![14, v7092_r0.toNat]
def k0_off281 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7102_r0 : Index := Scalar.indexCast v6934_r0
  let c256_2493_r0 : Index := 256#32
  let c128_2494_r0 : Index := 128#32
  ![v7102_r0.toNat, 256, 128]
def k0_off282 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7149_r0 : Index := Scalar.indexCast v6934_r0
  let c384_2508_r0 : Index := 384#32
  let c0_2509_r0 : Index := 0#32
  ![v7149_r0.toNat, 384, 0]
def k0_off283 (k0_t3 : Fin k0_t3_loop.trips) (c0_i32_2443_r0 : BitVec 32) (c0_i32_2511_r0 : BitVec 32) : Fin 2 → Nat :=
  let c15_2512_r0 : Index := 15#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2442_r0 : BitVec 32 := 6#32
  let v6955_r0 : BitVec 32 := Scalar.muli v6932_r0 c6_i32_2442_r0
  let v6956_r0 : BitVec 32 := Scalar.addi v6955_r0 c0_i32_2443_r0
  let c2_i32_2510_r0 : BitVec 32 := 2#32
  let v7152_r0 : BitVec 32 := Scalar.muli v6956_r0 c2_i32_2510_r0
  let v7153_r0 : BitVec 32 := Scalar.addi v7152_r0 c0_i32_2511_r0
  let v7154_r0 : Index := Scalar.indexCast v7153_r0
  ![15, v7154_r0.toNat]
def k0_off284 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7164_r0 : Index := Scalar.indexCast v6934_r0
  let c384_2513_r0 : Index := 384#32
  let c128_2514_r0 : Index := 128#32
  ![v7164_r0.toNat, 384, 128]
def k0_off285 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7211_r0 : Index := Scalar.indexCast v6934_r0
  let c512_2528_r0 : Index := 512#32
  let c0_2529_r0 : Index := 0#32
  ![v7211_r0.toNat, 512, 0]
def k0_off286 (k0_t3 : Fin k0_t3_loop.trips) (c0_i32_2443_r0 : BitVec 32) (c0_i32_2531_r0 : BitVec 32) : Fin 2 → Nat :=
  let c16_2532_r0 : Index := 16#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2442_r0 : BitVec 32 := 6#32
  let v6955_r0 : BitVec 32 := Scalar.muli v6932_r0 c6_i32_2442_r0
  let v6956_r0 : BitVec 32 := Scalar.addi v6955_r0 c0_i32_2443_r0
  let c2_i32_2530_r0 : BitVec 32 := 2#32
  let v7214_r0 : BitVec 32 := Scalar.muli v6956_r0 c2_i32_2530_r0
  let v7215_r0 : BitVec 32 := Scalar.addi v7214_r0 c0_i32_2531_r0
  let v7216_r0 : Index := Scalar.indexCast v7215_r0
  ![16, v7216_r0.toNat]
def k0_off287 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7226_r0 : Index := Scalar.indexCast v6934_r0
  let c512_2533_r0 : Index := 512#32
  let c128_2534_r0 : Index := 128#32
  ![v7226_r0.toNat, 512, 128]
def k0_off288 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7273_r0 : Index := Scalar.indexCast v6934_r0
  let c640_2548_r0 : Index := 640#32
  let c0_2549_r0 : Index := 0#32
  ![v7273_r0.toNat, 640, 0]
def k0_off289 (k0_t3 : Fin k0_t3_loop.trips) (c0_i32_2443_r0 : BitVec 32) (c0_i32_2551_r0 : BitVec 32) : Fin 2 → Nat :=
  let c17_2552_r0 : Index := 17#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2442_r0 : BitVec 32 := 6#32
  let v6955_r0 : BitVec 32 := Scalar.muli v6932_r0 c6_i32_2442_r0
  let v6956_r0 : BitVec 32 := Scalar.addi v6955_r0 c0_i32_2443_r0
  let c2_i32_2550_r0 : BitVec 32 := 2#32
  let v7276_r0 : BitVec 32 := Scalar.muli v6956_r0 c2_i32_2550_r0
  let v7277_r0 : BitVec 32 := Scalar.addi v7276_r0 c0_i32_2551_r0
  let v7278_r0 : Index := Scalar.indexCast v7277_r0
  ![17, v7278_r0.toNat]
def k0_off290 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7288_r0 : Index := Scalar.indexCast v6934_r0
  let c640_2553_r0 : Index := 640#32
  let c128_2554_r0 : Index := 128#32
  ![v7288_r0.toNat, 640, 128]
def k0_off291 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7337_r0 : Index := Scalar.indexCast v6934_r0
  let c0_2570_r0 : Index := 0#32
  let c256_2571_r0 : Index := 256#32
  ![v7337_r0.toNat, 0, 256]
def k0_off292 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7352_r0 : Index := Scalar.indexCast v6934_r0
  let c0_2575_r0 : Index := 0#32
  let c384_2576_r0 : Index := 384#32
  ![v7352_r0.toNat, 0, 384]
def k0_mult42 (k0_t3 : Fin k0_t3_loop.trips) : BitVec 32 :=
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2568_r0 : BitVec 32 := 6#32
  let v7335_r0 : BitVec 32 := Scalar.muli v6932_r0 c6_i32_2568_r0
  let c1_i32_2569_r0 : BitVec 32 := 1#32
  let v7336_r0 : BitVec 32 := Scalar.addi v7335_r0 c1_i32_2569_r0
  let c1_i32_2590_r0 : BitVec 32 := 1#32
  let v7399_r0 : BitVec 32 := Scalar.addi v7336_r0 c1_i32_2590_r0
  let c72_i32_2591_r0 : BitVec 32 := 72#32
  let v7400_r0 : BitVec 32 := Scalar.remsi v7399_r0 c72_i32_2591_r0
  let c256_i32_2592_r0 : BitVec 32 := 256#32
  let v7401_r0 : BitVec 32 := Scalar.muli v7400_r0 c256_i32_2592_r0
  v7401_r0
def k0_off293 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7405_r0 : Index := Scalar.indexCast v6934_r0
  let c128_2594_r0 : Index := 128#32
  let c256_2595_r0 : Index := 256#32
  ![v7405_r0.toNat, 128, 256]
def k0_off294 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7420_r0 : Index := Scalar.indexCast v6934_r0
  let c128_2599_r0 : Index := 128#32
  let c384_2600_r0 : Index := 384#32
  ![v7420_r0.toNat, 128, 384]
def k0_off295 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7467_r0 : Index := Scalar.indexCast v6934_r0
  let c256_2614_r0 : Index := 256#32
  let c256_2615_r0 : Index := 256#32
  ![v7467_r0.toNat, 256, 256]
def k0_off296 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7482_r0 : Index := Scalar.indexCast v6934_r0
  let c256_2619_r0 : Index := 256#32
  let c384_2620_r0 : Index := 384#32
  ![v7482_r0.toNat, 256, 384]
def k0_off297 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7529_r0 : Index := Scalar.indexCast v6934_r0
  let c384_2634_r0 : Index := 384#32
  let c256_2635_r0 : Index := 256#32
  ![v7529_r0.toNat, 384, 256]
def k0_off298 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7544_r0 : Index := Scalar.indexCast v6934_r0
  let c384_2639_r0 : Index := 384#32
  let c384_2640_r0 : Index := 384#32
  ![v7544_r0.toNat, 384, 384]
def k0_off299 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7591_r0 : Index := Scalar.indexCast v6934_r0
  let c512_2654_r0 : Index := 512#32
  let c256_2655_r0 : Index := 256#32
  ![v7591_r0.toNat, 512, 256]
def k0_off300 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7606_r0 : Index := Scalar.indexCast v6934_r0
  let c512_2659_r0 : Index := 512#32
  let c384_2660_r0 : Index := 384#32
  ![v7606_r0.toNat, 512, 384]
def k0_off301 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7653_r0 : Index := Scalar.indexCast v6934_r0
  let c640_2674_r0 : Index := 640#32
  let c256_2675_r0 : Index := 256#32
  ![v7653_r0.toNat, 640, 256]
def k0_off302 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7668_r0 : Index := Scalar.indexCast v6934_r0
  let c640_2679_r0 : Index := 640#32
  let c384_2680_r0 : Index := 384#32
  ![v7668_r0.toNat, 640, 384]
def k0_off303 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7717_r0 : Index := Scalar.indexCast v6934_r0
  let c0_2696_r0 : Index := 0#32
  let c512_2697_r0 : Index := 512#32
  ![v7717_r0.toNat, 0, 512]
def k0_off304 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7732_r0 : Index := Scalar.indexCast v6934_r0
  let c0_2701_r0 : Index := 0#32
  let c640_2702_r0 : Index := 640#32
  ![v7732_r0.toNat, 0, 640]
def k0_mult43 (k0_t3 : Fin k0_t3_loop.trips) : BitVec 32 :=
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2694_r0 : BitVec 32 := 6#32
  let v7715_r0 : BitVec 32 := Scalar.muli v6932_r0 c6_i32_2694_r0
  let c2_i32_2695_r0 : BitVec 32 := 2#32
  let v7716_r0 : BitVec 32 := Scalar.addi v7715_r0 c2_i32_2695_r0
  let c1_i32_2716_r0 : BitVec 32 := 1#32
  let v7779_r0 : BitVec 32 := Scalar.addi v7716_r0 c1_i32_2716_r0
  let c72_i32_2717_r0 : BitVec 32 := 72#32
  let v7780_r0 : BitVec 32 := Scalar.remsi v7779_r0 c72_i32_2717_r0
  let c256_i32_2718_r0 : BitVec 32 := 256#32
  let v7781_r0 : BitVec 32 := Scalar.muli v7780_r0 c256_i32_2718_r0
  v7781_r0
def k0_off305 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7785_r0 : Index := Scalar.indexCast v6934_r0
  let c128_2720_r0 : Index := 128#32
  let c512_2721_r0 : Index := 512#32
  ![v7785_r0.toNat, 128, 512]
def k0_off306 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7800_r0 : Index := Scalar.indexCast v6934_r0
  let c128_2725_r0 : Index := 128#32
  let c640_2726_r0 : Index := 640#32
  ![v7800_r0.toNat, 128, 640]
def k0_off307 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7847_r0 : Index := Scalar.indexCast v6934_r0
  let c256_2740_r0 : Index := 256#32
  let c512_2741_r0 : Index := 512#32
  ![v7847_r0.toNat, 256, 512]
def k0_off308 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7862_r0 : Index := Scalar.indexCast v6934_r0
  let c256_2745_r0 : Index := 256#32
  let c640_2746_r0 : Index := 640#32
  ![v7862_r0.toNat, 256, 640]
def k0_off309 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7909_r0 : Index := Scalar.indexCast v6934_r0
  let c384_2760_r0 : Index := 384#32
  let c512_2761_r0 : Index := 512#32
  ![v7909_r0.toNat, 384, 512]
def k0_off310 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7924_r0 : Index := Scalar.indexCast v6934_r0
  let c384_2765_r0 : Index := 384#32
  let c640_2766_r0 : Index := 640#32
  ![v7924_r0.toNat, 384, 640]
def k0_off311 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7971_r0 : Index := Scalar.indexCast v6934_r0
  let c512_2780_r0 : Index := 512#32
  let c512_2781_r0 : Index := 512#32
  ![v7971_r0.toNat, 512, 512]
def k0_off312 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v7986_r0 : Index := Scalar.indexCast v6934_r0
  let c512_2785_r0 : Index := 512#32
  let c640_2786_r0 : Index := 640#32
  ![v7986_r0.toNat, 512, 640]
def k0_off313 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8033_r0 : Index := Scalar.indexCast v6934_r0
  let c640_2800_r0 : Index := 640#32
  let c512_2801_r0 : Index := 512#32
  ![v8033_r0.toNat, 640, 512]
def k0_off314 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8048_r0 : Index := Scalar.indexCast v6934_r0
  let c640_2805_r0 : Index := 640#32
  let c640_2806_r0 : Index := 640#32
  ![v8048_r0.toNat, 640, 640]
def k0_off315 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8097_r0 : Index := Scalar.indexCast v6934_r0
  let c0_2822_r0 : Index := 0#32
  let c768_2823_r0 : Index := 768#32
  ![v8097_r0.toNat, 0, 768]
def k0_off316 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8112_r0 : Index := Scalar.indexCast v6934_r0
  let c0_2827_r0 : Index := 0#32
  let c896_2828_r0 : Index := 896#32
  ![v8112_r0.toNat, 0, 896]
def k0_mult44 (k0_t3 : Fin k0_t3_loop.trips) : BitVec 32 :=
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2820_r0 : BitVec 32 := 6#32
  let v8095_r0 : BitVec 32 := Scalar.muli v6932_r0 c6_i32_2820_r0
  let c3_i32_2821_r0 : BitVec 32 := 3#32
  let v8096_r0 : BitVec 32 := Scalar.addi v8095_r0 c3_i32_2821_r0
  let c1_i32_2842_r0 : BitVec 32 := 1#32
  let v8159_r0 : BitVec 32 := Scalar.addi v8096_r0 c1_i32_2842_r0
  let c72_i32_2843_r0 : BitVec 32 := 72#32
  let v8160_r0 : BitVec 32 := Scalar.remsi v8159_r0 c72_i32_2843_r0
  let c256_i32_2844_r0 : BitVec 32 := 256#32
  let v8161_r0 : BitVec 32 := Scalar.muli v8160_r0 c256_i32_2844_r0
  v8161_r0
def k0_off317 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8165_r0 : Index := Scalar.indexCast v6934_r0
  let c128_2846_r0 : Index := 128#32
  let c768_2847_r0 : Index := 768#32
  ![v8165_r0.toNat, 128, 768]
def k0_off318 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8180_r0 : Index := Scalar.indexCast v6934_r0
  let c128_2851_r0 : Index := 128#32
  let c896_2852_r0 : Index := 896#32
  ![v8180_r0.toNat, 128, 896]
def k0_off319 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8227_r0 : Index := Scalar.indexCast v6934_r0
  let c256_2866_r0 : Index := 256#32
  let c768_2867_r0 : Index := 768#32
  ![v8227_r0.toNat, 256, 768]
def k0_off320 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8242_r0 : Index := Scalar.indexCast v6934_r0
  let c256_2871_r0 : Index := 256#32
  let c896_2872_r0 : Index := 896#32
  ![v8242_r0.toNat, 256, 896]
def k0_off321 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8289_r0 : Index := Scalar.indexCast v6934_r0
  let c384_2886_r0 : Index := 384#32
  let c768_2887_r0 : Index := 768#32
  ![v8289_r0.toNat, 384, 768]
def k0_off322 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8304_r0 : Index := Scalar.indexCast v6934_r0
  let c384_2891_r0 : Index := 384#32
  let c896_2892_r0 : Index := 896#32
  ![v8304_r0.toNat, 384, 896]
def k0_off323 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8351_r0 : Index := Scalar.indexCast v6934_r0
  let c512_2906_r0 : Index := 512#32
  let c768_2907_r0 : Index := 768#32
  ![v8351_r0.toNat, 512, 768]
def k0_off324 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8366_r0 : Index := Scalar.indexCast v6934_r0
  let c512_2911_r0 : Index := 512#32
  let c896_2912_r0 : Index := 896#32
  ![v8366_r0.toNat, 512, 896]
def k0_off325 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8413_r0 : Index := Scalar.indexCast v6934_r0
  let c640_2926_r0 : Index := 640#32
  let c768_2927_r0 : Index := 768#32
  ![v8413_r0.toNat, 640, 768]
def k0_off326 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8428_r0 : Index := Scalar.indexCast v6934_r0
  let c640_2931_r0 : Index := 640#32
  let c896_2932_r0 : Index := 896#32
  ![v8428_r0.toNat, 640, 896]
def k0_off327 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8477_r0 : Index := Scalar.indexCast v6934_r0
  let c0_2948_r0 : Index := 0#32
  let c1024_2949_r0 : Index := 1024#32
  ![v8477_r0.toNat, 0, 1024]
def k0_off328 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8492_r0 : Index := Scalar.indexCast v6934_r0
  let c0_2953_r0 : Index := 0#32
  let c1152_2954_r0 : Index := 1152#32
  ![v8492_r0.toNat, 0, 1152]
def k0_mult45 (k0_t3 : Fin k0_t3_loop.trips) : BitVec 32 :=
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_2946_r0 : BitVec 32 := 6#32
  let v8475_r0 : BitVec 32 := Scalar.muli v6932_r0 c6_i32_2946_r0
  let c4_i32_2947_r0 : BitVec 32 := 4#32
  let v8476_r0 : BitVec 32 := Scalar.addi v8475_r0 c4_i32_2947_r0
  let c1_i32_2968_r0 : BitVec 32 := 1#32
  let v8539_r0 : BitVec 32 := Scalar.addi v8476_r0 c1_i32_2968_r0
  let c72_i32_2969_r0 : BitVec 32 := 72#32
  let v8540_r0 : BitVec 32 := Scalar.remsi v8539_r0 c72_i32_2969_r0
  let c256_i32_2970_r0 : BitVec 32 := 256#32
  let v8541_r0 : BitVec 32 := Scalar.muli v8540_r0 c256_i32_2970_r0
  v8541_r0
def k0_off329 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8545_r0 : Index := Scalar.indexCast v6934_r0
  let c128_2972_r0 : Index := 128#32
  let c1024_2973_r0 : Index := 1024#32
  ![v8545_r0.toNat, 128, 1024]
def k0_off330 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8560_r0 : Index := Scalar.indexCast v6934_r0
  let c128_2977_r0 : Index := 128#32
  let c1152_2978_r0 : Index := 1152#32
  ![v8560_r0.toNat, 128, 1152]
def k0_off331 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8607_r0 : Index := Scalar.indexCast v6934_r0
  let c256_2992_r0 : Index := 256#32
  let c1024_2993_r0 : Index := 1024#32
  ![v8607_r0.toNat, 256, 1024]
def k0_off332 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8622_r0 : Index := Scalar.indexCast v6934_r0
  let c256_2997_r0 : Index := 256#32
  let c1152_2998_r0 : Index := 1152#32
  ![v8622_r0.toNat, 256, 1152]
def k0_off333 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8669_r0 : Index := Scalar.indexCast v6934_r0
  let c384_3012_r0 : Index := 384#32
  let c1024_3013_r0 : Index := 1024#32
  ![v8669_r0.toNat, 384, 1024]
def k0_off334 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8684_r0 : Index := Scalar.indexCast v6934_r0
  let c384_3017_r0 : Index := 384#32
  let c1152_3018_r0 : Index := 1152#32
  ![v8684_r0.toNat, 384, 1152]
def k0_off335 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8731_r0 : Index := Scalar.indexCast v6934_r0
  let c512_3032_r0 : Index := 512#32
  let c1024_3033_r0 : Index := 1024#32
  ![v8731_r0.toNat, 512, 1024]
def k0_off336 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8746_r0 : Index := Scalar.indexCast v6934_r0
  let c512_3037_r0 : Index := 512#32
  let c1152_3038_r0 : Index := 1152#32
  ![v8746_r0.toNat, 512, 1152]
def k0_off337 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8793_r0 : Index := Scalar.indexCast v6934_r0
  let c640_3052_r0 : Index := 640#32
  let c1024_3053_r0 : Index := 1024#32
  ![v8793_r0.toNat, 640, 1024]
def k0_off338 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8808_r0 : Index := Scalar.indexCast v6934_r0
  let c640_3057_r0 : Index := 640#32
  let c1152_3058_r0 : Index := 1152#32
  ![v8808_r0.toNat, 640, 1152]
def k0_off339 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8857_r0 : Index := Scalar.indexCast v6934_r0
  let c0_3074_r0 : Index := 0#32
  let c1280_3075_r0 : Index := 1280#32
  ![v8857_r0.toNat, 0, 1280]
def k0_off340 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8872_r0 : Index := Scalar.indexCast v6934_r0
  let c0_3079_r0 : Index := 0#32
  let c1408_3080_r0 : Index := 1408#32
  ![v8872_r0.toNat, 0, 1408]
def k0_mult46 (k0_t3 : Fin k0_t3_loop.trips) : BitVec 32 :=
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let c6_i32_3072_r0 : BitVec 32 := 6#32
  let v8855_r0 : BitVec 32 := Scalar.muli v6932_r0 c6_i32_3072_r0
  let c5_i32_3073_r0 : BitVec 32 := 5#32
  let v8856_r0 : BitVec 32 := Scalar.addi v8855_r0 c5_i32_3073_r0
  let c1_i32_3094_r0 : BitVec 32 := 1#32
  let v8919_r0 : BitVec 32 := Scalar.addi v8856_r0 c1_i32_3094_r0
  let c72_i32_3095_r0 : BitVec 32 := 72#32
  let v8920_r0 : BitVec 32 := Scalar.remsi v8919_r0 c72_i32_3095_r0
  let c256_i32_3096_r0 : BitVec 32 := 256#32
  let v8921_r0 : BitVec 32 := Scalar.muli v8920_r0 c256_i32_3096_r0
  v8921_r0
def k0_off341 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8925_r0 : Index := Scalar.indexCast v6934_r0
  let c128_3098_r0 : Index := 128#32
  let c1280_3099_r0 : Index := 1280#32
  ![v8925_r0.toNat, 128, 1280]
def k0_off342 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8940_r0 : Index := Scalar.indexCast v6934_r0
  let c128_3103_r0 : Index := 128#32
  let c1408_3104_r0 : Index := 1408#32
  ![v8940_r0.toNat, 128, 1408]
def k0_off343 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v8987_r0 : Index := Scalar.indexCast v6934_r0
  let c256_3118_r0 : Index := 256#32
  let c1280_3119_r0 : Index := 1280#32
  ![v8987_r0.toNat, 256, 1280]
def k0_off344 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v9002_r0 : Index := Scalar.indexCast v6934_r0
  let c256_3123_r0 : Index := 256#32
  let c1408_3124_r0 : Index := 1408#32
  ![v9002_r0.toNat, 256, 1408]
def k0_off345 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v9049_r0 : Index := Scalar.indexCast v6934_r0
  let c384_3138_r0 : Index := 384#32
  let c1280_3139_r0 : Index := 1280#32
  ![v9049_r0.toNat, 384, 1280]
def k0_off346 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v9064_r0 : Index := Scalar.indexCast v6934_r0
  let c384_3143_r0 : Index := 384#32
  let c1408_3144_r0 : Index := 1408#32
  ![v9064_r0.toNat, 384, 1408]
def k0_off347 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v9111_r0 : Index := Scalar.indexCast v6934_r0
  let c512_3158_r0 : Index := 512#32
  let c1280_3159_r0 : Index := 1280#32
  ![v9111_r0.toNat, 512, 1280]
def k0_off348 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v9126_r0 : Index := Scalar.indexCast v6934_r0
  let c512_3163_r0 : Index := 512#32
  let c1408_3164_r0 : Index := 1408#32
  ![v9126_r0.toNat, 512, 1408]
def k0_off349 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v9173_r0 : Index := Scalar.indexCast v6934_r0
  let c640_3178_r0 : Index := 640#32
  let c1280_3179_r0 : Index := 1280#32
  ![v9173_r0.toNat, 640, 1280]
def k0_off350 (k0_t3 : Fin k0_t3_loop.trips) : Fin 3 → Nat :=
  let c24_i32_2426_r0 : BitVec 32 := 24#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let v6933_r0 : BitVec 32 := Scalar.addi c24_i32_2426_r0 v6932_r0
  let c4_i32_2427_r0 : BitVec 32 := 4#32
  let v6934_r0 : BitVec 32 := Scalar.remsi v6933_r0 c4_i32_2427_r0
  let v9188_r0 : Index := Scalar.indexCast v6934_r0
  let c640_3183_r0 : Index := 640#32
  let c1408_3184_r0 : Index := 1408#32
  ![v9188_r0.toNat, 640, 1408]
def k0_mult47 (k0_t3 : Fin k0_t3_loop.trips) : BitVec 32 :=
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let c2_i32_3198_r0 : BitVec 32 := 2#32
  let v9235_r0 : BitVec 32 := Scalar.divsi v6932_r0 c2_i32_3198_r0
  let c128_i32_3200_r0 : BitVec 32 := 128#32
  let v9237_r0 : BitVec 32 := Scalar.muli v9235_r0 c128_i32_3200_r0
  v9237_r0
def k0_mult48 (k0_t3 : Fin k0_t3_loop.trips) : BitVec 32 :=
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let c2_i32_3199_r0 : BitVec 32 := 2#32
  let v9236_r0 : BitVec 32 := Scalar.remsi v6932_r0 c2_i32_3199_r0
  let c128_i32_3201_r0 : BitVec 32 := 128#32
  let v9239_r0 : BitVec 32 := Scalar.muli v9236_r0 c128_i32_3201_r0
  v9239_r0
def k0_off351 (k0_t3 : Fin k0_t3_loop.trips) : Fin 2 → Nat :=
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let c2_i32_3198_r0 : BitVec 32 := 2#32
  let v9235_r0 : BitVec 32 := Scalar.divsi v6932_r0 c2_i32_3198_r0
  let c128_i32_3200_r0 : BitVec 32 := 128#32
  let v9237_r0 : BitVec 32 := Scalar.muli v9235_r0 c128_i32_3200_r0
  let v9238_r0 : BitVec 32 := v9237_r0
  let v9241_r0 : Index := Scalar.indexCast v9238_r0
  let c2_i32_3199_r0 : BitVec 32 := 2#32
  let v9236_r0 : BitVec 32 := Scalar.remsi v6932_r0 c2_i32_3199_r0
  let c128_i32_3201_r0 : BitVec 32 := 128#32
  let v9239_r0 : BitVec 32 := Scalar.muli v9236_r0 c128_i32_3201_r0
  let v9240_r0 : BitVec 32 := v9239_r0
  let v9242_r0 : Index := Scalar.indexCast v9240_r0
  ![v9241_r0.toNat, v9242_r0.toNat]
def k0_mult49 (k0_t3 : Fin k0_t3_loop.trips) : BitVec 32 :=
  let c768_i32_3221_r0 : BitVec 32 := 768#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let c2_i32_3198_r0 : BitVec 32 := 2#32
  let v9235_r0 : BitVec 32 := Scalar.divsi v6932_r0 c2_i32_3198_r0
  let c128_i32_3220_r0 : BitVec 32 := 128#32
  let v9297_r0 : BitVec 32 := Scalar.muli v9235_r0 c128_i32_3220_r0
  let v9298_r0 : BitVec 32 := Scalar.addi c768_i32_3221_r0 v9297_r0
  v9298_r0
def k0_off352 (k0_t3 : Fin k0_t3_loop.trips) : Fin 2 → Nat :=
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let c2_i32_3199_r0 : BitVec 32 := 2#32
  let v9236_r0 : BitVec 32 := Scalar.remsi v6932_r0 c2_i32_3199_r0
  let c128_i32_3201_r0 : BitVec 32 := 128#32
  let v9239_r0 : BitVec 32 := Scalar.muli v9236_r0 c128_i32_3201_r0
  let v9240_r0 : BitVec 32 := v9239_r0
  let v9300_r0 : Index := Scalar.indexCast v9240_r0
  let c768_i32_3221_r0 : BitVec 32 := 768#32
  let c2_i32_3198_r0 : BitVec 32 := 2#32
  let v9235_r0 : BitVec 32 := Scalar.divsi v6932_r0 c2_i32_3198_r0
  let c128_i32_3220_r0 : BitVec 32 := 128#32
  let v9297_r0 : BitVec 32 := Scalar.muli v9235_r0 c128_i32_3220_r0
  let v9298_r0 : BitVec 32 := Scalar.addi c768_i32_3221_r0 v9297_r0
  let v9299_r0 : BitVec 32 := v9298_r0
  let v9301_r0 : Index := Scalar.indexCast v9299_r0
  ![v9300_r0.toNat, v9301_r0.toNat]
def k0_off353 (k0_t3 : Fin k0_t3_loop.trips) : Fin 3 → Nat :=
  let c6_i32_3222_r0 : BitVec 32 := 6#32
  let c1_i32_2425_r0 : BitVec 32 := 1#32
  let c0_i32_2116_r0 : BitVec 32 := 0#32
  let c1_i32_2118_r0 : BitVec 32 := 1#32
  let arg25_r0 : BitVec 32 := Scf.iv c0_i32_2116_r0 c1_i32_2118_r0 k0_t3
  let c1_i32_2424_r0 : BitVec 32 := 1#32
  let v6931_r0 : BitVec 32 := Scalar.muli arg25_r0 c1_i32_2424_r0
  let v6932_r0 : BitVec 32 := Scalar.addi c1_i32_2425_r0 v6931_r0
  let c2_i32_3198_r0 : BitVec 32 := 2#32
  let v9235_r0 : BitVec 32 := Scalar.divsi v6932_r0 c2_i32_3198_r0
  let v9305_r0 : BitVec 32 := Scalar.addi c6_i32_3222_r0 v9235_r0
  let v9306_r0 : Index := Scalar.indexCast v9305_r0
  let c0_3223_r0 : Index := 0#32
  let c2_i32_3199_r0 : BitVec 32 := 2#32
  let v9236_r0 : BitVec 32 := Scalar.remsi v6932_r0 c2_i32_3199_r0
  let c128_i32_3201_r0 : BitVec 32 := 128#32
  let v9239_r0 : BitVec 32 := Scalar.muli v9236_r0 c128_i32_3201_r0
  let v9240_r0 : BitVec 32 := v9239_r0
  let v9307_r0 : Index := Scalar.indexCast v9240_r0
  ![v9306_r0.toNat, 0, v9307_r0.toNat]
-- ==== ReferenceIdeal.lean ====
abbrev S2x128x18432 : Shape := ⟨3, ![2, 128, 18432]⟩
abbrev S2x128x144 : Shape := ⟨3, ![2, 128, 144]⟩
abbrev S2304x18432 : Shape := ⟨2, ![2304, 18432]⟩
abbrev S18x144 : Shape := ⟨2, ![18, 144]⟩
abbrev S256x18432 : Shape := ⟨2, ![256, 18432]⟩
abbrev S256x144 : Shape := ⟨2, ![256, 144]⟩
abbrev S256x2304 : Shape := ⟨2, ![256, 2304]⟩
abbrev S256x18 : Shape := ⟨2, ![256, 18]⟩
abbrev S256x144x1 : Shape := ⟨3, ![256, 144, 1]⟩
abbrev S256x144x128 : Shape := ⟨3, ![256, 144, 128]⟩
abbrev S18x1x144x1 : Shape := ⟨4, ![18, 1, 144, 1]⟩
abbrev S18x128x144x128 : Shape := ⟨4, ![18, 128, 144, 128]⟩
abbrev S256x18x128 : Shape := ⟨3, ![256, 18, 128]⟩
abbrev S256x18x1 : Shape := ⟨3, ![256, 18, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x128x18432, .fp8e4m3⟩
  | .hbm, ⟨1, _⟩ => ⟨S2x128x144, .f32⟩
  | .hbm, ⟨2, _⟩ => ⟨S2304x18432, .fp8e4m3⟩
  | .hbm, ⟨3, _⟩ => ⟨S18x144, .f32⟩
  | .hbm, ⟨4, _⟩ => ⟨S2304x18432, .fp8e4m3⟩
  | .hbm, ⟨5, _⟩ => ⟨S18x144, .f32⟩
  | .hbm, ⟨6, _⟩ => ⟨S256x18432, .fp8e4m3⟩
  | .hbm, ⟨7, _⟩ => ⟨S256x144, .f32⟩
  | .hbm, ⟨8, _⟩ => ⟨S256x2304, .fp8e4m3⟩
  | .hbm, ⟨9, _⟩ => ⟨S256x18, .f32⟩
  | .local _ .vmem, ⟨0, _⟩ => ⟨S256x18432, .fp8e4m3⟩
  | .local _ .vmem, ⟨1, _⟩ => ⟨S256x144, .f32⟩
  | .local _ .vmem, ⟨2, _⟩ => ⟨S2304x18432, .fp8e4m3⟩
  | .local _ .vmem, ⟨3, _⟩ => ⟨S18x144, .f32⟩
  | .local _ .vmem, ⟨4, _⟩ => ⟨S2304x18432, .fp8e4m3⟩
  | .local _ .vmem, ⟨5, _⟩ => ⟨S18x144, .f32⟩
  | .local _ .vmem, ⟨6, _⟩ => ⟨S256x2304, .fp8e4m3⟩
  | .local _ .vmem, ⟨7, _⟩ => ⟨S256x18, .f32⟩
  | _, _ => ⟨S2x128x18432, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S256x18432 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2304x18432 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18x144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2304x18432 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S18x144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x2304 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x18 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Transfer.lean ====
/- The program as it is printed for the bits and as it is printed for the reals are one text: a claim of the one over the bits is
   the claim of the other. -/
module

public import proofs.«01_k».proof.Defs
public import proofs.«01_k».proof.Proof.Gen.KernelIdeal
public import proofs.«01_k».proof.Proof.Gen.Kernel
public import Idealize.ShloMosaic.Lib.Tactic

@[expose] public section

set_option maxHeartbeats 4000000
set_option maxRecDepth 20000

noncomputable section

namespace Cert.Proof

open Idealize.ShloMosaic Idealize.ShloMosaic.TcCoe
open Idealize.SL Idealize.SL.Sem

/-- The kernel's claim over the bits, of the text printed for the reals. -/
def quiescentBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

theorem quiescentBits_eq : quiescentBits = Cert.quiescent_Kernel := by sl_kernel_rfl

end Cert.Proof
end
-- ==== Proof.Body.Units.lean ====
/- The kernel's body in named pieces: what one load of a weight chunk, one pass over a tile and one step of the kernel do,
   written once over the numbers that place them. -/
module

public import proofs.«01_k».proof.Proof.Gen.KernelIdeal

@[expose] public section

noncomputable section

namespace Cert.KernelIdeal.Body

open Idealize.ShloMosaic Idealize.ShloMosaic.TcCoe
open Idealize.SL Idealize.SL.Sem
open Cert.KernelIdeal.Gen

variable {F : FTy → Type} [FloatOps F]

/-! ## The buffers -/

abbrev xH : Memref sig .tc .hbm S256x18432 .fp8e4m3 := Memref.whole main_v0
abbrev xsH : Memref sig .tc .hbm S256x144 .f32 := Memref.whole main_v1
abbrev wgH : Memref sig .tc .hbm S2304x18432 .fp8e4m3 := Memref.whole main_arg2
abbrev wgsH : Memref sig .tc .hbm S18x144 .f32 := Memref.whole main_arg3
abbrev wuH : Memref sig .tc .hbm S2304x18432 .fp8e4m3 := Memref.whole main_arg4
abbrev wusH : Memref sig .tc .hbm S18x144 .f32 := Memref.whole main_arg5
abbrev cdH : Memref sig .tc .hbm S256x2304 .fp8e4m3 := Memref.whole main_v2_0
abbrev scH : Memref sig .tc .hbm S256x18 .f32 := Memref.whole main_v2_1
abbrev xV : Memref sig .tc .vmem S256x18432 .fp8e4m3 := Memref.whole cc0_scratch0
abbrev xsV : Memref sig .tc .vmem S256x144 .f32 := Memref.whole cc0_scratch1
abbrev xsT : Memref sig .tc .vmem S144x256 .f32 := Memref.whole cc0_scratch2
abbrev xT : Memref sig .tc .vmem S18432x256 .bf16 := Memref.whole cc0_scratch3
abbrev wgV : Memref sig .tc .vmem S4x768x1536 .fp8e4m3 := Memref.whole cc0_scratch4
abbrev wuV : Memref sig .tc .vmem S4x768x1536 .fp8e4m3 := Memref.whole cc0_scratch5
abbrev wgS : Memref sig .tc .smem S18x144 .f32 := Memref.whole cc0_scratch6
abbrev wuS : Memref sig .tc .smem S18x144 .f32 := Memref.whole cc0_scratch7
abbrev gV : Memref sig .tc .vmem S768x256 .f32 := Memref.whole cc0_scratch8
abbrev uV : Memref sig .tc .vmem S768x256 .f32 := Memref.whole cc0_scratch9
abbrev cdV : Memref sig .tc .vmem S256x2304 .fp8e4m3 := Memref.whole cc0_scratch10
abbrev scT : Memref sig .tc .vmem S18x1x256 .f32 := Memref.whole cc0_scratch11
abbrev scV : Memref sig .tc .vmem S256x18 .f32 := Memref.whole cc0_scratch12

abbrev PM := Prog (TpuEff nD τ sig (Elt F) Λ₀ .tc)

/-! ## The left-hand side of a pass: 128 rows of a weight block by 256 columns, widened and scaled -/

/-- A 128 × 128 piece of the weights in bf16, times its scale. -/
def scaled (v : Vec F S1x128x128 .fp8e4m3) (s : Elt F .f32) : FVec F S128x128 .bf16 :=
  shapeCast S128x128 (mulf (shapeCast S8x16x128 (extf .bf16 (shapeCast S128x128 v shapeCasts_S1x128x128_S128x128 : FVec F S128x128 .fp8e4m3) bitsLt_fp8e4m3_bf16) shapeCasts_S128x128_S8x16x128)
    (broadcastTo S8x16x128 (shapeCast S1x16x128 (truncf .bf16 (broadcast S16x128 s : FVec F S16x128 .f32) bitsLt_bf16_f32) shapeCasts_S16x128_S1x16x128) broadcasts_S1x16x128_S8x16x128)) shapeCasts_S8x16x128_S128x128

/-- Two such pieces side by side. -/
def lhsOf (v : Vec F S1x128x128 .fp8e4m3) (s : Elt F .f32) (v' : Vec F S1x128x128 .fp8e4m3) (s' : Elt F .f32) : FVec F S128x256 .bf16 :=
  concatenate S128x256 1 [⟨S128x128, scaled v s⟩, ⟨S128x128, scaled v' s'⟩] concatenates_S128x128_S128x128_S128x256_d1

theorem inbW {w r c : ℕ} (hw : w < 4) (hr : r + 128 ≤ 768) (hc : c + 128 ≤ 1536) :
    ∀ a, (![w, r, c] : Fin 3 → ℕ) a + S1x128x128.size a ≤ S4x768x1536.size a := by
  intro a; fin_cases a <;> simp [S1x128x128, S4x768x1536] <;> omega

theorem inbS {r c : ℕ} (hr : r < 18) (hc : c < 144) : ∀ a, (![r, c] : Fin 2 → ℕ) a + S1x1.size a ≤ S18x144.size a := by
  intro a; fin_cases a <;> simp [S1x1, S18x144] <;> omega

/-- Load one 128 × 128 piece of the weights out of slot `w` of a ring. -/
def wLoad (M : Memref sig .tc .vmem S4x768x1536 .fp8e4m3) (w r c : ℕ) (h : ∀ a, (![w, r, c] : Fin 3 → ℕ) a + S1x128x128.size a ≤ S4x768x1536.size a) :
    PM (F := F) (Vec F S1x128x128 .fp8e4m3) :=
  Prog.lift (.load M (Rect.unit (s := S4x768x1536) ![w, r, c] S1x128x128.size h).toLoadRect (View.loadsAt_vmem h_S1x128x128))

/-- Load one scale. -/
def sLoad (M : Memref sig .tc .smem S18x144 .f32) (r c : ℕ) (h : ∀ a, (![r, c] : Fin 2 → ℕ) a + S1x1.size a ≤ S18x144.size a) :
    PM (F := F) (Elt F .f32) :=
  smemLoad M (Rect.unit (s := S18x144) ![r, c] S1x1.size h) numel1_S1x1 rfl

/-- The left-hand side of the pass for chunk `ch` of the block with scale rows from `R`, columns from `k` of slot `w`. -/
def lhsU (M : Memref sig .tc .vmem S4x768x1536 .fp8e4m3) (S : Memref sig .tc .smem S18x144 .f32) (w R ch k p0 p1 : ℕ)
    (hw : w < 4) (hc : ch < 6) (hk : k + 256 ≤ 1536) (hR : R + 6 ≤ 18) (h0 : p0 < 144) (h1 : p1 < 144) : PM (F := F) (FVec F S128x256 .bf16) := do
  let v ← wLoad M w (128 * ch) k (inbW hw (by omega) (by omega))
  let s ← sLoad S (R + ch) p0 (inbS (by omega) h0)
  let v' ← wLoad M w (128 * ch) (k + 128) (inbW hw (by omega) (by omega))
  let s' ← sLoad S (R + ch) p1 (inbS (by omega) h1)
  pure (lhsOf v s v' s')

theorem fits (ch : ℕ) (hc : ch < 8) : Mxu.Fits (32 * ch) 128 := by unfold Mxu.Fits; omega

/-- One chunk of a tile after the first: both weights' passes into their accumulators. -/
def pairU (w R ch k p0 p1 : ℕ) (hw : w < 4) (hc : ch < 6) (hk : k + 256 ≤ 1536) (hR : R + 6 ≤ 18) (h0 : p0 < 144) (h1 : p1 < 144)
    (m : Mxu F) : PM (F := F) (Mxu F) := do
  let L ← lhsU wgV wgS w R ch k p0 p1 hw hc hk hR h0 h1
  let m ← m.accLhsLoaded 0 (32 * ch) L (fits ch (by omega))
  let L ← lhsU wuV wuS w R ch k p0 p1 hw hc hk hR h0 h1
  m.accLhsLoaded 1 (32 * ch) L (fits ch (by omega))

/-- The first chunk of a tile: the same, each pass loading its unit's staged tile. -/
def pair0U (w R k p0 p1 : ℕ) (hw : w < 4) (hk : k + 256 ≤ 1536) (hR : R + 6 ≤ 18) (h0 : p0 < 144) (h1 : p1 < 144)
    (m : Mxu F) : PM (F := F) (Mxu F) := do
  let L ← lhsU wgV wgS w R 0 k p0 p1 hw (by omega) hk hR h0 h1
  let m := m.accLhs 0 0 0 L (fits 0 (by omega))
  let L ← lhsU wuV wuS w R 0 k p0 p1 hw (by omega) hk hR h0 h1
  pure (m.accLhs 1 0 0 L (fits 0 (by omega)))

/-! ## A tile of the activations, widened, transposed and scaled -/

/-- 128 rows of the transposed tile, from row `o`, times their tokens' scales. -/
def scaledX (v : FVec F S128x256 .bf16) (s : Vec F S1x256 .f32) : FVec F S128x256 .bf16 :=
  shapeCast S128x256 (mulf (shapeCast S8x16x256 v shapeCasts_S128x256_S8x16x256)
    (broadcastTo S8x16x256 (shapeCast S1x16x256 (truncf .bf16 (broadcastTo S16x256 (shapeCast S1x256 s shapeCasts_S1x256_S1x256 : FVec F S1x256 .f32) broadcasts_S1x256_S16x256) bitsLt_bf16_f32) shapeCasts_S16x256_S1x16x256) broadcasts_S1x16x256_S8x16x256)) shapeCasts_S8x16x256_S128x256

/-- The widened tile. -/
def tileOf (v : Vec F S256x256 .fp8e4m3) (s s' : Vec F S1x256 .f32) : FVec F S256x256 .bf16 :=
  let v' := transpose S256x256 [1, 0] (extf .bf16 (v : FVec F S256x256 .fp8e4m3) bitsLt_fp8e4m3_bf16) transposes_S256x256_p1_0_S256x256
  concatenate S256x256 0 [⟨S128x256, scaledX (extractStridedSlice S128x256 ![0, 0] v' slices_S256x256_o0_0_S128x256) s⟩,
    ⟨S128x256, scaledX (extractStridedSlice S128x256 ![128, 0] v' slices_S256x256_o128_0_S128x256) s'⟩] concatenates_S128x256_S128x256_S256x256_d0

theorem inbX {c : ℕ} (hc : c + 256 ≤ 18432) : ∀ a, (![0, c] : Fin 2 → ℕ) a + S256x256.size a ≤ S256x18432.size a := by
  intro a; fin_cases a <;> simp [S256x256, S256x18432] <;> omega
theorem inbXS {r : ℕ} (hr : r < 144) : ∀ a, (![r, 0] : Fin 2 → ℕ) a + S1x256.size a ≤ S144x256.size a := by
  intro a; fin_cases a <;> simp [S1x256, S144x256] <;> omega
theorem inbXT {r : ℕ} (hr : r + 256 ≤ 18432) : ∀ a, (![r, 0] : Fin 2 → ℕ) a + S256x256.size a ≤ S18432x256.size a := by
  intro a; fin_cases a <;> simp [S256x256, S18432x256] <;> omega

abbrev rectXT (n : ℕ) (hn : n + 256 ≤ 18432) : Rect S18432x256 := Rect.unit (s := S18432x256) ![n, 0] S256x256.size (inbXT hn)

/-- Widen the tile at column `n` with the scale rows `r0`, `r1`, keep it in the scratch and hand it to both units. -/
def widenU (n r0 r1 : ℕ) (hn : n + 256 ≤ 18432) (h0 : r0 < 144) (h1 : r1 < 144) (hp : (rectXT n hn).PackedRows (EltTy.packing .bf16))
    (m : Mxu F) : PM (F := F) (Mxu F) := do
  let v ← Prog.lift (.load xV (Rect.unit (s := S256x18432) ![0, n] S256x256.size (inbX hn)).toLoadRect (View.loadsAt_vmem h_S256x256))
  let s ← Prog.lift (.load xsT (Rect.unit (s := S144x256) ![r0, 0] S1x256.size (inbXS h0)).toLoadRect (View.loadsAt_vmem h_S1x256))
  let s' ← Prog.lift (.load xsT (Rect.unit (s := S144x256) ![r1, 0] S1x256.size (inbXS h1)).toLoadRect (View.loadsAt_vmem h_S1x256))
  let T : FVec F S256x256 .bf16 := tileOf v s s'
  let _ ← Prog.lift (.load xT (rectXT n hn).toLoadRect (View.loadsAt_vmem h_S256x256))
  Prog.lift (.store xT (rectXT n hn) (shapeCast S256x256 T shapeCasts_S256x256_S256x256) Finset.univ
    (View.stores_vmem h_S256x256 ((Memref.isWhole_whole cc0_scratch3).storeExact_slice rfl _ hp) (fun _ => rfl)) (.inl rfl))
  let m ← m.pushRhs 0 0 false T
  m.pushRhs 1 0 false T

end Cert.KernelIdeal.Body
end
-- ==== Proof.Mxu.State.lean ====
/- What a matrix unit holds: its staged tile, its loaded tile, and a sum per chunk of 128 rows; and how each operation of the
   kernel changes that. -/
module

public import proofs.«01_k».proof.Proof.Body.Units

@[expose] public section

noncomputable section

namespace Cert.KernelIdeal.Body

open Idealize.ShloMosaic Idealize.ShloMosaic.TcCoe
open Cert.KernelIdeal.Gen

variable {F : FTy → Type} [FloatOps F]

/-- Chunk `c` of unit `q` holds the sum `o`, or nothing. -/
def Holds (m : Mxu F) (q : Fin 2) (c : ℕ) (o : Option (FVec F S128x256 .f32)) : Prop :=
  ∀ (R : Fin 1024) (r : Fin 128), R.val = 128 * c + r.val →
    m.live q R = o.isSome ∧ ∀ v ∈ o, ∀ C : Fin 256, m.acc q R C = v (Mxu.ix r C)

/-- Unit `q`: the staged tile `r`, the loaded tile `g`, chunk `c`'s sum `A c`; rows from `D` on are not in use. -/
structure UnitSt (m : Mxu F) (q : Fin 2) (r g : Option (Mxu.Staged F)) (A : ℕ → Option (FVec F S128x256 .f32)) (D : ℕ) : Prop where
  reg0 : m.reg q 0 = r
  reg1 : m.reg q 1 = none
  gmr : m.gmr q = g
  holds : ∀ c < 6, Holds m q c (A c)
  dead : ∀ R : Fin 1024, D ≤ R.val → m.live q R = false

/-- A sum with one more term. -/
def dep (o : Option (FVec F S128x256 .f32)) (p : FVec F S128x256 .f32) : FVec F S128x256 .f32 :=
  match o with
  | none => p
  | some a => addf a p

variable {m : Mxu F} {q q' : Fin 2} {r g : Option (Mxu.Staged F)} {A : ℕ → Option (FVec F S128x256 .f32)} {D : ℕ}

theorem UnitSt.init : UnitSt (Mxu.init : Mxu F) q none none (fun _ => none) D :=
  ⟨rfl, rfl, rfl, fun _ _ _ _ _ => ⟨rfl, fun _ h => by cases h⟩, fun _ _ => rfl⟩

/-- One pass into a chunk. -/
theorem UnitSt.accBy (h : UnitSt m q r g A D) (hD : D ≥ 768) {ch : ℕ} (hc : ch < 6) (t : Mxu.Staged F) {φ : FTy} (L : FVec F S128x256 φ) (hf : Mxu.Fits (32 * ch) 128) :
    UnitSt (m.accBy q t (32 * ch) L hf) q r g (Function.update A ch (some (dep (A ch) (t.pass L)))) D where
  reg0 := h.reg0
  reg1 := h.reg1
  gmr := h.gmr
  holds c hc' R i hR := by
    have hi := i.isLt
    obtain ⟨hl, hv⟩ := h.holds c hc' R i hR
    by_cases e : c = ch
    · subst e
      have hq : q = q ∧ 4 * (32 * c) ≤ R.val ∧ R.val < 4 * (32 * c) + 128 := ⟨rfl, by omega, by omega⟩
      refine ⟨by rw [Function.update_self]; exact if_pos hq, ?_⟩
      intro v hv' C
      rw [Function.update_self, Option.mem_some_iff] at hv'
      subst hv'
      have hx : (⟨R.val - 4 * (32 * c), by omega⟩ : Fin 128) = i := Fin.ext (by simp; omega)
      refine (dif_pos hq).trans ?_
      rw [hx, hl]
      cases hA : A c with
      | none => rfl
      | some a => rw [hv a (by rw [hA]; rfl) C]; rfl
    · have hq : ¬ (q = q ∧ 4 * (32 * ch) ≤ R.val ∧ R.val < 4 * (32 * ch) + 128) := by omega
      rw [Function.update_of_ne e]
      refine ⟨(if_neg hq).trans hl, fun v hv' C => ?_⟩
      exact (dif_neg hq).trans (hv v hv' C)
  dead R hR := by
    have hq : ¬ (q = q ∧ 4 * (32 * ch) ≤ R.val ∧ R.val < 4 * (32 * ch) + 128) := by omega
    exact (if_neg hq).trans (h.dead R hR)

theorem UnitSt.accBy_ne (h : UnitSt m q r g A D) (hne : q ≠ q') (t : Mxu.Staged F) {M B : ℕ} {φ : FTy} (L : FVec F (Mxu.STile M) φ) (hf : Mxu.Fits B M) :
    UnitSt (m.accBy q' t B L hf) q r g A D where
  reg0 := h.reg0
  reg1 := h.reg1
  gmr := h.gmr
  holds c hc R i hR := by
    obtain ⟨hl, hv⟩ := h.holds c hc R i hR
    refine ⟨(if_neg (fun e => hne e.1)).trans hl, fun v hv' C => ?_⟩
    exact (dif_neg (fun e => hne e.1)).trans (hv v hv' C)
  dead R hR := by exact (if_neg (fun e => hne e.1)).trans (h.dead R hR)

/-- One pass into the rows the drain uses. -/
theorem UnitSt.accBy_drain (h : UnitSt m q r g A 768) (t : Mxu.Staged F) {φ : FTy} (L : FVec F S16x256 φ) (hf : Mxu.Fits 192 16) :
    UnitSt (m.accBy q t 192 L hf) q r g A 784 where
  reg0 := h.reg0
  reg1 := h.reg1
  gmr := h.gmr
  holds c hc R i hR := by
    have hi := i.isLt
    obtain ⟨hl, hv⟩ := h.holds c hc R i hR
    have hq : ¬ (q = q ∧ 4 * 192 ≤ R.val ∧ R.val < 4 * 192 + 16) := by omega
    refine ⟨(if_neg hq).trans hl, fun v hv' C => ?_⟩
    exact (dif_neg hq).trans (hv v hv' C)
  dead R hR := by
    have hq : ¬ (q = q ∧ 4 * 192 ≤ R.val ∧ R.val < 4 * 192 + 16) := by omega
    exact (if_neg hq).trans (h.dead R (by omega))

/-- Taking the staged tile: what `accLhs` does besides the pass. -/
theorem UnitSt.load (h : UnitSt m q r g A D) (t : Mxu.Staged F) :
    UnitSt { m with reg := fun q' r' => if q' = q ∧ r' = 0 then none else m.reg q' r', gmr := fun q' => if q' = q then some t else m.gmr q' } q none (some t) A D :=
  ⟨by simp, by simp [h.reg1], by simp, h.holds, h.dead⟩

theorem UnitSt.load_ne (h : UnitSt m q r g A D) (hne : q ≠ q') (t : Mxu.Staged F) :
    UnitSt { m with reg := fun q'' r' => if q'' = q' ∧ r' = 0 then none else m.reg q'' r', gmr := fun q'' => if q'' = q' then some t else m.gmr q'' } q r g A D :=
  ⟨by simp [hne, h.reg0], by simp [h.reg1], by simp [hne, h.gmr], h.holds, h.dead⟩

theorem UnitSt.accLhs {t : Mxu.Staged F} (h : UnitSt m q (some t) g A D) (hD : D ≥ 768) {ch : ℕ} (hc : ch < 6) {φ : FTy} (L : FVec F S128x256 φ) (hf : Mxu.Fits (32 * ch) 128) :
    UnitSt (m.accLhs q 0 (32 * ch) L hf) q none (some t) (Function.update A ch (some (dep (A ch) (t.pass L)))) D := by
  have hs : m.staged q 0 = t := by simp [Mxu.staged, h.reg0]
  unfold Mxu.accLhs
  rw [hs]
  exact (h.accBy hD hc t L hf).load t

theorem UnitSt.accLhs_ne (h : UnitSt m q r g A D) (hne : q ≠ q') {M B : ℕ} {φ : FTy} (L : FVec F (Mxu.STile M) φ) (hf : Mxu.Fits B M) :
    UnitSt (m.accLhs q' 0 B L hf) q r g A D := by
  unfold Mxu.accLhs
  exact (h.accBy_ne hne _ L hf).load_ne hne _

theorem UnitSt.accLhs_drain {t : Mxu.Staged F} (h : UnitSt m q (some t) g A 768) {φ : FTy} (L : FVec F S16x256 φ) (hf : Mxu.Fits 192 16) :
    UnitSt (m.accLhs q 0 192 L hf) q none (some t) A 784 := by
  have hs : m.staged q 0 = t := by simp [Mxu.staged, h.reg0]
  unfold Mxu.accLhs
  rw [hs]
  exact (h.accBy_drain t L hf).load t

theorem UnitSt.pushOk (h : UnitSt m q none g A D) : m.PushOk q 0 false := by
  intro t ht; rw [h.reg0] at ht; cases ht

theorem UnitSt.pushed (h : UnitSt m q none g A D) {φ : FTy} (v : FVec F S256x256 φ) :
    UnitSt (m.pushed q 0 false v) q (some ⟨φ, false, v⟩) g A D := by
  unfold Mxu.pushed
  rw [h.reg0]
  exact ⟨by simp, by simp [h.reg1], h.gmr, h.holds, h.dead⟩

theorem UnitSt.pushed_ne (h : UnitSt m q r g A D) (hne : q ≠ q') {φ : FTy} (v : FVec F S256x256 φ) :
    UnitSt (m.pushed q' 0 false v) q r g A D := by
  unfold Mxu.pushed
  cases m.reg q' 0 with
  | some _ => exact h
  | none => exact ⟨by simp [hne, h.reg0], by simp [h.reg1], h.gmr, h.holds, h.dead⟩

theorem UnitSt.pop (h : UnitSt m q r g A D) (hD : D ≥ 768) {ch : ℕ} (hc : ch < 6) (hf : Mxu.Fits (32 * ch) 128) :
    UnitSt (m.pop q (32 * ch) 128 hf) q r g (Function.update A ch none) D where
  reg0 := h.reg0
  reg1 := h.reg1
  gmr := h.gmr
  holds c hc' R i hR := by
    have hi := i.isLt
    obtain ⟨hl, hv⟩ := h.holds c hc' R i hR
    by_cases e : c = ch
    · subst e
      have hq : q = q ∧ 4 * (32 * c) ≤ R.val ∧ R.val < 4 * (32 * c) + 128 := ⟨rfl, by omega, by omega⟩
      rw [Function.update_self]
      refine ⟨?_, fun _ h => by cases h⟩
      exact if_pos hq
    · have hq : ¬ (q = q ∧ 4 * (32 * ch) ≤ R.val ∧ R.val < 4 * (32 * ch) + 128) := by omega
      rw [Function.update_of_ne e]
      refine ⟨(if_neg hq).trans hl, fun v hv' C => ?_⟩
      exact (if_neg hq).trans (hv v hv' C)
  dead R hR := by
    have hq : ¬ (q = q ∧ 4 * (32 * ch) ≤ R.val ∧ R.val < 4 * (32 * ch) + 128) := by omega
    exact (if_neg hq).trans (h.dead R hR)

theorem UnitSt.pop_ne (h : UnitSt m q r g A D) (hne : q ≠ q') {M B : ℕ} (hf : Mxu.Fits B M) :
    UnitSt (m.pop q' B M hf) q r g A D where
  reg0 := h.reg0
  reg1 := h.reg1
  gmr := h.gmr
  holds c hc R i hR := by
    obtain ⟨hl, hv⟩ := h.holds c hc R i hR
    refine ⟨(if_neg (fun e => hne e.1)).trans hl, fun v hv' C => ?_⟩
    exact (if_neg (fun e => hne e.1)).trans (hv v hv' C)
  dead R hR := by exact (if_neg (fun e => hne e.1)).trans (h.dead R hR)

theorem UnitSt.pop_drain (h : UnitSt m q r g A 784) (hf : Mxu.Fits 192 16) :
    UnitSt (m.pop q 192 16 hf) q r g A 768 where
  reg0 := h.reg0
  reg1 := h.reg1
  gmr := h.gmr
  holds c hc R i hR := by
    have hi := i.isLt
    obtain ⟨hl, hv⟩ := h.holds c hc R i hR
    have hq : ¬ (q = q ∧ 4 * 192 ≤ R.val ∧ R.val < 4 * 192 + 16) := by omega
    refine ⟨(if_neg hq).trans hl, fun v hv' C => ?_⟩
    exact (if_neg hq).trans (hv v hv' C)
  dead R hR := by
    by_cases hq : q = q ∧ 4 * 192 ≤ R.val ∧ R.val < 4 * 192 + 16
    · exact if_pos hq
    · exact (if_neg hq).trans (h.dead R (by omega))

theorem UnitSt.read (h : UnitSt m q r g A D) {ch : ℕ} (hc : ch < 6) {v : FVec F S128x256 .f32} (hA : A ch = some v) (hf : Mxu.Fits (32 * ch) 128) :
    m.read q (32 * ch) hf = v := by
  funext i
  have := ((h.holds ch hc (Mxu.row hf (i 0)) (i 0) (by simp [Mxu.row]; omega)).2 v (by rw [hA]; rfl)) (i 1)
  unfold Mxu.read
  rw [this]
  congr 1
  funext a; fin_cases a <;> rfl

theorem UnitSt.drained (h0 : UnitSt m 0 none g A 768) {g' : Option (Mxu.Staged F)} {A' : ℕ → Option (FVec F S128x256 .f32)} (h1 : UnitSt m 1 none g' A' 768)
    (hA : ∀ c < 6, A c = none) (hA' : ∀ c < 6, A' c = none) : m.Drained := by
  refine ⟨fun q r => ?_, fun q R => ?_⟩
  · fin_cases q <;> fin_cases r
    · exact Option.isNone_iff_eq_none.2 h0.reg0
    · exact Option.isNone_iff_eq_none.2 h0.reg1
    · exact Option.isNone_iff_eq_none.2 h1.reg0
    · exact Option.isNone_iff_eq_none.2 h1.reg1
  · by_cases hR : 768 ≤ R.val
    · fin_cases q
      · exact h0.dead R hR
      · exact h1.dead R hR
    · have hlt : R.val / 128 < 6 := by omega
      fin_cases q
      · have := (h0.holds _ hlt R ⟨R.val % 128, Nat.mod_lt _ (by decide)⟩ (by simp; omega)).1
        rw [hA _ hlt] at this; exact this
      · have := (h1.holds _ hlt R ⟨R.val % 128, Nat.mod_lt _ (by decide)⟩ (by simp; omega)).1
        rw [hA' _ hlt] at this; exact this

end Cert.KernelIdeal.Body
end
-- ==== Proof.Run.Ctx.lean ====
/- The setting of the run: one core's program logic, its buffers' contents, and the left-hand side of a pass read off them. -/
module

public import proofs.«01_k».proof.Proof.Mxu.State
public import proofs.«01_k».proof.Proof.Gen.KernelIdeal.Launch
public import Idealize.ShloMosaic.Lib.Pipeline.FrameValue
public import Idealize.ShloMosaic.Lib.Pipeline.ValueKit.Geometry
public import Idealize.ShloMosaic.Lib.Tactic

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

/-- The core's weakest precondition. -/
abbrev WP (c : Dev nD) {α : Type} (p : PM (F := F) α) (Q : α → sProp 𝕄) : sProp 𝕄 :=
  wp frame (wpE (defs₀ (F := F)) Variants.none (c : Thread nD τ) none) Set.univ p Q

theorem WP_bind (c : Dev nD) {α β : Type} (p : PM (F := F) α) (k : α → PM (F := F) β) (Q : β → sProp 𝕄) :
    WP c (p >>= k) Q = WP c p (fun a => WP c (k a) Q) := wp_bind ..

theorem WP_pure (c : Dev nD) {α : Type} (a : α) (Q : α → sProp 𝕄) : Q a ⊢ WP c (pure a : PM (F := F) α) Q := by
  show Q a ⊢ WP c (.ret a : PM (F := F) α) Q
  unfold WP
  rw [wp_ret]
  iintro H
  imodintro
  iexact H

/-- A whole buffer's elements `I` at contents `f`. -/
abbrev pts (c : Dev nD) {sp : Space} {s : Shape} {e : EltTy} (M : Memref sig .tc sp s e) (I : Finset (Idx (M.view.loc (c : Thread nD τ)))) (f : Buf (Elt F) (M.view.loc (c : Thread nD τ))) : sProp 𝕄 :=
  M.view.loc (c : Thread nD τ) ↦[I]{fullShare} f

/-- An index out of numbers. -/
def ixT (s : Shape) (h : ∀ a, 0 < s.size a) (v : Fin s.rank → ℕ) : s.Idx := fun a => ⟨v a % s.size a, Nat.mod_lt _ (h a)⟩

theorem pos_W : ∀ a, 0 < S2304x18432.size a := by decide
theorem pos_S : ∀ a, 0 < S18x144.size a := by decide

/-- The weights' piece of 128 × 128 at row `r`, column `k`. -/
def wPiece (W : Vec F S2304x18432 .fp8e4m3) (r k : ℕ) : Vec F S1x128x128 .fp8e4m3 := fun i => W (ixT S2304x18432 pos_W ![r + (i 1).val, k + (i 2).val])

/-- What a ring slot holds of step `s` of block `b`. -/
def ringVal (W : Vec F S2304x18432 .fp8e4m3) (b s : ℕ) : Vec F S4x768x1536 .fp8e4m3 :=
  fun i => W (ixT S2304x18432 pos_W ![768 * b + (i 1).val, 1536 * s + (i 2).val])

/-- The left-hand side of the pass of tile `t` into chunk `ch` of block `b`. -/
def Lh (W : Vec F S2304x18432 .fp8e4m3) (S : Vec F S18x144 .f32) (b t ch : ℕ) : FVec F S128x256 .bf16 :=
  lhsOf (wPiece W (768 * b + 128 * ch) (256 * t)) (S (ixT S18x144 pos_S ![6 * b + ch, 2 * t]))
    (wPiece W (768 * b + 128 * ch) (256 * t + 128)) (S (ixT S18x144 pos_S ![6 * b + ch, 2 * t + 1]))

/-- Slot `w` of a ring. -/
def slotSet (w : ℕ) : Finset S4x768x1536.Idx := Finset.univ.filter fun i => (i 0).val = w

theorem ixT_congr (s : Shape) (h : ∀ a, 0 < s.size a) {v v' : Fin s.rank → ℕ} (e : ∀ a, v a = v' a) : ixT s h v = ixT s h v' := by
  rw [show v = v' from funext e]

theorem wPiece_eq (W : Vec F S2304x18432 .fp8e4m3) {b s w r k : ℕ} (h : ∀ a, (![w, r, k] : Fin 3 → ℕ) a + S1x128x128.size a ≤ S4x768x1536.size a) :
    (fun j => ringVal W b s ((Rect.unit (s := S4x768x1536) ![w, r, k] S1x128x128.size h).emb j)) = wPiece W (768 * b + r) (1536 * s + k) := by
  funext j
  unfold ringVal wPiece
  congr 1
  apply ixT_congr
  intro a
  fin_cases a
  · show 768 * b + (r + 1 * (j 1).val) = 768 * b + r + (j 1).val
    omega
  · show 1536 * s + (k + 1 * (j 2).val) = 1536 * s + k + (j 2).val
    omega

theorem slot_sub {w r k : ℕ} (h : ∀ a, (![w, r, k] : Fin 3 → ℕ) a + S1x128x128.size a ≤ S4x768x1536.size a) :
    (Rect.unit (s := S4x768x1536) ![w, r, k] S1x128x128.size h).set ⊆ slotSet w := by
  intro i hi
  rw [Rect.mem_set_unit] at hi
  have := hi 0
  simp only [slotSet, Finset.mem_filter, Finset.mem_univ, true_and]
  change w ≤ (i 0).val ∧ (i 0).val < w + 1 at this
  omega

/-- The word a scale's rectangle names. -/
theorem scale_eq (S : Vec F S18x144 .f32) {r k : ℕ} (h : ∀ a, (![r, k] : Fin 2 → ℕ) a + S1x1.size a ≤ S18x144.size a) (j : S1x1.Idx) :
    S ((Rect.unit (s := S18x144) ![r, k] S1x1.size h).emb j) = S (ixT S18x144 pos_S ![r, k]) := by
  congr 1
  funext a
  have h0 := h 0
  have h1 := h 1
  fin_cases a
  · apply Fin.ext
    have : (j 0).val < 1 := (j 0).isLt
    change r + 1 ≤ 18 at h0
    show r + 1 * (j 0).val = r % 18
    rw [Nat.mod_eq_of_lt (by omega)]; omega
  · apply Fin.ext
    have : (j 1).val < 1 := (j 1).isLt
    change k + 1 ≤ 144 at h1
    show k + 1 * (j 1).val = k % 144
    rw [Nat.mod_eq_of_lt (by omega)]; omega

theorem wp_wLoad_g (c : Dev nD) (W : Vec F S2304x18432 .fp8e4m3) {b s w r k : ℕ} {T : Finset S4x768x1536.Idx} (hT : slotSet w ⊆ T)
    (h : ∀ a, (![w, r, k] : Fin 3 → ℕ) a + S1x128x128.size a ≤ S4x768x1536.size a) (Q : Vec F S1x128x128 .fp8e4m3 → sProp 𝕄) :
    pts c wgV T (ringVal W b s) ⊢ iprop((pts c wgV T (ringVal W b s) -∗ Q (wPiece W (768 * b + r) (1536 * s + k))) -∗ WP c (wLoad wgV w r k h) Q) := by
  unfold wLoad Prog.lift
  have hS : (wgV.access (Rect.unit (s := S4x768x1536) ![w, r, k] S1x128x128.size h)).set ⊆ T := by
    refine Finset.Subset.trans ?_ ((slot_sub h).trans hT)
    exact (View.set_slice_whole _ _).subset
  iintro H Hk
  iapply (wp_load_rect Variants.none (c : Thread nD τ) none Set.univ (f := ringVal W b s) hS) $$ H
  iintro H
  rw [wp_ret, show (wgV.access (Rect.unit (s := S4x768x1536) ![w, r, k] S1x128x128.size h)).read (Elt F) (ringVal W b s) = wPiece W (768 * b + r) (1536 * s + k) from wPiece_eq W h]
  imodintro
  iapply Hk $$ H

theorem wp_wLoad_u (c : Dev nD) (W : Vec F S2304x18432 .fp8e4m3) {b s w r k : ℕ} {T : Finset S4x768x1536.Idx} (hT : slotSet w ⊆ T)
    (h : ∀ a, (![w, r, k] : Fin 3 → ℕ) a + S1x128x128.size a ≤ S4x768x1536.size a) (Q : Vec F S1x128x128 .fp8e4m3 → sProp 𝕄) :
    pts c wuV T (ringVal W b s) ⊢ iprop((pts c wuV T (ringVal W b s) -∗ Q (wPiece W (768 * b + r) (1536 * s + k))) -∗ WP c (wLoad wuV w r k h) Q) := by
  unfold wLoad Prog.lift
  have hS : (wuV.access (Rect.unit (s := S4x768x1536) ![w, r, k] S1x128x128.size h)).set ⊆ T := by
    refine Finset.Subset.trans ?_ ((slot_sub h).trans hT)
    exact (View.set_slice_whole _ _).subset
  iintro H Hk
  iapply (wp_load_rect Variants.none (c : Thread nD τ) none Set.univ (f := ringVal W b s) hS) $$ H
  iintro H
  rw [wp_ret, show (wuV.access (Rect.unit (s := S4x768x1536) ![w, r, k] S1x128x128.size h)).read (Elt F) (ringVal W b s) = wPiece W (768 * b + r) (1536 * s + k) from wPiece_eq W h]
  imodintro
  iapply Hk $$ H

theorem wp_sLoad_g (c : Dev nD) (S : Vec F S18x144 .f32) {r k : ℕ}
    (h : ∀ a, (![r, k] : Fin 2 → ℕ) a + S1x1.size a ≤ S18x144.size a) (Q : Elt F .f32 → sProp 𝕄) :
    pts c wgS Finset.univ S ⊢ iprop((pts c wgS Finset.univ S -∗ Q (S (ixT S18x144 pos_S ![r, k]))) -∗ WP c (sLoad wgS r k h) Q) := by
  unfold sLoad smemLoad
  iintro H Hk
  iapply (wp_smemLoadElt Variants.none (c : Thread nD τ) none Set.univ (m := wgS) (r := Rect.unit (s := S18x144) ![r, k] S1x1.size h) (f := S) (Finset.subset_univ _)) $$ H
  iintro H
  rw [wp_ret]
  imodintro
  have e : (wgS.access (Rect.unit (s := S18x144) ![r, k] S1x1.size h)).read (Elt F) S (Shape.Idx.first (numel1_S1x1.symm ▸ Nat.one_pos)) = S (ixT S18x144 pos_S ![r, k]) := scale_eq S h _
  rw [e]
  iapply Hk $$ H

theorem wp_sLoad_u (c : Dev nD) (S : Vec F S18x144 .f32) {r k : ℕ}
    (h : ∀ a, (![r, k] : Fin 2 → ℕ) a + S1x1.size a ≤ S18x144.size a) (Q : Elt F .f32 → sProp 𝕄) :
    pts c wuS Finset.univ S ⊢ iprop((pts c wuS Finset.univ S -∗ Q (S (ixT S18x144 pos_S ![r, k]))) -∗ WP c (sLoad wuS r k h) Q) := by
  unfold sLoad smemLoad
  iintro H Hk
  iapply (wp_smemLoadElt Variants.none (c : Thread nD τ) none Set.univ (m := wuS) (r := Rect.unit (s := S18x144) ![r, k] S1x1.size h) (f := S) (Finset.subset_univ _)) $$ H
  iintro H
  rw [wp_ret]
  imodintro
  have e : (wuS.access (Rect.unit (s := S18x144) ![r, k] S1x1.size h)).read (Elt F) S (Shape.Idx.first (numel1_S1x1.symm ▸ Nat.one_pos)) = S (ixT S18x144 pos_S ![r, k]) := scale_eq S h _
  rw [e]
  iapply Hk $$ H

/-- The inputs. -/
structure In (F : FTy → Type) [FloatOps F] where
  X : Vec F S256x18432 .fp8e4m3
  XS : Vec F S256x144 .f32
  WG : Vec F S2304x18432 .fp8e4m3
  WGS : Vec F S18x144 .f32
  WU : Vec F S2304x18432 .fp8e4m3
  WUS : Vec F S18x144 .f32

/-- The scratch a pass reads: slot `w` of both rings at step `s` of block `b`, and both scales. -/
abbrev Weights (c : Dev nD) (I : In F) (T : Finset S4x768x1536.Idx) (b s : ℕ) : sProp 𝕄 :=
  iprop((pts c wgV T (ringVal I.WG b s) ∗ pts c wgS Finset.univ I.WGS) ∗ (pts c wuV T (ringVal I.WU b s) ∗ pts c wuS Finset.univ I.WUS))

theorem wp_lhs_g (c : Dev nD) (W : Vec F S2304x18432 .fp8e4m3) (S : Vec F S18x144 .f32) {T : Finset S4x768x1536.Idx} {b s kk w R ch k p0 p1 : ℕ}
    (hT : slotSet w ⊆ T) (hRb : R = 6 * b) (hkk : k = 256 * kk) (hp0 : p0 = 2 * (6 * s + kk)) (hp1 : p1 = 2 * (6 * s + kk) + 1)
    (hw : w < 4) (hc : ch < 6) (hk : k + 256 ≤ 1536) (hR : R + 6 ≤ 18) (h0 : p0 < 144) (h1 : p1 < 144) (Q : FVec F S128x256 .bf16 → sProp 𝕄) :
    iprop(pts c wgV T (ringVal W b s) ∗ pts c wgS Finset.univ S) ⊢ iprop((iprop(pts c wgV T (ringVal W b s) ∗ pts c wgS Finset.univ S) -∗ Q (Lh W S b (6 * s + kk) ch))
      -∗ WP c (lhsU wgV wgS w R ch k p0 p1 hw hc hk hR h0 h1) Q) := by
  subst hRb hkk hp0 hp1
  unfold lhsU
  have e1 : 256 * (6 * s + kk) = 1536 * s + 256 * kk := by omega
  have e2 : 256 * (6 * s + kk) + 128 = 1536 * s + (256 * kk + 128) := by omega
  iintro ⟨HM, HS⟩ Hk
  rw [WP_bind]
  iapply (wp_wLoad_g c W hT) $$ HM
  iintro HM
  rw [WP_bind]
  iapply (wp_sLoad_g c S) $$ HS
  iintro HS
  rw [WP_bind]
  iapply (wp_wLoad_g c W hT) $$ HM
  iintro HM
  rw [WP_bind]
  iapply (wp_sLoad_g c S) $$ HS
  iintro HS
  iapply (WP_pure c)
  unfold Lh
  rw [e2, e1]
  iapply Hk
  isplitl [HM] <;> iassumption

theorem wp_lhs_u (c : Dev nD) (W : Vec F S2304x18432 .fp8e4m3) (S : Vec F S18x144 .f32) {T : Finset S4x768x1536.Idx} {b s kk w R ch k p0 p1 : ℕ}
    (hT : slotSet w ⊆ T) (hRb : R = 6 * b) (hkk : k = 256 * kk) (hp0 : p0 = 2 * (6 * s + kk)) (hp1 : p1 = 2 * (6 * s + kk) + 1)
    (hw : w < 4) (hc : ch < 6) (hk : k + 256 ≤ 1536) (hR : R + 6 ≤ 18) (h0 : p0 < 144) (h1 : p1 < 144) (Q : FVec F S128x256 .bf16 → sProp 𝕄) :
    iprop(pts c wuV T (ringVal W b s) ∗ pts c wuS Finset.univ S) ⊢ iprop((iprop(pts c wuV T (ringVal W b s) ∗ pts c wuS Finset.univ S) -∗ Q (Lh W S b (6 * s + kk) ch))
      -∗ WP c (lhsU wuV wuS w R ch k p0 p1 hw hc hk hR h0 h1) Q) := by
  subst hRb hkk hp0 hp1
  unfold lhsU
  have e1 : 256 * (6 * s + kk) = 1536 * s + 256 * kk := by omega
  have e2 : 256 * (6 * s + kk) + 128 = 1536 * s + (256 * kk + 128) := by omega
  iintro ⟨HM, HS⟩ Hk
  rw [WP_bind]
  iapply (wp_wLoad_u c W hT) $$ HM
  iintro HM
  rw [WP_bind]
  iapply (wp_sLoad_u c S) $$ HS
  iintro HS
  rw [WP_bind]
  iapply (wp_wLoad_u c W hT) $$ HM
  iintro HM
  rw [WP_bind]
  iapply (wp_sLoad_u c S) $$ HS
  iintro HS
  iapply (WP_pure c)
  unfold Lh
  rw [e2, e1]
  iapply Hk
  isplitl [HM] <;> iassumption

/-! ## The units' operations -/

theorem wp_loaded (c : Dev nD) {m : Mxu F} {q : Fin 2} {B M : ℕ} {φ : FTy} (L : FVec F (Mxu.STile M) φ) (h : Mxu.Fits B M) {t : Mxu.Staged F} (ht : m.gmr q = some t)
    (Q : Mxu F → sProp 𝕄) : Q (m.accBy q t B L h) ⊢ WP c (m.accLhsLoaded q B L h) Q := by
  have := Mxu.wp_accLhsLoaded (defs := defs₀ (F := F)) (𝒱 := Variants.none) (c := (c : Thread nD τ)) (bd := none) (E := Set.univ) (Q := Q) L h ht (k := fun x => pure x)
  rw [bind_pure, wp_pure] at this
  refine BI.BIBase.Entails.trans ?_ this
  iintro H
  imodintro
  iexact H

theorem wp_push (c : Dev nD) {m : Mxu F} {q : Fin 2} {φ : FTy} (T : FVec F S256x256 φ) (h : m.PushOk q 0 false)
    (Q : Mxu F → sProp 𝕄) : Q (m.pushed q 0 false T) ⊢ WP c (m.pushRhs q 0 false T) Q := by
  have := Mxu.wp_pushRhs (defs := defs₀ (F := F)) (𝒱 := Variants.none) (c := (c : Thread nD τ)) (bd := none) (E := Set.univ) (Q := Q) T h (k := fun x => pure x)
  rw [bind_pure, wp_pure] at this
  refine BI.BIBase.Entails.trans ?_ this
  iintro H
  imodintro
  iexact H

end Cert.KernelIdeal.Body
end
-- ==== Proof.Body.Steps.lean ====
/- The three loops' bodies, as the pieces of Units.lean compose them. -/
module

public import proofs.«01_k».proof.Proof.Body.Units

@[expose] public section

noncomputable section

namespace Cert.KernelIdeal.Body

open Idealize.ShloMosaic Idealize.ShloMosaic.TcCoe
open Idealize.SL Idealize.SL.Sem
open Cert.KernelIdeal.Gen

variable {F : FTy → Type} [FloatOps F]

/-! ## The transfers -/

abbrev wSem (off : Fin 2 → ℕ) (h : ∀ a, off a + S1x1.size a ≤ S2x4.size a) : DmaSem sig :=
  ((cc0_scratch14.slice (Rect.unit (s := S2x4) off S1x1.size h)).squeeze S_ squeezes_S1x1_S_).sem
abbrev wDst (M : Memref sig .tc .vmem S4x768x1536 .fp8e4m3) (off : Fin 3 → ℕ) (h : ∀ a, off a + S1x768x1536.size a ≤ S4x768x1536.size a) :
    Memref sig .tc .vmem S768x1536 .fp8e4m3 :=
  (M.slice (Rect.unit (s := S4x768x1536) off S1x768x1536.size h) (fun _ => rfl)).squeeze S768x1536 squeezes_S1x768x1536_S768x1536
abbrev wSrc (A : Memref sig .tc .hbm S2304x18432 .fp8e4m3) (off : Fin 2 → ℕ) (h : ∀ a, off a + S768x1536.size a ≤ S2304x18432.size a) :
    Memref sig .tc .hbm S768x1536 .fp8e4m3 :=
  A.slice (Rect.unit (s := S2304x18432) off S768x1536.size h) (fun _ => rfl)
abbrev xSem (off : Fin 1 → ℕ) (h : ∀ a, off a + S1.size a ≤ S12.size a) : DmaSem sig :=
  ((cc0_scratch13.slice (Rect.unit (s := S12) off S1.size h)).squeeze S_ squeezes_S1_S_).sem
abbrev xDst (off : Fin 2 → ℕ) (h : ∀ a, off a + S256x1536.size a ≤ S256x18432.size a) : Memref sig .tc .vmem S256x1536 .fp8e4m3 :=
  xV.slice (Rect.unit (s := S256x18432) off S256x1536.size h) (fun _ => rfl)
abbrev xSrc (off : Fin 2 → ℕ) (h : ∀ a, off a + S256x1536.size a ≤ S256x18432.size a) : Memref sig .tc .hbm S256x1536 .fp8e4m3 :=
  xH.slice (Rect.unit (s := S256x18432) off S256x1536.size h) (fun _ => rfl)

/-- Wait for the two weight blocks of a step. -/
def wWaits (s0 s1 : Fin 2 → ℕ) (hs0 : ∀ a, s0 a + S1x1.size a ≤ S2x4.size a) (hs1 : ∀ a, s1 a + S1x1.size a ≤ S2x4.size a) (d : Fin 3 → ℕ) (hd : ∀ a, d a + S1x768x1536.size a ≤ S4x768x1536.size a) (o : Fin 2 → ℕ) (ho : ∀ a, o a + S768x1536.size a ≤ S2304x18432.size a)
    (e0 : (wSrc wgH o ho).view.WordExact) (e1 : (wDst wgV d hd).view.WordExact)
    (e2 : (wSrc wuH o ho).view.WordExact) (e3 : (wDst wuV d hd).view.WordExact) : PM (F := F) PUnit := do
  Prog.lift (.waitDma2 (wSem s0 hs0) (wSrc wgH o ho) (wDst wgV d hd) e0 e1)
  Prog.lift (.waitDma2 (wSem s1 hs1) (wSrc wuH o ho) (wDst wuV d hd) e2 e3)

/-- Start the two weight blocks of a later step. -/
def wStarts (s0 s1 : Fin 2 → ℕ) (hs0 : ∀ a, s0 a + S1x1.size a ≤ S2x4.size a) (hs1 : ∀ a, s1 a + S1x1.size a ≤ S2x4.size a) (d : Fin 3 → ℕ) (hd : ∀ a, d a + S1x768x1536.size a ≤ S4x768x1536.size a) (o : Fin 2 → ℕ) (ho : ∀ a, o a + S768x1536.size a ≤ S2304x18432.size a)
    (e0 : (wSrc wgH o ho).view.WordExact) (e1 : (wDst wgV d hd).view.WordExact)
    (e2 : (wSrc wuH o ho).view.WordExact) (e3 : (wDst wuV d hd).view.WordExact) : PM (F := F) PUnit := do
  Prog.lift (.enqueueDma (wSrc wgH o ho) (.here (wDst wgV d hd)) (.dma (wSem s0 hs0)) e0 e1 ⟨Or.inl rfl, trivial⟩)
  Prog.lift (.enqueueDma (wSrc wuH o ho) (.here (wDst wuV d hd)) (.dma (wSem s1 hs1)) e2 e3 ⟨Or.inl rfl, trivial⟩)

/-- Wait for a step's activations. -/
def xWait (s : Fin 1 → ℕ) (hs : ∀ a, s a + S1.size a ≤ S12.size a) (o : Fin 2 → ℕ) (ho : ∀ a, o a + S256x1536.size a ≤ S256x18432.size a) (e0 : (xSrc o ho).view.WordExact) (e1 : (xDst o ho).view.WordExact) : PM (F := F) PUnit :=
  Prog.lift (.waitDma2 (xSem s hs) (xSrc o ho) (xDst o ho) e0 e1)

def xStart (s : Fin 1 → ℕ) (hs : ∀ a, s a + S1.size a ≤ S12.size a) (o : Fin 2 → ℕ) (ho : ∀ a, o a + S256x1536.size a ≤ S256x18432.size a) (e0 : (xSrc o ho).view.WordExact) (e1 : (xDst o ho).view.WordExact) : PM (F := F) PUnit :=
  Prog.lift (.enqueueDma (xSrc o ho) (.here (xDst o ho)) (.dma (xSem s hs)) e0 e1 ⟨Or.inl rfl, trivial⟩)

abbrev W {sp : Space} {s : Shape} {e : EltTy} (m : Memref sig .tc sp s e) : Prop := m.IsWhole

/-! ## A tile of a step of the first block -/

/-- Tile `kk` of a step of the first block: the tile's passes, and the next tile widened and staged after the first chunk. -/
def tileA (w R k p0 p1 n r0 r1 : ℕ) (hw : w < 4) (hk : k + 256 ≤ 1536) (hR : R + 6 ≤ 18) (h0 : p0 < 144) (h1 : p1 < 144)
    (hn : n + 256 ≤ 18432) (hr0 : r0 < 144) (hr1 : r1 < 144) (hp : (rectXT n hn).PackedRows (EltTy.packing .bf16)) (m : Mxu F) : PM (F := F) (Mxu F) := do
  let m ← pair0U w R k p0 p1 hw hk hR h0 h1 m
  let m ← widenU n r0 r1 hn hr0 hr1 hp m
  let m ← pairU w R 1 k p0 p1 hw (by omega) hk hR h0 h1 m
  let m ← pairU w R 2 k p0 p1 hw (by omega) hk hR h0 h1 m
  let m ← pairU w R 3 k p0 p1 hw (by omega) hk hR h0 h1 m
  let m ← pairU w R 4 k p0 p1 hw (by omega) hk hR h0 h1 m
  pairU w R 5 k p0 p1 hw (by omega) hk hR h0 h1 m

/-- A step's six tiles. `P` are the scale columns, `N` the next tile's column, `NR` its scale rows. -/
def tilesA (w R : ℕ) (P : Fin 6 → Fin 2 → ℕ) (N : Fin 6 → ℕ) (NR : Fin 6 → Fin 2 → ℕ) (hw : w < 4) (hR : R + 6 ≤ 18)
    (hP : ∀ i j, P i j < 144) (hN : ∀ i, N i + 256 ≤ 18432) (hNR : ∀ i j, NR i j < 144)
    (hp : ∀ i, (rectXT (N i) (hN i)).PackedRows (EltTy.packing .bf16)) (m : Mxu F) : PM (F := F) (Mxu F) := do
  let m ← tileA w R 0 (P 0 0) (P 0 1) (N 0) (NR 0 0) (NR 0 1) hw (by omega) hR (hP _ _) (hP _ _) (hN _) (hNR _ _) (hNR _ _) (hp _) m
  let m ← tileA w R 256 (P 1 0) (P 1 1) (N 1) (NR 1 0) (NR 1 1) hw (by omega) hR (hP _ _) (hP _ _) (hN _) (hNR _ _) (hNR _ _) (hp _) m
  let m ← tileA w R 512 (P 2 0) (P 2 1) (N 2) (NR 2 0) (NR 2 1) hw (by omega) hR (hP _ _) (hP _ _) (hN _) (hNR _ _) (hNR _ _) (hp _) m
  let m ← tileA w R 768 (P 3 0) (P 3 1) (N 3) (NR 3 0) (NR 3 1) hw (by omega) hR (hP _ _) (hP _ _) (hN _) (hNR _ _) (hNR _ _) (hp _) m
  let m ← tileA w R 1024 (P 4 0) (P 4 1) (N 4) (NR 4 0) (NR 4 1) hw (by omega) hR (hP _ _) (hP _ _) (hN _) (hNR _ _) (hNR _ _) (hp _) m
  tileA w R 1280 (P 5 0) (P 5 1) (N 5) (NR 5 0) (NR 5 1) hw (by omega) hR (hP _ _) (hP _ _) (hN _) (hNR _ _) (hNR _ _) (hp _) m

abbrev P1 (t : Fin k0_t1_loop.trips) (i : Fin 6) (j : Fin 2) : ℕ := k0_off91 t (BitVec.ofNat 32 i.val) (BitVec.ofNat 32 j.val) 1
abbrev N1 (t : Fin k0_t1_loop.trips) (i : Fin 6) : ℕ := k0_off93 t (BitVec.ofNat 32 i.val) 1
abbrev NR1 (t : Fin k0_t1_loop.trips) (i : Fin 6) (j : Fin 2) : ℕ := k0_off94 t (BitVec.ofNat 32 i.val) (BitVec.ofNat 32 j.val) 0
abbrev w1 (t : Fin k0_t1_loop.trips) : ℕ := k0_off90 t 0

theorem w1_lt : ∀ t, w1 t < 4 := by decide +kernel
theorem P1_lt : ∀ t i j, P1 t i j < 144 := by decide +kernel
theorem N1_lt : ∀ t i, N1 t i + 256 ≤ 18432 := by decide +kernel
theorem NR1_lt : ∀ t i j, NR1 t i j < 144 := by decide +kernel
theorem N1_packed : ∀ t i, (rectXT (N1 t i) (N1_lt t i)).PackedRows (EltTy.packing .bf16) := by decide +kernel

/-- What comes before the tiles of a later step of the first block: its transfers. -/
def pre1 (t : Fin k0_t1_loop.trips) : PM (F := F) (Σ' (_ : BitVec 32) (_ : BitVec 32), BitVec 32) := do
  let v := Scalar.addi 1#32 (Scalar.muli (Scf.iv 0#32 1#32 t) 1#32)
  wWaits (k0_off80 t) (k0_off83 t) (k0_off80_inb t) (k0_off83_inb t) (k0_off81 t) (k0_off81_inb t) (k0_off82 t) (k0_off82_inb t)
    ((Memref.isWhole_whole main_arg2).wordExact_slice rfl _ (k0_off82_wordsfp8e4m3 t)) (((Memref.isWhole_whole cc0_scratch4).wordExact_slice rfl _ (k0_off81_wordsfp8e4m3 t)).reshape _ _)
    ((Memref.isWhole_whole main_arg4).wordExact_slice rfl _ (k0_off82_wordsfp8e4m3 t)) (((Memref.isWhole_whole cc0_scratch5).wordExact_slice rfl _ (k0_off81_wordsfp8e4m3 t)).reshape _ _)
  if h : k0_cond1 t = 1#1 then do
    xWait (k0_off84 t) (k0_off84_inb t h) (k0_off85 t) (k0_off85_inb t h)
      ((Memref.isWhole_whole main_v0).wordExact_slice rfl _ (k0_off85_wordsfp8e4m3 t h)) ((Memref.isWhole_whole cc0_scratch0).wordExact_slice rfl _ (k0_off85_wordsfp8e4m3 t h))
    pure ⟨⟩
  else do
    pure ⟨⟩
  if h : k0_cond2 t = 1#1 then do
    wStarts (k0_off86 t) (k0_off89 t) (k0_off86_inb t h) (k0_off89_inb t h) (k0_off87 t) (k0_off87_inb t h) (k0_off88 t) (k0_off88_inb t h)
      ((Memref.isWhole_whole main_arg2).wordExact_slice rfl _ (k0_off88_wordsfp8e4m3 t h)) (((Memref.isWhole_whole cc0_scratch4).wordExact_slice rfl _ (k0_off87_wordsfp8e4m3 t h)).reshape _ _)
      ((Memref.isWhole_whole main_arg4).wordExact_slice rfl _ (k0_off88_wordsfp8e4m3 t h)) (((Memref.isWhole_whole cc0_scratch5).wordExact_slice rfl _ (k0_off87_wordsfp8e4m3 t h)).reshape _ _)
    pure ⟨⟩
  else do
    pure ⟨⟩
  pure ⟨v, Scalar.remsi (Scalar.addi 0#32 v) 4#32, Scalar.addi (Scalar.muli v 6#32) 0#32⟩

/-- A later step of the first block. -/
def body1 (t : Fin k0_t1_loop.trips) (m : Mxu F) : PM (F := F) (Mxu F) := do
  let _ ← pre1 t
  tilesA (w1 t) 0 (P1 t) (N1 t) (NR1 t) (w1_lt t) (by omega) (P1_lt t) (N1_lt t) (NR1_lt t) (N1_packed t) m

end Cert.KernelIdeal.Body
end
-- ==== Proof.Body.Steps2.lean ====
/- The later blocks' steps, the quantiser's piece, the beginning and the end, and the whole body out of them. -/
module

public import proofs.«01_k».proof.Proof.Body.Steps

@[expose] public section

noncomputable section

namespace Cert.KernelIdeal.Body

open Idealize.ShloMosaic Idealize.ShloMosaic.TcCoe
open Idealize.SL Idealize.SL.Sem
open Cert.KernelIdeal.Gen

variable {F : FTy → Type} [FloatOps F]

/-! ## A tile of a later block -/

/-- Fetch the tile kept at row `n` and hand it to both units. -/
def fetchU (n : ℕ) (hn : n + 256 ≤ 18432) (m : Mxu F) : PM (F := F) (Mxu F) := do
  let T : Vec F S256x256 .bf16 ← Prog.lift (.load xT (rectXT n hn).toLoadRect (View.loadsAt_vmem h_S256x256))
  let m ← m.pushRhs 0 0 false T
  m.pushRhs 1 0 false T

/-- Tile `kk` of a step of a later block. -/
def tileB (w R k p0 p1 n : ℕ) (hw : w < 4) (hk : k + 256 ≤ 1536) (hR : R + 6 ≤ 18) (h0 : p0 < 144) (h1 : p1 < 144)
    (hn : n + 256 ≤ 18432) (m : Mxu F) : PM (F := F) (Mxu F) := do
  let m ← pair0U w R k p0 p1 hw hk hR h0 h1 m
  let m ← fetchU n hn m
  let m ← pairU w R 1 k p0 p1 hw (by omega) hk hR h0 h1 m
  let m ← pairU w R 2 k p0 p1 hw (by omega) hk hR h0 h1 m
  let m ← pairU w R 3 k p0 p1 hw (by omega) hk hR h0 h1 m
  let m ← pairU w R 4 k p0 p1 hw (by omega) hk hR h0 h1 m
  pairU w R 5 k p0 p1 hw (by omega) hk hR h0 h1 m

theorem inbG {r : ℕ} (hr : r + 128 ≤ 768) : ∀ a, (![r, 0] : Fin 2 → ℕ) a + S128x256.size a ≤ S768x256.size a := by
  intro a; fin_cases a <;> simp [S128x256, S768x256] <;> omega

/-- Move the finished chunk `ch` of unit `q` out of its accumulator into the scratch `M`. -/
def popU (M : Memref sig .tc .vmem S768x256 .f32) (q : Fin 2) (ch : ℕ) (hc : ch < 6) (m : Mxu F) : PM (F := F) (Mxu F) := do
  let v : FVec F S128x256 .f32 := m.read q (32 * ch) (fits ch (by omega))
  let m := m.pop q (32 * ch) 128 (fits ch (by omega))
  let _ ← Prog.lift (.load M (Rect.unit (s := S768x256) ![128 * ch, 0] S128x256.size (inbG (by omega))).toLoadRect (View.loadsAt_vmem h_S128x256))
  Prog.lift (.store M (Rect.unit (s := S768x256) ![128 * ch, 0] S128x256.size (inbG (by omega))) (shapeCast S128x256 v shapeCasts_S128x256_S128x256) Finset.univ
    (View.stores_vmem_bits_univ h_S128x256 rfl) (.inl rfl))
  pure m

/-- A chunk of the first tile of a later block, after the first chunk: each unit gives up the last block's sum before it starts this block's. -/
def popPairU (w R ch k p0 p1 : ℕ) (hw : w < 4) (hc : ch < 6) (hk : k + 256 ≤ 1536) (hR : R + 6 ≤ 18) (h0 : p0 < 144) (h1 : p1 < 144)
    (m : Mxu F) : PM (F := F) (Mxu F) := do
  let m ← popU gV 0 ch hc m
  let L ← lhsU wgV wgS w R ch k p0 p1 hw hc hk hR h0 h1
  let m ← m.accLhsLoaded 0 (32 * ch) L (fits ch (by omega))
  let m ← popU uV 1 ch hc m
  let L ← lhsU wuV wuS w R ch k p0 p1 hw hc hk hR h0 h1
  m.accLhsLoaded 1 (32 * ch) L (fits ch (by omega))

/-- The same for the first chunk. -/
def popPair0U (w R k p0 p1 : ℕ) (hw : w < 4) (hk : k + 256 ≤ 1536) (hR : R + 6 ≤ 18) (h0 : p0 < 144) (h1 : p1 < 144)
    (m : Mxu F) : PM (F := F) (Mxu F) := do
  let m ← popU gV 0 0 (by omega) m
  let L ← lhsU wgV wgS w R 0 k p0 p1 hw (by omega) hk hR h0 h1
  let m := m.accLhs 0 0 0 L (fits 0 (by omega))
  let m ← popU uV 1 0 (by omega) m
  let L ← lhsU wuV wuS w R 0 k p0 p1 hw (by omega) hk hR h0 h1
  pure (m.accLhs 1 0 0 L (fits 0 (by omega)))

/-- The first tile of a later block. -/
def tileB0 (w R k p0 p1 n : ℕ) (hw : w < 4) (hk : k + 256 ≤ 1536) (hR : R + 6 ≤ 18) (h0 : p0 < 144) (h1 : p1 < 144)
    (hn : n + 256 ≤ 18432) (m : Mxu F) : PM (F := F) (Mxu F) := do
  let m ← popPair0U w R k p0 p1 hw hk hR h0 h1 m
  let m ← fetchU n hn m
  let m ← popPairU w R 1 k p0 p1 hw (by omega) hk hR h0 h1 m
  let m ← popPairU w R 2 k p0 p1 hw (by omega) hk hR h0 h1 m
  let m ← popPairU w R 3 k p0 p1 hw (by omega) hk hR h0 h1 m
  let m ← popPairU w R 4 k p0 p1 hw (by omega) hk hR h0 h1 m
  popPairU w R 5 k p0 p1 hw (by omega) hk hR h0 h1 m

/-- The five tiles after a step's first, of a later block. -/
def restB (w R : ℕ) (P : Fin 6 → Fin 2 → ℕ) (N : Fin 6 → ℕ) (hw : w < 4) (hR : R + 6 ≤ 18)
    (hP : ∀ i j, P i j < 144) (hN : ∀ i, N i + 256 ≤ 18432) (m : Mxu F) : PM (F := F) (Mxu F) := do
  let m ← tileB w R 256 (P 1 0) (P 1 1) (N 1) hw (by omega) hR (hP _ _) (hP _ _) (hN _) m
  let m ← tileB w R 512 (P 2 0) (P 2 1) (N 2) hw (by omega) hR (hP _ _) (hP _ _) (hN _) m
  let m ← tileB w R 768 (P 3 0) (P 3 1) (N 3) hw (by omega) hR (hP _ _) (hP _ _) (hN _) m
  let m ← tileB w R 1024 (P 4 0) (P 4 1) (N 4) hw (by omega) hR (hP _ _) (hP _ _) (hN _) m
  tileB w R 1280 (P 5 0) (P 5 1) (N 5) hw (by omega) hR (hP _ _) (hP _ _) (hN _) m

/-! ## The quantiser -/

/-- The gated product. -/
def hOf (g u : FVec F S128x128 .f32) : FVec F S128x128 .f32 := mulf (mulf g (logistic g)) u

/-- A column's largest magnitude over 448. -/
def vOf (h : FVec F S128x128 .f32) : FVec F S1x128 .f32 :=
  mulf (shapeCast S1x128 (multiReduction .maximumf [0] S128 (absf h) 0xFF800000#32 reduces_S128x128_S128 (.inl rfl) rfl : FVec F S128 .f32) shapeCasts_S128_S1x128)
    (broadcast S1x128 (Scalar.ofBits .f32 0x3B124925#32))

/-- The powers of two the exponent counts. -/
def thresholds : FVec F S255x128 .f32 :=
  bitcastToFloat .f32 (shli (minsi (addi (iota .tc S255x128 32 [0] iota_S255x128_d0_w32) (broadcast S255x128 1#32)) (broadcast S255x128 253#32)) (broadcast S255x128 23#32))

/-- How many of them a column's value reaches. -/
def countOf (v : FVec F S1x128 .f32) : IVec S1x128 32 :=
  shapeCast S1x128 (multiReductionI .add [0] S128
    (select (cmpf .oge (broadcastTo S255x128 v broadcasts_S1x128_S255x128) thresholds) (broadcast S255x128 1#32) (broadcast S255x128 0#32)) 0#32 reduces_S255x128_S128 rfl : IVec S128 32) shapeCasts_S128_S1x128

/-- The exponent of a column's scale. -/
def eOf (n : IVec S1x128 32) : IVec S1x128 32 :=
  select (ori (cmpi .eq n (broadcast S1x128 0#32)) (cmpi .eq n (broadcast S1x128 255#32))) (broadcast S1x128 0#32) (subi n (broadcast S1x128 126#32))

/-- A column's scale. -/
def scaleOf (h : FVec F S128x128 .f32) : FVec F S1x128 .f32 :=
  bitcastToFloat .f32 (shli (addi (broadcast S1x128 127#32) (eOf (countOf (vOf h)))) (broadcast S1x128 23#32))

/-- One over it. -/
def invOf (h : FVec F S128x128 .f32) : FVec F S1x128 .f32 :=
  bitcastToFloat .f32 (shli (subi (broadcast S1x128 127#32) (eOf (countOf (vOf h)))) (broadcast S1x128 23#32))

/-- The codes, transposed. -/
def codesOf (h : FVec F S128x128 .f32) : FVec F S128x128 .fp8e4m3 :=
  truncf .fp8e4m3 (transpose S128x128 [1, 0] (minimumf (broadcast S128x128 (Scalar.ofBits .f32 0x43E00000#32))
    (maximumf (broadcast S128x128 (Scalar.ofBits .f32 0xC3E00000#32)) (mulf h (broadcastTo S128x128 (invOf h) broadcasts_S1x128_S128x128)))) transposes_S128x128_p1_0_S128x128 : FVec F S128x128 .f32) bitsLt_fp8e4m3_f32

theorem inbQ {r c : ℕ} (hr : r + 128 ≤ 768) (hc : c + 128 ≤ 256) : ∀ a, (![r, c] : Fin 2 → ℕ) a + S128x128.size a ≤ S768x256.size a := by
  intro a; fin_cases a <;> simp [S128x128, S768x256] <;> omega
theorem inbC {r c : ℕ} (hr : r + 128 ≤ 256) (hc : c + 128 ≤ 2304) : ∀ a, (![r, c] : Fin 2 → ℕ) a + S128x128.size a ≤ S256x2304.size a := by
  intro a; fin_cases a <;> simp [S128x128, S256x2304] <;> omega
theorem inbT {n r : ℕ} (hn : n < 18) (hr : r + 128 ≤ 256) : ∀ a, (![n, 0, r] : Fin 3 → ℕ) a + S1x1x128.size a ≤ S18x1x256.size a := by
  intro a; fin_cases a <;> simp [S1x1x128, S18x1x256] <;> omega

abbrev rectC (r c : ℕ) (hr : r + 128 ≤ 256) (hc : c + 128 ≤ 2304) : Rect S256x2304 := Rect.unit (s := S256x2304) ![r, c] S128x128.size (inbC hr hc)

/-- Keep a piece's codes (tokens from `r`, columns from `c`) and its scales (group `n`). -/
def keepU (h : FVec F S128x128 .f32) (r c n : ℕ) (hr : r + 128 ≤ 256) (hc : c + 128 ≤ 2304) (hn : n < 18)
    (hp : (rectC r c hr hc).PackedRows (EltTy.packing .fp8e4m3)) : PM (F := F) PUnit := do
  let _ ← Prog.lift (.load cdV (rectC r c hr hc).toLoadRect (View.loadsAt_vmem h_S128x128))
  Prog.lift (.store cdV (rectC r c hr hc) (shapeCast S128x128 (codesOf h) shapeCasts_S128x128_S128x128) Finset.univ
    (View.stores_vmem h_S128x128 ((Memref.isWhole_whole cc0_scratch10).storeExact_slice rfl _ hp) (fun _ => rfl)) (.inl rfl))
  let _ ← Prog.lift (.load scT (Rect.unit (s := S18x1x256) ![n, 0, r] S1x1x128.size (inbT hn hr)).toLoadRect (View.loadsAt_vmem h_S1x1x128))
  Prog.lift (.store scT (Rect.unit (s := S18x1x256) ![n, 0, r] S1x1x128.size (inbT hn hr)) (shapeCast S1x1x128 (scaleOf h) shapeCasts_S1x128_S1x1x128) Finset.univ
    (View.stores_vmem_bits_univ h_S1x1x128 rfl) (.inl rfl))

/-- Quantise one piece of the last block: group rows from `gr`, tokens from `r`. -/
def epiU (gr r c n : ℕ) (hg : gr + 128 ≤ 768) (hr : r + 128 ≤ 256) (hc : c + 128 ≤ 2304) (hn : n < 18)
    (hp : (rectC r c hr hc).PackedRows (EltTy.packing .fp8e4m3)) : PM (F := F) PUnit := do
  let g : Vec F S128x128 .f32 ← Prog.lift (.load gV (Rect.unit (s := S768x256) ![gr, r] S128x128.size (inbQ hg hr)).toLoadRect (View.loadsAt_vmem h_S128x128))
  let u : Vec F S128x128 .f32 ← Prog.lift (.load uV (Rect.unit (s := S768x256) ![gr, r] S128x128.size (inbQ hg hr)).toLoadRect (View.loadsAt_vmem h_S128x128))
  keepU (hOf g u) r c n hr hc hn hp

/-! ## The steps of block 1 after its first -/

abbrev P2 (t : Fin k0_t2_loop.trips) (i : Fin 6) (j : Fin 2) : ℕ := k0_off183 t (BitVec.ofNat 32 i.val) (BitVec.ofNat 32 j.val) 1
abbrev N2 (t : Fin k0_t2_loop.trips) (i : Fin 6) : ℕ := k0_off185 t (BitVec.ofNat 32 i.val) 0
abbrev w2 (t : Fin k0_t2_loop.trips) : ℕ := k0_off182 t 0
abbrev g2 (t : Fin k0_t2_loop.trips) : ℕ := k0_off261 t 0
abbrev q2 (t : Fin k0_t2_loop.trips) : ℕ := k0_off261 t 1
abbrev c2 (t : Fin k0_t2_loop.trips) : ℕ := k0_off262 t 1
abbrev n2 (t : Fin k0_t2_loop.trips) : ℕ := k0_off263 t 0

theorem w2_lt : ∀ t, w2 t < 4 := by decide +kernel
theorem P2_lt : ∀ t i j, P2 t i j < 144 := by decide +kernel
theorem N2_lt : ∀ t i, N2 t i + 256 ≤ 18432 := by decide +kernel
theorem g2_lt : ∀ t, g2 t + 128 ≤ 768 := by decide +kernel
theorem q2_lt : ∀ t, q2 t + 128 ≤ 256 := by decide +kernel
theorem c2_lt : ∀ t, c2 t + 128 ≤ 2304 := by decide +kernel
theorem n2_lt : ∀ t, n2 t < 18 := by decide +kernel
theorem c2_packed : ∀ t, (rectC (q2 t) (c2 t) (q2_lt t) (c2_lt t)).PackedRows (EltTy.packing .fp8e4m3) := by decide +kernel

/-- The tiles of such a step, then the piece of the block before that it quantises. -/
def tiles2 (t : Fin k0_t2_loop.trips) (m : Mxu F) : PM (F := F) (Mxu F) := do
  let m ← tileB (w2 t) 6 0 (P2 t 0 0) (P2 t 0 1) (N2 t 0) (w2_lt t) (by omega) (by omega) (P2_lt t _ _) (P2_lt t _ _) (N2_lt t _) m
  let m ← restB (w2 t) 6 (P2 t) (N2 t) (w2_lt t) (by omega) (P2_lt t) (N2_lt t) m
  epiU (g2 t) (q2 t) (c2 t) (n2 t) (g2_lt t) (q2_lt t) (c2_lt t) (n2_lt t) (c2_packed t)
  pure m

/-- One such step. -/
def body2 (t : Fin k0_t2_loop.trips) (m : Mxu F) : PM (F := F) (Mxu F) := do
  wWaits (k0_off174 t) (k0_off177 t) (k0_off174_inb t) (k0_off177_inb t) (k0_off175 t) (k0_off175_inb t) (k0_off176 t) (k0_off176_inb t)
    ((Memref.isWhole_whole main_arg2).wordExact_slice rfl _ (k0_off176_wordsfp8e4m3 t)) (((Memref.isWhole_whole cc0_scratch4).wordExact_slice rfl _ (k0_off175_wordsfp8e4m3 t)).reshape _ _)
    ((Memref.isWhole_whole main_arg4).wordExact_slice rfl _ (k0_off176_wordsfp8e4m3 t)) (((Memref.isWhole_whole cc0_scratch5).wordExact_slice rfl _ (k0_off175_wordsfp8e4m3 t)).reshape _ _)
  if h : k0_cond3 t = 1#1 then do
    wStarts (k0_off178 t) (k0_off181 t) (k0_off178_inb t h) (k0_off181_inb t h) (k0_off179 t) (k0_off179_inb t h) (k0_off180 t) (k0_off180_inb t h)
      ((Memref.isWhole_whole main_arg2).wordExact_slice rfl _ (k0_off180_wordsfp8e4m3 t h)) (((Memref.isWhole_whole cc0_scratch4).wordExact_slice rfl _ (k0_off179_wordsfp8e4m3 t h)).reshape _ _)
      ((Memref.isWhole_whole main_arg4).wordExact_slice rfl _ (k0_off180_wordsfp8e4m3 t h)) (((Memref.isWhole_whole cc0_scratch5).wordExact_slice rfl _ (k0_off179_wordsfp8e4m3 t h)).reshape _ _)
    pure ⟨⟩
  else do
    pure ⟨⟩
  tiles2 t m

/-! ## The steps of block 2 after its first -/

abbrev P3 (t : Fin k0_t3_loop.trips) (i : Fin 6) (j : Fin 2) : ℕ := k0_off273 t (BitVec.ofNat 32 i.val) (BitVec.ofNat 32 j.val) 1
abbrev N3 (t : Fin k0_t3_loop.trips) (i : Fin 6) : ℕ := k0_off275 t (BitVec.ofNat 32 i.val) 0
abbrev w3 (t : Fin k0_t3_loop.trips) : ℕ := k0_off272 t 0
abbrev g3 (t : Fin k0_t3_loop.trips) : ℕ := k0_off351 t 0
abbrev q3 (t : Fin k0_t3_loop.trips) : ℕ := k0_off351 t 1
abbrev c3 (t : Fin k0_t3_loop.trips) : ℕ := k0_off352 t 1
abbrev n3 (t : Fin k0_t3_loop.trips) : ℕ := k0_off353 t 0

theorem w3_lt : ∀ t, w3 t < 4 := by decide +kernel
theorem P3_lt : ∀ t i j, P3 t i j < 144 := by decide +kernel
theorem N3_lt : ∀ t i, N3 t i + 256 ≤ 18432 := by decide +kernel
theorem g3_lt : ∀ t, g3 t + 128 ≤ 768 := by decide +kernel
theorem q3_lt : ∀ t, q3 t + 128 ≤ 256 := by decide +kernel
theorem c3_lt : ∀ t, c3 t + 128 ≤ 2304 := by decide +kernel
theorem n3_lt : ∀ t, n3 t < 18 := by decide +kernel
theorem c3_packed : ∀ t, (rectC (q3 t) (c3 t) (q3_lt t) (c3_lt t)).PackedRows (EltTy.packing .fp8e4m3) := by decide +kernel

/-- The tiles of such a step, then the piece of the block before that it quantises. -/
def tiles3 (t : Fin k0_t3_loop.trips) (m : Mxu F) : PM (F := F) (Mxu F) := do
  let m ← tileB (w3 t) 12 0 (P3 t 0 0) (P3 t 0 1) (N3 t 0) (w3_lt t) (by omega) (by omega) (P3_lt t _ _) (P3_lt t _ _) (N3_lt t _) m
  let m ← restB (w3 t) 12 (P3 t) (N3 t) (w3_lt t) (by omega) (P3_lt t) (N3_lt t) m
  epiU (g3 t) (q3 t) (c3 t) (n3 t) (g3_lt t) (q3_lt t) (c3_lt t) (n3_lt t) (c3_packed t)
  pure m

/-- One such step. -/
def body3 (t : Fin k0_t3_loop.trips) (m : Mxu F) : PM (F := F) (Mxu F) := do
  wWaits (k0_off264 t) (k0_off267 t) (k0_off264_inb t) (k0_off267_inb t) (k0_off265 t) (k0_off265_inb t) (k0_off266 t) (k0_off266_inb t)
    ((Memref.isWhole_whole main_arg2).wordExact_slice rfl _ (k0_off266_wordsfp8e4m3 t)) (((Memref.isWhole_whole cc0_scratch4).wordExact_slice rfl _ (k0_off265_wordsfp8e4m3 t)).reshape _ _)
    ((Memref.isWhole_whole main_arg4).wordExact_slice rfl _ (k0_off266_wordsfp8e4m3 t)) (((Memref.isWhole_whole cc0_scratch5).wordExact_slice rfl _ (k0_off265_wordsfp8e4m3 t)).reshape _ _)
  if h : k0_cond4 t = 1#1 then do
    wStarts (k0_off268 t) (k0_off271 t) (k0_off268_inb t h) (k0_off271_inb t h) (k0_off269 t) (k0_off269_inb t h) (k0_off270 t) (k0_off270_inb t h)
      ((Memref.isWhole_whole main_arg2).wordExact_slice rfl _ (k0_off270_wordsfp8e4m3 t h)) (((Memref.isWhole_whole cc0_scratch4).wordExact_slice rfl _ (k0_off269_wordsfp8e4m3 t h)).reshape _ _)
      ((Memref.isWhole_whole main_arg4).wordExact_slice rfl _ (k0_off270_wordsfp8e4m3 t h)) (((Memref.isWhole_whole cc0_scratch5).wordExact_slice rfl _ (k0_off269_wordsfp8e4m3 t h)).reshape _ _)
    pure ⟨⟩
  else do
    pure ⟨⟩
  tiles3 t m

end Cert.KernelIdeal.Body
end
-- ==== Proof.Run.Pass.lean ====
/- What the passes over one tile do: the sums they leave, the tile they widen or fetch for the next. -/
module

public import proofs.«01_k».proof.Proof.Run.Ctx
public import proofs.«01_k».proof.Proof.Body.Steps2

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

theorem pos_X : ∀ a, 0 < S256x18432.size a := by decide
theorem pos_XS : ∀ a, 0 < S256x144.size a := by decide
theorem pos_T : ∀ a, 0 < S256x256.size a := by decide
theorem pos_G : ∀ a, 0 < S128x256.size a := by decide

/-! ## The values -/

/-- The activations' tile of 256 columns from `n`, and the scales' column `r`. -/
def xPiece (X : Vec F S256x18432 .fp8e4m3) (n : ℕ) : Vec F S256x256 .fp8e4m3 := fun i => X (ixT S256x18432 pos_X ![(i 0).val, n + (i 1).val])
def xsRow (XS : Vec F S256x144 .f32) (r : ℕ) : Vec F S1x256 .f32 := fun i => XS (ixT S256x144 pos_XS ![(i 1).val, r])

/-- Tile `t` of the activations, widened. -/
def XTile (I : In F) (t : ℕ) : FVec F S256x256 .bf16 := tileOf (xPiece I.X (256 * t)) (xsRow I.XS (2 * t)) (xsRow I.XS (2 * t + 1))

/-- As a unit holds it. -/
def stg (I : In F) (t : ℕ) : Mxu.Staged F := ⟨.bf16, false, XTile I t⟩

/-- The weights and the scales of unit `q`. -/
def In.w (I : In F) (q : Fin 2) : Vec F S2304x18432 .fp8e4m3 := if q = 0 then I.WG else I.WU
def In.s (I : In F) (q : Fin 2) : Vec F S18x144 .f32 := if q = 0 then I.WGS else I.WUS

/-- The pass of tile `t` into chunk `ch` of block `b`. -/
def pass (I : In F) (q : Fin 2) (b ch t : ℕ) : FVec F S128x256 .f32 := (stg I t).pass (Lh (I.w q) (I.s q) b t ch)

/-- The sum of the first `t` tiles' passes. -/
def sumO (I : In F) (q : Fin 2) (b ch : ℕ) : ℕ → Option (FVec F S128x256 .f32)
  | 0 => none
  | t + 1 => some (dep (sumO I q b ch t) (pass I q b ch t))

/-- A block's finished sum. -/
def total (I : In F) (q : Fin 2) (b ch : ℕ) : FVec F S128x256 .f32 := dep (sumO I q b ch 71) (pass I q b ch 71)

/-- The first `ch` chunks at `hi`, the rest at `lo`. -/
def mixF (lo hi : ℕ → Option (FVec F S128x256 .f32)) (ch : ℕ) : ℕ → Option (FVec F S128x256 .f32) := fun c => if c < ch then hi c else lo c

theorem mixF_update (lo hi : ℕ → Option (FVec F S128x256 .f32)) (ch : ℕ) : Function.update (mixF lo hi ch) ch (hi ch) = mixF lo hi (ch + 1) := by
  funext c
  unfold mixF
  by_cases h : c = ch
  · subst h; simp
  · rw [Function.update_of_ne h]
    by_cases h' : c < ch
    · rw [if_pos h', if_pos (by omega)]
    · rw [if_neg h', if_neg (by omega)]

theorem mixF_at (lo hi : ℕ → Option (FVec F S128x256 .f32)) (ch : ℕ) : mixF lo hi ch ch = lo ch := by simp [mixF]

/-- Both units between two chunks. -/
def Both (m : Mxu F) (r g : Option (Mxu.Staged F)) (lo hi : Fin 2 → ℕ → Option (FVec F S128x256 .f32)) (ch : ℕ) : Prop :=
  ∀ q : Fin 2, UnitSt m q r g (mixF (lo q) (hi q) ch) 768

theorem UnitSt.congr {m : Mxu F} {q : Fin 2} {r g : Option (Mxu.Staged F)} {A A' : ℕ → Option (FVec F S128x256 .f32)} {D : ℕ}
    (h : UnitSt m q r g A D) (e : ∀ c < 6, A c = A' c) : UnitSt m q r g A' D :=
  ⟨h.reg0, h.reg1, h.gmr, fun c hc => e c hc ▸ h.holds c hc, h.dead⟩

/-- All six chunks done: the start of the next tile. -/
theorem Both.next {m : Mxu F} {r g : Option (Mxu.Staged F)} {lo hi hi' : Fin 2 → ℕ → Option (FVec F S128x256 .f32)}
    (h : Both m r g lo hi 6) : Both m r g hi hi' 0 :=
  fun q => (h q).congr fun c hc => by simp [mixF, hc]

/-! ## The pairs of passes -/

variable (c : Dev nD) (I : In F)

/-- How `hi` comes from `lo`: one pass more. -/
def More (b t : ℕ) (lo hi : Fin 2 → ℕ → Option (FVec F S128x256 .f32)) : Prop :=
  ∀ q ch, hi q ch = some (dep (lo q ch) (pass I q b ch t))

/-- The same, each sum begun anew. -/
def Fresh (b t : ℕ) (hi : Fin 2 → ℕ → Option (FVec F S128x256 .f32)) : Prop :=
  ∀ q ch, hi q ch = some (pass I q b ch t)

section Pair

variable {T : Finset S4x768x1536.Idx} {b s kk w R ch k p0 p1 : ℕ} {lo hi : Fin 2 → ℕ → Option (FVec F S128x256 .f32)} {m : Mxu F}
  {r g : Option (Mxu.Staged F)}
  (hT : slotSet w ⊆ T) (hRb : R = 6 * b) (hkk : k = 256 * kk) (hp0 : p0 = 2 * (6 * s + kk)) (hp1 : p1 = 2 * (6 * s + kk) + 1)
  (hw : w < 4) (hk : k + 256 ≤ 1536) (hR : R + 6 ≤ 18) (h0 : p0 < 144) (h1 : p1 < 144)

include hT hRb hkk hp0 hp1 in
theorem wp_pairU (hc : ch < 6) (hm : More I b (6 * s + kk) lo hi) (hb : Both m r (some (stg I (6 * s + kk))) lo hi ch) (Q : Mxu F → sProp 𝕄) :
    Weights c I T b s ⊢ iprop((∀ m', ⌜Both m' r (some (stg I (6 * s + kk))) lo hi (ch + 1)⌝ -∗ Weights c I T b s -∗ Q m')
      -∗ WP c (pairU w R ch k p0 p1 hw hc hk hR h0 h1 m) Q) := by
  unfold pairU
  iintro ⟨HG, HU⟩ Hk
  rw [WP_bind]
  iapply (wp_lhs_g c I.WG I.WGS hT hRb hkk hp0 hp1 hw hc hk hR h0 h1) $$ HG
  iintro HG
  rw [WP_bind]
  iapply (wp_loaded c _ (fits ch (by omega)) (hb 0).gmr)
  rw [WP_bind]
  iapply (wp_lhs_u c I.WU I.WUS hT hRb hkk hp0 hp1 hw hc hk hR h0 h1) $$ HU
  iintro HU
  have b0 := (hb 0).accBy (by omega) hc (stg I (6 * s + kk)) (Lh I.WG I.WGS b (6 * s + kk) ch) (fits ch (by omega))
  have b1 := (hb 1).accBy_ne (q' := 0) (by decide) (stg I (6 * s + kk)) (Lh I.WG I.WGS b (6 * s + kk) ch) (fits ch (by omega))
  rw [mixF_at, show some (dep (lo 0 ch) ((stg I (6 * s + kk)).pass (Lh I.WG I.WGS b (6 * s + kk) ch))) = hi 0 ch from (hm 0 ch).symm, mixF_update] at b0
  have c0 := b0.accBy_ne (q' := 1) (by decide) (stg I (6 * s + kk)) (Lh I.WU I.WUS b (6 * s + kk) ch) (fits ch (by omega))
  have c1 := b1.accBy (by omega) hc (stg I (6 * s + kk)) (Lh I.WU I.WUS b (6 * s + kk) ch) (fits ch (by omega))
  rw [mixF_at, show some (dep (lo 1 ch) ((stg I (6 * s + kk)).pass (Lh I.WU I.WUS b (6 * s + kk) ch))) = hi 1 ch from (hm 1 ch).symm, mixF_update] at c1
  iapply (wp_loaded c _ (fits ch (by omega)) b1.gmr)
  iapply Hk $$ %_ [] [HG HU]
  · ipureintro
    intro q
    fin_cases q
    · exact c0
    · exact c1
  · isplitl [HG] <;> iassumption

include hT hRb hkk hp0 hp1 in
theorem wp_pair0U (hm : More I b (6 * s + kk) lo hi) (hb : Both m (some (stg I (6 * s + kk))) g lo hi 0) (Q : Mxu F → sProp 𝕄) :
    Weights c I T b s ⊢ iprop((∀ m', ⌜Both m' none (some (stg I (6 * s + kk))) lo hi 1⌝ -∗ Weights c I T b s -∗ Q m')
      -∗ WP c (pair0U w R k p0 p1 hw hk hR h0 h1 m) Q) := by
  unfold pair0U
  iintro ⟨HG, HU⟩ Hk
  rw [WP_bind]
  iapply (wp_lhs_g c I.WG I.WGS hT hRb hkk hp0 hp1 hw _ hk hR h0 h1) $$ HG
  iintro HG
  rw [WP_bind]
  iapply (wp_lhs_u c I.WU I.WUS hT hRb hkk hp0 hp1 hw _ hk hR h0 h1) $$ HU
  iintro HU
  have b0 := (hb 0).accLhs (le_refl _) (ch := 0) (by decide) (Lh I.WG I.WGS b (6 * s + kk) 0) (fits 0 (by omega))
  have b1 := (hb 1).accLhs_ne (q' := 0) (by decide) (Lh I.WG I.WGS b (6 * s + kk) 0) (fits 0 (by omega))
  rw [mixF_at, show some (dep (lo 0 0) ((stg I (6 * s + kk)).pass (Lh I.WG I.WGS b (6 * s + kk) 0))) = hi 0 0 from (hm 0 0).symm, mixF_update] at b0
  have c0 := b0.accLhs_ne (q' := 1) (by decide) (Lh I.WU I.WUS b (6 * s + kk) 0) (fits 0 (by omega))
  have c1 := b1.accLhs (le_refl _) (ch := 0) (by decide) (Lh I.WU I.WUS b (6 * s + kk) 0) (fits 0 (by omega))
  rw [mixF_at, show some (dep (lo 1 0) ((stg I (6 * s + kk)).pass (Lh I.WU I.WUS b (6 * s + kk) 0))) = hi 1 0 from (hm 1 0).symm, mixF_update] at c1
  iapply (WP_pure c)
  iapply Hk $$ %_ [] [HG HU]
  · ipureintro
    intro q
    fin_cases q
    · exact c0
    · exact c1
  · isplitl [HG] <;> iassumption

end Pair

/-! ## The next tile -/

theorem wp_pushes {T : FVec F S256x256 .bf16} {t : ℕ} (e : T = XTile I t) {m : Mxu F} {g : Option (Mxu.Staged F)}
    {lo hi : Fin 2 → ℕ → Option (FVec F S128x256 .f32)} {ch : ℕ} (hb : Both m none g lo hi ch) (Q : Mxu F → sProp 𝕄) :
    iprop(∀ m', ⌜Both m' (some (stg I t)) g lo hi ch⌝ -∗ Q m') ⊢ WP c (m.pushRhs 0 0 false T >>= fun m => m.pushRhs 1 0 false T) Q := by
  subst e
  iintro Hk
  rw [WP_bind]
  iapply (wp_push c _ (hb 0).pushOk)
  have b0 := (hb 0).pushed (XTile I t)
  have b1 := (hb 1).pushed_ne (q' := 0) (by decide) (XTile I t)
  have c0 := b0.pushed_ne (q' := 1) (by decide) (XTile I t)
  have c1 := b1.pushed (XTile I t)
  iapply (wp_push c _ b1.pushOk)
  iapply Hk $$ %_ []
  ipureintro
  intro q
  fin_cases q
  · exact c0
  · exact c1

/-- The activations' first `C` columns; the transposed scales; the widened tiles. -/
def colsLt (C : ℕ) : Finset S256x18432.Idx := Finset.univ.filter fun i => (i 1).val < C
def xstVal : Vec F S144x256 .f32 := fun i => I.XS (ixT S256x144 pos_XS ![(i 1).val, (i 0).val])
def xtVal : Vec F S18432x256 .bf16 := fun i => XTile I ((i 0).val / 256) (ixT S256x256 pos_T ![(i 0).val % 256, (i 1).val])

/-- The first `k` tiles are kept. -/
def XtInv (k : ℕ) (f : Vec F S18432x256 .bf16) : Prop := ∀ i, (i 0).val < 256 * k → f i = xtVal I i

/-- The scratch of the widened tiles, the first `k` kept. -/
abbrev Kept (k : ℕ) : sProp 𝕄 := iprop(∃ f, ⌜XtInv I k f⌝ ∗ pts c xT Finset.univ f)

theorem rect_off2 {n0 n1 a b m0 m1 : ℕ} (h : ∀ x, (![a, b] : Fin 2 → ℕ) x + (⟨2, ![m0, m1]⟩ : Shape).size x ≤ (⟨2, ![n0, n1]⟩ : Shape).size x) :
    a + m0 ≤ n0 ∧ b + m1 ≤ n1 := ⟨h 0, h 1⟩

theorem xt_write {f : Vec F S18432x256 .bf16} {k t : ℕ} (ht : t ≤ k) (ht' : t < 72) (hf : XtInv I k f) (h) :
    XtInv I (max k (t + 1)) (updateSlice f (shapeCast S256x256 (XTile I t) shapeCasts_S256x256_S256x256) ![256 * t, 0] h) := by
  intro i hi
  rw [shapeCast_self]
  unfold updateSlice
  split
  · next hin =>
    have h0 := hin 0
    have h1 := hin 1
    change 256 * t ≤ (i 0).val ∧ (i 0).val < 256 * t + 256 at h0
    have e : (i 0).val / 256 = t := by omega
    unfold xtVal
    rw [e]
    congr 1
    funext a
    have l1 : (i 1).val < 256 := (i 1).isLt
    fin_cases a
    · apply Fin.ext
      show (i 0).val - 256 * t = (i 0).val % 256 % 256
      omega
    · apply Fin.ext
      show (i 1).val - 0 = (i 1).val % 256
      omega
  · next hin =>
    apply hf
    by_contra hc
    apply hin
    have l1 : (i 1).val < 256 := (i 1).isLt
    intro a
    fin_cases a
    · show 256 * t ≤ (i 0).val ∧ (i 0).val < 256 * t + 256
      omega
    · show 0 ≤ (i 1).val ∧ (i 1).val < 0 + 256
      omega

theorem xPiece_eq (X : Vec F S256x18432 .fp8e4m3) {n : ℕ} (h : ∀ a, (![0, n] : Fin 2 → ℕ) a + S256x256.size a ≤ S256x18432.size a) :
    (fun j => X ((Rect.unit (s := S256x18432) ![0, n] S256x256.size h).emb j)) = xPiece X n := by
  funext j
  unfold xPiece
  congr 1
  funext a
  have l0 : (j 0).val < 256 := (j 0).isLt
  have l1 : (j 1).val < 256 := (j 1).isLt
  have := h 1
  change n + 256 ≤ 18432 at this
  fin_cases a
  · apply Fin.ext
    show 0 + 1 * (j 0).val = (j 0).val % 256
    omega
  · apply Fin.ext
    show n + 1 * (j 1).val = (n + (j 1).val) % 18432
    omega

theorem xsRow_eq {r : ℕ} (h : ∀ a, (![r, 0] : Fin 2 → ℕ) a + S1x256.size a ≤ S144x256.size a) :
    (fun j => xstVal I ((Rect.unit (s := S144x256) ![r, 0] S1x256.size h).emb j)) = xsRow I.XS r := by
  funext j
  unfold xsRow xstVal
  congr 1
  apply ixT_congr
  have l0 : (j 0).val < 1 := (j 0).isLt
  intro a
  fin_cases a
  · show 0 + 1 * (j 1).val = (j 1).val
    omega
  · show r + 1 * (j 0).val = r
    omega

theorem xt_read {f : Vec F S18432x256 .bf16} {k t : ℕ} (ht : t < k) (ht' : t < 72) (hf : XtInv I k f) (h : ∀ a, (![256 * t, 0] : Fin 2 → ℕ) a + S256x256.size a ≤ S18432x256.size a) :
    (fun j => f ((Rect.unit (s := S18432x256) ![256 * t, 0] S256x256.size h).emb j)) = XTile I t := by
  funext j
  have l0 : (j 0).val < 256 := (j 0).isLt
  have l1 : (j 1).val < 256 := (j 1).isLt
  have e0 : (((Rect.unit (s := S18432x256) ![256 * t, 0] S256x256.size h).emb j) 0).val = 256 * t + 1 * (j 0).val := rfl
  have e1 : (((Rect.unit (s := S18432x256) ![256 * t, 0] S256x256.size h).emb j) 1).val = 0 + 1 * (j 1).val := rfl
  show f _ = _
  rw [hf _ (by rw [e0]; omega)]
  unfold xtVal
  rw [e0, e1, show (256 * t + 1 * (j 0).val) / 256 = t by omega]
  congr 1
  funext a
  fin_cases a
  · apply Fin.ext
    show (256 * t + 1 * (j 0).val) % 256 % 256 = (j 0).val
    omega
  · apply Fin.ext
    show (0 + 1 * (j 1).val) % 256 = (j 1).val
    omega

/-- The activations a widening reads. -/
abbrev Acts (C : ℕ) : sProp 𝕄 := iprop(pts c xV (colsLt C) I.X ∗ pts c xsT Finset.univ (xstVal I))

theorem wp_widenU {n r0 r1 t C k : ℕ} (hnt : n = 256 * t) (hr0t : r0 = 2 * t) (hr1t : r1 = 2 * t + 1) (hC : n + 256 ≤ C) (ht : t ≤ k)
    (hn : n + 256 ≤ 18432) (h0 : r0 < 144) (h1 : r1 < 144) (hp : (rectXT n hn).PackedRows (EltTy.packing .bf16))
    {m : Mxu F} {g : Option (Mxu.Staged F)}
    {lo hi : Fin 2 → ℕ → Option (FVec F S128x256 .f32)} {ch : ℕ} (hb : Both m none g lo hi ch) (Q : Mxu F → sProp 𝕄) :
    iprop(Acts c I C ∗ Kept c I k) ⊢ iprop((∀ m', ⌜Both m' (some (stg I t)) g lo hi ch⌝ -∗ Acts c I C -∗ Kept c I (max k (t + 1)) -∗ Q m')
      -∗ WP c (widenU n r0 r1 hn h0 h1 hp m) Q) := by
  subst hnt hr0t hr1t
  unfold widenU Prog.lift
  iintro ⟨⟨HX, HS⟩, %f, %hf, HT⟩ Hk
  rw [WP_bind]
  have hS : (xV.access (Rect.unit (s := S256x18432) ![0, 256 * t] S256x256.size (inbX hn))).set ⊆ colsLt C := by
    refine (View.set_slice_whole _ _).subset.trans ?_
    intro i hi
    rw [Rect.mem_set_unit] at hi
    have := hi 1
    change 256 * t ≤ (i 1).val ∧ (i 1).val < 256 * t + 256 at this
    simp only [colsLt, Finset.mem_filter, Finset.mem_univ, true_and]
    omega
  iapply (wp_load_rect Variants.none (c : Thread nD τ) none Set.univ (f := I.X) hS) $$ HX
  iintro HX
  rw [show (xV.access (Rect.unit (s := S256x18432) ![0, 256 * t] S256x256.size (inbX hn))).read (Elt F) I.X = xPiece I.X (256 * t) from xPiece_eq I.X (inbX hn)]
  iapply (WP_pure c)
  rw [WP_bind]
  iapply (wp_load_rect Variants.none (c : Thread nD τ) none Set.univ (m := xsT) (r := Rect.unit (s := S144x256) ![2 * t, 0] S1x256.size (inbXS h0)) (f := xstVal I) (Finset.subset_univ _)) $$ HS
  iintro HS
  rw [show (xsT.access (Rect.unit (s := S144x256) ![2 * t, 0] S1x256.size (inbXS h0))).read (Elt F) (xstVal I) = xsRow I.XS (2 * t) from xsRow_eq I (inbXS h0)]
  iapply (WP_pure c)
  rw [WP_bind]
  iapply (wp_load_rect Variants.none (c : Thread nD τ) none Set.univ (m := xsT) (r := Rect.unit (s := S144x256) ![2 * t + 1, 0] S1x256.size (inbXS h1)) (f := xstVal I) (Finset.subset_univ _)) $$ HS
  iintro HS
  rw [show (xsT.access (Rect.unit (s := S144x256) ![2 * t + 1, 0] S1x256.size (inbXS h1))).read (Elt F) (xstVal I) = xsRow I.XS (2 * t + 1) from xsRow_eq I (inbXS h1)]
  iapply (WP_pure c)
  rw [WP_bind]
  iapply (wp_load_rect Variants.none (c : Thread nD τ) none Set.univ (m := xT) (r := rectXT (256 * t) hn) (f := f) (Finset.subset_univ _)) $$ HT
  iintro HT
  iapply (WP_pure c)
  rw [WP_bind]
  iapply (wp_store Variants.none (c : Thread nD τ) none Set.univ (m := xT) (r := rectXT (256 * t) hn) (f := f) (Finset.subset_univ _)) $$ HT
  iintro HT
  iapply (WP_pure c)
  iapply (wp_pushes c I (t := t) rfl hb)
  iintro %m' %hm'
  iapply Hk $$ %_ %hm' [HX HS]
  · isplitl [HX] <;> iassumption
  iexists _
  isplitr [HT]
  rotate_left
  · iexact HT
  ipureintro
  have e := View.write_whole_slice_unit cc0_scratch3 ![256 * t, 0] S256x256.size (inbXT hn) f (shapeCast S256x256 (XTile I t) shapeCasts_S256x256_S256x256)
  exact e ▸ xt_write I ht (by omega) hf _

theorem wp_fetchU {n t : ℕ} (hnt : n = 256 * t) (hn : n + 256 ≤ 18432)
    {m : Mxu F} {g : Option (Mxu.Staged F)}
    {lo hi : Fin 2 → ℕ → Option (FVec F S128x256 .f32)} {ch : ℕ} (hb : Both m none g lo hi ch) (Q : Mxu F → sProp 𝕄) :
    Kept c I 72 ⊢ iprop((∀ m', ⌜Both m' (some (stg I t)) g lo hi ch⌝ -∗ Kept c I 72 -∗ Q m')
      -∗ WP c (fetchU n hn m) Q) := by
  subst hnt
  unfold fetchU Prog.lift
  iintro ⟨%f, %hf, HT⟩ Hk
  rw [WP_bind]
  iapply (wp_load_rect Variants.none (c : Thread nD τ) none Set.univ (m := xT) (r := rectXT (256 * t) hn) (f := f) (Finset.subset_univ _)) $$ HT
  iintro HT
  iapply (WP_pure c)
  iapply (wp_pushes c I (t := t) (xt_read I (k := 72) (by omega) (by omega) hf (inbXT hn)) hb)
  iintro %m' %hm'
  iapply Hk $$ %_ %hm'
  iexists f
  isplitr [HT]
  · ipureintro; exact hf
  · iexact HT

end Cert.KernelIdeal.Body
end
-- ==== Proof.Run.Tiles.lean ====
/- A tile, and the six tiles of a step: in the first block, in a later block, and the first of a later block, which moves the
   block before out of the accumulators. -/
module

public import proofs.«01_k».proof.Proof.Run.Pass

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

variable (c : Dev nD) (I : In F)

/-- Every chunk's sum after `t` tiles of block `b`. -/
def sm (b t : ℕ) : Fin 2 → ℕ → Option (FVec F S128x256 .f32) := fun q ch => sumO I q b ch t

theorem more_sm (b t : ℕ) : More I b t (sm I b t) (sm I b (t + 1)) := fun _ _ => rfl

/-- Before tile `t` of block `b`: the tile `i` staged, every sum of `t` passes. -/
def St (b t i : ℕ) (m : Mxu F) : Prop := ∃ g, Both m (some (stg I i)) g (sm I b t) (sm I b (t + 1)) 0

theorem kept_mono {k k' : ℕ} (h : k' ≤ k) : Kept c I k ⊢ Kept c I k' := by
  iintro ⟨%f, %hf, H⟩
  iexists f
  isplitr [H]
  · ipureintro; exact fun i hi => hf i (by omega)
  · iexact H

section Tile

variable {T : Finset S4x768x1536.Idx} {b s kk w R k p0 p1 n t' : ℕ} {m : Mxu F}
  (hT : slotSet w ⊆ T) (hRb : R = 6 * b) (hkk : k = 256 * kk) (hp0 : p0 = 2 * (6 * s + kk)) (hp1 : p1 = 2 * (6 * s + kk) + 1)
  (hnt : n = 256 * t')
  (hw : w < 4) (hk : k + 256 ≤ 1536) (hR : R + 6 ≤ 18) (h0 : p0 < 144) (h1 : p1 < 144) (hn : n + 256 ≤ 18432)

include hT hRb hkk hp0 hp1 hnt in
theorem wp_tileA {r0 r1 C K K' : ℕ} (hr0t : r0 = 2 * t') (hr1t : r1 = 2 * t' + 1) (hC : n + 256 ≤ C) (ht : t' ≤ K) (hK : K' ≤ max K (t' + 1))
    (hr0 : r0 < 144) (hr1 : r1 < 144) (hp : (rectXT n hn).PackedRows (EltTy.packing .bf16))
    (hs : St I b (6 * s + kk) (6 * s + kk) m) (Q : Mxu F → sProp 𝕄) :
    iprop(Weights c I T b s ∗ Acts c I C ∗ Kept c I K) ⊢ iprop((∀ m', ⌜St I b (6 * s + kk + 1) t' m'⌝ -∗ iprop(Weights c I T b s ∗ Acts c I C ∗ Kept c I K') -∗ Q m')
      -∗ WP c (tileA w R k p0 p1 n r0 r1 hw hk hR h0 h1 hn hr0 hr1 hp m) Q) := by
  obtain ⟨g, hb⟩ := hs
  unfold tileA
  iintro ⟨HW, HA, HK⟩ Hk
  rw [WP_bind]
  iapply (wp_pair0U c I hT hRb hkk hp0 hp1 hw hk hR h0 h1 (more_sm I b (6 * s + kk)) hb) $$ HW
  iintro %m %hb HW
  rw [WP_bind]
  iapply (wp_widenU c I hnt hr0t hr1t hC ht hn hr0 hr1 hp hb) $$ [HA HK]
  · isplitl [HA] <;> iassumption
  iintro %m %hb HA HK
  rw [WP_bind]
  iapply (wp_pairU c I hT hRb hkk hp0 hp1 hw hk hR h0 h1 _ (more_sm I b (6 * s + kk)) hb) $$ HW
  iintro %m %hb HW
  rw [WP_bind]
  iapply (wp_pairU c I hT hRb hkk hp0 hp1 hw hk hR h0 h1 _ (more_sm I b (6 * s + kk)) hb) $$ HW
  iintro %m %hb HW
  rw [WP_bind]
  iapply (wp_pairU c I hT hRb hkk hp0 hp1 hw hk hR h0 h1 _ (more_sm I b (6 * s + kk)) hb) $$ HW
  iintro %m %hb HW
  rw [WP_bind]
  iapply (wp_pairU c I hT hRb hkk hp0 hp1 hw hk hR h0 h1 _ (more_sm I b (6 * s + kk)) hb) $$ HW
  iintro %m %hb HW
  iapply (wp_pairU c I hT hRb hkk hp0 hp1 hw hk hR h0 h1 _ (more_sm I b (6 * s + kk)) hb) $$ HW
  iintro %m %hb HW
  iapply Hk $$ %_ %(⟨_, hb.next⟩)
  isplitl [HW]; · iexact HW
  isplitl [HA]; · iexact HA
  iapply (kept_mono c I hK) $$ HK

include hT hRb hkk hp0 hp1 hnt in
theorem wp_tileB (hs : St I b (6 * s + kk) (6 * s + kk) m) (Q : Mxu F → sProp 𝕄) :
    iprop(Weights c I T b s ∗ Kept c I 72) ⊢ iprop((∀ m', ⌜St I b (6 * s + kk + 1) t' m'⌝ -∗ iprop(Weights c I T b s ∗ Kept c I 72) -∗ Q m')
      -∗ WP c (tileB w R k p0 p1 n hw hk hR h0 h1 hn m) Q) := by
  obtain ⟨g, hb⟩ := hs
  unfold tileB
  iintro ⟨HW, HK⟩ Hk
  rw [WP_bind]
  iapply (wp_pair0U c I hT hRb hkk hp0 hp1 hw hk hR h0 h1 (more_sm I b (6 * s + kk)) hb) $$ HW
  iintro %m %hb HW
  rw [WP_bind]
  iapply (wp_fetchU c I hnt hn hb) $$ HK
  iintro %m %hb HK
  rw [WP_bind]
  iapply (wp_pairU c I hT hRb hkk hp0 hp1 hw hk hR h0 h1 _ (more_sm I b (6 * s + kk)) hb) $$ HW
  iintro %m %hb HW
  rw [WP_bind]
  iapply (wp_pairU c I hT hRb hkk hp0 hp1 hw hk hR h0 h1 _ (more_sm I b (6 * s + kk)) hb) $$ HW
  iintro %m %hb HW
  rw [WP_bind]
  iapply (wp_pairU c I hT hRb hkk hp0 hp1 hw hk hR h0 h1 _ (more_sm I b (6 * s + kk)) hb) $$ HW
  iintro %m %hb HW
  rw [WP_bind]
  iapply (wp_pairU c I hT hRb hkk hp0 hp1 hw hk hR h0 h1 _ (more_sm I b (6 * s + kk)) hb) $$ HW
  iintro %m %hb HW
  iapply (wp_pairU c I hT hRb hkk hp0 hp1 hw hk hR h0 h1 _ (more_sm I b (6 * s + kk)) hb) $$ HW
  iintro %m %hb HW
  iapply Hk $$ %_ %(⟨_, hb.next⟩)
  isplitl [HW] <;> iassumption

end Tile

/-! ## A step's tiles -/

section Steps

variable {T : Finset S4x768x1536.Idx} {b s w R : ℕ} {P : Fin 6 → Fin 2 → ℕ} {N : Fin 6 → ℕ} {NR : Fin 6 → Fin 2 → ℕ}
  (hT : slotSet w ⊆ T) (hs12 : s < 12) (hRb : R = 6 * b) (hPe : ∀ i j, P i j = 2 * (6 * s + i.val) + j.val) (hNe : ∀ i, N i = 256 * ((6 * s + i.val + 1) % 72))
  (hw : w < 4) (hR : R + 6 ≤ 18) (hP : ∀ i j, P i j < 144) (hN : ∀ i, N i + 256 ≤ 18432)

include hT hs12 hRb hPe hNe in
theorem wp_tilesA {C : ℕ} (hNRe : ∀ i j, NR i j = 2 * ((6 * s + i.val + 1) % 72) + j.val) (hC : ∀ i, N i + 256 ≤ C)
    (hNR : ∀ i j, NR i j < 144) (hp : ∀ i, (rectXT (N i) (hN i)).PackedRows (EltTy.packing .bf16))
    {m : Mxu F} (hs : St I b (6 * s) (6 * s) m) (Q : Mxu F → sProp 𝕄) :
    iprop(Weights c I T b s ∗ Acts c I C ∗ Kept c I (6 * s + 1)) ⊢ iprop((∀ m', ⌜St I b (6 * s + 6) ((6 * s + 6) % 72) m'⌝ -∗ iprop(Weights c I T b s ∗ Acts c I C ∗ Kept c I (min (6 * s + 7) 72)) -∗ Q m')
      -∗ WP c (tilesA w R P N NR hw hR hP hN hNR hp m) Q) := by
  unfold tilesA
  iintro H Hk
  rw [WP_bind]
  iapply (wp_tileA c I (kk := 0) (K' := 6 * s + 2) hT hRb rfl (hPe 0 0) (hPe 0 1) (hNe 0) hw _ hR (hP _ _) (hP _ _) (hN _) (hNRe 0 0) (hNRe 0 1) (hC _) (by omega) (by omega) (hNR _ _) (hNR _ _) (hp _) hs) $$ H
  iintro %m %hs H
  rw [show (6 * s + (0 : Fin 6).val + 1) % 72 = 6 * s + 1 by simp; omega] at hs
  rw [WP_bind]
  iapply (wp_tileA c I (kk := 1) (K' := 6 * s + 3) hT hRb rfl (hPe 1 0) (hPe 1 1) (hNe 1) hw _ hR (hP _ _) (hP _ _) (hN _) (hNRe 1 0) (hNRe 1 1) (hC _) (by simp; omega) (by simp; omega) (hNR _ _) (hNR _ _) (hp _) hs) $$ H
  iintro %m %hs H
  rw [show (6 * s + (1 : Fin 6).val + 1) % 72 = 6 * s + 2 by simp; omega] at hs
  rw [WP_bind]
  iapply (wp_tileA c I (kk := 2) (K' := 6 * s + 4) hT hRb rfl (hPe 2 0) (hPe 2 1) (hNe 2) hw _ hR (hP _ _) (hP _ _) (hN _) (hNRe 2 0) (hNRe 2 1) (hC _) (by simp; omega) (by simp; omega) (hNR _ _) (hNR _ _) (hp _) hs) $$ H
  iintro %m %hs H
  rw [show (6 * s + (2 : Fin 6).val + 1) % 72 = 6 * s + 3 by simp; omega] at hs
  rw [WP_bind]
  iapply (wp_tileA c I (kk := 3) (K' := 6 * s + 5) hT hRb rfl (hPe 3 0) (hPe 3 1) (hNe 3) hw _ hR (hP _ _) (hP _ _) (hN _) (hNRe 3 0) (hNRe 3 1) (hC _) (by simp; omega) (by simp; omega) (hNR _ _) (hNR _ _) (hp _) hs) $$ H
  iintro %m %hs H
  rw [show (6 * s + (3 : Fin 6).val + 1) % 72 = 6 * s + 4 by simp; omega] at hs
  rw [WP_bind]
  iapply (wp_tileA c I (kk := 4) (K' := 6 * s + 6) hT hRb rfl (hPe 4 0) (hPe 4 1) (hNe 4) hw _ hR (hP _ _) (hP _ _) (hN _) (hNRe 4 0) (hNRe 4 1) (hC _) (by simp; omega) (by simp; omega) (hNR _ _) (hNR _ _) (hp _) hs) $$ H
  iintro %m %hs H
  rw [show (6 * s + (4 : Fin 6).val + 1) % 72 = 6 * s + 5 by simp; omega] at hs
  iapply (wp_tileA c I (kk := 5) (K' := min (6 * s + 7) 72) hT hRb rfl (hPe 5 0) (hPe 5 1) (hNe 5) hw _ hR (hP _ _) (hP _ _) (hN _) (hNRe 5 0) (hNRe 5 1) (hC _) (by simp; omega) (by simp; omega) (hNR _ _) (hNR _ _) (hp _) hs) $$ H
  iintro %m %hs H
  iapply Hk $$ %_ %hs H

include hT hs12 hRb hPe hNe in
theorem wp_restB {m : Mxu F} (hs : St I b (6 * s + 1) (6 * s + 1) m) (Q : Mxu F → sProp 𝕄) :
    iprop(Weights c I T b s ∗ Kept c I 72) ⊢ iprop((∀ m', ⌜St I b (6 * s + 6) ((6 * s + 6) % 72) m'⌝ -∗ iprop(Weights c I T b s ∗ Kept c I 72) -∗ Q m')
      -∗ WP c (restB w R P N hw hR hP hN m) Q) := by
  unfold restB
  iintro H Hk
  rw [WP_bind]
  iapply (wp_tileB c I (kk := 1) hT hRb rfl (hPe 1 0) (hPe 1 1) (hNe 1) hw _ hR (hP _ _) (hP _ _) (hN _) hs) $$ H
  iintro %m %hs H
  rw [show (6 * s + (1 : Fin 6).val + 1) % 72 = 6 * s + 2 by simp; omega] at hs
  rw [WP_bind]
  iapply (wp_tileB c I (kk := 2) hT hRb rfl (hPe 2 0) (hPe 2 1) (hNe 2) hw _ hR (hP _ _) (hP _ _) (hN _) hs) $$ H
  iintro %m %hs H
  rw [show (6 * s + (2 : Fin 6).val + 1) % 72 = 6 * s + 3 by simp; omega] at hs
  rw [WP_bind]
  iapply (wp_tileB c I (kk := 3) hT hRb rfl (hPe 3 0) (hPe 3 1) (hNe 3) hw _ hR (hP _ _) (hP _ _) (hN _) hs) $$ H
  iintro %m %hs H
  rw [show (6 * s + (3 : Fin 6).val + 1) % 72 = 6 * s + 4 by simp; omega] at hs
  rw [WP_bind]
  iapply (wp_tileB c I (kk := 4) hT hRb rfl (hPe 4 0) (hPe 4 1) (hNe 4) hw _ hR (hP _ _) (hP _ _) (hN _) hs) $$ H
  iintro %m %hs H
  rw [show (6 * s + (4 : Fin 6).val + 1) % 72 = 6 * s + 5 by simp; omega] at hs
  iapply (wp_tileB c I (kk := 5) hT hRb rfl (hPe 5 0) (hPe 5 1) (hNe 5) hw _ hR (hP _ _) (hP _ _) (hN _) hs) $$ H
  iintro %m %hs H
  iapply Hk $$ %_ %hs H

end Steps

end Cert.KernelIdeal.Body
end
-- ==== Proof.Run.Pops.lean ====
/- The first tile of a later block: each chunk's finished sum moves out to the scratch before the new block's first pass. -/
module

public import proofs.«01_k».proof.Proof.Run.Tiles

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

variable (c : Dev nD) (I : In F)

/-- A block's finished sums of unit `q`, one row of the block per row. -/
def gVal (q : Fin 2) (b : ℕ) : Vec F S768x256 .f32 := fun i => total I q b ((i 0).val / 128) (ixT S128x256 pos_G ![(i 0).val % 128, (i 1).val])

/-- The first `k` chunks are there. -/
def GInv (q : Fin 2) (b k : ℕ) (f : Vec F S768x256 .f32) : Prop := ∀ i, (i 0).val < 128 * k → f i = gVal I q b i

/-- The scratch of block `b`'s finished sums, `k` chunks of each there. -/
abbrev Popped (b k : ℕ) : sProp 𝕄 :=
  iprop((∃ f, ⌜GInv I 0 b k f⌝ ∗ pts c gV Finset.univ f) ∗ (∃ f, ⌜GInv I 1 b k f⌝ ∗ pts c uV Finset.univ f))

theorem popped_zero {b b' k : ℕ} : Popped c I b k ⊢ Popped c I b' 0 := by
  iintro ⟨⟨%f, %hf, HG⟩, %g, %hg, HU⟩
  isplitl [HG]
  · iexists f
    isplitr [HG]
    · ipureintro; exact fun i hi => absurd hi (by omega)
    · iexact HG
  · iexists g
    isplitr [HU]
    · ipureintro; exact fun i hi => absurd hi (by omega)
    · iexact HU

theorem g_write {f : Vec F S768x256 .f32} {q : Fin 2} {b ch : ℕ} (hf : GInv I q b ch f) (h) :
    GInv I q b (ch + 1) (updateSlice f (shapeCast S128x256 (total I q b ch) shapeCasts_S128x256_S128x256) ![128 * ch, 0] h) := by
  intro i hi
  rw [shapeCast_self]
  unfold updateSlice
  split
  · next hin =>
    have h0 := hin 0
    change 128 * ch ≤ (i 0).val ∧ (i 0).val < 128 * ch + 128 at h0
    have e : (i 0).val / 128 = ch := by omega
    unfold gVal
    rw [e]
    congr 1
    funext a
    have l1 : (i 1).val < 256 := (i 1).isLt
    fin_cases a
    · apply Fin.ext
      show (i 0).val - 128 * ch = (i 0).val % 128 % 128
      omega
    · apply Fin.ext
      show (i 1).val - 0 = (i 1).val % 256
      omega
  · next hin =>
    apply hf
    by_contra hc
    apply hin
    have l1 : (i 1).val < 256 := (i 1).isLt
    intro a
    fin_cases a
    · show 128 * ch ≤ (i 0).val ∧ (i 0).val < 128 * ch + 128
      omega
    · show 0 ≤ (i 1).val ∧ (i 1).val < 0 + 256
      omega

theorem wp_popU_g {b ch : ℕ} (hc : ch < 6) {m : Mxu F} (hr : m.read 0 (32 * ch) (fits ch (by omega)) = total I 0 b ch) (Q : Mxu F → sProp 𝕄) :
    iprop(∃ f, ⌜GInv I 0 b ch f⌝ ∗ pts c gV Finset.univ f) ⊢ iprop((iprop(∃ f, ⌜GInv I 0 b (ch + 1) f⌝ ∗ pts c gV Finset.univ f) -∗ Q (m.pop 0 (32 * ch) 128 (fits ch (by omega))))
      -∗ WP c (popU gV 0 ch hc m) Q) := by
  have hch : 128 * ch + 128 ≤ 768 := by omega
  unfold popU Prog.lift
  rw [hr]
  iintro ⟨%f, %hf, HT⟩ Hk
  rw [WP_bind]
  iapply (wp_load_rect Variants.none (c : Thread nD τ) none Set.univ (m := gV) (r := Rect.unit (s := S768x256) ![128 * ch, 0] S128x256.size (inbG hch)) (f := f) (Finset.subset_univ _)) $$ HT
  iintro HT
  iapply (WP_pure c)
  rw [WP_bind]
  iapply (wp_store Variants.none (c : Thread nD τ) none Set.univ (m := gV) (r := Rect.unit (s := S768x256) ![128 * ch, 0] S128x256.size (inbG hch)) (f := f) (Finset.subset_univ _)) $$ HT
  iintro HT
  iapply (WP_pure c)
  iapply (WP_pure c)
  iapply Hk
  iexists _
  isplitr [HT]
  rotate_left
  · iexact HT
  ipureintro
  have e := View.write_whole_slice_unit cc0_scratch8 ![128 * ch, 0] S128x256.size (inbG hch) f (shapeCast S128x256 (total I 0 b ch) shapeCasts_S128x256_S128x256)
  exact e ▸ g_write I hf _

theorem wp_popU_u {b ch : ℕ} (hc : ch < 6) {m : Mxu F} (hr : m.read 1 (32 * ch) (fits ch (by omega)) = total I 1 b ch) (Q : Mxu F → sProp 𝕄) :
    iprop(∃ f, ⌜GInv I 1 b ch f⌝ ∗ pts c uV Finset.univ f) ⊢ iprop((iprop(∃ f, ⌜GInv I 1 b (ch + 1) f⌝ ∗ pts c uV Finset.univ f) -∗ Q (m.pop 1 (32 * ch) 128 (fits ch (by omega))))
      -∗ WP c (popU uV 1 ch hc m) Q) := by
  have hch : 128 * ch + 128 ≤ 768 := by omega
  unfold popU Prog.lift
  rw [hr]
  iintro ⟨%f, %hf, HT⟩ Hk
  rw [WP_bind]
  iapply (wp_load_rect Variants.none (c : Thread nD τ) none Set.univ (m := uV) (r := Rect.unit (s := S768x256) ![128 * ch, 0] S128x256.size (inbG hch)) (f := f) (Finset.subset_univ _)) $$ HT
  iintro HT
  iapply (WP_pure c)
  rw [WP_bind]
  iapply (wp_store Variants.none (c : Thread nD τ) none Set.univ (m := uV) (r := Rect.unit (s := S768x256) ![128 * ch, 0] S128x256.size (inbG hch)) (f := f) (Finset.subset_univ _)) $$ HT
  iintro HT
  iapply (WP_pure c)
  iapply (WP_pure c)
  iapply Hk
  iexists _
  isplitr [HT]
  rotate_left
  · iexact HT
  ipureintro
  have e := View.write_whole_slice_unit cc0_scratch9 ![128 * ch, 0] S128x256.size (inbG hch) f (shapeCast S128x256 (total I 1 b ch) shapeCasts_S128x256_S128x256)
  exact e ▸ g_write I hf _

/-- The old block's sums still in the accumulators. -/
def Old (b : ℕ) (lo : Fin 2 → ℕ → Option (FVec F S128x256 .f32)) : Prop := ∀ q ch, lo q ch = some (total I q b ch)

theorem fresh_mix {lo hi : ℕ → Option (FVec F S128x256 .f32)} {ch : ℕ} {p : FVec F S128x256 .f32} (h : hi ch = some p) :
    Function.update (Function.update (mixF lo hi ch) ch none) ch (some (dep (Function.update (mixF lo hi ch) ch none ch) p)) = mixF lo hi (ch + 1) := by
  rw [Function.update_idem, Function.update_self, show some (dep none p) = hi ch from h.symm, mixF_update]

section Pair

variable {T : Finset S4x768x1536.Idx} {b' b s kk w R ch k p0 p1 n t' : ℕ} {lo hi : Fin 2 → ℕ → Option (FVec F S128x256 .f32)} {m : Mxu F}
  {r g : Option (Mxu.Staged F)}
  (hT : slotSet w ⊆ T) (hRb : R = 6 * b) (hkk : k = 256 * kk) (hp0 : p0 = 2 * (6 * s + kk)) (hp1 : p1 = 2 * (6 * s + kk) + 1)
  (hw : w < 4) (hk : k + 256 ≤ 1536) (hR : R + 6 ≤ 18) (h0 : p0 < 144) (h1 : p1 < 144)

include hT hRb hkk hp0 hp1 in
theorem wp_popPairU (hc : ch < 6) (hm : Fresh I b (6 * s + kk) hi) (ho : Old I b' lo) (hb : Both m r (some (stg I (6 * s + kk))) lo hi ch) (Q : Mxu F → sProp 𝕄) :
    iprop(Weights c I T b s ∗ Popped c I b' ch) ⊢ iprop((∀ m', ⌜Both m' r (some (stg I (6 * s + kk))) lo hi (ch + 1)⌝ -∗ iprop(Weights c I T b s ∗ Popped c I b' (ch + 1)) -∗ Q m')
      -∗ WP c (popPairU w R ch k p0 p1 hw hc hk hR h0 h1 m) Q) := by
  unfold popPairU
  iintro ⟨⟨HG, HU⟩, HPG, HPU⟩ Hk
  rw [WP_bind]
  iapply (wp_popU_g c I (b := b') hc ((hb 0).read hc (v := total I 0 b' ch) (by rw [mixF_at, ho]) (fits ch (by omega)))) $$ HPG
  iintro HPG
  have a0 := (hb 0).pop (le_refl _) hc (fits ch (by omega))
  have a1 := (hb 1).pop_ne (q' := 0) (by decide) (fits ch (by omega))
  rw [WP_bind]
  iapply (wp_lhs_g c I.WG I.WGS hT hRb hkk hp0 hp1 hw hc hk hR h0 h1) $$ HG
  iintro HG
  rw [WP_bind]
  iapply (wp_loaded c _ (fits ch (by omega)) a0.gmr)
  have b0 := a0.accBy (by omega) hc (stg I (6 * s + kk)) (Lh I.WG I.WGS b (6 * s + kk) ch) (fits ch (by omega))
  have b1 := a1.accBy_ne (q' := 0) (by decide) (stg I (6 * s + kk)) (Lh I.WG I.WGS b (6 * s + kk) ch) (fits ch (by omega))
  rw [fresh_mix (p := (stg I (6 * s + kk)).pass (Lh I.WG I.WGS b (6 * s + kk) ch)) (hm 0 ch)] at b0
  rw [WP_bind]
  iapply (wp_popU_u c I (b := b') hc (b1.read hc (v := total I 1 b' ch) (by rw [mixF_at, ho]) (fits ch (by omega)))) $$ HPU
  iintro HPU
  have d0 := b0.pop_ne (q' := 1) (by decide) (fits ch (by omega))
  have d1 := b1.pop (le_refl _) hc (fits ch (by omega))
  rw [WP_bind]
  iapply (wp_lhs_u c I.WU I.WUS hT hRb hkk hp0 hp1 hw hc hk hR h0 h1) $$ HU
  iintro HU
  have c0 := d0.accBy_ne (q' := 1) (by decide) (stg I (6 * s + kk)) (Lh I.WU I.WUS b (6 * s + kk) ch) (fits ch (by omega))
  have c1 := d1.accBy (by omega) hc (stg I (6 * s + kk)) (Lh I.WU I.WUS b (6 * s + kk) ch) (fits ch (by omega))
  rw [fresh_mix (p := (stg I (6 * s + kk)).pass (Lh I.WU I.WUS b (6 * s + kk) ch)) (hm 1 ch)] at c1
  iapply (wp_loaded c _ (fits ch (by omega)) d1.gmr)
  iapply Hk $$ %_ []
  · ipureintro
    intro q
    fin_cases q
    · exact c0
    · exact c1
  isplitl [HG HU]
  · isplitl [HG] <;> iassumption
  · isplitl [HPG] <;> iassumption

include hT hRb hkk hp0 hp1 in
theorem wp_popPair0U (hm : Fresh I b (6 * s + kk) hi) (ho : Old I b' lo) (hb : Both m (some (stg I (6 * s + kk))) g lo hi 0) (Q : Mxu F → sProp 𝕄) :
    iprop(Weights c I T b s ∗ Popped c I b' 0) ⊢ iprop((∀ m', ⌜Both m' none (some (stg I (6 * s + kk))) lo hi 1⌝ -∗ iprop(Weights c I T b s ∗ Popped c I b' 1) -∗ Q m')
      -∗ WP c (popPair0U w R k p0 p1 hw hk hR h0 h1 m) Q) := by
  unfold popPair0U
  iintro ⟨⟨HG, HU⟩, HPG, HPU⟩ Hk
  rw [WP_bind]
  iapply (wp_popU_g c I (b := b') (ch := 0) _ ((hb 0).read (ch := 0) (by decide) (v := total I 0 b' 0) (by rw [mixF_at, ho]) (fits 0 (by omega)))) $$ HPG
  iintro HPG
  have a0 := (hb 0).pop (le_refl _) (ch := 0) (by decide) (fits 0 (by omega))
  have a1 := (hb 1).pop_ne (q' := 0) (by decide) (fits 0 (by omega))
  rw [WP_bind]
  iapply (wp_lhs_g c I.WG I.WGS hT hRb hkk hp0 hp1 hw _ hk hR h0 h1) $$ HG
  iintro HG
  have b0 := a0.accLhs (by omega) (ch := 0) (by decide) (Lh I.WG I.WGS b (6 * s + kk) 0) (fits 0 (by omega))
  have b1 := a1.accLhs_ne (q' := 0) (by decide) (Lh I.WG I.WGS b (6 * s + kk) 0) (fits 0 (by omega))
  rw [fresh_mix (p := (stg I (6 * s + kk)).pass (Lh I.WG I.WGS b (6 * s + kk) 0)) (hm 0 0)] at b0
  rw [WP_bind]
  iapply (wp_popU_u c I (b := b') (ch := 0) _ (b1.read (ch := 0) (by decide) (v := total I 1 b' 0) (by rw [mixF_at, ho]) (fits 0 (by omega)))) $$ HPU
  iintro HPU
  have d0 := b0.pop_ne (q' := 1) (by decide) (fits 0 (by omega))
  have d1 := b1.pop (le_refl _) (ch := 0) (by decide) (fits 0 (by omega))
  rw [WP_bind]
  iapply (wp_lhs_u c I.WU I.WUS hT hRb hkk hp0 hp1 hw _ hk hR h0 h1) $$ HU
  iintro HU
  have c0 := d0.accLhs_ne (q' := 1) (by decide) (Lh I.WU I.WUS b (6 * s + kk) 0) (fits 0 (by omega))
  have c1 := d1.accLhs (by omega) (ch := 0) (by decide) (Lh I.WU I.WUS b (6 * s + kk) 0) (fits 0 (by omega))
  rw [fresh_mix (p := (stg I (6 * s + kk)).pass (Lh I.WU I.WUS b (6 * s + kk) 0)) (hm 1 0)] at c1
  iapply (WP_pure c)
  iapply Hk $$ %_ []
  · ipureintro
    intro q
    fin_cases q
    · exact c0
    · exact c1
  isplitl [HG HU]
  · isplitl [HG] <;> iassumption
  · isplitl [HPG] <;> iassumption

/-- Between two blocks: the old block's sums whole, the first tile staged. -/
def StOld (b : ℕ) (m : Mxu F) : Prop := St I b 72 0 m

theorem old_sm (b : ℕ) : Old I b (sm I b 72) := fun _ _ => rfl
theorem fresh_sm (b : ℕ) : Fresh I b 0 (sm I b 1) := fun _ _ => rfl

include hT hRb in
theorem wp_tileB0 (hs : St I b' 72 0 m) (hn : 256 + 256 ≤ 18432) (h00 : 0 < 144) (h01 : 1 < 144) (h00' : 0 + 256 ≤ 1536) (Q : Mxu F → sProp 𝕄) :
    iprop(Weights c I T b 0 ∗ Popped c I b' 0 ∗ Kept c I 72) ⊢ iprop((∀ m', ⌜St I b 1 1 m'⌝ -∗ iprop(Weights c I T b 0 ∗ Popped c I b' 6 ∗ Kept c I 72) -∗ Q m')
      -∗ WP c (tileB0 w R 0 0 1 256 hw h00' hR h00 h01 hn m) Q) := by
  obtain ⟨g, hb⟩ := hs
  replace hb : Both m (some (stg I (6 * 0 + 0))) g (sm I b' 72) (sm I b 1) 0 := fun q => (hb q).congr fun c hc => by simp [mixF]
  unfold tileB0
  iintro ⟨HW, HP, HK⟩ Hk
  rw [WP_bind]
  iapply (wp_popPair0U c I (s := 0) (kk := 0) hT hRb rfl rfl rfl hw h00' hR h00 h01 (fresh_sm I b) (old_sm I b') hb) $$ [HW HP]
  · isplitl [HW] <;> iassumption
  iintro %m %hb ⟨HW, HP⟩
  rw [WP_bind]
  iapply (wp_fetchU c I (t := 1) rfl hn hb) $$ HK
  iintro %m %hb HK
  rw [WP_bind]
  iapply (wp_popPairU c I (s := 0) (kk := 0) (ch := 1) hT hRb rfl rfl rfl hw h00' hR h00 h01 _ (fresh_sm I b) (old_sm I b') hb) $$ [HW HP]
  · isplitl [HW] <;> iassumption
  iintro %m %hb ⟨HW, HP⟩
  rw [WP_bind]
  iapply (wp_popPairU c I (s := 0) (kk := 0) (ch := 2) hT hRb rfl rfl rfl hw h00' hR h00 h01 _ (fresh_sm I b) (old_sm I b') hb) $$ [HW HP]
  · isplitl [HW] <;> iassumption
  iintro %m %hb ⟨HW, HP⟩
  rw [WP_bind]
  iapply (wp_popPairU c I (s := 0) (kk := 0) (ch := 3) hT hRb rfl rfl rfl hw h00' hR h00 h01 _ (fresh_sm I b) (old_sm I b') hb) $$ [HW HP]
  · isplitl [HW] <;> iassumption
  iintro %m %hb ⟨HW, HP⟩
  rw [WP_bind]
  iapply (wp_popPairU c I (s := 0) (kk := 0) (ch := 4) hT hRb rfl rfl rfl hw h00' hR h00 h01 _ (fresh_sm I b) (old_sm I b') hb) $$ [HW HP]
  · isplitl [HW] <;> iassumption
  iintro %m %hb ⟨HW, HP⟩
  iapply (wp_popPairU c I (s := 0) (kk := 0) (ch := 5) hT hRb rfl rfl rfl hw h00' hR h00 h01 _ (fresh_sm I b) (old_sm I b') hb) $$ [HW HP]
  · isplitl [HW] <;> iassumption
  iintro %m %hb ⟨HW, HP⟩
  iapply Hk $$ %_ %(⟨_, hb.next⟩)
  isplitl [HW]; · iexact HW
  isplitl [HP] <;> iassumption

end Pair

end Cert.KernelIdeal.Body
end
-- ==== Proof.Body.Whole.lean ====
/- The beginning, the straight steps and the end, and the whole body. -/
module

public import proofs.«01_k».proof.Proof.Body.Steps2

@[expose] public section

noncomputable section

namespace Cert.KernelIdeal.Body

open Idealize.ShloMosaic Idealize.ShloMosaic.TcCoe
open Idealize.SL Idealize.SL.Sem
open Cert.KernelIdeal.Gen

variable {F : FTy → Type} [FloatOps F]

/-- Start the weight blocks of step 0. -/
def wStarts0 : PM (F := F) PUnit :=
  wStarts (k0_off1 0#32) (k0_off4 0#32) (k0_off1_inb 0) (k0_off4_inb 0) (k0_off2 0#32) (k0_off2_inb 0) (k0_off3 0#32 0#32) (k0_off3_inb 0)
    ((Memref.isWhole_whole main_arg2).wordExact_slice rfl _ (k0_off3_wordsfp8e4m3 0)) (((Memref.isWhole_whole cc0_scratch4).wordExact_slice rfl _ (k0_off2_wordsfp8e4m3 0)).reshape _ _)
    ((Memref.isWhole_whole main_arg4).wordExact_slice rfl _ (k0_off3_wordsfp8e4m3 0)) (((Memref.isWhole_whole cc0_scratch5).wordExact_slice rfl _ (k0_off2_wordsfp8e4m3 0)).reshape _ _)

/-- Start the weight blocks of step 1. -/
def wStarts1 : PM (F := F) PUnit :=
  wStarts (k0_off1 1#32) (k0_off4 1#32) (k0_off1_inb 1) (k0_off4_inb 1) (k0_off2 1#32) (k0_off2_inb 1) (k0_off3 1#32 1#32) (k0_off3_inb 1)
    ((Memref.isWhole_whole main_arg2).wordExact_slice rfl _ (k0_off3_wordsfp8e4m3 1)) (((Memref.isWhole_whole cc0_scratch4).wordExact_slice rfl _ (k0_off2_wordsfp8e4m3 1)).reshape _ _)
    ((Memref.isWhole_whole main_arg4).wordExact_slice rfl _ (k0_off3_wordsfp8e4m3 1)) (((Memref.isWhole_whole cc0_scratch5).wordExact_slice rfl _ (k0_off2_wordsfp8e4m3 1)).reshape _ _)

/-- Start the weight blocks of step 2. -/
def wStarts2 : PM (F := F) PUnit :=
  wStarts (k0_off1 2#32) (k0_off4 2#32) (k0_off1_inb 2) (k0_off4_inb 2) (k0_off2 2#32) (k0_off2_inb 2) (k0_off3 2#32 2#32) (k0_off3_inb 2)
    ((Memref.isWhole_whole main_arg2).wordExact_slice rfl _ (k0_off3_wordsfp8e4m3 2)) (((Memref.isWhole_whole cc0_scratch4).wordExact_slice rfl _ (k0_off2_wordsfp8e4m3 2)).reshape _ _)
    ((Memref.isWhole_whole main_arg4).wordExact_slice rfl _ (k0_off3_wordsfp8e4m3 2)) (((Memref.isWhole_whole cc0_scratch5).wordExact_slice rfl _ (k0_off2_wordsfp8e4m3 2)).reshape _ _)

/-- Start the weight blocks of step 3. -/
def wStarts3 : PM (F := F) PUnit :=
  wStarts (k0_off1 3#32) (k0_off4 3#32) (k0_off1_inb 3) (k0_off4_inb 3) (k0_off2 3#32) (k0_off2_inb 3) (k0_off3 3#32 3#32) (k0_off3_inb 3)
    ((Memref.isWhole_whole main_arg2).wordExact_slice rfl _ (k0_off3_wordsfp8e4m3 3)) (((Memref.isWhole_whole cc0_scratch4).wordExact_slice rfl _ (k0_off2_wordsfp8e4m3 3)).reshape _ _)
    ((Memref.isWhole_whole main_arg4).wordExact_slice rfl _ (k0_off3_wordsfp8e4m3 3)) (((Memref.isWhole_whole cc0_scratch5).wordExact_slice rfl _ (k0_off2_wordsfp8e4m3 3)).reshape _ _)

/-- Start the weight blocks of step 15. -/
def wStarts15 : PM (F := F) PUnit :=
  wStarts (k0_off1 15#32) (k0_off4 15#32) (k0_off1_inb 5) (k0_off4_inb 5) (k0_off2 15#32) (k0_off2_inb 5) (k0_off3 15#32 15#32) (k0_off3_inb 5)
    ((Memref.isWhole_whole main_arg2).wordExact_slice rfl _ (k0_off3_wordsfp8e4m3 5)) (((Memref.isWhole_whole cc0_scratch4).wordExact_slice rfl _ (k0_off2_wordsfp8e4m3 5)).reshape _ _)
    ((Memref.isWhole_whole main_arg4).wordExact_slice rfl _ (k0_off3_wordsfp8e4m3 5)) (((Memref.isWhole_whole cc0_scratch5).wordExact_slice rfl _ (k0_off2_wordsfp8e4m3 5)).reshape _ _)

/-- Start the weight blocks of step 27. -/
def wStarts27 : PM (F := F) PUnit :=
  wStarts (k0_off1 27#32) (k0_off4 27#32) (k0_off1_inb 7) (k0_off4_inb 7) (k0_off2 27#32) (k0_off2_inb 7) (k0_off3 27#32 27#32) (k0_off3_inb 7)
    ((Memref.isWhole_whole main_arg2).wordExact_slice rfl _ (k0_off3_wordsfp8e4m3 7)) (((Memref.isWhole_whole cc0_scratch4).wordExact_slice rfl _ (k0_off2_wordsfp8e4m3 7)).reshape _ _)
    ((Memref.isWhole_whole main_arg4).wordExact_slice rfl _ (k0_off3_wordsfp8e4m3 7)) (((Memref.isWhole_whole cc0_scratch5).wordExact_slice rfl _ (k0_off2_wordsfp8e4m3 7)).reshape _ _)

/-- Wait for the weight blocks of step 0. -/
def wWaits0 : PM (F := F) PUnit :=
  wWaits (k0_off1 0#32) (k0_off4 0#32) (k0_off1_inb 0) (k0_off4_inb 0) (k0_off2 0#32) (k0_off2_inb 0) (k0_off3 0#32 0#32) (k0_off3_inb 0)
    ((Memref.isWhole_whole main_arg2).wordExact_slice rfl _ (k0_off3_wordsfp8e4m3 0)) (((Memref.isWhole_whole cc0_scratch4).wordExact_slice rfl _ (k0_off2_wordsfp8e4m3 0)).reshape _ _)
    ((Memref.isWhole_whole main_arg4).wordExact_slice rfl _ (k0_off3_wordsfp8e4m3 0)) (((Memref.isWhole_whole cc0_scratch5).wordExact_slice rfl _ (k0_off2_wordsfp8e4m3 0)).reshape _ _)

/-- Wait for the weight blocks of step 12. -/
def wWaits12 : PM (F := F) PUnit :=
  wWaits (k0_off1 12#32) (k0_off4 12#32) (k0_off1_inb 4) (k0_off4_inb 4) (k0_off2 12#32) (k0_off2_inb 4) (k0_off3 12#32 12#32) (k0_off3_inb 4)
    ((Memref.isWhole_whole main_arg2).wordExact_slice rfl _ (k0_off3_wordsfp8e4m3 4)) (((Memref.isWhole_whole cc0_scratch4).wordExact_slice rfl _ (k0_off2_wordsfp8e4m3 4)).reshape _ _)
    ((Memref.isWhole_whole main_arg4).wordExact_slice rfl _ (k0_off3_wordsfp8e4m3 4)) (((Memref.isWhole_whole cc0_scratch5).wordExact_slice rfl _ (k0_off2_wordsfp8e4m3 4)).reshape _ _)

/-- Wait for the weight blocks of step 24. -/
def wWaits24 : PM (F := F) PUnit :=
  wWaits (k0_off1 24#32) (k0_off4 24#32) (k0_off1_inb 6) (k0_off4_inb 6) (k0_off2 24#32) (k0_off2_inb 6) (k0_off3 24#32 24#32) (k0_off3_inb 6)
    ((Memref.isWhole_whole main_arg2).wordExact_slice rfl _ (k0_off3_wordsfp8e4m3 6)) (((Memref.isWhole_whole cc0_scratch4).wordExact_slice rfl _ (k0_off2_wordsfp8e4m3 6)).reshape _ _)
    ((Memref.isWhole_whole main_arg4).wordExact_slice rfl _ (k0_off3_wordsfp8e4m3 6)) (((Memref.isWhole_whole cc0_scratch5).wordExact_slice rfl _ (k0_off2_wordsfp8e4m3 6)).reshape _ _)

theorem inb12 (i : Fin 12) : ∀ a, (![i.val] : Fin 1 → ℕ) a + S1.size a ≤ S12.size a := by
  intro a; fin_cases a; simp [S1, S12]; omega
theorem inbXC (i : Fin 12) : ∀ a, (![0, 1536 * i.val] : Fin 2 → ℕ) a + S256x1536.size a ≤ S256x18432.size a := by
  intro a; fin_cases a <;> simp [S256x1536, S256x18432] <;> omega
theorem wordsXC : ∀ i : Fin 12, (Rect.unit (s := S256x18432) ![0, 1536 * i.val] S256x1536.size (inbXC i)).WholeWords (EltTy.packing .fp8e4m3) := by decide

/-- Start the `i`-th piece of the activations. -/
def xStartN (i : Fin 12) : PM (F := F) PUnit :=
  xStart ![i.val] (inb12 i) ![0, 1536 * i.val] (inbXC i)
    ((Memref.isWhole_whole main_v0).wordExact_slice rfl _ (wordsXC i)) ((Memref.isWhole_whole cc0_scratch0).wordExact_slice rfl _ (wordsXC i))
def xWaitN (i : Fin 12) : PM (F := F) PUnit :=
  xWait ![i.val] (inb12 i) ![0, 1536 * i.val] (inbXC i)
    ((Memref.isWhole_whole main_v0).wordExact_slice rfl _ (wordsXC i)) ((Memref.isWhole_whole cc0_scratch0).wordExact_slice rfl _ (wordsXC i))

theorem inb3 (i : Fin 3) : ∀ a, (![i.val] : Fin 1 → ℕ) a + S1.size a ≤ S3.size a := by
  intro a; fin_cases a; simp [S1, S3]; omega
theorem inb4 (i : Fin 4) : ∀ a, (![i.val] : Fin 1 → ℕ) a + S1.size a ≤ S4.size a := by
  intro a; fin_cases a; simp [S1, S4]; omega

abbrev sSem (i : Fin 3) : DmaSem sig := ((cc0_scratch15.slice (Rect.unit (s := S3) ![i.val] S1.size (inb3 i))).squeeze S_ squeezes_S1_S_).sem
abbrev oSem (i : Fin 4) : DmaSem sig := ((cc0_scratch16.slice (Rect.unit (s := S4) ![i.val] S1.size (inb4 i))).squeeze S_ squeezes_S1_S_).sem

/-- Start the three copies of scales. -/
def sStarts : PM (F := F) PUnit := do
  Prog.lift (.enqueueDma xsH (.here xsV) (.dma (sSem 0)) (Memref.isWhole_whole _).wordExact (Memref.isWhole_whole _).wordExact ⟨Or.inl rfl, trivial⟩)
  Prog.lift (.enqueueDma wgsH (.here wgS) (.dma (sSem 1)) (Memref.isWhole_whole _).wordExact (Memref.isWhole_whole _).wordExact ⟨Or.inl rfl, trivial⟩)
  Prog.lift (.enqueueDma wusH (.here wuS) (.dma (sSem 2)) (Memref.isWhole_whole _).wordExact (Memref.isWhole_whole _).wordExact ⟨Or.inl rfl, trivial⟩)
def sWaits : PM (F := F) PUnit := do
  Prog.lift (.waitDma2 (sSem 0) xsH xsV (Memref.isWhole_whole _).wordExact (Memref.isWhole_whole _).wordExact)
  Prog.lift (.waitDma2 (sSem 1) wgsH wgS (Memref.isWhole_whole _).wordExact (Memref.isWhole_whole _).wordExact)
  Prog.lift (.waitDma2 (sSem 2) wusH wuS (Memref.isWhole_whole _).wordExact (Memref.isWhole_whole _).wordExact)

/-- The activations' scales, transposed. -/
def xsTr : PM (F := F) PUnit := do
  let v : Vec F S256x128 .f32 ← Prog.lift (.load xsV (Rect.unit (s := S256x144) ![0, 0] S256x128.size inb_S256x144_S256x128_0_0).toLoadRect (View.loadsAt_vmem h_S256x128))
  let _ ← Prog.lift (.load xsT (Rect.unit (s := S144x256) ![0, 0] S128x256.size inb_S144x256_S128x256_0_0).toLoadRect (View.loadsAt_vmem h_S128x256))
  Prog.lift (.store xsT (Rect.unit (s := S144x256) ![0, 0] S128x256.size inb_S144x256_S128x256_0_0)
    (shapeCast S128x256 (transpose S128x256 [1, 0] v transposes_S256x128_p1_0_S128x256 : FVec F S128x256 .f32) shapeCasts_S128x256_S128x256) Finset.univ (View.stores_vmem_bits_univ h_S128x256 rfl) (.inl rfl))
  let v : Vec F S256x16 .f32 ← Prog.lift (.load xsV (Rect.unit (s := S256x144) ![0, 128] S256x16.size inb_S256x144_S256x16_0_128).toLoadRect (View.loadsAt_vmem h_S256x16))
  let _ ← Prog.lift (.load xsT (Rect.unit (s := S144x256) ![128, 0] S16x256.size inb_S144x256_S16x256_128_0).toLoadRect (View.loadsAt_vmem h_S16x256))
  Prog.lift (.store xsT (Rect.unit (s := S144x256) ![128, 0] S16x256.size inb_S144x256_S16x256_128_0)
    (shapeCast S16x256 (transpose S16x256 [1, 0] v transposes_S256x16_p1_0_S16x256 : FVec F S16x256 .f32) shapeCasts_S16x256_S16x256) Finset.univ (View.stores_vmem_bits_univ h_S16x256 rfl) (.inl rfl))

abbrev PA (i : Fin 6) (j : Fin 2) : ℕ := 2 * i.val + j.val
abbrev NA (i : Fin 6) : ℕ := 256 * (i.val + 1)
abbrev NRA (i : Fin 6) (j : Fin 2) : ℕ := 2 * (i.val + 1) + j.val
theorem PA_lt (i : Fin 6) (j : Fin 2) : PA i j < 144 := by unfold PA; omega
theorem NA_lt (i : Fin 6) : NA i + 256 ≤ 18432 := by unfold NA; omega
theorem NRA_lt (i : Fin 6) (j : Fin 2) : NRA i j < 144 := by unfold NRA; omega
theorem NA_packed : ∀ i, (rectXT (NA i) (NA_lt i)).PackedRows (EltTy.packing .bf16) := by decide +kernel

/-- Everything before the first block's later steps. -/
def beginU : PM (F := F) (Mxu F) := do
  xStartN 0
  sStarts
  wStarts0
  xStartN 1
  wStarts1
  xStartN 2
  wStarts2
  xStartN 3
  xStartN 4
  xStartN 5
  xStartN 6
  xStartN 7
  xStartN 8
  xStartN 9
  xStartN 10
  xStartN 11
  sWaits
  xsTr
  xWaitN 0
  let m ← widenU 0 0 1 (by omega) (by omega) (by omega) (by decide +kernel) Mxu.init
  wWaits0
  xWaitN 1
  wStarts3
  tilesA 0 0 PA NA NRA (by omega) (by omega) PA_lt NA_lt NRA_lt NA_packed m

/-- The tiles of a later block's first step, and the piece it quantises. -/
def firstB (R c n : ℕ) (hR : R + 6 ≤ 18) (hc : c + 128 ≤ 2304) (hn : n < 18)
    (hp : (rectC 0 c (by omega) hc).PackedRows (EltTy.packing .fp8e4m3)) (m : Mxu F) : PM (F := F) (Mxu F) := do
  let m ← tileB0 0 R 0 0 1 256 (by omega) (by omega) hR (by omega) (by omega) (by omega) m
  let m ← restB 0 R PA NA (by omega) hR PA_lt NA_lt m
  epiU 0 0 c n (by omega) (by omega) hc hn hp
  pure m

abbrev oSrc (b : Fin 3) (h : ∀ a, (![0, 768 * b.val] : Fin 2 → ℕ) a + S256x768.size a ≤ S256x2304.size a) : Memref sig .tc .vmem S256x768 .fp8e4m3 :=
  cdV.slice (Rect.unit (s := S256x2304) ![0, 768 * b.val] S256x768.size h) (fun _ => rfl)
abbrev oDst (b : Fin 3) (h : ∀ a, (![0, 768 * b.val] : Fin 2 → ℕ) a + S256x768.size a ≤ S256x2304.size a) : Memref sig .tc .hbm S256x768 .fp8e4m3 :=
  cdH.slice (Rect.unit (s := S256x2304) ![0, 768 * b.val] S256x768.size h) (fun _ => rfl)
theorem inbO (b : Fin 3) : ∀ a, (![0, 768 * b.val] : Fin 2 → ℕ) a + S256x768.size a ≤ S256x2304.size a := by
  intro a; fin_cases a <;> simp [S256x768, S256x2304] <;> omega
theorem wordsO : ∀ b : Fin 3, (Rect.unit (s := S256x2304) ![0, 768 * b.val] S256x768.size (inbO b)).WholeWords (EltTy.packing .fp8e4m3) := by decide

/-- Send block `b`'s codes off. -/
def oStart (b : Fin 3) : PM (F := F) PUnit :=
  Prog.lift (.enqueueDma (oSrc b (inbO b)) (.here (oDst b (inbO b))) (.dma (oSem b.castSucc))
    ((Memref.isWhole_whole cc0_scratch10).wordExact_slice rfl _ (wordsO b)) ((Memref.isWhole_whole main_v2_0).wordExact_slice rfl _ (wordsO b)) ⟨Or.inl rfl, trivial⟩)
def oWait (b : Fin 3) : PM (F := F) PUnit :=
  Prog.lift (.waitDma2 (oSem b.castSucc) (oSrc b (inbO b)) (oDst b (inbO b))
    ((Memref.isWhole_whole cc0_scratch10).wordExact_slice rfl _ (wordsO b)) ((Memref.isWhole_whole main_v2_0).wordExact_slice rfl _ (wordsO b)))

/-- The last block's chunk `ch`: its sums out of the accumulators and both halves quantised. -/
def lastU (ch : ℕ) (hc : ch < 6) (hp : ∀ i : Fin 2, (rectC (128 * i.val) (1536 + 128 * ch) (by omega) (by omega)).PackedRows (EltTy.packing .fp8e4m3))
    (m : Mxu F) : PM (F := F) (Mxu F) := do
  let g : FVec F S128x256 .f32 := m.read 0 (32 * ch) (fits ch (by omega))
  let m := m.pop 0 (32 * ch) 128 (fits ch (by omega))
  let u : FVec F S128x256 .f32 := m.read 1 (32 * ch) (fits ch (by omega))
  let m := m.pop 1 (32 * ch) 128 (fits ch (by omega))
  keepU (hOf (extractStridedSlice S128x128 ![0, 0] g slices_S128x256_o0_0_S128x128) (extractStridedSlice S128x128 ![0, 0] u slices_S128x256_o0_0_S128x128))
    0 (1536 + 128 * ch) (12 + ch) (by omega) (by omega) (by omega) (hp 0)
  keepU (hOf (extractStridedSlice S128x128 ![0, 128] g slices_S128x256_o0_128_S128x128) (extractStridedSlice S128x128 ![0, 128] u slices_S128x256_o0_128_S128x128))
    128 (1536 + 128 * ch) (12 + ch) (by omega) (by omega) (by omega) (hp 1)
  pure m

/-- The last tile's staged copy is taken out of both units by a pass of zeros. -/
def drainIn (m : Mxu F) : Mxu F :=
  let m := m.accLhs 0 0 192 (broadcast S16x256 (Scalar.ofBits .bf16 0x0000#16) : FVec F S16x256 .bf16) fits_192_16
  m.accLhs 1 0 192 (broadcast S16x256 (Scalar.ofBits .bf16 0x0000#16) : FVec F S16x256 .bf16) fits_192_16

def lastsU (m : Mxu F) : PM (F := F) (Mxu F) := do
  let m ← lastU 0 (by omega) (by decide +kernel) m
  let m ← lastU 1 (by omega) (by decide +kernel) m
  let m ← lastU 2 (by omega) (by decide +kernel) m
  let m ← lastU 3 (by omega) (by decide +kernel) m
  let m ← lastU 4 (by omega) (by decide +kernel) m
  lastU 5 (by omega) (by decide +kernel) m

/-- The scales, transposed for the way out. -/
def scTr : PM (F := F) PUnit := do
  let v : Vec F S18x1x256 .f32 ← Prog.lift (.load scT (Rect.unit (s := S18x1x256) ![0, 0, 0] S18x1x256.size inb_S18x1x256_S18x1x256_0_0_0).toLoadRect (View.loadsAt_vmem h_S18x1x256))
  let _ ← Prog.lift (.load scV (Rect.unit (s := S256x18) ![0, 0] S256x18.size inb_S256x18_S256x18_0_0).toLoadRect (View.loadsAt_vmem h_S256x18))
  Prog.lift (.store scV (Rect.unit (s := S256x18) ![0, 0] S256x18.size inb_S256x18_S256x18_0_0)
    (shapeCast S256x18 (transpose S256x18 [1, 0] (shapeCast S18x256 v shapeCasts_S18x1x256_S18x256 : FVec F S18x256 .f32) transposes_S18x256_p1_0_S256x18 : FVec F S256x18 .f32) shapeCasts_S256x18_S256x18) Finset.univ
    (View.stores_vmem_bits_univ h_S256x18 rfl) (.inl rfl))

def scStart : PM (F := F) PUnit :=
  Prog.lift (.enqueueDma scV (.here scH) (.dma (oSem 3)) (Memref.isWhole_whole _).wordExact (Memref.isWhole_whole _).wordExact ⟨Or.inl rfl, trivial⟩)
def scWait : PM (F := F) PUnit :=
  Prog.lift (.waitDma2 (oSem 3) scV scH (Memref.isWhole_whole _).wordExact (Memref.isWhole_whole _).wordExact)

/-- Everything after the last block's last step. -/
def endU (m : Mxu F) : PM (F := F) PUnit := do
  oStart 1
  let m ← lastsU (drainIn m)
  let m := (m.pop 0 192 16 fits_192_16).pop 1 192 16 fits_192_16
  oStart 2
  scTr
  scStart
  oWait 0
  oWait 1
  oWait 2
  scWait
  m.exit

/-- The whole body. -/
def whole : PM (F := F) PUnit := do
  let m ← beginU
  let m ← Scf.Loop.for k0_t1_loop k0_t1_ok m fun t m => body1 t m
  wWaits12
  wStarts15
  let m ← firstB 6 0 0 (by omega) (by omega) (by omega) (by decide +kernel) m
  let m ← Scf.Loop.for k0_t2_loop k0_t2_ok m fun t m => body2 t m
  oStart 0
  wWaits24
  wStarts27
  let m ← firstB 12 768 6 (by omega) (by omega) (by omega) (by decide +kernel) m
  let m ← Scf.Loop.for k0_t3_loop k0_t3_ok m fun t m => body3 t m
  endU m
  pure ⟨⟩

end Cert.KernelIdeal.Body
end
-- ==== Proof.Run.Quant.lean ====
/- The quantiser's piece: what it keeps of one group's 128 tokens. -/
module

public import proofs.«01_k».proof.Proof.Run.Pops
public import proofs.«01_k».proof.Proof.Body.Whole

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

variable (c : Dev nD) (I : In F)

theorem pos_H : ∀ a, 0 < S768x256.size a := by decide
theorem pos_Q : ∀ a, 0 < S128x128.size a := by decide
theorem pos_R : ∀ a, 0 < S1x128.size a := by decide

/-- A unit's sums of group `n`, tokens from `128 * j`. -/
def gPiece (q : Fin 2) (n j : ℕ) : FVec F S128x128 .f32 :=
  fun i => gVal I q (n / 6) (ixT S768x256 pos_H ![128 * (n % 6) + (i 0).val, 128 * j + (i 1).val])

/-- The gated product of that piece. -/
def hVal (n j : ℕ) : FVec F S128x128 .f32 := hOf (gPiece I 0 n j) (gPiece I 1 n j)

/-- All the codes, and all the scales as the scratch holds them. -/
def cdVal : Vec F S256x2304 .fp8e4m3 :=
  fun i => codesOf (hVal I ((i 1).val / 128) ((i 0).val / 128)) (ixT S128x128 pos_Q ![(i 0).val % 128, (i 1).val % 128])
def scVal : Vec F S18x1x256 .f32 :=
  fun i => scaleOf (hVal I (i 0).val ((i 2).val / 128)) (ixT S1x128 pos_R ![0, (i 2).val % 128])

/-- The first `K` pieces are there. -/
def CdInv (K : ℕ) (f : Vec F S256x2304 .fp8e4m3) : Prop := ∀ i, 2 * ((i 1).val / 128) + (i 0).val / 128 < K → f i = cdVal I i
def ScInv (K : ℕ) (f : Vec F S18x1x256 .f32) : Prop := ∀ i, 2 * (i 0).val + (i 2).val / 128 < K → f i = scVal I i

/-- The columns of the codes that have not been sent off. -/
def cdGe (O : ℕ) : Finset S256x2304.Idx := Finset.univ.filter fun i => 768 * O ≤ (i 1).val

/-- The scratch of the codes and of the scales, `K` pieces there, `O` blocks sent off. -/
abbrev Coded (O K : ℕ) : sProp 𝕄 :=
  iprop((∃ f, ⌜CdInv I K f⌝ ∗ pts c cdV (cdGe O) f) ∗ (∃ f, ⌜ScInv I K f⌝ ∗ pts c scT Finset.univ f))

theorem cd_write {f : Vec F S256x2304 .fp8e4m3} {n j : ℕ} (hn : n < 18) (hj : j < 2) (hf : CdInv I (2 * n + j) f) (h) :
    CdInv I (2 * n + j + 1) (updateSlice f (shapeCast S128x128 (codesOf (hVal I n j)) shapeCasts_S128x128_S128x128) ![128 * j, 128 * n] h) := by
  intro i hi
  rw [shapeCast_self]
  unfold updateSlice
  split
  · next hin =>
    have h0 := hin 0
    have h1 := hin 1
    change 128 * j ≤ (i 0).val ∧ (i 0).val < 128 * j + 128 at h0
    change 128 * n ≤ (i 1).val ∧ (i 1).val < 128 * n + 128 at h1
    unfold cdVal
    rw [show (i 0).val / 128 = j by omega, show (i 1).val / 128 = n by omega]
    congr 1
    funext a
    fin_cases a
    · apply Fin.ext
      show (i 0).val - 128 * j = (i 0).val % 128 % 128
      omega
    · apply Fin.ext
      show (i 1).val - 128 * n = (i 1).val % 128 % 128
      omega
  · next hin =>
    apply hf
    by_contra hc
    apply hin
    have l0 : (i 0).val < 256 := (i 0).isLt
    intro a
    fin_cases a
    · show 128 * j ≤ (i 0).val ∧ (i 0).val < 128 * j + 128
      omega
    · show 128 * n ≤ (i 1).val ∧ (i 1).val < 128 * n + 128
      omega

theorem sc_write {f : Vec F S18x1x256 .f32} {n j : ℕ} (hn : n < 18) (hj : j < 2) (hf : ScInv I (2 * n + j) f) (h) :
    ScInv I (2 * n + j + 1) (updateSlice f (shapeCast S1x1x128 (scaleOf (hVal I n j)) shapeCasts_S1x128_S1x1x128) ![n, 0, 128 * j] h) := by
  intro i hi
  unfold updateSlice
  split
  · next hin =>
    have h0 := hin 0
    have h2 := hin 2
    change n ≤ (i 0).val ∧ (i 0).val < n + 1 at h0
    change 128 * j ≤ (i 2).val ∧ (i 2).val < 128 * j + 128 at h2
    have l1 : (i 1).val < 1 := (i 1).isLt
    unfold scVal
    rw [show (i 0).val = n by omega, show (i 2).val / 128 = j by omega]
    refine shapeCast_apply _ _ _ _ ?_
    rw [Shape.rowMajor_val_three, Shape.rowMajor_val_two]
    show (0 % 1) * 128 + ((i 2).val % 128) % 128 = (((i 0).val - n) * 1 + ((i 1).val - 0)) * 128 + ((i 2).val - 128 * j)
    omega
  · next hin =>
    apply hf
    by_contra hc
    apply hin
    have l1 : (i 1).val < 1 := (i 1).isLt
    have l2 : (i 2).val < 256 := (i 2).isLt
    intro a
    fin_cases a
    · show n ≤ (i 0).val ∧ (i 0).val < n + 1
      omega
    · show 0 ≤ (i 1).val ∧ (i 1).val < 0 + 1
      omega
    · show 128 * j ≤ (i 2).val ∧ (i 2).val < 128 * j + 128
      omega

theorem wp_keepU {h : FVec F S128x128 .f32} {O n j r k : ℕ} (hh : h = hVal I n j) (hrj : r = 128 * j) (hkn : k = 128 * n) (hO : 768 * O ≤ 128 * n)
    (hr : r + 128 ≤ 256) (hc : k + 128 ≤ 2304) (hn : n < 18) (hp : (rectC r k hr hc).PackedRows (EltTy.packing .fp8e4m3)) (Q : PUnit → sProp 𝕄) :
    Coded c I O (2 * n + j) ⊢ iprop((Coded c I O (2 * n + j + 1) -∗ Q ⟨⟩) -∗ WP c (keepU h r k n hr hc hn hp) Q) := by
  subst hh hrj hkn
  unfold keepU Prog.lift
  iintro ⟨⟨%f, %hf, HC⟩, %f', %hf', HS⟩ Hk
  have hS : (cdV.access (rectC (128 * j) (128 * n) hr hc)).set ⊆ cdGe O := by
    refine (View.set_slice_whole _ _).subset.trans ?_
    intro i hi
    rw [Rect.mem_set_unit] at hi
    have := hi 1
    change 128 * n ≤ (i 1).val ∧ (i 1).val < 128 * n + 128 at this
    simp only [cdGe, Finset.mem_filter, Finset.mem_univ, true_and]
    omega
  rw [WP_bind]
  iapply (wp_load_rect Variants.none (c : Thread nD τ) none Set.univ (f := f) hS) $$ HC
  iintro HC
  iapply (WP_pure c)
  rw [WP_bind]
  iapply (wp_store Variants.none (c : Thread nD τ) none Set.univ (m := cdV) (r := rectC (128 * j) (128 * n) hr hc) (f := f) (by rw [View.setOn_univ]; exact hS)) $$ HC
  iintro HC
  iapply (WP_pure c)
  rw [WP_bind]
  iapply (wp_load_rect Variants.none (c : Thread nD τ) none Set.univ (m := scT) (r := Rect.unit (s := S18x1x256) ![n, 0, 128 * j] S1x1x128.size (inbT hn hr)) (f := f') (Finset.subset_univ _)) $$ HS
  iintro HS
  iapply (WP_pure c)
  iapply (wp_store Variants.none (c : Thread nD τ) none Set.univ (m := scT) (r := Rect.unit (s := S18x1x256) ![n, 0, 128 * j] S1x1x128.size (inbT hn hr)) (f := f') (Finset.subset_univ _)) $$ HS
  iintro HS
  iapply (WP_pure c)
  iapply Hk
  isplitl [HC]
  · iexists _
    isplitr [HC]
    rotate_left
    · iexact HC
    ipureintro
    have e := View.write_whole_slice_unit cc0_scratch10 ![128 * j, 128 * n] S128x128.size (inbC hr hc) f (shapeCast S128x128 (codesOf (hVal I n j)) shapeCasts_S128x128_S128x128)
    exact e ▸ cd_write I hn (by omega) hf _
  · iexists _
    isplitr [HS]
    rotate_left
    · iexact HS
    ipureintro
    have e := View.write_whole_slice_unit cc0_scratch11 ![n, 0, 128 * j] S1x1x128.size (inbT hn hr) f' (shapeCast S1x1x128 (scaleOf (hVal I n j)) shapeCasts_S1x128_S1x1x128)
    exact e ▸ sc_write I hn (by omega) hf' _

theorem g_read {f : Vec F S768x256 .f32} {q : Fin 2} {n j : ℕ} (hf : GInv I q (n / 6) 6 f)
    (h : ∀ a, (![128 * (n % 6), 128 * j] : Fin 2 → ℕ) a + S128x128.size a ≤ S768x256.size a) :
    (fun i => f ((Rect.unit (s := S768x256) ![128 * (n % 6), 128 * j] S128x128.size h).emb i)) = gPiece I q n j := by
  funext i
  have l0 : (i 0).val < 128 := (i 0).isLt
  have l1 : (i 1).val < 128 := (i 1).isLt
  have h1 := h 1
  change 128 * j + 128 ≤ 256 at h1
  have e0 : (((Rect.unit (s := S768x256) ![128 * (n % 6), 128 * j] S128x128.size h).emb i) 0).val = 128 * (n % 6) + 1 * (i 0).val := rfl
  rw [hf _ (by rw [e0]; omega)]
  unfold gPiece
  congr 1
  funext a
  fin_cases a
  · apply Fin.ext
    show 128 * (n % 6) + 1 * (i 0).val = (128 * (n % 6) + (i 0).val) % 768
    omega
  · apply Fin.ext
    show 128 * j + 1 * (i 1).val = (128 * j + (i 1).val) % 256
    omega

theorem wp_epiU {O n j g r k b : ℕ} (hb : n / 6 = b) (hgn : g = 128 * (n % 6)) (hrj : r = 128 * j) (hkn : k = 128 * n) (hO : 768 * O ≤ 128 * n)
    (hg : g + 128 ≤ 768) (hr : r + 128 ≤ 256) (hc : k + 128 ≤ 2304) (hn : n < 18) (hp : (rectC r k hr hc).PackedRows (EltTy.packing .fp8e4m3)) (Q : PUnit → sProp 𝕄) :
    iprop(Popped c I b 6 ∗ Coded c I O (2 * n + j)) ⊢ iprop((iprop(Popped c I b 6 ∗ Coded c I O (2 * n + j + 1)) -∗ Q ⟨⟩) -∗ WP c (epiU g r k n hg hr hc hn hp) Q) := by
  subst hb hgn hrj
  unfold epiU Prog.lift
  iintro ⟨⟨⟨%f, %hf, HG⟩, %f', %hf', HU⟩, HC⟩ Hk
  rw [WP_bind]
  iapply (wp_load_rect Variants.none (c : Thread nD τ) none Set.univ (m := gV) (r := Rect.unit (s := S768x256) ![128 * (n % 6), 128 * j] S128x128.size (inbQ hg hr)) (f := f) (Finset.subset_univ _)) $$ HG
  iintro HG
  rw [show (gV.access (Rect.unit (s := S768x256) ![128 * (n % 6), 128 * j] S128x128.size (inbQ hg hr))).read (Elt F) f = gPiece I 0 n j from g_read I hf (inbQ hg hr)]
  iapply (WP_pure c)
  rw [WP_bind]
  iapply (wp_load_rect Variants.none (c : Thread nD τ) none Set.univ (m := uV) (r := Rect.unit (s := S768x256) ![128 * (n % 6), 128 * j] S128x128.size (inbQ hg hr)) (f := f') (Finset.subset_univ _)) $$ HU
  iintro HU
  rw [show (uV.access (Rect.unit (s := S768x256) ![128 * (n % 6), 128 * j] S128x128.size (inbQ hg hr))).read (Elt F) f' = gPiece I 1 n j from g_read I hf' (inbQ hg hr)]
  iapply (WP_pure c)
  iapply (wp_keepU c I (n := n) (j := j) rfl rfl hkn hO hr hc hn hp) $$ HC
  iintro HC
  iapply Hk
  isplitr [HC]
  rotate_left
  · iexact HC
  isplitl [HG]
  · iexists f
    isplitr [HG]
    · ipureintro; exact hf
    · iexact HG
  · iexists f'
    isplitr [HU]
    · ipureintro; exact hf'
    · iexact HU

end Cert.KernelIdeal.Body
end
-- ==== Proof.Run.Ring.lean ====
/- The weights' transfers: each step's block of each weight comes into one of four slots, three steps ahead. -/
module

public import proofs.«01_k».proof.Proof.Run.Quant

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

variable (c : Dev nD) (I : In F)

/-- A transfer in flight that will deliver `D`. -/
abbrev Fly (sem : DmaSem sig) (N : ℕ) (D : sProp 𝕄) : sProp 𝕄 :=
  Transfers.Flight (countersEmb (U := Pipeline.UD sig nD τ)) (c : Thread nD τ) (.dma sem) () N D

/-- A semaphore of the core at zero. -/
abbrev Sem0 (sem : DmaSem sig) : sProp 𝕄 := semVal ((c : Thread nD τ), SemLoc.dma sem) 0

/-- The core owes nothing. -/
abbrev Owes : sProp 𝕄 := iprop(∃ W, owes (c : Thread nD τ) 0 W)

/-- Starting a copy, its delivery stated at the contents it leaves. -/
theorem wp_start {sp sp' : Space} {s : Shape} {e : EltTy} {src : Memref sig .tc sp s e} {dst : Memref sig .tc sp' s e} {sem : DmaSem sig}
    {h1 : src.view.WordExact} {h2 : dst.view.WordExact} {h3 : DmaTarget.Typed (nD := nD) (τ := τ) (p := (0 : Dev nD).tc.2) sp (.dma sem) (.here dst)}
    (N : ℕ) (hN : dst.view.amount (.dma sem) = N) (hN0 : 0 < N)
    {fs : Buf (Elt F) (src.view.loc (c : Thread nD τ))} {Ss : Finset (Idx (src.view.loc (c : Thread nD τ)))} (hSs : src.view.set = Ss)
    {Sd : Finset (Idx (dst.view.loc (c : Thread nD τ)))} (hSd : dst.view.set ⊆ Sd) {fd fv : Buf (Elt F) (dst.view.loc (c : Thread nD τ))}
    (hv : ∀ i ∈ Sd, dst.view.write (Elt F) fd (src.view.read (Elt F) fs) Finset.univ i = fv i) (Q : PUnit → sProp 𝕄) :
    iprop((src.view.loc (c : Thread nD τ) ↦[Ss]{fullShare} fs) ∗ (dst.view.loc (c : Thread nD τ) ↦[Sd]{fullShare} fd) ∗ Sem0 c sem)
      ⊢ iprop((Fly c sem N iprop((dst.view.loc (c : Thread nD τ) ↦[Sd]{fullShare} fv) ∗ (src.view.loc (c : Thread nD τ) ↦[Ss]{fullShare} fs)) -∗ Q ⟨⟩)
        -∗ WP c (Prog.lift (.enqueueDma src (.here dst) (.dma sem) h1 h2 h3)) Q) := by
  subst hSs
  unfold Prog.lift
  iintro H Hk
  iapply (Transfers.wp_dmaLocal (countersEmb (U := Pipeline.UD sig nD τ)) Variants.none (c : Thread nD τ) none (src := src) (dst := dst) (via := .same) (fs := fs) (fd := fd) () N hN hN0 hSd) $$ H
  iintro H
  rw [show (dst.view.loc (c : Thread nD τ) ↦[Sd]{fullShare} (dst.view.write (Elt F) fd (ReadAs.same.apply (src.view.read (Elt F) fs)) Finset.univ) : sProp 𝕄)
    = (dst.view.loc (c : Thread nD τ) ↦[Sd]{fullShare} fv) from pointsTo_congr hv]
  iapply (WP_pure c)
  iapply Hk $$ H

/-- Waiting for a copy. -/
theorem wp_waitD {sp sp' : Space} {s : Shape} {e : EltTy} {src : Memref sig .tc sp s e} {dst : Memref sig .tc sp' s e} {sem : DmaSem sig}
    {h1 : src.view.WordExact} {h2 : dst.view.WordExact} {N : ℕ} (hN : dst.view.dmaCredit = N) {D : sProp 𝕄} (Q : PUnit → sProp 𝕄) :
    iprop(Fly c sem N D ∗ Owes c)
      ⊢ iprop((iprop(D ∗ Sem0 c sem ∗ Owes c) -∗ Q ⟨⟩) -∗ WP c (Prog.lift (.waitDma2 sem src dst h1 h2)) Q) := by
  unfold Prog.lift
  iintro ⟨H, %W, HO⟩ Hk
  iapply (Transfers.wp_waitLocal (countersEmb (U := Pipeline.UD sig nD τ)) Variants.none (c : Thread nD τ) none () hN) $$ [H HO]
  · isplitl [H] <;> iassumption
  iintro ⟨HD, HS, HO⟩
  iapply (WP_pure c)
  iapply Hk
  isplitl [HD]; · iexact HD
  isplitl [HS]; · iexact HS
  iexists _
  iexact HO

/-! ## The blocks of a weight array -/

/-- The step that reads an element. -/
def stepOf (i : S2304x18432.Idx) : ℕ := 12 * ((i 0).val / 768) + (i 1).val / 1536

/-- Step `g`'s block; everything but the blocks of the steps from `a` up to `b`. -/
def blk (g : ℕ) : Finset S2304x18432.Idx := Finset.univ.filter fun i => stepOf i = g
def outside (a b : ℕ) : Finset S2304x18432.Idx := Finset.univ.filter fun i => ¬ (a ≤ stepOf i ∧ stepOf i < b)

theorem outside_start {a g : ℕ} (h : a ≤ g) : outside a g \ blk g = outside a (g + 1) := by
  ext i
  simp only [outside, blk, Finset.mem_sdiff, Finset.mem_filter, Finset.mem_univ, true_and]
  omega
theorem blk_sub {a g : ℕ} : blk g ⊆ outside a g := by
  intro i
  simp only [outside, blk, Finset.mem_filter, Finset.mem_univ, true_and]
  omega
theorem outside_end {g b : ℕ} (h : g < b) : outside (g + 1) b \ blk g = outside g b := by
  ext i
  simp only [outside, blk, Finset.mem_sdiff, Finset.mem_filter, Finset.mem_univ, true_and]
  omega
theorem blk_sub' {g b : ℕ} : blk g ⊆ outside (g + 1) b := by
  intro i
  simp only [outside, blk, Finset.mem_filter, Finset.mem_univ, true_and]
  omega

theorem mem_blk {g : ℕ} (i : S2304x18432.Idx) : i ∈ blk g ↔ 12 * ((i 0).val / 768) + (i 1).val / 1536 = g := by
  show i ∈ Finset.filter _ _ ↔ _
  rw [Finset.mem_filter]
  exact ⟨fun h => h.2, fun h => ⟨Finset.mem_univ _, h⟩⟩

theorem src_set {g : ℕ} (h : ∀ a, (![768 * (g / 12), 1536 * (g % 12)] : Fin 2 → ℕ) a + S768x1536.size a ≤ S2304x18432.size a) :
    (Rect.unit (s := S2304x18432) ![768 * (g / 12), 1536 * (g % 12)] S768x1536.size h).set = blk g := by
  ext i
  rw [Rect.mem_set_unit, mem_blk]
  have l0 : (i 0).val < 2304 := (i 0).isLt
  have l1 : (i 1).val < 18432 := (i 1).isLt
  constructor
  · intro e
    have e0 := e 0
    have e1 := e 1
    change 768 * (g / 12) ≤ (i 0).val ∧ (i 0).val < 768 * (g / 12) + 768 at e0
    change 1536 * (g % 12) ≤ (i 1).val ∧ (i 1).val < 1536 * (g % 12) + 1536 at e1
    omega
  · intro e a
    fin_cases a
    · show 768 * (g / 12) ≤ (i 0).val ∧ (i 0).val < 768 * (g / 12) + 768
      omega
    · show 1536 * (g % 12) ≤ (i 1).val ∧ (i 1).val < 1536 * (g % 12) + 1536
      omega

theorem slot_set {w : ℕ} (h : ∀ a, (![w, 0, 0] : Fin 3 → ℕ) a + S1x768x1536.size a ≤ S4x768x1536.size a) :
    (Rect.unit (s := S4x768x1536) ![w, 0, 0] S1x768x1536.size h).set = slotSet w := by
  ext i
  rw [Rect.mem_set_unit]
  simp only [slotSet, Finset.mem_filter, Finset.mem_univ, true_and]
  have l1 : (i 1).val < 768 := (i 1).isLt
  have l2 : (i 2).val < 1536 := (i 2).isLt
  constructor
  · intro e
    have e0 := e 0
    change w ≤ (i 0).val ∧ (i 0).val < w + 1 at e0
    omega
  · intro e a
    fin_cases a
    · show w ≤ (i 0).val ∧ (i 0).val < w + 1
      omega
    · show 0 ≤ (i 1).val ∧ (i 1).val < 0 + 768
      omega
    · show 0 ≤ (i 2).val ∧ (i 2).val < 0 + 1536
      omega

/-- What a transfer of step `g`'s block delivers into its slot. -/
theorem ring_at (W : Vec F S2304x18432 .fp8e4m3) {g w : ℕ}
    (h : ∀ a, (![w, 0, 0] : Fin 3 → ℕ) a + S1x768x1536.size a ≤ S4x768x1536.size a)
    (h' : ∀ a, (![768 * (g / 12), 1536 * (g % 12)] : Fin 2 → ℕ) a + S768x1536.size a ≤ S2304x18432.size a) :
    shapeCast S768x1536 (fun j : S1x768x1536.Idx => ringVal W (g / 12) (g % 12) ((Rect.unit (s := S4x768x1536) ![w, 0, 0] S1x768x1536.size h).emb j)) (Shape.Squeezes.numel_eq squeezes_S1x768x1536_S768x1536)
      = fun j : S768x1536.Idx => W ((Rect.unit (s := S2304x18432) ![768 * (g / 12), 1536 * (g % 12)] S768x1536.size h').emb j) := by
  funext j
  have l0 : (j 0).val < 768 := (j 0).isLt
  have l1 : (j 1).val < 1536 := (j 1).isLt
  have h0 := h' 0
  have h1 := h' 1
  change 768 * (g / 12) + 768 ≤ 2304 at h0
  change 1536 * (g % 12) + 1536 ≤ 18432 at h1
  refine (shapeCast_apply _ _ j (fun a => match a with | ⟨0, _⟩ => ⟨0, Nat.one_pos⟩ | ⟨1, _⟩ => ⟨(j 0).val, l0⟩ | ⟨2, _⟩ => ⟨(j 1).val, l1⟩) ?_).trans ?_
  · rw [Shape.rowMajor_val_three, Shape.rowMajor_val_two]
    show (0 * 768 + (j 0).val) * 1536 + (j 1).val = (j 0).val * 1536 + (j 1).val
    omega
  · unfold ringVal
    congr 1
    funext a
    fin_cases a
    · apply Fin.ext
      show (768 * (g / 12) + (0 + 1 * (j 0).val)) % 2304 = 768 * (g / 12) + 1 * (j 0).val
      omega
    · apply Fin.ext
      show (1536 * (g % 12) + (0 + 1 * (j 1).val)) % 18432 = 1536 * (g % 12) + 1 * (j 1).val
      omega

theorem ring_write_g (W : Vec F S2304x18432 .fp8e4m3) {g w : ℕ} (fd : Vec F S4x768x1536 .fp8e4m3)
    (h : ∀ a, (![w, 0, 0] : Fin 3 → ℕ) a + S1x768x1536.size a ≤ S4x768x1536.size a)
    (h' : ∀ a, (![768 * (g / 12), 1536 * (g % 12)] : Fin 2 → ℕ) a + S768x1536.size a ≤ S2304x18432.size a) :
    ∀ i ∈ slotSet w, (wDst wgV ![w, 0, 0] h).view.write (Elt F) fd ((wSrc wgH ![768 * (g / 12), 1536 * (g % 12)] h').view.read (Elt F) W) Finset.univ i = ringVal W (g / 12) (g % 12) i := by
  intro i hi
  have hs : (wDst wgV ![w, 0, 0] h).view.set = slotSet w := (View.set_reshape _ _).trans ((View.set_slice_whole _ _).trans (slot_set h))
  rw [← hs] at hi
  obtain ⟨y, -, rfl⟩ := Finset.mem_map.1 hi
  rw [View.write_emb_of_mem _ _ (Finset.mem_univ _)]
  exact (congrFun (ring_at W h h') y).symm

theorem ring_write_u (W : Vec F S2304x18432 .fp8e4m3) {g w : ℕ} (fd : Vec F S4x768x1536 .fp8e4m3)
    (h : ∀ a, (![w, 0, 0] : Fin 3 → ℕ) a + S1x768x1536.size a ≤ S4x768x1536.size a)
    (h' : ∀ a, (![768 * (g / 12), 1536 * (g % 12)] : Fin 2 → ℕ) a + S768x1536.size a ≤ S2304x18432.size a) :
    ∀ i ∈ slotSet w, (wDst wuV ![w, 0, 0] h).view.write (Elt F) fd ((wSrc wuH ![768 * (g / 12), 1536 * (g % 12)] h').view.read (Elt F) W) Finset.univ i = ringVal W (g / 12) (g % 12) i := by
  intro i hi
  have hs : (wDst wuV ![w, 0, 0] h).view.set = slotSet w := (View.set_reshape _ _).trans ((View.set_slice_whole _ _).trans (slot_set h))
  rw [← hs] at hi
  obtain ⟨y, -, rfl⟩ := Finset.mem_map.1 hi
  rw [View.write_emb_of_mem _ _ (Finset.mem_univ _)]
  exact (congrFun (ring_at W h h') y).symm

theorem dst_sub_g {w : ℕ} (h : ∀ a, (![w, 0, 0] : Fin 3 → ℕ) a + S1x768x1536.size a ≤ S4x768x1536.size a) : (wDst wgV ![w, 0, 0] h).view.set ⊆ slotSet w :=
  ((View.set_reshape _ _).trans ((View.set_slice_whole _ _).trans (slot_set h))).subset
theorem dst_sub_u {w : ℕ} (h : ∀ a, (![w, 0, 0] : Fin 3 → ℕ) a + S1x768x1536.size a ≤ S4x768x1536.size a) : (wDst wuV ![w, 0, 0] h).view.set ⊆ slotSet w :=
  ((View.set_reshape _ _).trans ((View.set_slice_whole _ _).trans (slot_set h))).subset
theorem srcSet_g {g : ℕ} (h : ∀ a, (![768 * (g / 12), 1536 * (g % 12)] : Fin 2 → ℕ) a + S768x1536.size a ≤ S2304x18432.size a) :
    (wSrc wgH ![768 * (g / 12), 1536 * (g % 12)] h).view.set = blk g := (View.set_slice_whole _ _).trans (src_set h)
theorem srcSet_u {g : ℕ} (h : ∀ a, (![768 * (g / 12), 1536 * (g % 12)] : Fin 2 → ℕ) a + S768x1536.size a ≤ S2304x18432.size a) :
    (wSrc wuH ![768 * (g / 12), 1536 * (g % 12)] h).view.set = blk g := (View.set_slice_whole _ _).trans (src_set h)

/-! ## What the core holds -/

theorem inbSem (q : Fin 2) (g : ℕ) : ∀ a, (![q.val, g % 4] : Fin 2 → ℕ) a + S1x1.size a ≤ S2x4.size a := by
  intro a; fin_cases a <;> simp [S1x1, S2x4] <;> omega

/-- Unit `q`'s semaphore of step `g`. -/
abbrev semW (q : Fin 2) (g : ℕ) : DmaSem sig := wSem ![q.val, g % 4] (inbSem q g)

/-- Step `g`'s slots free; in flight; there; and the rest of the weights. -/
abbrev Idle (g : ℕ) : sProp 𝕄 :=
  iprop(((∃ f, pts c wgV (slotSet (g % 4)) f) ∗ Sem0 c (semW 0 g)) ∗ ((∃ f, pts c wuV (slotSet (g % 4)) f) ∗ Sem0 c (semW 1 g)))
abbrev Fl (g : ℕ) : sProp 𝕄 :=
  iprop(Fly c (semW 0 g) 36864 iprop(pts c wgV (slotSet (g % 4)) (ringVal I.WG (g / 12) (g % 12)) ∗ pts c wgH (blk g) I.WG)
    ∗ Fly c (semW 1 g) 36864 iprop(pts c wuV (slotSet (g % 4)) (ringVal I.WU (g / 12) (g % 12)) ∗ pts c wuH (blk g) I.WU))
abbrev There (g : ℕ) : sProp 𝕄 :=
  iprop((pts c wgV (slotSet (g % 4)) (ringVal I.WG (g / 12) (g % 12)) ∗ Sem0 c (semW 0 g)) ∗ (pts c wuV (slotSet (g % 4)) (ringVal I.WU (g / 12) (g % 12)) ∗ Sem0 c (semW 1 g)))
abbrev Src (a b : ℕ) : sProp 𝕄 := iprop(pts c wgH (outside a b) I.WG ∗ pts c wuH (outside a b) I.WU)

/-- A slot used is the slot of four steps on. -/
theorem idle_of_there (g : ℕ) : There c I g ⊢ Idle c (g + 4) := by
  have e : (g + 4) % 4 = g % 4 := by omega
  have e0 : semW 0 (g + 4) = semW 0 g := by simp only [semW, e]
  have e1 : semW 1 (g + 4) = semW 1 g := by simp only [semW, e]
  unfold Idle
  rw [e, e0, e1]
  iintro ⟨⟨H0, H1⟩, H2, H3⟩
  isplitl [H0 H1]
  · isplitl [H0]
    · iexists _; iexact H0
    · iexact H1
  · isplitl [H2]
    · iexists _; iexact H2
    · iexact H3

section

variable {g : ℕ} {s0 s1 : Fin 2 → ℕ} {d : Fin 3 → ℕ} {o : Fin 2 → ℕ} (es0 : s0 = ![0, g % 4]) (es1 : s1 = ![1, g % 4]) (ed : d = ![g % 4, 0, 0])
  (eo : o = ![768 * (g / 12), 1536 * (g % 12)])
  (hs0 : ∀ a, s0 a + S1x1.size a ≤ S2x4.size a) (hs1 : ∀ a, s1 a + S1x1.size a ≤ S2x4.size a) (hd : ∀ a, d a + S1x768x1536.size a ≤ S4x768x1536.size a) (ho : ∀ a, o a + S768x1536.size a ≤ S2304x18432.size a)
  (e0 : (wSrc wgH o ho).view.WordExact) (e1 : (wDst wgV d hd).view.WordExact)
  (e2 : (wSrc wuH o ho).view.WordExact) (e3 : (wDst wuV d hd).view.WordExact)

include es0 es1 ed eo

theorem wp_wStarts {a : ℕ} (ha : a ≤ g) (Q : PUnit → sProp 𝕄) :
    iprop(Idle c g ∗ Src c I a g) ⊢ iprop((iprop(Fl c I g ∗ Src c I a (g + 1)) -∗ Q ⟨⟩) -∗ WP c (wStarts s0 s1 hs0 hs1 d hd o ho e0 e1 e2 e3) Q) := by
  subst es0 es1 ed eo
  unfold wStarts
  iintro ⟨⟨⟨⟨%f, HG⟩, HSG⟩, ⟨%f', HU⟩, HSU⟩, HWG, HWU⟩ Hk
  rw [WP_bind]
  ihave HWG := (pointsTo_split_subset (blk_sub (a := a) (g := g))).1 $$ HWG
  icases HWG with ⟨HWG, HRG⟩
  ihave HWU := (pointsTo_split_subset (blk_sub (a := a) (g := g))).1 $$ HWU
  icases HWU with ⟨HWU, HRU⟩
  rw [outside_start ha]
  iapply (wp_start c 36864 rfl (by decide) (srcSet_g ho) (dst_sub_g hd) (ring_write_g I.WG f hd ho)) $$ [HWG HG HSG]
  · isplitl [HWG]; · iexact HWG
    isplitl [HG]; · iexact HG
    iexact HSG
  iintro HFG
  iapply (wp_start c 36864 rfl (by decide) (srcSet_u ho) (dst_sub_u hd) (ring_write_u I.WU f' hd ho)) $$ [HWU HU HSU]
  · isplitl [HWU]; · iexact HWU
    isplitl [HU]; · iexact HU
    iexact HSU
  iintro HFU
  iapply Hk
  isplitl [HFG HFU]
  · isplitl [HFG]
    · iexact HFG
    · iexact HFU
  · isplitl [HRG]
    · iexact HRG
    · iexact HRU

theorem wp_wWaits {b : ℕ} (hb : g < b) (Q : PUnit → sProp 𝕄) :
    iprop(Fl c I g ∗ Src c I g b ∗ Owes c) ⊢ iprop((iprop(There c I g ∗ Src c I (g + 1) b ∗ Owes c) -∗ Q ⟨⟩) -∗ WP c (wWaits s0 s1 hs0 hs1 d hd o ho e0 e1 e2 e3) Q) := by
  subst es0 es1 ed eo
  unfold wWaits
  iintro ⟨⟨HFG, HFU⟩, ⟨HRG, HRU⟩, HO⟩ Hk
  rw [WP_bind]
  iapply (wp_waitD c rfl) $$ [HFG HO]
  · isplitl [HFG]
    · iexact HFG
    · iexact HO
  iintro ⟨⟨HG, HWG⟩, HSG, HO⟩
  iapply (wp_waitD c rfl) $$ [HFU HO]
  · isplitl [HFU]
    · iexact HFU
    · iexact HO
  iintro ⟨⟨HU, HWU⟩, HSU, HO⟩
  iapply Hk
  isplitl [HG HSG HU HSU]
  · isplitl [HG HSG]
    · isplitl [HG]
      · iexact HG
      · iexact HSG
    · isplitl [HU]
      · iexact HU
      · iexact HSU
  isplitr [HO]
  rotate_left
  · iexact HO
  rw [← outside_end hb]
  isplitl [HWG HRG]
  · iapply (pointsTo_split_subset (blk_sub' (g := g) (b := b))).2
    isplitl [HWG] <;> iassumption
  · iapply (pointsTo_split_subset (blk_sub' (g := g) (b := b))).2
    isplitl [HWU] <;> iassumption

end

end Cert.KernelIdeal.Body
end
-- ==== Proof.Run.Acts.lean ====
/- The activations' transfers: twelve pieces, all started at the beginning, each awaited a step ahead of its tiles. -/
module

public import proofs.«01_k».proof.Proof.Run.Ring

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

variable (c : Dev nD) (I : In F)

/-- Piece `k`'s columns; the columns from `C` on. -/
def xcols (k : ℕ) : Finset S256x18432.Idx := Finset.univ.filter fun i => 1536 * k ≤ (i 1).val ∧ (i 1).val < 1536 * k + 1536
def colsGe (C : ℕ) : Finset S256x18432.Idx := Finset.univ.filter fun i => C ≤ (i 1).val

theorem mem_xcols {k : ℕ} (i : S256x18432.Idx) : i ∈ xcols k ↔ 1536 * k ≤ (i 1).val ∧ (i 1).val < 1536 * k + 1536 := by
  show i ∈ Finset.filter _ _ ↔ _
  rw [Finset.mem_filter]
  exact ⟨fun h => h.2, fun h => ⟨Finset.mem_univ _, h⟩⟩
theorem mem_colsGe {k : ℕ} (i : S256x18432.Idx) : i ∈ colsGe k ↔ k ≤ (i 1).val := by
  show i ∈ Finset.filter _ _ ↔ _
  rw [Finset.mem_filter]
  exact ⟨fun h => h.2, fun h => ⟨Finset.mem_univ _, h⟩⟩
theorem mem_colsLt {k : ℕ} (i : S256x18432.Idx) : i ∈ colsLt k ↔ (i 1).val < k := by
  show i ∈ Finset.filter _ _ ↔ _
  rw [Finset.mem_filter]
  exact ⟨fun h => h.2, fun h => ⟨Finset.mem_univ _, h⟩⟩

theorem xcols_sub_ge {k : ℕ} : xcols k ⊆ colsGe (1536 * k) := fun i h => (mem_colsGe i).2 ((mem_xcols i).1 h).1
theorem ge_sdiff {k : ℕ} : colsGe (1536 * k) \ xcols k = colsGe (1536 * (k + 1)) := by
  ext i
  rw [Finset.mem_sdiff, mem_colsGe, mem_colsGe, mem_xcols]
  omega
theorem xcols_sub_lt {k : ℕ} : xcols k ⊆ colsLt (1536 * (k + 1)) := fun i h => (mem_colsLt i).2 (by have := (mem_xcols i).1 h; omega)
theorem lt_sdiff {k : ℕ} : colsLt (1536 * (k + 1)) \ xcols k = colsLt (1536 * k) := by
  ext i
  rw [Finset.mem_sdiff, mem_colsLt, mem_colsLt, mem_xcols]
  omega
theorem colsGe_zero : colsGe (1536 * 0) = Finset.univ := by
  ext i
  rw [mem_colsGe]
  exact ⟨fun _ => Finset.mem_univ _, fun _ => Nat.zero_le _⟩
theorem colsLt_all : colsLt (1536 * 12) = Finset.univ := by
  ext i
  rw [mem_colsLt]
  exact ⟨fun _ => Finset.mem_univ _, fun _ => (i 1).isLt⟩
theorem colsLt_zero : colsLt (1536 * 0) = ∅ := by
  ext i
  rw [mem_colsLt]
  exact ⟨fun h => absurd h (Nat.not_lt_zero _), fun h => absurd h (Finset.notMem_empty _)⟩

theorem xset {k : ℕ} (h : ∀ a, (![0, 1536 * k] : Fin 2 → ℕ) a + S256x1536.size a ≤ S256x18432.size a) :
    (Rect.unit (s := S256x18432) ![0, 1536 * k] S256x1536.size h).set = xcols k := by
  ext i
  rw [Rect.mem_set_unit, mem_xcols]
  have l0 : (i 0).val < 256 := (i 0).isLt
  constructor
  · intro e
    exact e 1
  · intro e a
    fin_cases a
    · show 0 ≤ (i 0).val ∧ (i 0).val < 0 + 256
      omega
    · exact e

theorem x_write (X f : Vec F S256x18432 .fp8e4m3) {k : ℕ} (h : ∀ a, (![0, 1536 * k] : Fin 2 → ℕ) a + S256x1536.size a ≤ S256x18432.size a) :
    ∀ i ∈ xcols k, (xDst ![0, 1536 * k] h).view.write (Elt F) f ((xSrc ![0, 1536 * k] h).view.read (Elt F) X) Finset.univ i = X i := by
  intro i hi
  have hs : (xDst ![0, 1536 * k] h).view.set = xcols k := (View.set_slice_whole _ _).trans (xset h)
  rw [← hs] at hi
  obtain ⟨y, -, rfl⟩ := Finset.mem_map.1 hi
  rw [View.write_emb_of_mem _ _ (Finset.mem_univ _)]
  rfl

theorem inbXSem (k : ℕ) : ∀ a, (![k % 12] : Fin 1 → ℕ) a + S1.size a ≤ S12.size a := by
  intro a; fin_cases a; simp [S1, S12]; omega

/-- Piece `k`'s semaphore, and its flight. -/
abbrev semX (k : ℕ) : DmaSem sig := xSem ![k % 12] (inbXSem k)
abbrev XFl (k : ℕ) : sProp 𝕄 := Fly c (semX k) 12288 iprop(pts c xV (xcols k) I.X ∗ pts c xH (xcols k) I.X)

/-- The last `n` pieces' flights; the first `n` pieces' semaphores. -/
def XFls : ℕ → sProp 𝕄
  | 0 => iprop(emp)
  | n + 1 => iprop(XFl c I (11 - n) ∗ XFls n)
def XSems : ℕ → sProp 𝕄
  | 0 => iprop(emp)
  | n + 1 => iprop(Sem0 c (semX n) ∗ XSems n)

/-- The first `a` pieces are there. -/
abbrev XState (a : ℕ) : sProp 𝕄 :=
  iprop(pts c xV (colsLt (1536 * a)) I.X ∗ pts c xH (colsLt (1536 * a)) I.X ∗ XSems (F := F) c a ∗ XFls c I (12 - a))

section

variable {k : ℕ} {s : Fin 1 → ℕ} {o : Fin 2 → ℕ} (es : s = ![k % 12]) (eo : o = ![0, 1536 * k])
  (hs : ∀ a, s a + S1.size a ≤ S12.size a) (ho : ∀ a, o a + S256x1536.size a ≤ S256x18432.size a) (e0 : (xSrc o ho).view.WordExact) (e1 : (xDst o ho).view.WordExact)

include es eo

theorem wp_xStart (f : Vec F S256x18432 .fp8e4m3) (Q : PUnit → sProp 𝕄) :
    iprop(pts c xH (colsGe (1536 * k)) I.X ∗ pts c xV (colsGe (1536 * k)) f ∗ Sem0 c (semX k))
      ⊢ iprop((iprop(XFl c I k ∗ pts c xH (colsGe (1536 * (k + 1))) I.X ∗ pts c xV (colsGe (1536 * (k + 1))) f) -∗ Q ⟨⟩) -∗ WP c (xStart s hs o ho e0 e1) Q) := by
  subst es eo
  unfold xStart
  iintro ⟨HX, HV, HS⟩ Hk
  ihave HX := (pointsTo_split_subset (xcols_sub_ge (k := k))).1 $$ HX
  icases HX with ⟨HX, HRX⟩
  ihave HV := (pointsTo_split_subset (xcols_sub_ge (k := k))).1 $$ HV
  icases HV with ⟨HV, HRV⟩
  rw [ge_sdiff]
  iapply (wp_start c (src := xSrc ![0, 1536 * k] ho) (dst := xDst ![0, 1536 * k] ho) (fs := I.X) (fv := I.X) 12288 rfl (by decide) ((View.set_slice_whole _ _).trans (xset ho)) ((View.set_slice_whole _ _).trans (xset ho)).subset (x_write I.X f ho)) $$ [HX HV HS]
  · isplitl [HX]; · iexact HX
    isplitl [HV]; · iexact HV
    iexact HS
  iintro HF
  iapply Hk
  isplitl [HF]; · iexact HF
  isplitl [HRX]
  · iexact HRX
  · iexact HRV

theorem wp_xWait (hk : k < 12) (Q : PUnit → sProp 𝕄) :
    iprop(XState c I k ∗ Owes c) ⊢ iprop((iprop(XState c I (k + 1) ∗ Owes c) -∗ Q ⟨⟩) -∗ WP c (xWait s hs o ho e0 e1) Q) := by
  subst es eo
  obtain ⟨n, hn⟩ : ∃ n, 12 - k = n + 1 := ⟨11 - k, by omega⟩
  have e : 12 - (k + 1) = n := by omega
  have e' : 11 - n = k := by omega
  unfold xWait
  unfold XState
  rw [hn, e]
  simp only [XFls, XSems, e']
  iintro ⟨⟨HV, HX, HS, HF, HR⟩, HO⟩ Hk
  iapply (wp_waitD c rfl) $$ [HF HO]
  · isplitl [HF]
    · iexact HF
    · iexact HO
  iintro ⟨⟨HV', HX'⟩, HS', HO⟩
  iapply Hk
  isplitr [HO]
  rotate_left
  · iexact HO
  isplitl [HV HV']
  · iapply (pointsTo_split_subset (xcols_sub_lt (k := k))).2
    rw [lt_sdiff]
    isplitl [HV'] <;> iassumption
  isplitl [HX HX']
  · iapply (pointsTo_split_subset (xcols_sub_lt (k := k))).2
    rw [lt_sdiff]
    isplitl [HX'] <;> iassumption
  isplitl [HS HS']
  · isplitl [HS'] <;> iassumption
  · iexact HR

end

end Cert.KernelIdeal.Body
end
-- ==== Proof.Run.Step.lean ====
/- A step's transfers and tiles, and the three loops over the steps. -/
module

public import proofs.«01_k».proof.Proof.Run.Acts

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

variable (c : Dev nD) (I : In F)

/-- Step `g`'s flight, as long as there is such a step. -/
def FlO (g : ℕ) : sProp 𝕄 := if g < 36 then Fl c I g else Idle c g

/-- The ring before step `g`, and within it. -/
abbrev RingB (g : ℕ) : sProp 𝕄 := iprop(FlO c I g ∗ FlO c I (g + 1) ∗ FlO c I (g + 2) ∗ Idle c (g + 3) ∗ Src c I g (min (g + 3) 36))
abbrev RingW (g : ℕ) : sProp 𝕄 := iprop(There c I g ∗ FlO c I (g + 1) ∗ FlO c I (g + 2) ∗ Idle c (g + 3) ∗ Src c I (g + 1) (min (g + 3) 36))
abbrev RingM (g : ℕ) : sProp 𝕄 := iprop(There c I g ∗ FlO c I (g + 1) ∗ FlO c I (g + 2) ∗ FlO c I (g + 3) ∗ Src c I (g + 1) (min (g + 4) 36))

theorem ring_next (g : ℕ) : RingM c I g ⊢ RingB c I (g + 1) := by
  iintro ⟨H0, H1, H2, H3, H4⟩
  isplitl [H1]; · iexact H1
  isplitl [H2]; · iexact H2
  isplitl [H3]; · iexact H3
  isplitl [H0]
  · iapply (idle_of_there c I g) $$ H0
  · iexact H4

section

variable {g : ℕ} {s0 s1 : Fin 2 → ℕ} {d : Fin 3 → ℕ} {o : Fin 2 → ℕ}
  (hs0 : ∀ a, s0 a + S1x1.size a ≤ S2x4.size a) (hs1 : ∀ a, s1 a + S1x1.size a ≤ S2x4.size a) (hd : ∀ a, d a + S1x768x1536.size a ≤ S4x768x1536.size a) (ho : ∀ a, o a + S768x1536.size a ≤ S2304x18432.size a)
  (e0 : (wSrc wgH o ho).view.WordExact) (e1 : (wDst wgV d hd).view.WordExact)
  (e2 : (wSrc wuH o ho).view.WordExact) (e3 : (wDst wuV d hd).view.WordExact)

theorem wp_ringWait (hg : g < 36) (es0 : s0 = ![0, g % 4]) (es1 : s1 = ![1, g % 4]) (ed : d = ![g % 4, 0, 0])
    (eo : o = ![768 * (g / 12), 1536 * (g % 12)]) (Q : PUnit → sProp 𝕄) :
    iprop(RingB c I g ∗ Owes c) ⊢ iprop((iprop(RingW c I g ∗ Owes c) -∗ Q ⟨⟩) -∗ WP c (wWaits s0 s1 hs0 hs1 d hd o ho e0 e1 e2 e3) Q) := by
  rw [show RingB c I g = iprop(Fl c I g ∗ FlO c I (g + 1) ∗ FlO c I (g + 2) ∗ Idle c (g + 3) ∗ Src c I g (min (g + 3) 36)) by
    unfold RingB; rw [show FlO c I g = Fl c I g from if_pos hg]]
  iintro ⟨⟨H0, H1, H2, H3, H4⟩, HO⟩ Hk
  iapply (wp_wWaits c I es0 es1 ed eo hs0 hs1 hd ho e0 e1 e2 e3 (b := min (g + 3) 36) (by omega)) $$ [H0 H4 HO]
  · isplitl [H0]; · iexact H0
    isplitl [H4]; · iexact H4
    iexact HO
  iintro ⟨H0, H4, HO⟩
  iapply Hk
  isplitr [HO]
  rotate_left
  · iexact HO
  isplitl [H0]; · iexact H0
  isplitl [H1]; · iexact H1
  isplitl [H2]; · iexact H2
  isplitl [H3]; · iexact H3
  iexact H4

theorem wp_ringStart {k : ℕ} (hk : k = g + 3) (hg : g + 3 < 36) (es0 : s0 = ![0, k % 4]) (es1 : s1 = ![1, k % 4]) (ed : d = ![k % 4, 0, 0])
    (eo : o = ![768 * (k / 12), 1536 * (k % 12)]) (Q : PUnit → sProp 𝕄) :
    RingW c I g ⊢ iprop((RingM c I g -∗ Q ⟨⟩) -∗ WP c (wStarts s0 s1 hs0 hs1 d hd o ho e0 e1 e2 e3) Q) := by
  subst hk
  iintro ⟨H0, H1, H2, H3, H4⟩ Hk
  rw [show min (g + 3) 36 = g + 3 by omega]
  iapply (wp_wStarts c I es0 es1 ed eo hs0 hs1 hd ho e0 e1 e2 e3 (a := g + 1) (by omega)) $$ [H3 H4]
  · isplitl [H3] <;> iassumption
  iintro ⟨H3, H4⟩
  rw [show g + 3 + 1 = min (g + 4) 36 by omega]
  have e : (Fl c I (g + 3) : sProp 𝕄) ⊢ FlO c I (g + 3) := by rw [show FlO c I (g + 3) = Fl c I (g + 3) from if_pos hg]
  iapply Hk
  isplitl [H0]; · iexact H0
  isplitl [H1]; · iexact H1
  isplitl [H2]; · iexact H2
  isplitl [H3]; · iapply e $$ H3
  iexact H4

theorem ring_skip (hg : ¬ g + 3 < 36) : RingW c I g ⊢ RingM c I g := by
  unfold RingM
  rw [show min (g + 4) 36 = min (g + 3) 36 by omega, show FlO c I (g + 3) = Idle c (g + 3) from if_neg hg]

end

/-- The two scale arrays. -/
abbrev Scales : sProp 𝕄 := iprop(pts c wgS Finset.univ I.WGS ∗ pts c wuS Finset.univ I.WUS)

theorem weights_of {g b s : ℕ} (hg : g = 12 * b + s) (hs : s < 12) :
    iprop(There c I g ∗ Scales c I) ⊢ iprop(Weights c I (slotSet (g % 4)) b s ∗ (Weights c I (slotSet (g % 4)) b s -∗ iprop(There c I g ∗ Scales c I))) := by
  unfold There Weights
  rw [show g / 12 = b by omega, show g % 12 = s by omega]
  iintro ⟨⟨⟨HG, HSG⟩, HU, HSU⟩, HA, HB⟩
  isplitl [HG HU HA HB]
  · isplitl [HG HA]
    · isplitl [HG] <;> iassumption
    · isplitl [HU] <;> iassumption
  · iintro ⟨⟨HG, HA⟩, HU, HB⟩
    isplitl [HG HSG HU HSU]
    · isplitl [HG HSG]
      · isplitl [HG] <;> iassumption
      · isplitl [HU] <;> iassumption
    · isplitl [HA] <;> iassumption

/-! ## Block 0 -/

theorem off80_eq : ∀ t : Fin k0_t1_loop.trips, k0_off80 t = ![0, (t.val + 1) % 4] := by decide +kernel
theorem off83_eq : ∀ t : Fin k0_t1_loop.trips, k0_off83 t = ![1, (t.val + 1) % 4] := by decide +kernel
theorem off81_eq : ∀ t : Fin k0_t1_loop.trips, k0_off81 t = ![(t.val + 1) % 4, 0, 0] := by decide +kernel
theorem off82_eq : ∀ t : Fin k0_t1_loop.trips, k0_off82 t = ![768 * ((t.val + 1) / 12), 1536 * ((t.val + 1) % 12)] := by decide +kernel
theorem cond1_iff : ∀ t : Fin k0_t1_loop.trips, k0_cond1 t = 1#1 ↔ t.val + 2 < 12 := by decide +kernel
theorem off84_eq : ∀ t : Fin k0_t1_loop.trips, k0_cond1 t = 1#1 → k0_off84 t = ![(t.val + 2) % 12] := by decide +kernel
theorem off85_eq : ∀ t : Fin k0_t1_loop.trips, k0_cond1 t = 1#1 → k0_off85 t = ![0, 1536 * (t.val + 2)] := by decide +kernel
theorem cond2_true : ∀ t : Fin k0_t1_loop.trips, k0_cond2 t = 1#1 := by decide +kernel
theorem off86_eq : ∀ t : Fin k0_t1_loop.trips, k0_off86 t = ![0, (t.val + 4) % 4] := by decide +kernel
theorem off89_eq : ∀ t : Fin k0_t1_loop.trips, k0_off89 t = ![1, (t.val + 4) % 4] := by decide +kernel
theorem off87_eq : ∀ t : Fin k0_t1_loop.trips, k0_off87 t = ![(t.val + 4) % 4, 0, 0] := by decide +kernel
theorem off88_eq : ∀ t : Fin k0_t1_loop.trips, k0_off88 t = ![768 * ((t.val + 4) / 12), 1536 * ((t.val + 4) % 12)] := by decide +kernel
theorem trips1 : k0_t1_loop.trips = 11 := by decide +kernel
theorem w1_eq : ∀ t, w1 t = (t.val + 1) % 4 := by decide +kernel
theorem P1_eq : ∀ t i j, P1 t i j = 2 * (6 * (t.val + 1) + i.val) + j.val := by decide +kernel
theorem N1_eq : ∀ t i, N1 t i = 256 * ((6 * (t.val + 1) + i.val + 1) % 72) := by decide +kernel
theorem NR1_eq : ∀ t i j, NR1 t i j = 2 * ((6 * (t.val + 1) + i.val + 1) % 72) + j.val := by decide +kernel

/-- The transfers of step `k + 1`. -/
theorem wp_pre1 (t : Fin k0_t1_loop.trips) (Q : (Σ' (_ : BitVec 32) (_ : BitVec 32), BitVec 32) → sProp 𝕄) :
    iprop(RingB c I (t.val + 1) ∗ XState c I (min (t.val + 2) 12) ∗ Owes c)
      ⊢ iprop((∀ v, iprop(RingM c I (t.val + 1) ∗ XState c I (min (t.val + 3) 12) ∗ Owes c) -∗ Q v) -∗ WP c (pre1 t) Q) := by
  have ht := t.isLt
  have h11 := trips1
  unfold pre1
  iintro ⟨HR, HX, HO⟩ Hk
  rw [WP_bind]
  iapply (wp_ringWait c I (g := t.val + 1) _ _ _ _ _ _ _ _ (by omega) (off80_eq t) (off83_eq t) (off81_eq t) (off82_eq t)) $$ [HR HO]
  · isplitl [HR] <;> iassumption
  iintro ⟨HR, HO⟩
  dsimp only
  rw [dif_pos (cond2_true t)]
  by_cases h : k0_cond1 t = 1#1
  · rw [dif_pos h]
    have h2 := (cond1_iff t).1 h
    rw [WP_bind, show min (t.val + 2) 12 = t.val + 2 by omega]
    iapply (wp_xWait c I (k := t.val + 2) (off84_eq t h) (off85_eq t h) _ _ _ _ h2) $$ [HX HO]
    · isplitl [HX] <;> iassumption
    iintro ⟨HX, HO⟩
    rw [WP_bind]
    iapply (wp_ringStart c I (g := t.val + 1) _ _ _ _ _ _ _ _ (k := t.val + 4) rfl (by omega) (off86_eq t) (off89_eq t) (off87_eq t) (off88_eq t)) $$ HR
    iintro HR
    iapply (WP_pure c)
    iapply Hk
    isplitl [HR]; · iexact HR
    rw [show min (t.val + 3) 12 = t.val + 2 + 1 by omega]
    isplitl [HX] <;> iassumption
  · rw [dif_neg h]
    have h2 : ¬ t.val + 2 < 12 := fun h' => h ((cond1_iff t).2 h')
    rw [WP_bind]
    iapply (wp_ringStart c I (g := t.val + 1) _ _ _ _ _ _ _ _ (k := t.val + 4) rfl (by omega) (off86_eq t) (off89_eq t) (off87_eq t) (off88_eq t)) $$ HR
    iintro HR
    iapply (WP_pure c)
    iapply Hk
    isplitl [HR]; · iexact HR
    rw [show min (t.val + 3) 12 = min (t.val + 2) 12 by omega]
    isplitl [HX] <;> iassumption

/-- What the core holds before step `k + 1` of block 0, but for the unit. -/
abbrev Held1 (k : ℕ) : sProp 𝕄 :=
  iprop(RingB c I (k + 1) ∗ XState c I (min (k + 2) 12) ∗ Owes c ∗ Scales c I ∗ pts c xsT Finset.univ (xstVal I) ∗ Kept c I (min (6 * (k + 1) + 1) 72))

theorem wp_body1 (t : Fin k0_t1_loop.trips) {m : Mxu F} (hs : St I 0 (6 * (t.val + 1)) (6 * (t.val + 1)) m) (Q : Mxu F → sProp 𝕄) :
    Held1 c I t.val ⊢ iprop((∀ m', ⌜St I 0 (6 * (t.val + 2)) (6 * (t.val + 2) % 72) m'⌝ -∗ Held1 c I (t.val + 1) -∗ Q m') -∗ WP c (body1 t m) Q) := by
  have ht := t.isLt
  have h11 := trips1
  unfold body1
  iintro ⟨HR, HX, HO, HS, HT, HK⟩ Hk
  rw [WP_bind]
  iapply (wp_pre1 c I t) $$ [HR HX HO]
  · isplitl [HR]; · iexact HR
    isplitl [HX] <;> iassumption
  iintro %v ⟨⟨H0, H1, H2, H3, H4⟩, ⟨HX, HX2⟩, HO⟩
  ihave HW := (weights_of c I (g := t.val + 1) (b := 0) (s := t.val + 1) (by omega) (by omega)) $$ [H0 HS]
  · isplitl [H0] <;> iassumption
  icases HW with ⟨HW, HB⟩
  rw [show min (6 * (t.val + 1) + 1) 72 = 6 * (t.val + 1) + 1 by omega]
  iapply (wp_tilesA c I (T := slotSet ((t.val + 1) % 4)) (b := 0) (s := t.val + 1) (by rw [w1_eq]) (by omega) rfl (P1_eq t) (N1_eq t) (w1_lt t) _ (P1_lt t) (N1_lt t)
    (C := 1536 * min (t.val + 3) 12) (NR1_eq t) (fun i => by rw [N1_eq]; have := i.isLt; omega) (NR1_lt t) (N1_packed t) hs) $$ [HW HX HT HK]
  · isplitl [HW]; · iexact HW
    isplitl [HX HT]
    · isplitl [HX] <;> iassumption
    · iexact HK
  iintro %m %hs ⟨HW, ⟨HX, HT⟩, HK⟩
  ispecialize HB $$ HW
  icases HB with ⟨H0, HS⟩
  iapply Hk $$ %_ %hs
  isplitl [H0 H1 H2 H3 H4]
  · iapply (ring_next c I (t.val + 1))
    isplitl [H0]; · iexact H0
    isplitl [H1]; · iexact H1
    isplitl [H2]; · iexact H2
    isplitl [H3]; · iexact H3
    iexact H4
  isplitl [HX HX2]
  · isplitl [HX]
    · iexact HX
    · iexact HX2
  isplitl [HO]; · iexact HO
  isplitl [HS]; · iexact HS
  isplitl [HT]; · iexact HT
  iexact HK

end Cert.KernelIdeal.Body
end
-- ==== Proof.Run.Loops.lean ====
/- The three loops over a block's later steps. -/
module

public import proofs.«01_k».proof.Proof.Run.Step
public import Idealize.ShloMosaic.Lib.Scf

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

variable (c : Dev nD) (I : In F)

/-! ## Block 0 -/

theorem wp_loop1 {m : Mxu F} (hs : St I 0 6 6 m) (Q : Mxu F → sProp 𝕄) :
    Held1 c I 0 ⊢ iprop((∀ m', ⌜St I 0 72 0 m'⌝ -∗ Held1 c I 11 -∗ Q m') -∗ WP c (Scf.Loop.for k0_t1_loop k0_t1_ok m fun t m => body1 t m) Q) := by
  iintro H Hk
  iapply (Scf.wp_for frame (wpE (defs₀ (F := F)) Variants.none (c : Thread nD τ) none) Set.univ _ _ _ _ m (fun t m => body1 t m)
    (fun k m => iprop(⌜St I 0 (6 * (k + 1)) (6 * (k + 1) % 72) m⌝ ∗ Held1 c I k)) (fun t m => by
      iintro ⟨%hs, H⟩
      have ht : t.val < 11 := trips1 ▸ t.isLt
      rw [show 6 * (t.val + 1) % 72 = 6 * (t.val + 1) by omega] at hs
      iapply (wp_body1 c I t hs) $$ H
      iintro %m %hs H
      isplitr [H]
      · ipureintro; exact hs
      · iexact H))
  isplitl [H]
  · isplitr [H]
    · ipureintro; exact hs
    · iexact H
  · iintro %m ⟨%hs, H⟩
    have e : Scf.trips k0_t1_loop.lb k0_t1_loop.ub k0_t1_loop.st = 11 := trips1
    rw [e] at hs
    rw [e]
    iapply Hk $$ %_ %hs H

/-! ## The later blocks -/

/-- What the core holds before step `k + 1` of a later block `b`, but for the unit. -/
abbrev Held (b O k : ℕ) : sProp 𝕄 :=
  iprop(RingB c I (12 * b + k + 1) ∗ Owes c ∗ Scales c I ∗ Kept c I 72 ∗ Popped c I (b - 1) 6 ∗ Coded c I O (12 * (b - 1) + k + 1))

section

variable {b s w R O g r k n : ℕ} {P : Fin 6 → Fin 2 → ℕ} {N : Fin 6 → ℕ}
  (hb : 1 ≤ b) (hs12 : s < 12) (hwe : w = (12 * b + s) % 4) (hRb : R = 6 * b) (hPe : ∀ i j, P i j = 2 * (6 * s + i.val) + j.val) (hNe : ∀ i, N i = 256 * ((6 * s + i.val + 1) % 72))
  (hgn : g = 128 * (s / 2)) (hrj : r = 128 * (s % 2)) (hkn : k = 128 * n) (hne : n = 6 * (b - 1) + s / 2) (hO : O = b - 1)
  (hw : w < 4) (hR : R + 6 ≤ 18) (hP : ∀ i j, P i j < 144) (hN : ∀ i, N i + 256 ≤ 18432)
  (hg : g + 128 ≤ 768) (hr : r + 128 ≤ 256) (hc : k + 128 ≤ 2304) (hn : n < 18) (hp : (rectC r k hr hc).PackedRows (EltTy.packing .fp8e4m3))

include hb hs12 hwe hRb hPe hNe hgn hrj hkn hne hO in
/-- The tiles of a later step, then its piece of the block before. -/
theorem wp_stepB {m : Mxu F} (h0 : 0 + 256 ≤ 1536) (hs : St I b (6 * s) (6 * s) m) (Q : Mxu F → sProp 𝕄) :
    iprop(RingM c I (12 * b + s) ∗ Owes c ∗ Scales c I ∗ Kept c I 72 ∗ Popped c I (b - 1) 6 ∗ Coded c I O (12 * (b - 1) + s))
      ⊢ iprop((∀ m', ⌜St I b (6 * (s + 1)) (6 * (s + 1) % 72) m'⌝ -∗ Held c I b O s -∗ Q m')
        -∗ WP c (tileB w R 0 (P 0 0) (P 0 1) (N 0) hw h0 hR (hP _ _) (hP _ _) (hN _) m >>= fun m =>
            restB w R P N hw hR hP hN m >>= fun m => epiU g r k n hg hr hc hn hp >>= fun _ => pure m) Q) := by
  iintro ⟨⟨H0, H1, H2, H3, H4⟩, HO, HS, HK, HP, HC⟩ Hk
  ihave HW := (weights_of c I (g := 12 * b + s) (b := b) (s := s) rfl hs12) $$ [H0 HS]
  · isplitl [H0] <;> iassumption
  icases HW with ⟨HW, HB⟩
  rw [WP_bind]
  iapply (wp_tileB c I (T := slotSet ((12 * b + s) % 4)) (b := b) (s := s) (kk := 0) (by rw [hwe]) hRb rfl (hPe 0 0) (hPe 0 1) (hNe 0) hw h0 hR (hP _ _) (hP _ _) (hN _) hs) $$ [HW HK]
  · isplitl [HW] <;> iassumption
  iintro %m %hs ⟨HW, HK⟩
  rw [show (6 * s + (0 : Fin 6).val + 1) % 72 = 6 * s + 1 by simp; omega] at hs
  rw [WP_bind]
  iapply (wp_restB c I (T := slotSet ((12 * b + s) % 4)) (b := b) (s := s) (by rw [hwe]) hs12 hRb hPe hNe hw hR hP hN hs) $$ [HW HK]
  · isplitl [HW] <;> iassumption
  iintro %m %hs ⟨HW, HK⟩
  ispecialize HB $$ HW
  icases HB with ⟨H0, HS⟩
  rw [WP_bind, show 12 * (b - 1) + s = 2 * n + s % 2 by omega]
  iapply (wp_epiU c I (O := O) (n := n) (j := s % 2) (b := b - 1) (by omega) (by omega) hrj hkn (by omega) hg hr hc hn hp) $$ [HP HC]
  · isplitl [HP] <;> iassumption
  iintro ⟨HP, HC⟩
  iapply (WP_pure c)
  iapply Hk $$ %_ %hs
  unfold Held
  rw [show 12 * (b - 1) + s + 1 = 2 * n + s % 2 + 1 by omega]
  isplitl [H0 H1 H2 H3 H4]
  · iapply (ring_next c I (12 * b + s))
    isplitl [H0]; · iexact H0
    isplitl [H1]; · iexact H1
    isplitl [H2]; · iexact H2
    isplitl [H3]; · iexact H3
    iexact H4
  isplitl [HO]; · iexact HO
  isplitl [HS]; · iexact HS
  isplitl [HK]; · iexact HK
  isplitl [HP]; · iexact HP
  iexact HC

end

/-! ### Block 1 -/

theorem off174_eq : ∀ t : Fin k0_t2_loop.trips, k0_off174 t = ![0, (12 * 1 + (t.val + 1)) % 4] := by decide +kernel
theorem off177_eq : ∀ t : Fin k0_t2_loop.trips, k0_off177 t = ![1, (12 * 1 + (t.val + 1)) % 4] := by decide +kernel
theorem off175_eq : ∀ t : Fin k0_t2_loop.trips, k0_off175 t = ![(12 * 1 + (t.val + 1)) % 4, 0, 0] := by decide +kernel
theorem off176_eq : ∀ t : Fin k0_t2_loop.trips, k0_off176 t = ![768 * ((12 * 1 + (t.val + 1)) / 12), 1536 * ((12 * 1 + (t.val + 1)) % 12)] := by decide +kernel
theorem cond3_true : ∀ t : Fin k0_t2_loop.trips, k0_cond3 t = 1#1 := by decide +kernel
theorem off178_eq : ∀ t : Fin k0_t2_loop.trips, k0_off178 t = ![0, (12 * 1 + (t.val + 1) + 3) % 4] := by decide +kernel
theorem off181_eq : ∀ t : Fin k0_t2_loop.trips, k0_off181 t = ![1, (12 * 1 + (t.val + 1) + 3) % 4] := by decide +kernel
theorem off179_eq : ∀ t : Fin k0_t2_loop.trips, k0_off179 t = ![(12 * 1 + (t.val + 1) + 3) % 4, 0, 0] := by decide +kernel
theorem off180_eq : ∀ t : Fin k0_t2_loop.trips, k0_off180 t = ![768 * ((12 * 1 + (t.val + 1) + 3) / 12), 1536 * ((12 * 1 + (t.val + 1) + 3) % 12)] := by decide +kernel
theorem trips2 : k0_t2_loop.trips = 11 := by decide +kernel
theorem w2_eq : ∀ t, w2 t = (12 * 1 + (t.val + 1)) % 4 := by decide +kernel
theorem P2_eq : ∀ t i j, P2 t i j = 2 * (6 * (t.val + 1) + i.val) + j.val := by decide +kernel
theorem N2_eq : ∀ t i, N2 t i = 256 * ((6 * (t.val + 1) + i.val + 1) % 72) := by decide +kernel
theorem g2_eq : ∀ t, g2 t = 128 * ((t.val + 1) / 2) := by decide +kernel
theorem q2_eq : ∀ t, q2 t = 128 * ((t.val + 1) % 2) := by decide +kernel
theorem c2_eq : ∀ t, c2 t = 128 * n2 t := by decide +kernel
theorem n2_eq : ∀ t, n2 t = 6 * (1 - 1) + (t.val + 1) / 2 := by decide +kernel

theorem wp_body2 (t : Fin k0_t2_loop.trips) {m : Mxu F} (hs : St I 1 (6 * (t.val + 1)) (6 * (t.val + 1)) m) (Q : Mxu F → sProp 𝕄) :
    Held c I 1 0 t.val ⊢ iprop((∀ m', ⌜St I 1 (6 * (t.val + 2)) (6 * (t.val + 2) % 72) m'⌝ -∗ Held c I 1 0 (t.val + 1) -∗ Q m') -∗ WP c (body2 t m) Q) := by
  have ht := t.isLt
  have h11 := trips2
  unfold body2 tiles2
  iintro ⟨HR, HO, HX⟩ Hk
  rw [WP_bind]
  iapply (wp_ringWait c I (g := 12 * 1 + (t.val + 1)) _ _ _ _ _ _ _ _ (by omega) (off174_eq t) (off177_eq t) (off175_eq t) (off176_eq t)) $$ [HR HO]
  · isplitl [HR] <;> iassumption
  iintro ⟨HR, HO⟩
  dsimp only
  rw [dif_pos (cond3_true t), WP_bind]
  iapply (wp_ringStart c I (g := 12 * 1 + (t.val + 1)) _ _ _ _ _ _ _ _ (k := 12 * 1 + (t.val + 1) + 3) rfl (by omega) (off178_eq t) (off181_eq t) (off179_eq t) (off180_eq t)) $$ HR
  iintro HR
  iapply (wp_stepB c I (b := 1) (s := t.val + 1) (O := 0) (by omega) (by omega) (w2_eq t) rfl (P2_eq t) (N2_eq t) (g2_eq t) (q2_eq t) (c2_eq t) (n2_eq t) rfl
    (w2_lt t) _ (P2_lt t) (N2_lt t) (g2_lt t) (q2_lt t) (c2_lt t) (n2_lt t) (c2_packed t) _ hs) $$ [HR HO HX]
  · isplitl [HR]; · iexact HR
    isplitl [HO]; · iexact HO
    iexact HX
  iexact Hk

theorem wp_loop2 {m : Mxu F} (hs : St I 1 6 6 m) (Q : Mxu F → sProp 𝕄) :
    Held c I 1 0 0 ⊢ iprop((∀ m', ⌜St I 1 72 0 m'⌝ -∗ Held c I 1 0 11 -∗ Q m') -∗ WP c (Scf.Loop.for k0_t2_loop k0_t2_ok m fun t m => body2 t m) Q) := by
  iintro H Hk
  iapply (Scf.wp_for frame (wpE (defs₀ (F := F)) Variants.none (c : Thread nD τ) none) Set.univ _ _ _ _ m (fun t m => body2 t m)
    (fun k m => iprop(⌜St I 1 (6 * (k + 1)) (6 * (k + 1) % 72) m⌝ ∗ Held c I 1 0 k)) (fun t m => by
      iintro ⟨%hs, H⟩
      have ht : t.val < 11 := trips2 ▸ t.isLt
      rw [show 6 * (t.val + 1) % 72 = 6 * (t.val + 1) by omega] at hs
      iapply (wp_body2 c I t hs) $$ H
      iintro %m %hs H
      isplitr [H]
      · ipureintro; exact hs
      · iexact H))
  isplitl [H]
  · isplitr [H]
    · ipureintro; exact hs
    · iexact H
  · iintro %m ⟨%hs, H⟩
    have e : Scf.trips k0_t2_loop.lb k0_t2_loop.ub k0_t2_loop.st = 11 := trips2
    rw [e] at hs
    rw [e]
    iapply Hk $$ %_ %hs H

/-! ### Block 2 -/

theorem off264_eq : ∀ t : Fin k0_t3_loop.trips, k0_off264 t = ![0, (12 * 2 + (t.val + 1)) % 4] := by decide +kernel
theorem off267_eq : ∀ t : Fin k0_t3_loop.trips, k0_off267 t = ![1, (12 * 2 + (t.val + 1)) % 4] := by decide +kernel
theorem off265_eq : ∀ t : Fin k0_t3_loop.trips, k0_off265 t = ![(12 * 2 + (t.val + 1)) % 4, 0, 0] := by decide +kernel
theorem off266_eq : ∀ t : Fin k0_t3_loop.trips, k0_off266 t = ![768 * ((12 * 2 + (t.val + 1)) / 12), 1536 * ((12 * 2 + (t.val + 1)) % 12)] := by decide +kernel
theorem cond4_iff : ∀ t : Fin k0_t3_loop.trips, k0_cond4 t = 1#1 ↔ 12 * 2 + (t.val + 1) + 3 < 36 := by decide +kernel
theorem off268_eq : ∀ t : Fin k0_t3_loop.trips, k0_cond4 t = 1#1 → k0_off268 t = ![0, (12 * 2 + (t.val + 1) + 3) % 4] := by decide +kernel
theorem off271_eq : ∀ t : Fin k0_t3_loop.trips, k0_cond4 t = 1#1 → k0_off271 t = ![1, (12 * 2 + (t.val + 1) + 3) % 4] := by decide +kernel
theorem off269_eq : ∀ t : Fin k0_t3_loop.trips, k0_cond4 t = 1#1 → k0_off269 t = ![(12 * 2 + (t.val + 1) + 3) % 4, 0, 0] := by decide +kernel
theorem off270_eq : ∀ t : Fin k0_t3_loop.trips, k0_cond4 t = 1#1 → k0_off270 t = ![768 * ((12 * 2 + (t.val + 1) + 3) / 12), 1536 * ((12 * 2 + (t.val + 1) + 3) % 12)] := by decide +kernel
theorem trips3 : k0_t3_loop.trips = 11 := by decide +kernel
theorem w3_eq : ∀ t, w3 t = (12 * 2 + (t.val + 1)) % 4 := by decide +kernel
theorem P3_eq : ∀ t i j, P3 t i j = 2 * (6 * (t.val + 1) + i.val) + j.val := by decide +kernel
theorem N3_eq : ∀ t i, N3 t i = 256 * ((6 * (t.val + 1) + i.val + 1) % 72) := by decide +kernel
theorem g3_eq : ∀ t, g3 t = 128 * ((t.val + 1) / 2) := by decide +kernel
theorem q3_eq : ∀ t, q3 t = 128 * ((t.val + 1) % 2) := by decide +kernel
theorem c3_eq : ∀ t, c3 t = 128 * n3 t := by decide +kernel
theorem n3_eq : ∀ t, n3 t = 6 * (2 - 1) + (t.val + 1) / 2 := by decide +kernel

theorem wp_body3 (t : Fin k0_t3_loop.trips) {m : Mxu F} (hs : St I 2 (6 * (t.val + 1)) (6 * (t.val + 1)) m) (Q : Mxu F → sProp 𝕄) :
    Held c I 2 1 t.val ⊢ iprop((∀ m', ⌜St I 2 (6 * (t.val + 2)) (6 * (t.val + 2) % 72) m'⌝ -∗ Held c I 2 1 (t.val + 1) -∗ Q m') -∗ WP c (body3 t m) Q) := by
  have ht := t.isLt
  have h11 := trips3
  unfold body3 tiles3
  iintro ⟨HR, HO, HX⟩ Hk
  rw [WP_bind]
  iapply (wp_ringWait c I (g := 12 * 2 + (t.val + 1)) _ _ _ _ _ _ _ _ (by omega) (off264_eq t) (off267_eq t) (off265_eq t) (off266_eq t)) $$ [HR HO]
  · isplitl [HR] <;> iassumption
  iintro ⟨HR, HO⟩
  dsimp only
  have step := wp_stepB c I (b := 2) (s := t.val + 1) (O := 1) (by omega) (by omega) (w3_eq t) rfl (P3_eq t) (N3_eq t) (g3_eq t) (q3_eq t) (c3_eq t) (n3_eq t) rfl
    (w3_lt t) (by omega) (P3_lt t) (N3_lt t) (g3_lt t) (q3_lt t) (c3_lt t) (n3_lt t) (c3_packed t) (by omega) hs Q
  by_cases h : k0_cond4 t = 1#1
  · rw [dif_pos h, WP_bind]
    iapply (wp_ringStart c I (g := 12 * 2 + (t.val + 1)) _ _ _ _ _ _ _ _ (k := 12 * 2 + (t.val + 1) + 3) rfl ((cond4_iff t).1 h) (off268_eq t h) (off271_eq t h) (off269_eq t h) (off270_eq t h)) $$ HR
    iintro HR
    iapply step $$ [HR HO HX]
    · isplitl [HR]; · iexact HR
      isplitl [HO]; · iexact HO
      iexact HX
    iexact Hk
  · rw [dif_neg h]
    ihave HR := (ring_skip c I (g := 12 * 2 + (t.val + 1)) fun h' => h ((cond4_iff t).2 h')) $$ HR
    iapply step $$ [HR HO HX]
    · isplitl [HR]; · iexact HR
      isplitl [HO]; · iexact HO
      iexact HX
    iexact Hk

theorem wp_loop3 {m : Mxu F} (hs : St I 2 6 6 m) (Q : Mxu F → sProp 𝕄) :
    Held c I 2 1 0 ⊢ iprop((∀ m', ⌜St I 2 72 0 m'⌝ -∗ Held c I 2 1 11 -∗ Q m') -∗ WP c (Scf.Loop.for k0_t3_loop k0_t3_ok m fun t m => body3 t m) Q) := by
  iintro H Hk
  iapply (Scf.wp_for frame (wpE (defs₀ (F := F)) Variants.none (c : Thread nD τ) none) Set.univ _ _ _ _ m (fun t m => body3 t m)
    (fun k m => iprop(⌜St I 2 (6 * (k + 1)) (6 * (k + 1) % 72) m⌝ ∗ Held c I 2 1 k)) (fun t m => by
      iintro ⟨%hs, H⟩
      have ht : t.val < 11 := trips3 ▸ t.isLt
      rw [show 6 * (t.val + 1) % 72 = 6 * (t.val + 1) by omega] at hs
      iapply (wp_body3 c I t hs) $$ H
      iintro %m %hs H
      isplitr [H]
      · ipureintro; exact hs
      · iexact H))
  isplitl [H]
  · isplitr [H]
    · ipureintro; exact hs
    · iexact H
  · iintro %m ⟨%hs, H⟩
    have e : Scf.trips k0_t3_loop.lb k0_t3_loop.ub k0_t3_loop.st = 11 := trips3
    rw [e] at hs
    rw [e]
    iapply Hk $$ %_ %hs H

end Cert.KernelIdeal.Body
end
-- ==== Proof.Run.Begin.lean ====
/- The beginning: every transfer of the activations started, the first weights and all the scales fetched, block 0's first step. -/
module

public import proofs.«01_k».proof.Proof.Run.Step
public import Idealize.ShloMosaic.Lib.Pipeline.Value

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

variable (c : Dev nD) (I : In F)

/-! ## The activations' transfers -/

/-- The pieces of the activations not yet sent off. -/
abbrev XRest (k : ℕ) : sProp 𝕄 := iprop(pts c xH (colsGe (1536 * k)) I.X ∗ ∃ f, pts c xV (colsGe (1536 * k)) f)

theorem wp_xStartN {i : Fin 12} {k : ℕ} (h : i.val = k) (Q : PUnit → sProp 𝕄) :
    iprop(XRest c I k ∗ Sem0 c (semX k)) ⊢ iprop((XFl c I k -∗ XRest c I (k + 1) -∗ Q ⟨⟩) -∗ WP c (xStartN i) Q) := by
  subst h
  unfold xStartN
  iintro ⟨⟨HX, %f, HV⟩, HS⟩ Hk
  iapply (wp_xStart c I (k := i.val) (by rw [Nat.mod_eq_of_lt i.isLt]) rfl _ _ _ _ f) $$ [HX HV HS]
  · isplitl [HX]; · iexact HX
    isplitl [HV]; · iexact HV
    iexact HS
  iintro ⟨HF, HX, HV⟩
  iapply Hk $$ HF
  isplitl [HX]; · iexact HX
  iexists f
  iexact HV

theorem wp_xWaitN {i : Fin 12} {k : ℕ} (h : i.val = k) (Q : PUnit → sProp 𝕄) :
    iprop(XState c I k ∗ Owes c) ⊢ iprop((iprop(XState c I (k + 1) ∗ Owes c) -∗ Q ⟨⟩) -∗ WP c (xWaitN i) Q) := by
  subst h
  unfold xWaitN
  exact wp_xWait c I (k := i.val) (by rw [Nat.mod_eq_of_lt i.isLt]) rfl _ _ _ _ i.isLt Q

/-! ## The scales -/

/-- The scales' buffers, before and after. -/
abbrev SIdle : sProp 𝕄 :=
  iprop((pts c xsH Finset.univ I.XS ∗ (∃ f, pts c xsV Finset.univ f) ∗ Sem0 c (sSem 0)) ∗ (pts c wgsH Finset.univ I.WGS ∗ (∃ f, pts c wgS Finset.univ f) ∗ Sem0 c (sSem 1))
    ∗ (pts c wusH Finset.univ I.WUS ∗ (∃ f, pts c wuS Finset.univ f) ∗ Sem0 c (sSem 2)))
abbrev SFl : sProp 𝕄 :=
  iprop(Fly c (sSem 0) xsV.view.dmaCredit iprop(pts c xsV Finset.univ I.XS ∗ pts c xsH Finset.univ I.XS) ∗ Fly c (sSem 1) wgS.view.dmaCredit iprop(pts c wgS Finset.univ I.WGS ∗ pts c wgsH Finset.univ I.WGS)
    ∗ Fly c (sSem 2) wuS.view.dmaCredit iprop(pts c wuS Finset.univ I.WUS ∗ pts c wusH Finset.univ I.WUS))
/-- What of the scales' transfers is left. -/
abbrev SRest : sProp 𝕄 :=
  iprop((pts c xsH Finset.univ I.XS ∗ Sem0 c (sSem 0)) ∗ (pts c wgsH Finset.univ I.WGS ∗ Sem0 c (sSem 1)) ∗ (pts c wusH Finset.univ I.WUS ∗ Sem0 c (sSem 2)))

theorem wp_sStarts (Q : PUnit → sProp 𝕄) : SIdle c I ⊢ iprop((SFl c I -∗ Q ⟨⟩) -∗ WP c sStarts Q) := by
  unfold sStarts
  iintro ⟨⟨H0, ⟨%f0, V0⟩, S0⟩, ⟨H1, ⟨%f1, V1⟩, S1⟩, H2, ⟨%f2, V2⟩, S2⟩ Hk
  rw [WP_bind]
  iapply (wp_start c (src := xsH) (dst := xsV) (fs := I.XS) (fd := f0) (fv := I.XS) xsV.view.dmaCredit rfl (by decide) (View.set_whole _) (Finset.subset_univ _)
    (fun i _ => View.write_emb_of_mem _ _ (Finset.mem_univ i))) $$ [H0 V0 S0]
  · isplitl [H0]; · iexact H0
    isplitl [V0] <;> iassumption
  iintro F0
  rw [WP_bind]
  iapply (wp_start c (src := wgsH) (dst := wgS) (fs := I.WGS) (fd := f1) (fv := I.WGS) wgS.view.dmaCredit rfl (by decide) (View.set_whole _) (Finset.subset_univ _)
    (fun i _ => View.write_emb_of_mem _ _ (Finset.mem_univ i))) $$ [H1 V1 S1]
  · isplitl [H1]; · iexact H1
    isplitl [V1] <;> iassumption
  iintro F1
  iapply (wp_start c (src := wusH) (dst := wuS) (fs := I.WUS) (fd := f2) (fv := I.WUS) wuS.view.dmaCredit rfl (by decide) (View.set_whole _) (Finset.subset_univ _)
    (fun i _ => View.write_emb_of_mem _ _ (Finset.mem_univ i))) $$ [H2 V2 S2]
  · isplitl [H2]; · iexact H2
    isplitl [V2] <;> iassumption
  iintro F2
  iapply Hk
  isplitl [F0]; · iexact F0
  isplitl [F1] <;> iassumption

theorem wp_sWaits (Q : PUnit → sProp 𝕄) :
    iprop(SFl c I ∗ Owes c) ⊢ iprop((iprop(pts c xsV Finset.univ I.XS ∗ Scales c I ∗ SRest c I ∗ Owes c) -∗ Q ⟨⟩) -∗ WP c sWaits Q) := by
  unfold sWaits
  iintro ⟨⟨F0, F1, F2⟩, HO⟩ Hk
  rw [WP_bind]
  iapply (wp_waitD c rfl) $$ [F0 HO]
  · isplitl [F0]
    · iexact F0
    · iexact HO
  iintro ⟨⟨V0, H0⟩, S0, HO⟩
  rw [WP_bind]
  iapply (wp_waitD c rfl) $$ [F1 HO]
  · isplitl [F1]
    · iexact F1
    · iexact HO
  iintro ⟨⟨V1, H1⟩, S1, HO⟩
  iapply (wp_waitD c rfl) $$ [F2 HO]
  · isplitl [F2]
    · iexact F2
    · iexact HO
  iintro ⟨⟨V2, H2⟩, S2, HO⟩
  iapply Hk
  isplitl [V0]; · iexact V0
  isplitl [V1 V2]
  · isplitl [V1] <;> iassumption
  isplitl [H0 H1 H2 S0 S1 S2]
  · isplitl [H0 S0]
    · isplitl [H0] <;> iassumption
    isplitl [H1 S1]
    · isplitl [H1] <;> iassumption
    isplitl [H2] <;> iassumption
  iexact HO

/-! ## The activations' scales, transposed -/

theorem pos_T16 : ∀ a, 0 < S256x16.size a := by decide
theorem pos_T128 : ∀ a, 0 < S256x128.size a := by decide

theorem xs_written (f : Vec F S144x256 .f32) (h0 h1) :
    updateSlice (updateSlice f
      (shapeCast S128x256 (transpose S128x256 [1, 0] (fun j => I.XS ((Rect.unit (s := S256x144) ![0, 0] S256x128.size inb_S256x144_S256x128_0_0).emb j)) transposes_S256x128_p1_0_S128x256 : FVec F S128x256 .f32) shapeCasts_S128x256_S128x256) ![0, 0] h0)
      (shapeCast S16x256 (transpose S16x256 [1, 0] (fun j => I.XS ((Rect.unit (s := S256x144) ![0, 128] S256x16.size inb_S256x144_S256x16_0_128).emb j)) transposes_S256x16_p1_0_S16x256 : FVec F S16x256 .f32) shapeCasts_S16x256_S16x256) ![128, 0] h1 = xstVal I := by
  funext i
  have l0 : (i 0).val < 144 := (i 0).isLt
  have l1 : (i 1).val < 256 := (i 1).isLt
  rw [shapeCast_self, shapeCast_self]
  unfold updateSlice xstVal
  split
  · next hin =>
    have g0 := hin 0
    change 128 ≤ (i 0).val ∧ (i 0).val < 128 + 16 at g0
    refine (transpose_apply _ _ transposes_S256x16_p1_0_S16x256 _ (ixT S256x16 pos_T16 ![(i 1).val, (i 0).val - 128]) (fun b => ?_)).trans ?_
    · fin_cases b
      · show ((i 0).val - 128) % 16 = (i 0).val - 128
        omega
      · show (i 1).val % 256 = (i 1).val - 0
        omega
    congr 1
    funext a
    apply Fin.ext
    fin_cases a
    · show 0 + 1 * ((i 1).val % 256) = (i 1).val % 256
      omega
    · show 128 + 1 * (((i 0).val - 128) % 16) = (i 0).val % 144
      omega
  · next hin =>
    have g0 : (i 0).val < 128 := by
      by_contra h
      apply hin
      intro a
      fin_cases a
      · show 128 ≤ (i 0).val ∧ (i 0).val < 128 + 16
        omega
      · show 0 ≤ (i 1).val ∧ (i 1).val < 0 + 256
        omega
    have hin' : ∀ a, (![0, 0] : Fin 2 → ℕ) a ≤ (i a).val ∧ (i a).val < (![0, 0] : Fin 2 → ℕ) a + S128x256.size a := by
      intro a
      fin_cases a
      · show 0 ≤ (i 0).val ∧ (i 0).val < 0 + 128
        omega
      · show 0 ≤ (i 1).val ∧ (i 1).val < 0 + 256
        omega
    refine (dif_pos hin').trans ?_
    refine (transpose_apply _ _ transposes_S256x128_p1_0_S128x256 _ (ixT S256x128 pos_T128 ![(i 1).val, (i 0).val]) (fun b => ?_)).trans ?_
    · fin_cases b
      · show (i 0).val % 128 = (i 0).val - 0
        omega
      · show (i 1).val % 256 = (i 1).val - 0
        omega
    congr 1
    funext a
    apply Fin.ext
    fin_cases a
    · show 0 + 1 * ((i 1).val % 256) = (i 1).val % 256
      omega
    · show 0 + 1 * ((i 0).val % 128) = (i 0).val % 144
      omega

theorem wp_xsTr (Q : PUnit → sProp 𝕄) :
    iprop(pts c xsV Finset.univ I.XS ∗ ∃ f, pts c xsT Finset.univ f)
      ⊢ iprop((iprop(pts c xsV Finset.univ I.XS ∗ pts c xsT Finset.univ (xstVal I)) -∗ Q ⟨⟩) -∗ WP c xsTr Q) := by
  unfold xsTr Prog.lift
  iintro ⟨HV, %f, HT⟩ Hk
  rw [WP_bind]
  iapply (wp_load_rect Variants.none (c : Thread nD τ) none Set.univ (m := xsV) (r := Rect.unit (s := S256x144) ![0, 0] S256x128.size inb_S256x144_S256x128_0_0) (f := I.XS) (Finset.subset_univ _)) $$ HV
  iintro HV
  iapply (WP_pure c)
  rw [WP_bind]
  iapply (wp_load_rect Variants.none (c : Thread nD τ) none Set.univ (m := xsT) (r := Rect.unit (s := S144x256) ![0, 0] S128x256.size inb_S144x256_S128x256_0_0) (f := f) (Finset.subset_univ _)) $$ HT
  iintro HT
  iapply (WP_pure c)
  rw [WP_bind]
  iapply (wp_store Variants.none (c : Thread nD τ) none Set.univ (m := xsT) (r := Rect.unit (s := S144x256) ![0, 0] S128x256.size inb_S144x256_S128x256_0_0) (f := f) (Finset.subset_univ _)) $$ HT
  iintro HT
  iapply (WP_pure c)
  rw [WP_bind]
  iapply (wp_load_rect Variants.none (c : Thread nD τ) none Set.univ (m := xsV) (r := Rect.unit (s := S256x144) ![0, 128] S256x16.size inb_S256x144_S256x16_0_128) (f := I.XS) (Finset.subset_univ _)) $$ HV
  iintro HV
  iapply (WP_pure c)
  rw [WP_bind]
  iapply (wp_load_rect Variants.none (c : Thread nD τ) none Set.univ (m := xsT) (r := Rect.unit (s := S144x256) ![128, 0] S16x256.size inb_S144x256_S16x256_128_0) (Finset.subset_univ _)) $$ HT
  iintro HT
  iapply (WP_pure c)
  iapply (wp_store Variants.none (c : Thread nD τ) none Set.univ (m := xsT) (r := Rect.unit (s := S144x256) ![128, 0] S16x256.size inb_S144x256_S16x256_128_0) (Finset.subset_univ _)) $$ HT
  iintro HT
  iapply (WP_pure c)
  iapply Hk
  isplitl [HV]; · iexact HV
  have e : ((xsT.access (Rect.unit (s := S144x256) ![128, 0] S16x256.size inb_S144x256_S16x256_128_0)).write (Elt F) ((xsT.access (Rect.unit (s := S144x256) ![0, 0] S128x256.size inb_S144x256_S128x256_0_0)).write (Elt F) f
      (shapeCast S128x256 (transpose S128x256 [1, 0] ((xsV.access (Rect.unit (s := S256x144) ![0, 0] S256x128.size inb_S256x144_S256x128_0_0)).read (Elt F) I.XS) transposes_S256x128_p1_0_S128x256 : FVec F S128x256 .f32) shapeCasts_S128x256_S128x256) Finset.univ)
      (shapeCast S16x256 (transpose S16x256 [1, 0] ((xsV.access (Rect.unit (s := S256x144) ![0, 128] S256x16.size inb_S256x144_S256x16_0_128)).read (Elt F) I.XS) transposes_S256x16_p1_0_S16x256 : FVec F S16x256 .f32) shapeCasts_S16x256_S16x256) Finset.univ) = xstVal I := by
    have e1 := View.write_whole_slice_unit (Val := Elt F) cc0_scratch2 ![0, 0] S128x256.size inb_S144x256_S128x256_0_0 f
      (shapeCast S128x256 (transpose S128x256 [1, 0] ((xsV.access (Rect.unit (s := S256x144) ![0, 0] S256x128.size inb_S256x144_S256x128_0_0)).read (Elt F) I.XS) transposes_S256x128_p1_0_S128x256 : FVec F S128x256 .f32) shapeCasts_S128x256_S128x256)
    refine (congrArg (fun g => (xsT.access (Rect.unit (s := S144x256) ![128, 0] S16x256.size inb_S144x256_S16x256_128_0)).write (Elt F) g _ Finset.univ) e1).trans ?_
    exact (View.write_whole_slice_unit (Val := Elt F) cc0_scratch2 ![128, 0] S16x256.size inb_S144x256_S16x256_128_0 _ _).trans (xs_written I f _ _)
  have e' := congrArg (fun g => (pts c xsT Finset.univ g : sProp 𝕄)) e
  iapply (BI.BIBase.Entails.of_eq e') $$ HT

/-! ## All of the beginning -/

/-- What the core holds at the start. -/
abbrev Held0 : sProp 𝕄 :=
  iprop((XRest c I 0 ∗ XSems (F := F) c 12) ∗ SIdle c I ∗ (Idle (F := F) c 0 ∗ Idle (F := F) c 1 ∗ Idle (F := F) c 2 ∗ Idle (F := F) c 3 ∗ Src c I 0 0)
    ∗ (∃ f, pts c xsT Finset.univ f) ∗ (∃ f, pts c xT Finset.univ f) ∗ Owes (F := F) c)

/-- Every transfer of the activations in flight. -/
theorem xstate_zero : XFls c I 12 ⊢ XState c I 0 := by
  unfold XState pts
  rw [colsLt_zero]
  iintro H
  isplitr [H]
  · iapply (BI.BIBase.Entails.of_eq pointsTo_empty.symm)
    iempintro
  isplitr [H]
  · iapply (BI.BIBase.Entails.of_eq pointsTo_empty.symm)
    iempintro
  isplitr [H]
  · simp only [XSems]
    iempintro
  · iexact H

theorem flO_of {g : ℕ} (h : g < 36) : (Fl c I g : sProp 𝕄) ⊢ FlO c I g := by
  rw [show FlO c I g = Fl c I g from if_pos h]

theorem both_init : Both (Mxu.init : Mxu F) none none (sm I 0 0) (sm I 0 1) 0 := fun q =>
  UnitSt.congr UnitSt.init fun c hc => by simp [mixF, sm, sumO]

theorem wp_begin (Q : Mxu F → sProp 𝕄) :
    Held0 c I ⊢ iprop((∀ m', ⌜St I 0 6 6 m'⌝ -∗ Held1 c I 0 -∗ SRest c I -∗ pts c xsV Finset.univ I.XS -∗ XRest c I 12 -∗ Q m') -∗ WP c beginU Q) := by
  unfold beginU Held0
  simp only [XSems]
  iintro ⟨⟨HX, S11, S10, S9, S8, S7, S6, S5, S4, S3, S2, S1, S0, -⟩, HS, ⟨G0, G1, G2, G3, HW⟩, HT, ⟨%fT, HK⟩, HO⟩ Hk
  rw [WP_bind]
  iapply (wp_xStartN c I (i := 0) (k := 0) rfl) $$ [HX S0]
  · isplitl [HX] <;> iassumption
  iintro F0 HX
  rw [WP_bind]
  iapply (wp_sStarts c I) $$ HS
  iintro HS
  rw [WP_bind]
  unfold wStarts0
  iapply (wp_wStarts c I (g := 0) (by decide) (by decide) (by decide) (by decide) _ _ _ _ _ _ _ _ (a := 0) (by omega)) $$ [G0 HW]
  · isplitl [G0] <;> iassumption
  iintro ⟨G0, HW⟩
  rw [WP_bind]
  iapply (wp_xStartN c I (i := 1) (k := 1) rfl) $$ [HX S1]
  · isplitl [HX] <;> iassumption
  iintro F1 HX
  rw [WP_bind]
  unfold wStarts1
  iapply (wp_wStarts c I (g := 1) (by decide) (by decide) (by decide) (by decide) _ _ _ _ _ _ _ _ (a := 0) (by omega)) $$ [G1 HW]
  · isplitl [G1] <;> iassumption
  iintro ⟨G1, HW⟩
  rw [WP_bind]
  iapply (wp_xStartN c I (i := 2) (k := 2) rfl) $$ [HX S2]
  · isplitl [HX] <;> iassumption
  iintro F2 HX
  rw [WP_bind]
  unfold wStarts2
  iapply (wp_wStarts c I (g := 2) (by decide) (by decide) (by decide) (by decide) _ _ _ _ _ _ _ _ (a := 0) (by omega)) $$ [G2 HW]
  · isplitl [G2] <;> iassumption
  iintro ⟨G2, HW⟩
  rw [WP_bind]
  iapply (wp_xStartN c I (i := 3) (k := 3) rfl) $$ [HX S3]
  · isplitl [HX] <;> iassumption
  iintro F3 HX
  rw [WP_bind]
  iapply (wp_xStartN c I (i := 4) (k := 4) rfl) $$ [HX S4]
  · isplitl [HX] <;> iassumption
  iintro F4 HX
  rw [WP_bind]
  iapply (wp_xStartN c I (i := 5) (k := 5) rfl) $$ [HX S5]
  · isplitl [HX] <;> iassumption
  iintro F5 HX
  rw [WP_bind]
  iapply (wp_xStartN c I (i := 6) (k := 6) rfl) $$ [HX S6]
  · isplitl [HX] <;> iassumption
  iintro F6 HX
  rw [WP_bind]
  iapply (wp_xStartN c I (i := 7) (k := 7) rfl) $$ [HX S7]
  · isplitl [HX] <;> iassumption
  iintro F7 HX
  rw [WP_bind]
  iapply (wp_xStartN c I (i := 8) (k := 8) rfl) $$ [HX S8]
  · isplitl [HX] <;> iassumption
  iintro F8 HX
  rw [WP_bind]
  iapply (wp_xStartN c I (i := 9) (k := 9) rfl) $$ [HX S9]
  · isplitl [HX] <;> iassumption
  iintro F9 HX
  rw [WP_bind]
  iapply (wp_xStartN c I (i := 10) (k := 10) rfl) $$ [HX S10]
  · isplitl [HX] <;> iassumption
  iintro F10 HX
  rw [WP_bind]
  iapply (wp_xStartN c I (i := 11) (k := 11) rfl) $$ [HX S11]
  · isplitl [HX] <;> iassumption
  iintro F11 HX
  rw [WP_bind]
  iapply (wp_sWaits c I) $$ [HS HO]
  · isplitl [HS] <;> iassumption
  iintro ⟨HV, HS, HR, HO⟩
  rw [WP_bind]
  iapply (wp_xsTr c I) $$ [HV HT]
  · isplitl [HV] <;> iassumption
  iintro ⟨HV, HT⟩
  ihave HF := (xstate_zero c I) $$ [F0 F1 F2 F3 F4 F5 F6 F7 F8 F9 F10 F11]
  · simp only [XFls]
    isplitl [F0]; · iexact F0
    isplitl [F1]; · iexact F1
    isplitl [F2]; · iexact F2
    isplitl [F3]; · iexact F3
    isplitl [F4]; · iexact F4
    isplitl [F5]; · iexact F5
    isplitl [F6]; · iexact F6
    isplitl [F7]; · iexact F7
    isplitl [F8]; · iexact F8
    isplitl [F9]; · iexact F9
    isplitl [F10]; · iexact F10
    isplitl [F11]; · iexact F11
    iempintro
  rw [WP_bind]
  iapply (wp_xWaitN c I (i := 0) (k := 0) rfl) $$ [HF HO]
  · isplitl [HF] <;> iassumption
  iintro ⟨⟨HA, HF⟩, HO⟩
  rw [WP_bind]
  iapply (wp_widenU c I (t := 0) (C := 1536 * 1) (k := 0) rfl rfl rfl (by omega) (by omega) _ _ _ _ (both_init I)) $$ [HA HT HK]
  · isplitl [HA HT]
    · isplitl [HA] <;> iassumption
    · iexists fT
      isplitr [HK]
      · ipureintro; exact fun i h => absurd h (by omega)
      · iexact HK
  iintro %m %hm ⟨HA, HT⟩ HK
  rw [WP_bind]
  unfold wWaits0
  iapply (wp_wWaits c I (g := 0) (by decide) (by decide) (by decide) (by decide) _ _ _ _ _ _ _ _ (b := 3) (by omega)) $$ [G0 HW HO]
  · isplitl [G0]; · iexact G0
    isplitl [HW] <;> iassumption
  iintro ⟨G0, HW, HO⟩
  rw [WP_bind]
  iapply (wp_xWaitN c I (i := 1) (k := 1) rfl) $$ [HA HF HO]
  · isplitr [HO]
    · isplitl [HA] <;> iassumption
    · iexact HO
  iintro ⟨⟨HA, HF⟩, HO⟩
  rw [WP_bind]
  unfold wStarts3
  iapply (wp_wStarts c I (g := 3) (by decide) (by decide) (by decide) (by decide) _ _ _ _ _ _ _ _ (a := 1) (by omega)) $$ [G3 HW]
  · isplitl [G3] <;> iassumption
  iintro ⟨G3, HW⟩
  ihave HWB := (weights_of c I (g := 0) (b := 0) (s := 0) rfl (by omega)) $$ [G0 HS]
  · isplitl [G0] <;> iassumption
  icases HWB with ⟨HWT, HB⟩
  iapply (wp_tilesA c I (T := slotSet (0 % 4)) (b := 0) (s := 0) (by rfl) (by omega) rfl (fun i j => by unfold PA; omega) (fun i => by unfold NA; have := i.isLt; omega) _ _ _ _
    (C := 1536 * 2) (fun i j => by unfold NRA; have := i.isLt; omega) (fun i => by unfold NA; have := i.isLt; omega) _ _ ⟨_, hm⟩) $$ [HWT HA HT HK]
  · isplitl [HWT]; · iexact HWT
    isplitl [HA HT]
    · isplitl [HA] <;> iassumption
    · iexact HK
  iintro %m %hs ⟨HWT, ⟨HA, HT⟩, HK⟩
  ispecialize HB $$ HWT
  icases HB with ⟨G0, HS⟩
  iapply Hk $$ %_ %hs [G0 G1 G2 G3 HW HA HF HO HS HT HK] HR HV HX
  isplitl [G0 G1 G2 G3 HW]
  · iapply (ring_next c I 0)
    isplitl [G0]; · iexact G0
    isplitl [G1]; · iapply (flO_of c I (g := 1) (by omega)) $$ G1
    isplitl [G2]; · iapply (flO_of c I (g := 2) (by omega)) $$ G2
    isplitl [G3]; · iapply (flO_of c I (g := 3) (by omega)) $$ G3
    iexact HW
  isplitl [HA HF]
  · isplitl [HA]
    · iexact HA
    · iexact HF
  isplitl [HO]; · iexact HO
  isplitl [HS]; · iexact HS
  isplitl [HT]; · iexact HT
  iexact HK

end Cert.KernelIdeal.Body
end
-- ==== Proof.Run.Out.lean ====
/- The results on their way out: a block of codes, and the scales. -/
module

public import proofs.«01_k».proof.Proof.Run.Loops
public import proofs.«01_k».proof.Proof.Run.Begin

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

variable (c : Dev nD) (I : In F)

/-! ## A block's columns -/

def cdBlk (b : ℕ) : Finset S256x2304.Idx := Finset.univ.filter fun i => 768 * b ≤ (i 1).val ∧ (i 1).val < 768 * b + 768

theorem mem_cdBlk {b : ℕ} (i : S256x2304.Idx) : i ∈ cdBlk b ↔ 768 * b ≤ (i 1).val ∧ (i 1).val < 768 * b + 768 := by
  show i ∈ Finset.filter _ _ ↔ _
  rw [Finset.mem_filter]
  exact ⟨fun h => h.2, fun h => ⟨Finset.mem_univ _, h⟩⟩
theorem mem_cdGe {b : ℕ} (i : S256x2304.Idx) : i ∈ cdGe b ↔ 768 * b ≤ (i 1).val := by
  show i ∈ Finset.filter _ _ ↔ _
  rw [Finset.mem_filter]
  exact ⟨fun h => h.2, fun h => ⟨Finset.mem_univ _, h⟩⟩
theorem cdBlk_sub {b : ℕ} : cdBlk b ⊆ cdGe b := fun i h => (mem_cdGe i).2 ((mem_cdBlk i).1 h).1
theorem cdGe_sdiff {b : ℕ} : cdGe b \ cdBlk b = cdGe (b + 1) := by
  ext i
  rw [Finset.mem_sdiff, mem_cdGe, mem_cdGe, mem_cdBlk]
  omega
theorem cdGe_zero : cdGe 0 = Finset.univ := by
  ext i
  rw [mem_cdGe]
  exact ⟨fun _ => Finset.mem_univ _, fun _ => by omega⟩
theorem cdGe_three (i : S256x2304.Idx) : i ∉ cdGe 3 := fun h => by
  have := (mem_cdGe i).1 h
  have : (i 1).val < 2304 := (i 1).isLt
  omega

theorem oset {b : Fin 3} : (Rect.unit (s := S256x2304) ![0, 768 * b.val] S256x768.size (inbO b)).set = cdBlk b.val := by
  ext i
  rw [Rect.mem_set_unit, mem_cdBlk]
  have l0 : (i 0).val < 256 := (i 0).isLt
  constructor
  · intro e
    exact e 1
  · intro e a
    fin_cases a
    · show 0 ≤ (i 0).val ∧ (i 0).val < 0 + 256
      omega
    · exact e

theorem o_write (X f : Vec F S256x2304 .fp8e4m3) (b : Fin 3) :
    ∀ i ∈ cdBlk b.val, (oDst b (inbO b)).view.write (Elt F) f ((oSrc b (inbO b)).view.read (Elt F) X) Finset.univ i = X i := by
  intro i hi
  have hs : (oDst b (inbO b)).view.set = cdBlk b.val := (View.set_slice_whole _ _).trans oset
  rw [← hs] at hi
  obtain ⟨y, -, rfl⟩ := Finset.mem_map.1 hi
  rw [View.write_emb_of_mem _ _ (Finset.mem_univ _)]
  rfl

/-- What of the codes' result has not been written. -/
abbrev ORest (b : ℕ) : sProp 𝕄 := iprop(∃ f, pts c cdH (cdGe b) f)
/-- A block of codes on its way; arrived. -/
abbrev OFl (b : Fin 3) : sProp 𝕄 := Fly c (oSem b.castSucc) 6144 iprop(pts c cdH (cdBlk b.val) (cdVal I) ∗ pts c cdV (cdBlk b.val) (cdVal I))
abbrev ODone (b : Fin 3) : sProp 𝕄 := iprop((pts c cdH (cdBlk b.val) (cdVal I) ∗ pts c cdV (cdBlk b.val) (cdVal I)) ∗ Sem0 c (oSem b.castSucc))

theorem wp_oStart {b : Fin 3} {b' K : ℕ} (h : b.val = b') (hK : 12 * (b' + 1) ≤ K) (Q : PUnit → sProp 𝕄) :
    iprop(Coded c I b' K ∗ ORest c b' ∗ Sem0 c (oSem b.castSucc))
      ⊢ iprop((OFl c I b -∗ Coded c I (b' + 1) K -∗ ORest c (b' + 1) -∗ Q ⟨⟩) -∗ WP c (oStart b) Q) := by
  subst h
  unfold oStart
  iintro ⟨⟨⟨%f, %hf, HC⟩, HT⟩, ⟨%g, HD⟩, HS⟩ Hk
  ihave HC := (pointsTo_split_subset (cdBlk_sub (b := b.val))).1 $$ HC
  icases HC with ⟨HC, HRC⟩
  ihave HD := (pointsTo_split_subset (cdBlk_sub (b := b.val))).1 $$ HD
  icases HD with ⟨HD, HRD⟩
  rw [cdGe_sdiff]
  have e : (pts c cdV (cdBlk b.val) f : sProp 𝕄) ⊢ pts c cdV (cdBlk b.val) (cdVal I) := BI.BIBase.Entails.of_eq (pointsTo_congr fun i hi => hf i (by
    have := (mem_cdBlk i).1 hi
    have : (i 0).val < 256 := (i 0).isLt
    omega))
  ihave HC := e $$ HC
  iapply (wp_start c (src := oSrc b (inbO b)) (dst := oDst b (inbO b)) (fs := cdVal I) (fv := cdVal I) 6144 rfl (by decide) ((View.set_slice_whole _ _).trans oset) ((View.set_slice_whole _ _).trans oset).subset (o_write (cdVal I) g b)) $$ [HC HD HS]
  · isplitl [HC]; · iexact HC
    isplitl [HD]; · iexact HD
    iexact HS
  iintro HF
  iapply Hk $$ HF [HRC HT]
  · isplitl [HRC]
    · iexists f
      isplitr [HRC]
      · ipureintro; exact hf
      · iexact HRC
    · iexact HT
  · iexists g
    iexact HRD

theorem wp_oWait {b : Fin 3} (Q : PUnit → sProp 𝕄) :
    iprop(OFl c I b ∗ Owes c) ⊢ iprop((iprop(ODone c I b ∗ Owes c) -∗ Q ⟨⟩) -∗ WP c (oWait b) Q) := by
  unfold oWait
  iintro ⟨HF, HO⟩ Hk
  iapply (wp_waitD c rfl) $$ [HF HO]
  · isplitl [HF]
    · iexact HF
    · iexact HO
  iintro ⟨HD, HS, HO⟩
  iapply Hk
  isplitr [HO]
  · isplitl [HD] <;> iassumption
  · iexact HO

theorem joinH (b : ℕ) : iprop(pts c cdH (cdBlk b) (cdVal I) ∗ pts c cdH (cdGe (b + 1)) (cdVal I)) ⊢ pts c cdH (cdGe b) (cdVal I) := by
  rw [← cdGe_sdiff]
  exact (pointsTo_split_subset (cdBlk_sub (b := b))).2
theorem joinV (b : ℕ) : iprop(pts c cdV (cdBlk b) (cdVal I) ∗ pts c cdV (cdGe (b + 1)) (cdVal I)) ⊢ pts c cdV (cdGe b) (cdVal I) := by
  rw [← cdGe_sdiff]
  exact (pointsTo_split_subset (cdBlk_sub (b := b))).2

/-- All three blocks there: the whole array of codes, and the scratch given back. -/
theorem out_all {K : ℕ} : iprop(ODone c I 0 ∗ ODone c I 1 ∗ ODone c I 2 ∗ ORest c 3 ∗ Coded c I 3 K)
    ⊢ iprop(pts c cdH Finset.univ (cdVal I) ∗ pts c cdV Finset.univ (cdVal I) ∗ (∃ f, pts c scT Finset.univ f)
      ∗ Sem0 c (oSem (0 : Fin 3).castSucc) ∗ Sem0 c (oSem (1 : Fin 3).castSucc) ∗ Sem0 c (oSem (2 : Fin 3).castSucc)) := by
  iintro ⟨⟨⟨H0, V0⟩, S0⟩, ⟨⟨H1, V1⟩, S1⟩, ⟨⟨H2, V2⟩, S2⟩, ⟨%g, H3⟩, ⟨%f, -, V3⟩, %t, -, HT⟩
  have eH : (pts c cdH (cdGe 3) g : sProp 𝕄) ⊢ pts c cdH (cdGe 3) (cdVal I) := BI.BIBase.Entails.of_eq (pointsTo_congr fun i hi => absurd hi (cdGe_three i))
  have eV : (pts c cdV (cdGe 3) f : sProp 𝕄) ⊢ pts c cdV (cdGe 3) (cdVal I) := BI.BIBase.Entails.of_eq (pointsTo_congr fun i hi => absurd hi (cdGe_three i))
  ihave H3 := eH $$ H3
  ihave V3 := eV $$ V3
  ihave H3 := (joinH c I 2) $$ [H2 H3]
  · isplitl [H2]
    · iexact H2
    · iexact H3
  ihave H3 := (joinH c I 1) $$ [H1 H3]
  · isplitl [H1]
    · iexact H1
    · iexact H3
  ihave H3 := (joinH c I 0) $$ [H0 H3]
  · isplitl [H0]
    · iexact H0
    · iexact H3
  ihave V3 := (joinV c I 2) $$ [V2 V3]
  · isplitl [V2]
    · iexact V2
    · iexact V3
  ihave V3 := (joinV c I 1) $$ [V1 V3]
  · isplitl [V1]
    · iexact V1
    · iexact V3
  ihave V3 := (joinV c I 0) $$ [V0 V3]
  · isplitl [V0]
    · iexact V0
    · iexact V3
  rw [cdGe_zero]
  isplitl [H3]; · iexact H3
  isplitl [V3]; · iexact V3
  isplitl [HT]; · iexists t; iexact HT
  isplitl [S0]; · iexact S0
  isplitl [S1] <;> iassumption

/-! ## The scales -/

theorem pos_SC : ∀ a, 0 < S18x1x256.size a := by decide

/-- The scales' result. -/
def scOut : Vec F S256x18 .f32 := fun i => scVal I (ixT S18x1x256 pos_SC ![(i 1).val, 0, (i 0).val])

theorem pos_18 : ∀ a, 0 < S18x256.size a := by decide

theorem sc_written (f : Vec F S18x1x256 .f32) (hf : ScInv I 36 f) (g : Vec F S256x18 .f32) (h) :
    updateSlice g (shapeCast S256x18 (transpose S256x18 [1, 0] (shapeCast S18x256 (fun j => f ((Rect.unit (s := S18x1x256) ![0, 0, 0] S18x1x256.size inb_S18x1x256_S18x1x256_0_0_0).emb j)) shapeCasts_S18x1x256_S18x256 : FVec F S18x256 .f32) transposes_S18x256_p1_0_S256x18 : FVec F S256x18 .f32) shapeCasts_S256x18_S256x18) ![0, 0] h
      = scOut I := by
  funext i
  have l0 : (i 0).val < 256 := (i 0).isLt
  have l1 : (i 1).val < 18 := (i 1).isLt
  rw [shapeCast_self]
  unfold updateSlice scOut
  have hin : ∀ a, (![0, 0] : Fin 2 → ℕ) a ≤ (i a).val ∧ (i a).val < (![0, 0] : Fin 2 → ℕ) a + S256x18.size a := by
    intro a
    fin_cases a
    · show 0 ≤ (i 0).val ∧ (i 0).val < 0 + 256
      omega
    · show 0 ≤ (i 1).val ∧ (i 1).val < 0 + 18
      omega
  refine (dif_pos hin).trans ?_
  refine (transpose_apply _ _ transposes_S18x256_p1_0_S256x18 _ (ixT S18x256 pos_18 ![(i 1).val, (i 0).val]) (fun b => ?_)).trans ?_
  · fin_cases b
    · show (i 0).val % 256 = (i 0).val - 0
      omega
    · show (i 1).val % 18 = (i 1).val - 0
      omega
  refine (shapeCast_apply _ _ _ (ixT S18x1x256 pos_SC ![(i 1).val, 0, (i 0).val]) ?_).trans ?_
  · rw [Shape.rowMajor_val_three, Shape.rowMajor_val_two]
    show (((i 1).val % 18) * 1 + 0 % 1) * 256 + (i 0).val % 256 = ((i 1).val % 18) * 256 + (i 0).val % 256
    omega
  show f _ = _
  have e : (Rect.unit (s := S18x1x256) ![0, 0, 0] S18x1x256.size inb_S18x1x256_S18x1x256_0_0_0).emb (ixT S18x1x256 pos_SC ![(i 1).val, 0, (i 0).val]) = ixT S18x1x256 pos_SC ![(i 1).val, 0, (i 0).val] := by
    funext a
    apply Fin.ext
    fin_cases a
    · show 0 + 1 * ((i 1).val % 18) = (i 1).val % 18
      omega
    · show 0 + 1 * (0 % 1) = 0 % 1
      omega
    · show 0 + 1 * ((i 0).val % 256) = (i 0).val % 256
      omega
  rw [e]
  apply hf
  show 2 * ((i 1).val % 18) + ((i 0).val % 256) / 128 < 36
  omega

theorem wp_scTr {O : ℕ} (Q : PUnit → sProp 𝕄) :
    iprop(Coded c I O 36 ∗ ∃ f, pts c scV Finset.univ f) ⊢ iprop((iprop(Coded c I O 36 ∗ pts c scV Finset.univ (scOut I)) -∗ Q ⟨⟩) -∗ WP c scTr Q) := by
  unfold scTr Prog.lift
  iintro ⟨⟨HC, %f, %hf, HT⟩, %g, HV⟩ Hk
  rw [WP_bind]
  iapply (wp_load_rect Variants.none (c : Thread nD τ) none Set.univ (m := scT) (r := Rect.unit (s := S18x1x256) ![0, 0, 0] S18x1x256.size inb_S18x1x256_S18x1x256_0_0_0) (f := f) (Finset.subset_univ _)) $$ HT
  iintro HT
  iapply (WP_pure c)
  rw [WP_bind]
  iapply (wp_load_rect Variants.none (c : Thread nD τ) none Set.univ (m := scV) (r := Rect.unit (s := S256x18) ![0, 0] S256x18.size inb_S256x18_S256x18_0_0) (f := g) (Finset.subset_univ _)) $$ HV
  iintro HV
  iapply (WP_pure c)
  iapply (wp_store Variants.none (c : Thread nD τ) none Set.univ (m := scV) (r := Rect.unit (s := S256x18) ![0, 0] S256x18.size inb_S256x18_S256x18_0_0) (f := g) (Finset.subset_univ _)) $$ HV
  iintro HV
  iapply (WP_pure c)
  iapply Hk
  isplitl [HC HT]
  · isplitl [HC]
    · iexact HC
    · iexists f
      isplitr [HT]
      · ipureintro; exact hf
      · iexact HT
  have e : ((scV.access (Rect.unit (s := S256x18) ![0, 0] S256x18.size inb_S256x18_S256x18_0_0)).write (Elt F) g
      (shapeCast S256x18 (transpose S256x18 [1, 0] (shapeCast S18x256 ((scT.access (Rect.unit (s := S18x1x256) ![0, 0, 0] S18x1x256.size inb_S18x1x256_S18x1x256_0_0_0)).read (Elt F) f) shapeCasts_S18x1x256_S18x256 : FVec F S18x256 .f32) transposes_S18x256_p1_0_S256x18 : FVec F S256x18 .f32) shapeCasts_S256x18_S256x18) Finset.univ) = scOut I :=
    (View.write_whole_slice_unit (Val := Elt F) cc0_scratch12 ![0, 0] S256x18.size inb_S256x18_S256x18_0_0 _ _).trans (sc_written I f hf g _)
  have e' := congrArg (fun g => (pts c scV Finset.univ g : sProp 𝕄)) e
  iapply (BI.BIBase.Entails.of_eq e') $$ HV

abbrev ScFl : sProp 𝕄 := Fly c (oSem 3) scH.view.dmaCredit iprop(pts c scH Finset.univ (scOut I) ∗ pts c scV Finset.univ (scOut I))

theorem wp_scStart (Q : PUnit → sProp 𝕄) :
    iprop(pts c scV Finset.univ (scOut I) ∗ (∃ f, pts c scH Finset.univ f) ∗ Sem0 c (oSem 3)) ⊢ iprop((ScFl c I -∗ Q ⟨⟩) -∗ WP c scStart Q) := by
  unfold scStart
  iintro ⟨HV, ⟨%f, HH⟩, HS⟩ Hk
  iapply (wp_start c (src := scV) (dst := scH) (fs := scOut I) (fd := f) (fv := scOut I) scH.view.dmaCredit rfl (by decide) (View.set_whole _) (Finset.subset_univ _)
    (fun i _ => View.write_emb_of_mem _ _ (Finset.mem_univ i))) $$ [HV HH HS]
  · isplitl [HV]; · iexact HV
    isplitl [HH] <;> iassumption
  iintro HF
  iapply Hk $$ HF

theorem wp_scWait (Q : PUnit → sProp 𝕄) :
    iprop(ScFl c I ∗ Owes c) ⊢ iprop((iprop((pts c scH Finset.univ (scOut I) ∗ pts c scV Finset.univ (scOut I)) ∗ Sem0 c (oSem 3) ∗ Owes c) -∗ Q ⟨⟩) -∗ WP c scWait Q) := by
  unfold scWait
  iintro ⟨HF, HO⟩ Hk
  iapply (wp_waitD c rfl) $$ [HF HO]
  · isplitl [HF]
    · iexact HF
    · iexact HO
  iexact Hk

end Cert.KernelIdeal.Body
end
-- ==== Proof.Run.Last.lean ====
/- The last block's sums out of the accumulators, and the end of the body. -/
module

public import proofs.«01_k».proof.Proof.Run.Out

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

variable (c : Dev nD) (I : In F)

/-- The last block's sums of a unit from chunk `ch` on. -/
def left (q : Fin 2) (ch : ℕ) : ℕ → Option (FVec F S128x256 .f32) := fun k => if k < ch then none else some (total I q 2 k)

/-- Both units holding the last block's sums from chunk `ch` on, nothing staged. -/
def Drain (ch : ℕ) (m : Mxu F) : Prop := ∀ q : Fin 2, ∃ g, UnitSt m q none g (left I q ch) 784

theorem left_pop (q : Fin 2) (ch : ℕ) : Function.update (left I q ch) ch none = left I q (ch + 1) := by
  funext k
  unfold left
  by_cases e : k = ch
  · subst e
    rw [Function.update_self, if_pos (Nat.lt_succ_self _)]
  · rw [Function.update_of_ne e]
    by_cases h : k < ch
    · rw [if_pos h, if_pos (by omega)]
    · rw [if_neg h, if_neg (by omega)]

theorem drain_start {m : Mxu F} (hs : St I 2 72 0 m) : Drain I 0 (drainIn m) := by
  obtain ⟨g, hb⟩ := hs
  have e : ∀ q : Fin 2, ∀ k < 6, mixF (sm I 2 72 q) (sm I 2 (72 + 1) q) 0 k = left I q 0 k := fun q k hk => rfl
  intro q
  fin_cases q
  · exact ⟨_, (((hb 0).congr (e 0)).accLhs_drain _ fits_192_16).accLhs_ne (q' := 1) (by decide) _ fits_192_16⟩
  · exact ⟨_, (((hb 1).congr (e 1)).accLhs_ne (q' := 0) (by decide) _ fits_192_16).accLhs_drain _ fits_192_16⟩

/-- One half of a chunk's sums is that half's piece. -/
theorem piece_eq (q : Fin 2) {ch j : ℕ} (hc : ch < 6) (hj : j < 2) (h : S128x256.Slices ![0, 128 * j] S128x128) :
    extractStridedSlice S128x128 ![0, 128 * j] (total I q 2 ch) h = gPiece I q (12 + ch) j := by
  funext i
  have l0 : (i 0).val < 128 := (i 0).isLt
  have l1 : (i 1).val < 128 := (i 1).isLt
  unfold gPiece gVal
  have e0 : (ixT S768x256 pos_H ![128 * ((12 + ch) % 6) + (i 0).val, 128 * j + (i 1).val] 0).val = 128 * ch + (i 0).val := by
    show (128 * ((12 + ch) % 6) + (i 0).val) % 768 = 128 * ch + (i 0).val
    omega
  have e1 : (ixT S768x256 pos_H ![128 * ((12 + ch) % 6) + (i 0).val, 128 * j + (i 1).val] 1).val = 128 * j + (i 1).val := by
    show (128 * j + (i 1).val) % 256 = 128 * j + (i 1).val
    omega
  rw [e0, e1, show (12 + ch) / 6 = 2 by omega, show (128 * ch + (i 0).val) / 128 = ch by omega]
  show total I q 2 ch _ = _
  congr 1
  funext a
  apply Fin.ext
  fin_cases a
  · show 0 + (i 0).val = (128 * ch + (i 0).val) % 128 % 128
    omega
  · show 128 * j + (i 1).val = (128 * j + (i 1).val) % 256
    omega

theorem wp_lastU {ch : ℕ} (hc : ch < 6) (hp) {m : Mxu F} (hd : Drain I ch m) (Q : Mxu F → sProp 𝕄) :
    Coded c I 2 (24 + 2 * ch) ⊢ iprop((∀ m', ⌜Drain I (ch + 1) m'⌝ -∗ Coded c I 2 (24 + 2 * (ch + 1)) -∗ Q m') -∗ WP c (lastU ch hc hp m) Q) := by
  unfold lastU
  dsimp only
  obtain ⟨g0, h0⟩ := hd 0
  obtain ⟨g1, h1⟩ := hd 1
  have a0 := h0.pop (by omega) hc (fits ch (by omega))
  have a1 := h1.pop_ne (q' := 0) (by decide) (M := 128) (B := 32 * ch) (fits ch (by omega))
  have b0 := a0.pop_ne (q' := 1) (by decide) (M := 128) (B := 32 * ch) (fits ch (by omega))
  have b1 := a1.pop (by omega) hc (fits ch (by omega))
  rw [left_pop] at b0 b1
  have r0 := h0.read hc (v := total I 0 2 ch) (if_neg (Nat.lt_irrefl _)) (fits ch (by omega))
  have r1 := a1.read hc (v := total I 1 2 ch) (if_neg (Nat.lt_irrefl _)) (fits ch (by omega))
  rw [r0, r1]
  iintro H Hk
  rw [WP_bind, show 24 + 2 * ch = 2 * (12 + ch) + 0 by omega]
  iapply (wp_keepU c I (O := 2) (n := 12 + ch) (j := 0) (by unfold hVal; rw [← piece_eq I 0 hc (j := 0) (by omega) slices_S128x256_o0_0_S128x128, ← piece_eq I 1 hc (j := 0) (by omega) slices_S128x256_o0_0_S128x128]) (by omega) (by omega) (by omega) _ _ _ (hp 0)) $$ H
  iintro H
  rw [WP_bind]
  iapply (wp_keepU c I (O := 2) (n := 12 + ch) (j := 1) (by unfold hVal; rw [← piece_eq I 0 hc (j := 1) (by omega) slices_S128x256_o0_128_S128x128, ← piece_eq I 1 hc (j := 1) (by omega) slices_S128x256_o0_128_S128x128]) (by omega) (by omega) (by omega) _ _ _ (hp 1)) $$ H
  iintro H
  rw [show 2 * (12 + ch) + 1 + 1 = 24 + 2 * (ch + 1) by omega]
  iapply (WP_pure c)
  iapply Hk $$ %_ [] H
  ipureintro
  intro q
  fin_cases q
  · exact ⟨_, b0⟩
  · exact ⟨_, b1⟩

theorem wp_lastsU {m : Mxu F} (hd : Drain I 0 m) (Q : Mxu F → sProp 𝕄) :
    Coded c I 2 24 ⊢ iprop((∀ m', ⌜Drain I 6 m'⌝ -∗ Coded c I 2 36 -∗ Q m') -∗ WP c (lastsU m) Q) := by
  unfold lastsU
  iintro H Hk
  rw [WP_bind]
  iapply (wp_lastU c I (ch := 0) _ _ hd) $$ H
  iintro %m %hd H
  rw [WP_bind]
  iapply (wp_lastU c I (ch := 1) _ _ hd) $$ H
  iintro %m %hd H
  rw [WP_bind]
  iapply (wp_lastU c I (ch := 2) _ _ hd) $$ H
  iintro %m %hd H
  rw [WP_bind]
  iapply (wp_lastU c I (ch := 3) _ _ hd) $$ H
  iintro %m %hd H
  rw [WP_bind]
  iapply (wp_lastU c I (ch := 4) _ _ hd) $$ H
  iintro %m %hd H
  iapply (wp_lastU c I (ch := 5) _ _ hd) $$ H
  iexact Hk

theorem drain_end {m : Mxu F} (hd : Drain I 6 m) : ((m.pop 0 192 16 fits_192_16).pop 1 192 16 fits_192_16).Drained := by
  obtain ⟨g0, h0⟩ := hd 0
  obtain ⟨g1, h1⟩ := hd 1
  exact UnitSt.drained ((h0.pop_drain fits_192_16).pop_ne (q' := 1) (by decide) fits_192_16) ((h1.pop_ne (q' := 0) (by decide) fits_192_16).pop_drain fits_192_16)
    (fun k hk => if_pos hk) (fun k hk => if_pos hk)

/-- What the core gives back of the results' side. -/
abbrev Sent : sProp 𝕄 :=
  iprop((pts c cdH Finset.univ (cdVal I) ∗ pts c cdV Finset.univ (cdVal I) ∗ (∃ f, pts c scT Finset.univ f)
      ∗ Sem0 c (oSem (0 : Fin 3).castSucc) ∗ Sem0 c (oSem (1 : Fin 3).castSucc) ∗ Sem0 c (oSem (2 : Fin 3).castSucc))
    ∗ ((pts c scH Finset.univ (scOut I) ∗ pts c scV Finset.univ (scOut I)) ∗ Sem0 c (oSem 3)) ∗ Owes (F := F) c)

theorem wp_end {m : Mxu F} (hs : St I 2 72 0 m) (Q : PUnit → sProp 𝕄) :
    iprop(Coded c I 1 24 ∗ ORest (F := F) c 1 ∗ OFl c I 0 ∗ Sem0 (F := F) c (oSem (1 : Fin 3).castSucc) ∗ Sem0 (F := F) c (oSem (2 : Fin 3).castSucc)
        ∗ (∃ f, pts c scV Finset.univ f) ∗ (∃ f, pts c scH Finset.univ f) ∗ Sem0 (F := F) c (oSem 3) ∗ Owes (F := F) c)
      ⊢ iprop((Sent c I -∗ Q ⟨⟩) -∗ WP c (endU m) Q) := by
  unfold endU
  iintro ⟨HC, HR, F0, S1, S2, HV, HH, S3, HO⟩ Hk
  rw [WP_bind]
  iapply (wp_oStart c I (b := 1) (b' := 1) (K := 24) rfl (by omega)) $$ [HC HR S1]
  · isplitl [HC]; · iexact HC
    isplitl [HR] <;> iassumption
  iintro F1 HC HR
  rw [WP_bind]
  iapply (wp_lastsU c I (drain_start I hs)) $$ HC
  iintro %m %hd HC
  dsimp only
  rw [WP_bind]
  iapply (wp_oStart c I (b := 2) (b' := 2) (K := 36) rfl (by omega)) $$ [HC HR S2]
  · isplitl [HC]; · iexact HC
    isplitl [HR] <;> iassumption
  iintro F2 HC HR
  rw [WP_bind]
  iapply (wp_scTr c I) $$ [HC HV]
  · isplitl [HC] <;> iassumption
  iintro ⟨HC, HV⟩
  rw [WP_bind]
  iapply (wp_scStart c I) $$ [HV HH S3]
  · isplitl [HV]; · iexact HV
    isplitl [HH] <;> iassumption
  iintro F3
  rw [WP_bind]
  iapply (wp_oWait c I) $$ [F0 HO]
  · isplitl [F0] <;> iassumption
  iintro ⟨D0, HO⟩
  rw [WP_bind]
  iapply (wp_oWait c I) $$ [F1 HO]
  · isplitl [F1] <;> iassumption
  iintro ⟨D1, HO⟩
  rw [WP_bind]
  iapply (wp_oWait c I) $$ [F2 HO]
  · isplitl [F2] <;> iassumption
  iintro ⟨D2, HO⟩
  rw [WP_bind]
  iapply (wp_scWait c I) $$ [F3 HO]
  · isplitl [F3] <;> iassumption
  iintro ⟨HS, S3, HO⟩
  have ex := Mxu.wp_exit (defs := defs₀ (F := F)) (𝒱 := Variants.none) (c := (c : Thread nD τ)) (bd := none) (E := Set.univ) (Q := Q) (drain_end I hd) (k := fun x => pure x)
  rw [bind_pure] at ex
  iapply ex
  iapply (WP_pure c)
  iapply Hk
  isplitl [D0 D1 D2 HR HC]
  · iapply (out_all c I (K := 36))
    isplitl [D0]; · iexact D0
    isplitl [D1]; · iexact D1
    isplitl [D2]; · iexact D2
    isplitl [HR] <;> iassumption
  isplitl [HS S3]
  · isplitl [HS] <;> iassumption
  · iexact HO

end Cert.KernelIdeal.Body
end
-- ==== Proof.Run.Whole.lean ====
/- The whole body: from the arguments and the scratch to the two results. -/
module

public import proofs.«01_k».proof.Proof.Run.Last

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

variable (c : Dev nD) (I : In F)

/-- A later block's first step, from the sums of the block before. -/
theorem wp_firstB {b O R k n a : ℕ} (hb : 1 ≤ b) (hb3 : b < 3) (hRb : R = 6 * b) (hkn : k = 128 * n) (hne : n = 6 * (b - 1)) (hO : O = b - 1)
    (hR : R + 6 ≤ 18) (hc : k + 128 ≤ 2304) (hn : n < 18) (hp : (rectC 0 k (by omega) hc).PackedRows (EltTy.packing .fp8e4m3))
    {m : Mxu F} (hs : St I (b - 1) 72 0 m) (Q : Mxu F → sProp 𝕄) :
    iprop(RingM c I (12 * b) ∗ Owes (F := F) c ∗ Scales c I ∗ Kept c I 72 ∗ Popped c I (b - 2) a ∗ Coded c I O (12 * (b - 1)))
      ⊢ iprop((∀ m', ⌜St I b 6 6 m'⌝ -∗ Held c I b O 0 -∗ Q m') -∗ WP c (firstB R k n hR hc hn hp m) Q) := by
  unfold firstB
  iintro ⟨⟨H0, H1, H2, H3, H4⟩, HO, HS, HK, HP, HC⟩ Hk
  ihave HP := (popped_zero c I (b' := b - 1)) $$ HP
  ihave HW := (weights_of c I (g := 12 * b) (b := b) (s := 0) rfl (by omega)) $$ [H0 HS]
  · isplitl [H0] <;> iassumption
  icases HW with ⟨HW, HB⟩
  rw [WP_bind]
  iapply (wp_tileB0 c I (T := slotSet ((12 * b) % 4)) (b := b) (by rw [show 12 * b % 4 = 0 by omega]) hRb _ _ hs _ _ _ _) $$ [HW HP HK]
  · isplitl [HW]; · iexact HW
    isplitl [HP] <;> iassumption
  iintro %m %hs ⟨HW, HP, HK⟩
  rw [WP_bind]
  iapply (wp_restB c I (T := slotSet ((12 * b) % 4)) (b := b) (s := 0) (by rw [show 12 * b % 4 = 0 by omega]) (by omega) hRb (fun i j => by unfold PA; omega) (fun i => by unfold NA; have := i.isLt; omega) _ _ _ _ hs) $$ [HW HK]
  · isplitl [HW] <;> iassumption
  iintro %m %hs ⟨HW, HK⟩
  ispecialize HB $$ HW
  icases HB with ⟨H0, HS⟩
  rw [WP_bind, show 12 * (b - 1) = 2 * n + 0 by omega]
  iapply (wp_epiU c I (O := O) (n := n) (j := 0) (b := b - 1) (by omega) (by omega) rfl hkn (by omega) _ _ hc hn hp) $$ [HP HC]
  · isplitl [HP] <;> iassumption
  iintro ⟨HP, HC⟩
  iapply (WP_pure c)
  iapply Hk $$ %_ %hs
  unfold Held
  rw [show 12 * (b - 1) + 0 + 1 = 2 * n + 0 + 1 by omega]
  isplitl [H0 H1 H2 H3 H4]
  · iapply (ring_next c I (12 * b))
    isplitl [H0]; · iexact H0
    isplitl [H1]; · iexact H1
    isplitl [H2]; · iexact H2
    isplitl [H3]; · iexact H3
    iexact H4
  isplitl [HO]; · iexact HO
  isplitl [HS]; · iexact HS
  isplitl [HK]; · iexact HK
  isplitl [HP]; · iexact HP
  iexact HC

/-- What the body is given besides what its beginning takes. -/
abbrev Later0 : sProp 𝕄 :=
  iprop(Popped c I 0 0 ∗ Coded c I 0 0 ∗ ORest (F := F) c 0 ∗ (Sem0 (F := F) c (oSem (0 : Fin 3).castSucc) ∗ Sem0 (F := F) c (oSem (1 : Fin 3).castSucc) ∗ Sem0 (F := F) c (oSem (2 : Fin 3).castSucc) ∗ Sem0 (F := F) c (oSem 3))
    ∗ (∃ f, pts c scV Finset.univ f) ∗ (∃ f, pts c scH Finset.univ f))

/-- What the body gives back. -/
abbrev Final : sProp 𝕄 :=
  iprop(RingB c I 36 ∗ XState c I 12 ∗ Scales c I ∗ pts c xsT Finset.univ (xstVal I) ∗ Kept c I 72 ∗ SRest c I ∗ pts c xsV Finset.univ I.XS ∗ XRest c I 12 ∗ Popped c I 1 6 ∗ Sent c I)

theorem wp_whole (Q : PUnit → sProp 𝕄) :
    iprop(Held0 c I ∗ Later0 c I) ⊢ iprop((Final c I -∗ Q ⟨⟩) -∗ WP c whole Q) := by
  unfold whole
  iintro ⟨H, HP, HC, HR, ⟨S0, S1, S2, S3⟩, HV, HH⟩ Hk
  rw [WP_bind]
  iapply (wp_begin c I) $$ H
  iintro %m %hs H HSR HXS HXR
  rw [WP_bind]
  iapply (wp_loop1 c I hs) $$ H
  iintro %m %hs ⟨HW, HX, HO, HS, HT, HK⟩
  rw [WP_bind]
  unfold wWaits12
  iapply (wp_ringWait c I (g := 12) _ _ _ _ _ _ _ _ (by omega) (by decide) (by decide) (by decide) (by decide)) $$ [HW HO]
  · isplitl [HW] <;> iassumption
  iintro ⟨HW, HO⟩
  rw [WP_bind]
  unfold wStarts15
  iapply (wp_ringStart c I (g := 12) _ _ _ _ _ _ _ _ (k := 15) rfl (by omega) (by decide) (by decide) (by decide) (by decide)) $$ HW
  iintro HW
  rw [WP_bind]
  iapply (wp_firstB c I (b := 1) (O := 0) (a := 0) (by omega) (by omega) rfl rfl rfl rfl _ _ _ _ hs) $$ [HW HO HS HK HP HC]
  · isplitl [HW]; · iexact HW
    isplitl [HO]; · iexact HO
    isplitl [HS]; · iexact HS
    isplitl [HK]; · iexact HK
    isplitl [HP]; · iexact HP
    iexact HC
  iintro %m %hs H
  rw [WP_bind]
  iapply (wp_loop2 c I hs) $$ H
  iintro %m %hs ⟨HW, HO, HS, HK, HP, HC⟩
  rw [WP_bind]
  iapply (wp_oStart c I (b := 0) (b' := 0) (K := 12) rfl (by omega)) $$ [HC HR S0]
  · isplitl [HC]; · iexact HC
    isplitl [HR] <;> iassumption
  iintro F0 HC HR
  rw [WP_bind]
  unfold wWaits24
  iapply (wp_ringWait c I (g := 24) _ _ _ _ _ _ _ _ (by omega) (by decide) (by decide) (by decide) (by decide)) $$ [HW HO]
  · isplitl [HW] <;> iassumption
  iintro ⟨HW, HO⟩
  rw [WP_bind]
  unfold wStarts27
  iapply (wp_ringStart c I (g := 24) _ _ _ _ _ _ _ _ (k := 27) rfl (by omega) (by decide) (by decide) (by decide) (by decide)) $$ HW
  iintro HW
  rw [WP_bind]
  iapply (wp_firstB c I (b := 2) (O := 1) (a := 6) (by omega) (by omega) rfl rfl rfl rfl _ _ _ _ hs) $$ [HW HO HS HK HP HC]
  · isplitl [HW]; · iexact HW
    isplitl [HO]; · iexact HO
    isplitl [HS]; · iexact HS
    isplitl [HK]; · iexact HK
    isplitl [HP]; · iexact HP
    iexact HC
  iintro %m %hs H
  rw [WP_bind]
  iapply (wp_loop3 c I hs) $$ H
  iintro %m %hs ⟨HW, HO, HS, HK, HP, HC⟩
  rw [WP_bind]
  iapply (wp_end c I hs) $$ [HC HR F0 S1 S2 HV HH S3 HO]
  · isplitl [HC]; · iexact HC
    isplitl [HR]; · iexact HR
    isplitl [F0]; · iexact F0
    isplitl [S1]; · iexact S1
    isplitl [S2]; · iexact S2
    isplitl [HV]; · iexact HV
    isplitl [HH]; · iexact HH
    isplitl [S3]; · iexact S3
    iexact HO
  iintro H
  iapply (WP_pure c)
  iapply Hk
  isplitl [HW]; · iexact HW
  isplitl [HX]; · iexact HX
  isplitl [HS]; · iexact HS
  isplitl [HT]; · iexact HT
  isplitl [HK]; · iexact HK
  isplitl [HSR]; · iexact HSR
  isplitl [HXS]; · iexact HXS
  isplitl [HXR]; · iexact HXR
  isplitl [HP]; · iexact HP
  iexact H

end Cert.KernelIdeal.Body
end
-- ==== Proof.Run.Slots.lean ====
/- The buffers cut and put together: a ring into its four slots and back, and the sets that are everything or nothing. -/
module

public import proofs.«01_k».proof.Proof.Run.Whole
public import Idealize.ShloMosaic.Lib.Ring
public import Idealize.ShloMosaic.Lib.Pipeline.Kit

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

theorem outside_all {a b : ℕ} (h : b ≤ a) : outside a b = Finset.univ :=
  Finset.filter_true_of_mem fun i _ h => by omega

theorem colsGe_all : colsGe (1536 * 12) = ∅ := by
  ext i
  have : (i 1).val < 18432 := (i 1).isLt
  simp only [colsGe, Finset.mem_filter, Finset.mem_univ, true_and, Finset.notMem_empty, iff_false]
  omega

theorem slots_disj (b b' : Fin 4) (h : b ≠ b') : Disjoint (slotSet b.val) (slotSet b'.val) := by
  rw [Finset.disjoint_left]
  intro i hi hi'
  simp only [slotSet, Finset.mem_filter, Finset.mem_univ, true_and] at hi hi'
  exact h (Fin.ext (hi.symm.trans hi'))

theorem slots_all : (Finset.univ : Finset (Fin 4)).biUnion (fun b => slotSet b.val) = Finset.univ := by
  ext i
  simp only [Finset.mem_biUnion, Finset.mem_univ, true_and, iff_true]
  exact ⟨⟨(i 0).val, (i 0).isLt⟩, by simp [slotSet]⟩

theorem four (Φ : Fin 4 → sProp 𝕄) : bigSep Finset.univ Φ = iprop(Φ 0 ∗ Φ 1 ∗ Φ 2 ∗ Φ 3) :=
  BI.bigSep_univ_eq_bigSepL [0, 1, 2, 3] (by decide) (by decide) Φ

/-- A ring's first buffer cut into its slots. -/
theorem slots_cut (ℓ : Loc nD τ sig) (I : Fin 4 → Finset (Idx ℓ)) (hd : ∀ b b', b ≠ b' → Disjoint (I b) (I b')) (hc : Finset.univ.biUnion I = Finset.univ) :
    (iprop(∃ f : Buf (Elt F) ℓ, ℓ ↦{fullShare} f) : sProp 𝕄)
      ⊢ iprop((∃ f, ℓ ↦[I 0]{fullShare} f) ∗ (∃ f, ℓ ↦[I 1]{fullShare} f) ∗ (∃ f, ℓ ↦[I 2]{fullShare} f) ∗ ∃ f, ℓ ↦[I 3]{fullShare} f) := by
  iintro ⟨%f, H⟩
  ihave H := (BI.BIBase.Entails.of_eq (Ring.pointsTo_sub_blocks I hd Finset.univ hc f)) $$ H
  ihave H := (BI.BIBase.Entails.of_eq (four _)) $$ H
  icases H with ⟨H0, H1, H2, H3⟩
  isplitl [H0]; · iexists f; iexact H0
  isplitl [H1]; · iexists f; iexact H1
  isplitl [H2]; · iexists f; iexact H2
  iexists f; iexact H3

theorem slots_glue (ℓ : Loc nD τ sig) (I : Fin 4 → Finset (Idx ℓ)) (hd : ∀ b b', b ≠ b' → Disjoint (I b) (I b')) (hc : Finset.univ.biUnion I = Finset.univ) :
    iprop((∃ f, ℓ ↦[I 0]{fullShare} f) ∗ (∃ f, ℓ ↦[I 1]{fullShare} f) ∗ (∃ f, ℓ ↦[I 2]{fullShare} f) ∗ ∃ f, ℓ ↦[I 3]{fullShare} f)
      ⊢ (iprop(∃ f : Buf (Elt F) ℓ, ℓ ↦{fullShare} f) : sProp 𝕄) := by
  iintro ⟨H0, H1, H2, H3⟩
  icases H0 with ⟨%f, H0⟩
  iapply (Ring.pointsTo_sub_blocks_join_exists I hd Finset.univ hc f)
  iapply (BI.BIBase.Entails.of_eq (four _).symm)
  isplitl [H0]; · iexists f; iexact H0
  isplitl [H1]; · iexact H1
  isplitl [H2]; · iexact H2
  iexact H3

end Cert.KernelIdeal.Body

end
-- ==== Proof.Body.Flat.lean ====
/- The kernel's body with the parts opened that hold its three loops, so that each loop stands on the body's own chain. -/
module

public import proofs.«01_k».proof.Proof.Gen.KernelIdeal
public import Idealize.ShloMosaic.Lib.Tactic.OpenCalls

@[expose] public section

set_option maxHeartbeats 4000000
set_option maxRecDepth 20000

noncomputable section

namespace Cert.KernelIdeal.Body

open Idealize.ShloMosaic Idealize.ShloMosaic.TcCoe
open Idealize.SL Idealize.SL.Sem
open Cert.KernelIdeal Cert.KernelIdeal.Gen

open_calls flat := cc0_swiglu_gate_up [k0_part331, k0_part332, k0_part333, k0_part220, k0_part266, k0_part313]

end Cert.KernelIdeal.Body
end
-- ==== Proof.Body.Loop2.lean ====
/- Loop 2's body as it is printed, and that it is the step of Steps.lean. -/
module

public import proofs.«01_k».proof.Proof.Body.Steps2
public import Idealize.ShloMosaic.Lib.Tactic
public import Idealize.ShloMosaic.Lib.Tactic.OpenCalls

@[expose] public section

set_option maxHeartbeats 4000000
set_option maxRecDepth 20000

noncomputable section

namespace Cert.KernelIdeal.Body

open Idealize.ShloMosaic Idealize.ShloMosaic.TcCoe
open Idealize.SL Idealize.SL.Sem
open Cert.KernelIdeal Cert.KernelIdeal.Gen

/-- Loop 2's body as it is printed. -/
noncomputable def printed2 {F : FTy → Type} [FloatOps F] (k0_t2 : Fin k0_t2_loop.trips) (k0_mxu270 : Mxu F) : PM (F := F) (Mxu F) := do
    let ⟨k0_mxu355, v9235_r0, v9240_r0, v9283_r0, v9290_r0, cst_3219_r0, v9291_r0⟩ : Σ' (k0_mxu355 : Mxu F) (v9235_r0 : BitVec 32) (v9240_r0 : BitVec 32) (v9283_r0 : FVec F S1x128 .f32) (v9290_r0 : FVec F S128x128 .f32) (cst_3219_r0 : F .f32), FVec F S128x128 .f32 ← k0_part112 (Memref.whole main_v0) (Memref.isWhole_whole main_v0) (Memref.whole main_v1) (Memref.isWhole_whole main_v1) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_v2_0) (Memref.isWhole_whole main_v2_0) (Memref.whole main_v2_1) (Memref.isWhole_whole main_v2_1) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) cc0_scratch13 cc0_scratch14 cc0_scratch15 cc0_scratch16 0#32 1#32 k0_t2 k0_mxu270
    have v9292_r0 : FVec F S128x128 .f32 := maximumf v9291_r0 v9290_r0
    have v9293_r0 : FVec F S128x128 .f32 := broadcast S128x128 cst_3219_r0
    have v9294_r0 : FVec F S128x128 .f32 := minimumf v9293_r0 v9292_r0
    have v9295_r0 : FVec F S128x128 .f32 := transpose S128x128 [1, 0] v9294_r0 transposes_S128x128_p1_0_S128x128
    have v9296_r0 : FVec F S128x128 .fp8e4m3 := truncf .fp8e4m3 v9295_r0 bitsLt_fp8e4m3_f32
    let c128_i32_3220_r0 : BitVec 32 := 128#32
    let v9297_r0 : BitVec 32 := Scalar.muli v9235_r0 c128_i32_3220_r0
    let c0_i32_3221_r0 : BitVec 32 := 0#32
    let v9298_r0 : BitVec 32 := Scalar.addi c0_i32_3221_r0 v9297_r0
    let v9299_r0 : BitVec 32 := v9298_r0
    let v9300_r0 : Index := Scalar.indexCast v9240_r0
    let v9301_r0 : Index := Scalar.indexCast v9299_r0
    let v9302_r0 : Vec F S128x128 .fp8e4m3 ← Prog.lift (.load (Memref.whole cc0_scratch10) (Rect.unit (s := S256x2304) (k0_off262 k0_t2) S128x128.size (k0_off262_inb k0_t2)).toLoadRect (View.loadsAt_vmem h_S128x128))
    have v9303_r0 : FVec F S128x128 .fp8e4m3 := shapeCast S128x128 v9302_r0 shapeCasts_S128x128_S128x128
    have v9304_r0 : FVec F S128x128 .fp8e4m3 := shapeCast S128x128 v9296_r0 shapeCasts_S128x128_S128x128
    Prog.lift (.store (Memref.whole cc0_scratch10) (Rect.unit (s := S256x2304) (k0_off262 k0_t2) S128x128.size (k0_off262_inb k0_t2)) v9304_r0 Finset.univ (View.stores_vmem h_S128x128 ((Memref.isWhole_whole cc0_scratch10).storeExact_slice rfl _ (k0_off262_packedfp8e4m3 k0_t2)) (fun _ => rfl)) (.inl rfl))
    let c0_i32_3222_r0 : BitVec 32 := 0#32
    let v9305_r0 : BitVec 32 := Scalar.addi c0_i32_3222_r0 v9235_r0
    let v9306_r0 : Index := Scalar.indexCast v9305_r0
    let c0_3223_r0 : Index := 0#32
    let v9307_r0 : Index := Scalar.indexCast v9240_r0
    let v9308_r0 : Vec F S1x1x128 .f32 ← Prog.lift (.load (Memref.whole cc0_scratch11) (Rect.unit (s := S18x1x256) (k0_off263 k0_t2) S1x1x128.size (k0_off263_inb k0_t2)).toLoadRect (View.loadsAt_vmem h_S1x1x128))
    have v9309_r0 : FVec F S1x128 .f32 := shapeCast S1x128 v9308_r0 shapeCasts_S1x1x128_S1x128
    have v9310_r0 : FVec F S1x1x128 .f32 := shapeCast S1x1x128 v9283_r0 shapeCasts_S1x128_S1x1x128
    Prog.lift (.store (Memref.whole cc0_scratch11) (Rect.unit (s := S18x1x256) (k0_off263 k0_t2) S1x1x128.size (k0_off263_inb k0_t2)) v9310_r0 Finset.univ (View.stores_vmem_bits_univ h_S1x1x128 rfl) (.inl rfl))
    pure k0_mxu355

open_calls opened2 := printed2 [k0_part112, k0_part58]

variable {F : FTy → Type} [FloatOps F]

theorem printed2_eq (t : Fin k0_t2_loop.trips) (m : Mxu F) : printed2 t m = body2 t m := by
  have h : opened2 t m = body2 t m := by sl_kernel_rfl
  exact (opened2.eq_at t m).trans h

end Cert.KernelIdeal.Body
end
-- ==== Proof.Body.Loop3.lean ====
/- Loop 3's body as it is printed, and that it is the step of Steps.lean. -/
module

public import proofs.«01_k».proof.Proof.Body.Steps2
public import Idealize.ShloMosaic.Lib.Tactic
public import Idealize.ShloMosaic.Lib.Tactic.OpenCalls

@[expose] public section

set_option maxHeartbeats 4000000
set_option maxRecDepth 20000

noncomputable section

namespace Cert.KernelIdeal.Body

open Idealize.ShloMosaic Idealize.ShloMosaic.TcCoe
open Idealize.SL Idealize.SL.Sem
open Cert.KernelIdeal Cert.KernelIdeal.Gen

/-- Loop 3's body as it is printed. -/
noncomputable def printed3 {F : FTy → Type} [FloatOps F] (k0_t3 : Fin k0_t3_loop.trips) (k0_mxu452 : Mxu F) : PM (F := F) (Mxu F) := do
    let ⟨k0_mxu537, v9235_r0, v9240_r0, v9283_r0, v9290_r0, cst_3219_r0, v9291_r0⟩ : Σ' (k0_mxu537 : Mxu F) (v9235_r0 : BitVec 32) (v9240_r0 : BitVec 32) (v9283_r0 : FVec F S1x128 .f32) (v9290_r0 : FVec F S128x128 .f32) (cst_3219_r0 : F .f32), FVec F S128x128 .f32 ← k0_part167 (Memref.whole main_v0) (Memref.isWhole_whole main_v0) (Memref.whole main_v1) (Memref.isWhole_whole main_v1) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_v2_0) (Memref.isWhole_whole main_v2_0) (Memref.whole main_v2_1) (Memref.isWhole_whole main_v2_1) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) cc0_scratch13 cc0_scratch14 cc0_scratch15 cc0_scratch16 0#32 1#32 k0_t3 k0_mxu452
    have v9292_r0 : FVec F S128x128 .f32 := maximumf v9291_r0 v9290_r0
    have v9293_r0 : FVec F S128x128 .f32 := broadcast S128x128 cst_3219_r0
    have v9294_r0 : FVec F S128x128 .f32 := minimumf v9293_r0 v9292_r0
    have v9295_r0 : FVec F S128x128 .f32 := transpose S128x128 [1, 0] v9294_r0 transposes_S128x128_p1_0_S128x128
    have v9296_r0 : FVec F S128x128 .fp8e4m3 := truncf .fp8e4m3 v9295_r0 bitsLt_fp8e4m3_f32
    let c128_i32_3220_r0 : BitVec 32 := 128#32
    let v9297_r0 : BitVec 32 := Scalar.muli v9235_r0 c128_i32_3220_r0
    let c768_i32_3221_r0 : BitVec 32 := 768#32
    let v9298_r0 : BitVec 32 := Scalar.addi c768_i32_3221_r0 v9297_r0
    let v9299_r0 : BitVec 32 := v9298_r0
    let v9300_r0 : Index := Scalar.indexCast v9240_r0
    let v9301_r0 : Index := Scalar.indexCast v9299_r0
    let v9302_r0 : Vec F S128x128 .fp8e4m3 ← Prog.lift (.load (Memref.whole cc0_scratch10) (Rect.unit (s := S256x2304) (k0_off352 k0_t3) S128x128.size (k0_off352_inb k0_t3)).toLoadRect (View.loadsAt_vmem h_S128x128))
    have v9303_r0 : FVec F S128x128 .fp8e4m3 := shapeCast S128x128 v9302_r0 shapeCasts_S128x128_S128x128
    have v9304_r0 : FVec F S128x128 .fp8e4m3 := shapeCast S128x128 v9296_r0 shapeCasts_S128x128_S128x128
    Prog.lift (.store (Memref.whole cc0_scratch10) (Rect.unit (s := S256x2304) (k0_off352 k0_t3) S128x128.size (k0_off352_inb k0_t3)) v9304_r0 Finset.univ (View.stores_vmem h_S128x128 ((Memref.isWhole_whole cc0_scratch10).storeExact_slice rfl _ (k0_off352_packedfp8e4m3 k0_t3)) (fun _ => rfl)) (.inl rfl))
    let c6_i32_3222_r0 : BitVec 32 := 6#32
    let v9305_r0 : BitVec 32 := Scalar.addi c6_i32_3222_r0 v9235_r0
    let v9306_r0 : Index := Scalar.indexCast v9305_r0
    let c0_3223_r0 : Index := 0#32
    let v9307_r0 : Index := Scalar.indexCast v9240_r0
    let v9308_r0 : Vec F S1x1x128 .f32 ← Prog.lift (.load (Memref.whole cc0_scratch11) (Rect.unit (s := S18x1x256) (k0_off353 k0_t3) S1x1x128.size (k0_off353_inb k0_t3)).toLoadRect (View.loadsAt_vmem h_S1x1x128))
    have v9309_r0 : FVec F S1x128 .f32 := shapeCast S1x128 v9308_r0 shapeCasts_S1x1x128_S1x128
    have v9310_r0 : FVec F S1x1x128 .f32 := shapeCast S1x1x128 v9283_r0 shapeCasts_S1x128_S1x1x128
    Prog.lift (.store (Memref.whole cc0_scratch11) (Rect.unit (s := S18x1x256) (k0_off353 k0_t3) S1x1x128.size (k0_off353_inb k0_t3)) v9310_r0 Finset.univ (View.stores_vmem_bits_univ h_S1x1x128 rfl) (.inl rfl))
    pure k0_mxu537

open_calls opened3 := printed3 [k0_part167, k0_part113]

variable {F : FTy → Type} [FloatOps F]

theorem printed3_eq (t : Fin k0_t3_loop.trips) (m : Mxu F) : printed3 t m = body3 t m := by
  have h : opened3 t m = body3 t m := by sl_kernel_rfl
  exact (opened3.eq_at t m).trans h

end Cert.KernelIdeal.Body
end
-- ==== Proof.Body.Eq.lean ====
/- The printed body is the one of Whole.lean. -/
module

public import proofs.«01_k».proof.Proof.Body.Whole
public import proofs.«01_k».proof.Proof.Body.Flat
public import proofs.«01_k».proof.Proof.Body.Loop2
public import proofs.«01_k».proof.Proof.Body.Loop3

@[expose] public section

set_option maxHeartbeats 4000000
set_option maxRecDepth 20000

noncomputable section

namespace Cert.KernelIdeal.Body

open Idealize.ShloMosaic Idealize.ShloMosaic.TcCoe
open Idealize.SL Idealize.SL.Sem
open Cert.KernelIdeal Cert.KernelIdeal.Gen

variable {F : FTy → Type} [FloatOps F]

/-- The whole body with loops 2 and 3 as they are printed. -/
def wholeP : PM (F := F) PUnit := do
  let m ← beginU
  let m ← Scf.Loop.for k0_t1_loop k0_t1_ok m fun t m => body1 t m
  wWaits12
  wStarts15
  let m ← firstB 6 0 0 (by omega) (by omega) (by omega) (by decide +kernel) m
  let m ← Scf.Loop.for k0_t2_loop k0_t2_ok m fun t m => printed2 t m
  oStart 0
  wWaits24
  wStarts27
  let m ← firstB 12 768 6 (by omega) (by omega) (by omega) (by decide +kernel) m
  let m ← Scf.Loop.for k0_t3_loop k0_t3_ok m fun t m => printed3 t m
  endU m
  pure ⟨⟩

theorem flat_eq : flat (F := F) (Memref.whole main_v0) (Memref.isWhole_whole main_v0) (Memref.whole main_v1) (Memref.isWhole_whole main_v1) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_v2_0) (Memref.isWhole_whole main_v2_0) (Memref.whole main_v2_1) (Memref.isWhole_whole main_v2_1) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) cc0_scratch13 cc0_scratch14 cc0_scratch15 cc0_scratch16 = wholeP := by sl_kernel_rfl

theorem wholeP_eq : wholeP (F := F) = whole := by
  unfold wholeP whole
  simp only [printed2_eq, printed3_eq]

theorem whole_eq : cc0_swiglu_gate_up (F := F) (Memref.whole main_v0) (Memref.isWhole_whole main_v0) (Memref.whole main_v1) (Memref.isWhole_whole main_v1) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_v2_0) (Memref.isWhole_whole main_v2_0) (Memref.whole main_v2_1) (Memref.isWhole_whole main_v2_1) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) cc0_scratch13 cc0_scratch14 cc0_scratch15 cc0_scratch16 = whole :=
  ((flat.eq_at (F := F) ..).trans flat_eq).trans wholeP_eq

end Cert.KernelIdeal.Body
end
-- ==== Proof.Run.Launch.lean ====
/- The run of @main: its body's share of the machine, and what every buffer of interest holds at the end. -/
module

public import proofs.«01_k».proof.Proof.Run.Slots
public import proofs.«01_k».proof.Proof.Body.Eq
public import proofs.«01_k».proof.Proof.Gen.KernelIdeal.Frame
public import Idealize.ShloMosaic.Lib.Pipeline.Routed
public import Idealize.ShloMosaic.Lib.Pipeline.FrameBody

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (Dat Cfg Window BodyObligation)

variable {F : FTy → Type} [FloatOps F]

local notation "𝕄" => MT nD τ sig Unit (Elt F) ℕ (Pipeline.UD sig nD τ) ℕ

/-- The semaphores the body uses: all of them. -/
def osem0 : Fin 27 → SemLoc sig := fun j => SemLoc.dma j

theorem ownSemFacts0 : Pipeline.OwnSemFacts cfg0.spec osem0 := by decide

/-- The buffers the body reads, and the two it fills. -/
def H0 : Finset (Ref sig .tc) := {main_v0, main_v1, main_arg2, main_arg3, main_arg4, main_arg5}
def R0 : Finset (Ref sig .tc) := {main_v2_0, main_v2_1}

theorem H0_sub : H0 ⊆ Pipeline.restRefs sig cfg0.spec := by decide
theorem R0_sub : R0 ⊆ Pipeline.restRefs sig cfg0.spec \ H0 := by decide

variable (m : (ℓ : Loc nD τ sig) → Buf (Elt F) ℓ) (ρ : Dev nD → PrngReg)

/-- The body's inputs. -/
def inOf (c : Dev nD) : In F where
  X := V m c main_v0
  XS := V m c main_v1
  WG := V m c main_arg2
  WGS := V m c main_arg3
  WU := V m c main_arg4
  WUS := V m c main_arg5

/-- What the two results hold at the end. -/
def G (c : Dev nD) (b : Ref sig .tc) : Buf (Elt F) ((c : Thread nD τ).loc b) :=
  if h : b = main_v2_0 then h ▸ (cdVal (inOf m c) : Buf (Elt F) ((c : Thread nD τ).loc main_v2_0))
  else if h : b = main_v2_1 then h ▸ (scOut (inOf m c) : Buf (Elt F) ((c : Thread nD τ).loc main_v2_1))
  else V m c b

theorem G_0 (c : Dev nD) : G m c main_v2_0 = cdVal (inOf m c) := by
  unfold G; rw [dif_pos rfl]
theorem G_1 (c : Dev nD) : G m c main_v2_1 = scOut (inOf m c) := by
  unfold G; rw [dif_neg (by decide), dif_pos rfl]

/-- The semaphores at zero, by their names. -/
theorem sems_eq (c : Dev nD) :
    (Pipeline.ownSems0 (Ix := Unit) (Name := ℕ) (U := Pipeline.UD sig nD τ) (Lvl := ℕ) (Val := Elt F) (τ := τ) osem0 c : sProp 𝕄)
      = iprop(Sem0 c (semX 0) ∗ Sem0 c (semX 1) ∗ Sem0 c (semX 2) ∗ Sem0 c (semX 3) ∗ Sem0 c (semX 4) ∗ Sem0 c (semX 5)
        ∗ Sem0 c (semX 6) ∗ Sem0 c (semX 7) ∗ Sem0 c (semX 8) ∗ Sem0 c (semX 9) ∗ Sem0 c (semX 10) ∗ Sem0 c (semX 11)
        ∗ Sem0 c (semW 0 0) ∗ Sem0 c (semW 0 1) ∗ Sem0 c (semW 0 2) ∗ Sem0 c (semW 0 3)
        ∗ Sem0 c (semW 1 0) ∗ Sem0 c (semW 1 1) ∗ Sem0 c (semW 1 2) ∗ Sem0 c (semW 1 3)
        ∗ Sem0 c (sSem 0) ∗ Sem0 c (sSem 1) ∗ Sem0 c (sSem 2)
        ∗ Sem0 c (oSem (0 : Fin 3).castSucc) ∗ Sem0 c (oSem (1 : Fin 3).castSucc) ∗ Sem0 c (oSem (2 : Fin 3).castSucc) ∗ Sem0 c (oSem 3)) := by
  rw [Pipeline.ownSems0_eq_of_list c osem0 [0, 1, 2, 3, 4, 5, 6, 7, 8, 9, 10, 11, 12, 13, 14, 15, 16, 17, 18, 19, 20, 21, 22, 23, 24, 25, 26] (by decide) (by decide)]
  rfl

/-- The arguments and the results, by their names. -/
theorem H_eq (c : Dev nD) :
    (bigSep H0 (fun b => ((c.tc : Thread nD τ).loc b) ↦{fullShare} V m c b) : sProp 𝕄)
      = iprop(pts c xH Finset.univ (inOf m c).X ∗ pts c xsH Finset.univ (inOf m c).XS ∗ pts c wgH Finset.univ (inOf m c).WG ∗ pts c wgsH Finset.univ (inOf m c).WGS
        ∗ pts c wuH Finset.univ (inOf m c).WU ∗ pts c wusH Finset.univ (inOf m c).WUS) :=
  BI.bigSep_eq_bigSepL_of_eq [main_v0, main_v1, main_arg2, main_arg3, main_arg4, main_arg5] (by decide) (by decide) _

theorem R_eq (c : Dev nD) (W : (b : Ref sig .tc) → Buf (Elt F) ((c.tc : Thread nD τ).loc b)) :
    (Pipeline.routed R0 c W : sProp 𝕄) = iprop(pts c cdH Finset.univ (W main_v2_0) ∗ pts c scH Finset.univ (W main_v2_1)) :=
  BI.bigSep_eq_bigSepL_of_eq [main_v2_0, main_v2_1] (by decide) (by decide) _

/-- The scratch buffers, by their names. -/
theorem scratch_eq (c : Dev nD) :
    (Pipeline.scopedRest (Ix := Unit) (Name := ℕ) (U := Pipeline.UD sig nD τ) (Lvl := ℕ) (Val := Elt F) cfg0.spec c : sProp 𝕄)
      = iprop((∃ f, pts c xV Finset.univ f) ∗ (∃ f, pts c xsV Finset.univ f) ∗ (∃ f, pts c xsT Finset.univ f) ∗ (∃ f, pts c xT Finset.univ f)
        ∗ (∃ f, pts c wgV Finset.univ f) ∗ (∃ f, pts c wuV Finset.univ f) ∗ (∃ f, pts c gV Finset.univ f) ∗ (∃ f, pts c uV Finset.univ f)
        ∗ (∃ f, pts c cdV Finset.univ f) ∗ (∃ f, pts c scT Finset.univ f) ∗ (∃ f, pts c scV Finset.univ f) ∗ (∃ f, pts c wgS Finset.univ f) ∗ ∃ f, pts c wuS Finset.univ f) :=
  scopedRest0_eq c

/-- The machine's share at the start is what the body begins with. -/
theorem enter (c : Dev nD) :
    iprop(Pipeline.ΦDRG osem0 cfg0.spec H0 R0 (V m) (V m) c ∗ Owes (F := F) c)
      ⊢ iprop((Held0 c (inOf m c) ∗ Later0 c (inOf m c)) ∗ ∃ r, prngReg c r) := by
  rw [Pipeline.ΦDRG_eq, sems_eq, H_eq, R_eq, scratch_eq]
  unfold Held0 Later0 Idle Popped Coded ORest XRest SIdle Src
  simp only [XSems]
  rw [outside_all (Nat.le_refl 0), colsGe_zero, cdGe_zero]
  iintro ⟨⟨⟨S0, S1, S2, S3, S4, S5, S8, S9, S10, S11, S12, S6, S7⟩, Hp, ⟨x0, x1, x2, x3, x4, x5, x6, x7, x8, x9, x10, x11, a0, a1, a2, a3, b0, b1, b2, b3, s0, s1, s2, o0, o1, o2, o3⟩, ⟨h0, h1, h2, h3, h4, h5⟩, ⟨r0, r1⟩⟩, HO⟩
  ihave S4 := (slots_cut (wgV.view.loc (c : Thread nD τ)) (fun b => slotSet b.val) slots_disj slots_all) $$ S4
  ihave S5 := (slots_cut (wuV.view.loc (c : Thread nD τ)) (fun b => slotSet b.val) slots_disj slots_all) $$ S5
  icases S4 with ⟨g0, g1, g2, g3⟩
  icases S5 with ⟨u0, u1, u2, u3⟩
  isplitl [h0 S0 x11 x10 x9 x8 x7 x6 x5 x4 x3 x2 x1 x0 h1 S1 s0 h3 S6 s1 h5 S7 s2 g0 a0 u0 b0 g1 a1 u1 b1 g2 a2 u2 b2 g3 a3 u3 b3 h2 h4 S2 S3 HO S8 S9 S10 S11 r0 o0 o1 o2 o3 S12 r1]
  · isplitl [h0 S0 x11 x10 x9 x8 x7 x6 x5 x4 x3 x2 x1 x0 h1 S1 s0 h3 S6 s1 h5 S7 s2 g0 a0 u0 b0 g1 a1 u1 b1 g2 a2 u2 b2 g3 a3 u3 b3 h2 h4 S2 S3 HO]
    · isplitl [h0 S0 x11 x10 x9 x8 x7 x6 x5 x4 x3 x2 x1 x0]
      · isplitl [h0 S0]
        · isplitl [h0]; · iexact h0
          iexact S0
        isplitl [x11]; · iexact x11
        isplitl [x10]; · iexact x10
        isplitl [x9]; · iexact x9
        isplitl [x8]; · iexact x8
        isplitl [x7]; · iexact x7
        isplitl [x6]; · iexact x6
        isplitl [x5]; · iexact x5
        isplitl [x4]; · iexact x4
        isplitl [x3]; · iexact x3
        isplitl [x2]; · iexact x2
        isplitl [x1]; · iexact x1
        isplitl [x0]; · iexact x0
        iempintro
      isplitl [h1 S1 s0 h3 S6 s1 h5 S7 s2]
      · isplitl [h1 S1 s0]
        · isplitl [h1]; · iexact h1
          isplitl [S1]; · iexact S1
          iexact s0
        isplitl [h3 S6 s1]
        · isplitl [h3]; · iexact h3
          isplitl [S6]; · iexact S6
          iexact s1
        isplitl [h5]; · iexact h5
        isplitl [S7]; · iexact S7
        iexact s2
      isplitl [g0 a0 u0 b0 g1 a1 u1 b1 g2 a2 u2 b2 g3 a3 u3 b3 h2 h4]
      · isplitl [g0 a0 u0 b0]
        · isplitl [g0 a0]
          · isplitl [g0]; · iexact g0
            iexact a0
          isplitl [u0]; · iexact u0
          iexact b0
        isplitl [g1 a1 u1 b1]
        · isplitl [g1 a1]
          · isplitl [g1]; · iexact g1
            iexact a1
          isplitl [u1]; · iexact u1
          iexact b1
        isplitl [g2 a2 u2 b2]
        · isplitl [g2 a2]
          · isplitl [g2]; · iexact g2
            iexact a2
          isplitl [u2]; · iexact u2
          iexact b2
        isplitl [g3 a3 u3 b3]
        · isplitl [g3 a3]
          · isplitl [g3]; · iexact g3
            iexact a3
          isplitl [u3]; · iexact u3
          iexact b3
        isplitl [h2]; · iexact h2
        iexact h4
      isplitl [S2]; · iexact S2
      isplitl [S3]; · iexact S3
      iexact HO
    isplitl [S8 S9]
    · isplitl [S8]; · icases S8 with ⟨%f, S8⟩; iexists f; isplitr [S8]; rotate_left; iexact S8; ipureintro; exact fun i h => absurd h (by omega)
      icases S9 with ⟨%f, S9⟩; iexists f; isplitr [S9]; rotate_left; iexact S9; ipureintro; exact fun i h => absurd h (by omega)
    isplitl [S10 S11]
    · isplitl [S10]; · icases S10 with ⟨%f, S10⟩; iexists f; isplitr [S10]; rotate_left; iexact S10; ipureintro; exact fun i h => absurd h (by omega)
      icases S11 with ⟨%f, S11⟩; iexists f; isplitr [S11]; rotate_left; iexact S11; ipureintro; exact fun i h => absurd h (by omega)
    isplitl [r0]; · iexists _; iexact r0
    isplitl [o0 o1 o2 o3]
    · isplitl [o0]; · iexact o0
      isplitl [o1]; · iexact o1
      isplitl [o2]; · iexact o2
      iexact o3
    isplitl [S12]; · iexact S12
    iexists _; iexact r1
  iexact Hp

/-- What the body ends with is the machine's share at the end. -/
theorem leave (c : Dev nD) :
    iprop(Final c (inOf m c) ∗ ∃ r, prngReg c r) ⊢ iprop(Pipeline.ΦDRG osem0 cfg0.spec H0 R0 (V m) (G m) c ∗ Owes (F := F) c) := by
  rw [Pipeline.ΦDRG_eq, sems_eq, H_eq, R_eq, scratch_eq, G_0, G_1]
  unfold Final RingB FlO
  rw [if_neg (by omega), if_neg (by omega), if_neg (by omega)]
  unfold Idle Popped Kept Sent Scales SRest XRest XState Src
  simp only [XSems]
  rw [outside_all (by omega), colsLt_all]
  iintro ⟨⟨⟨⟨⟨g0, a0⟩, ⟨u0, b0⟩⟩, ⟨⟨g1, a1⟩, ⟨u1, b1⟩⟩, ⟨⟨g2, a2⟩, ⟨u2, b2⟩⟩, ⟨⟨g3, a3⟩, ⟨u3, b3⟩⟩, ⟨h2, h4⟩⟩, ⟨S0, h0, ⟨x11, x10, x9, x8, x7, x6, x5, x4, x3, x2, x1, x0, -⟩, -⟩, ⟨S6, S7⟩, S2, K, ⟨⟨h1, s0⟩, ⟨h3, s1⟩, ⟨h5, s2⟩⟩, S1, -, ⟨S8, S9⟩, ⟨⟨cdH, cdV, scT, o0, o1, o2⟩, ⟨⟨scH, scV⟩, o3⟩, HO⟩⟩, Hp⟩
  ihave S4 := (slots_glue (wgV.view.loc (c : Thread nD τ)) (fun b => slotSet b.val) slots_disj slots_all) $$ [g0 g1 g2 g3]
  · isplitl [g0]; · iexact g0
    isplitl [g1]; · iexact g1
    isplitl [g2]; · iexact g2
    iexact g3
  ihave S5 := (slots_glue (wuV.view.loc (c : Thread nD τ)) (fun b => slotSet b.val) slots_disj slots_all) $$ [u0 u1 u2 u3]
  · isplitl [u0]; · iexact u0
    isplitl [u1]; · iexact u1
    isplitl [u2]; · iexact u2
    iexact u3
  isplitl [S0 S1 S2 K S4 S5 S8 S9 cdV scT scV S6 S7 Hp x0 x1 x2 x3 x4 x5 x6 x7 x8 x9 x10 x11 a0 a1 a2 a3 b0 b1 b2 b3 s0 s1 s2 o0 o1 o2 o3 h0 h1 h2 h3 h4 h5 cdH scH]
  · isplitl [S0 S1 S2 K S4 S5 S8 S9 cdV scT scV S6 S7]
    · isplitl [S0]; · iexists _; iexact S0
      isplitl [S1]; · iexists _; iexact S1
      isplitl [S2]; · iexists _; iexact S2
      isplitl [K]; · icases K with ⟨%f, -, K⟩; iexists f; iexact K
      isplitl [S4]; · iexact S4
      isplitl [S5]; · iexact S5
      isplitl [S8]; · icases S8 with ⟨%f, -, S8⟩; iexists f; iexact S8
      isplitl [S9]; · icases S9 with ⟨%f, -, S9⟩; iexists f; iexact S9
      isplitl [cdV]; · iexists _; iexact cdV
      isplitl [scT]; · iexact scT
      isplitl [scV]; · iexists _; iexact scV
      isplitl [S6]; · iexists _; iexact S6
      iexists _; iexact S7
    isplitl [Hp]; · iexact Hp
    isplitl [x0 x1 x2 x3 x4 x5 x6 x7 x8 x9 x10 x11 a0 a1 a2 a3 b0 b1 b2 b3 s0 s1 s2 o0 o1 o2 o3]
    · isplitl [x0]; · iexact x0
      isplitl [x1]; · iexact x1
      isplitl [x2]; · iexact x2
      isplitl [x3]; · iexact x3
      isplitl [x4]; · iexact x4
      isplitl [x5]; · iexact x5
      isplitl [x6]; · iexact x6
      isplitl [x7]; · iexact x7
      isplitl [x8]; · iexact x8
      isplitl [x9]; · iexact x9
      isplitl [x10]; · iexact x10
      isplitl [x11]; · iexact x11
      isplitl [a0]; · iexact a0
      isplitl [a1]; · iexact a1
      isplitl [a2]; · iexact a2
      isplitl [a3]; · iexact a3
      isplitl [b0]; · iexact b0
      isplitl [b1]; · iexact b1
      isplitl [b2]; · iexact b2
      isplitl [b3]; · iexact b3
      isplitl [s0]; · iexact s0
      isplitl [s1]; · iexact s1
      isplitl [s2]; · iexact s2
      isplitl [o0]; · iexact o0
      isplitl [o1]; · iexact o1
      isplitl [o2]; · iexact o2
      iexact o3
    isplitl [h0 h1 h2 h3 h4 h5]
    · isplitl [h0]; · iexact h0
      isplitl [h1]; · iexact h1
      isplitl [h2]; · iexact h2
      isplitl [h3]; · iexact h3
      isplitl [h4]; · iexact h4
      iexact h5
    isplitl [cdH]; · iexact cdH
    iexact scH
  iexact HO

end Cert.KernelIdeal.Body

end
-- ==== Proof.Run.Main.lean ====
/- The run of @main, from any memory: it ends, the arguments are as they were, every counter is zero, and the two results
   hold the codes and the scales. -/
module

public import proofs.«01_k».proof.Proof.Run.Launch

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The machine's share before the grid's one point, and after it. -/
def phiAt (c : Dev nD) : ℕ → sProp 𝕄
  | 0 => Pipeline.ΦDRG osem0 cfg0.spec H0 R0 (V m) (V m) c
  | _ + 1 => Pipeline.ΦDRG osem0 cfg0.spec H0 R0 (V m) (G m) c

/-- The proof's data: no window; the machine's share before and after the one grid point. -/
def dats : (p : Fin 1) → (c : Dev nD) → Dat τ (Elt F) Unit ℕ (Pipeline.UD sig nD τ) ℕ (cfgs p) c := fun _ c => {
  A := fun w => w.elim0
  after := fun w => w.elim0
  Φ := fun t => phiAt m c t.val
  q := fun _ => fullShare
  owed := fun _ => 0 }

def bodyPre (c : Dev nD) (t : Fin cfg0.N) : sProp 𝕄 :=
  iprop((dats m 0 c).Φ t.castSucc ∗ (dats m 0 c).owesAt () t.castSucc ∗ emp)
def bodyPost (c : Dev nD) (t : Fin cfg0.N) : sProp 𝕄 :=
  iprop((dats m 0 c).Φ t.succ ∗ (dats m 0 c).owesAt () t.succ ∗ emp)

theorem phi_start (c : Dev nD) (t : Fin cfg0.N) : (dats m 0 c).Φ t.castSucc = Pipeline.ΦDRG osem0 cfg0.spec H0 R0 (V m) (V m) c := by
  show phiAt m c t.val = _
  rw [show t.val = 0 from by rw [fin_N0 t]; rfl]
  rfl
theorem phi_end (c : Dev nD) (t : Fin cfg0.N) : (dats m 0 c).Φ t.succ = Pipeline.ΦDRG osem0 cfg0.spec H0 R0 (V m) (G m) c := rfl

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  rw [phi_start, phi_end]
  unfold bodyAt0
  rw [whole_eq]
  show _ ⊢ WP c whole _
  unfold Dat.owesAt Pipeline.owesWithin
  iintro ⟨HΦ, ⟨%W, -, HW⟩, He⟩
  ihave H := (enter m c) $$ [HΦ HW]
  · isplitl [HΦ]
    · iexact HΦ
    iexists W; iexact HW
  icases H with ⟨H, Hp⟩
  iapply (wp_whole c (inOf m c) _) $$ H
  iintro HF
  ihave H := (leave m c) $$ [HF Hp]
  · isplitl [HF]; · iexact HF
    iexact Hp
  icases H with ⟨HΦ, ⟨%W', HW⟩⟩
  isplitl [HΦ]
  · iexact HΦ
  isplitl [HW]
  · iexists W'; isplitr; · ipureintro; exact fun _ _ => Or.inl trivial
    iexact HW
  iexact He

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  have : IsEmpty (Fin (cfgs 0).W) := inferInstanceAs (IsEmpty (Fin 0))
  rw [Finset.univ_eq_empty, bigSep_empty, bigSep_empty, defs₀_row]
  have h := sound_body m c t
  unfold bodyPre bodyPost at h
  exact triple_restated h rfl .rfl fun _ => .rfl

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c w => w.elim0)
    (howed := fun _ _ => rfl) (V := V m) (hmain := hmainD m Variants.none) (hA := fun _ w => w.elim0) (G := G m)
    (hin := fun c => BI.BIBase.Entails.of_eq (rfl : Pipeline.ΦDRG osem0 cfg0.spec H0 R0 (V m) (V m) c = phiAt m c 0)) (hout := fun c => BI.BIBase.Entails.of_eq (rfl : phiAt m c 1 = Pipeline.ΦDRG osem0 cfg0.spec H0 R0 (V m) (G m) c))
    (hQ' := fun _ h => h)

/-- The run: the codes, the scales, the arguments, the counters. -/
theorem run : θ_run defs (onTc (τ := τ) (main (F := F))) ⟨m, fun _ => 0, ρ⟩ (fun r => (∀ c : Dev nD,
      r.2.mem ((c.tc : Thread nD τ).loc main_v2_0) = cdVal (inOf m c)
      ∧ r.2.mem ((c.tc : Thread nD τ).loc main_v2_1) = scOut (inOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run defs _ _).mono ?_ (run_main m ρ)
  intro r ⟨⟨h, hR⟩, hs⟩
  have rest : ∀ c : Dev nD, ∀ b : Ref sig .tc, b ∈ Pipeline.restRefs sig cfg0.spec \ R0 → r.2.mem ((c.tc : Thread nD τ).loc b) = V m c b :=
    fun c b hb => (h c).2 b hb
  refine ⟨fun c => ⟨(hR c main_v2_0 (by decide)).trans (G_0 m c), (hR c main_v2_1 (by decide)).trans (G_1 m c),
    (rest c main_arg0 (by decide)).trans (V_main_arg0 m c), (rest c main_arg1 (by decide)).trans (V_main_arg1 m c),
    (rest c main_arg2 (by decide)).trans (V_main_arg2 m c), (rest c main_arg3 (by decide)).trans (V_main_arg3 m c),
    (rest c main_arg4 (by decide)).trans (V_main_arg4 m c), (rest c main_arg5 (by decide)).trans (V_main_arg5 m c)⟩, hs⟩

end Cert.KernelIdeal.Body

end
-- ==== Proof.Frames.lean ====
/- The three frames: each program ends, its arguments are as they were, every counter is zero. -/
module

public import proofs.«01_k».proof.Defs
public import proofs.«01_k».proof.Proof.Transfer
public import proofs.«01_k».proof.Proof.Run.Main
public import proofs.«01_k».proof.Proof.Gen.ReferenceIdeal.Frame

@[expose] public section

noncomputable section

namespace Cert.Proof

open Idealize.ShloMosaic Idealize.ShloMosaic.TcCoe Idealize.SL Idealize.SL.Sem

/-- The kernel's, over the bits. -/
theorem frameBits : Cert.quiescent_Kernel := by
  rw [← quiescentBits_eq]
  intro m g _
  exact (θ_run _ _ _).mono (fun r h => ⟨fun c => (h.1 c).2.2, h.2⟩) (Cert.KernelIdeal.Body.run (F := Bits) m g)

/-- The kernel's, over the reals. -/
theorem frameIdeal : Cert.quiescent_KernelIdeal := by
  intro m g _
  exact (θ_run _ _ _).mono (fun r h => ⟨fun c => (h.1 c).2.2, h.2⟩) (Cert.KernelIdeal.Body.run (F := Ideal) m g)

/-- The reference's. -/
theorem frameRef : Cert.quiescent_ReferenceIdeal := by
  intro m g _
  exact Cert.ReferenceIdeal.Gen.frame (F := Ideal) m g

end Cert.Proof
end
-- ==== Proof.Ref.Value.lean ====
/- What a run of the reference leaves in its two results: the body's payloads of the arguments' whole arrays. -/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t) (iblk m c 5 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index. -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v2_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v2_1) = (dats m 0 c).arrAt 7 cfg0.N :=
  (h c).1 7

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-! ## A window's one block is its whole array -/

theorem emb6 (t : Fin cfg0.N) (y : S256x2304.Idx) : ((cfg0.win 6).blk t).view.emb y = y := by
  funext a
  refine Fin.ext ?_
  show 0 * _ + 1 * (y a).val = (y a).val
  omega

theorem emb7 (t : Fin cfg0.N) (y : S256x18.Idx) : ((cfg0.win 7).blk t).view.emb y = y := by
  funext a
  refine Fin.ext ?_
  show 0 * _ + 1 * (y a).val = (y a).val
  omega

theorem whole0 (c : Dev nD) (t : Fin cfg0.N) : iblk m c 0 t = V m c main_v0 := by
  funext y
  refine congrArg (V m c main_v0) ?_
  funext a
  refine Fin.ext ?_
  show 0 * _ + 1 * (y a).val = (y a).val
  omega

theorem whole1 (c : Dev nD) (t : Fin cfg0.N) : iblk m c 1 t = V m c main_v1 := by
  funext y
  refine congrArg (V m c main_v1) ?_
  funext a
  refine Fin.ext ?_
  show 0 * _ + 1 * (y a).val = (y a).val
  omega

theorem whole2 (c : Dev nD) (t : Fin cfg0.N) : iblk m c 2 t = V m c main_arg2 := by
  funext y
  refine congrArg (V m c main_arg2) ?_
  funext a
  refine Fin.ext ?_
  show 0 * _ + 1 * (y a).val = (y a).val
  omega

theorem whole3 (c : Dev nD) (t : Fin cfg0.N) : iblk m c 3 t = V m c main_arg3 := by
  funext y
  refine congrArg (V m c main_arg3) ?_
  funext a
  refine Fin.ext ?_
  show 0 * _ + 1 * (y a).val = (y a).val
  omega

theorem whole4 (c : Dev nD) (t : Fin cfg0.N) : iblk m c 4 t = V m c main_arg4 := by
  funext y
  refine congrArg (V m c main_arg4) ?_
  funext a
  refine Fin.ext ?_
  show 0 * _ + 1 * (y a).val = (y a).val
  omega

theorem whole5 (c : Dev nD) (t : Fin cfg0.N) : iblk m c 5 t = V m c main_arg5 := by
  funext y
  refine congrArg (V m c main_arg5) ?_
  funext a
  refine Fin.ext ?_
  show 0 * _ + 1 * (y a).val = (y a).val
  omega

/-! ## The results -/

theorem zeros : (![0, 0] : Fin 2 → ℕ) = fun _ => 0 := by decide

section
variable (x : Vec F S256x18432 .fp8e4m3) (xs : Vec F S256x144 .f32) (g : Vec F S2304x18432 .fp8e4m3) (gs : Vec F S18x144 .f32)
  (u : Vec F S2304x18432 .fp8e4m3) (us : Vec F S18x144 .f32)

theorem out6_eq : out0_6 x xs g gs u us
    = k0_pay2 (k0_pay4 xs x gs g us u) (k0_pay5 xs x gs g us u) (k0_pay6 xs x gs g us u) (k0_pay7 (F := F)) := by
  unfold out0_6 k0_pay8 k0_pay9 k0_pay10
  rw [View.ld_unit_zero zeros _ xs, View.ld_unit_zero zeros _ x, View.ld_unit_zero zeros _ gs, View.ld_unit_zero zeros _ g, View.ld_unit_zero zeros _ us,
    View.ld_unit_zero zeros _ u, View.canon_cons_unit_zero zeros]

theorem out7_eq : out0_7 x xs g gs u us = k0_pay3 (k0_pay5 xs x gs g us u) (k0_pay6 xs x gs g us u) (k0_pay7 (F := F)) := by
  unfold out0_7 k0_pay8 k0_pay9 k0_pay10
  rw [View.ld_unit_zero zeros _ xs, View.ld_unit_zero zeros _ x, View.ld_unit_zero zeros _ gs, View.ld_unit_zero zeros _ g, View.ld_unit_zero zeros _ us,
    View.ld_unit_zero zeros _ u, View.canon_cons_unit_zero zeros]
end

/-- The codes of the arrays as the region finds them. -/
def codes (c : Dev nD) : Vec F S256x2304 .fp8e4m3 :=
  k0_pay2 (k0_pay4 (V m c main_v1) (V m c main_v0) (V m c main_arg3) (V m c main_arg2) (V m c main_arg5) (V m c main_arg4))
    (k0_pay5 (V m c main_v1) (V m c main_v0) (V m c main_arg3) (V m c main_arg2) (V m c main_arg5) (V m c main_arg4))
    (k0_pay6 (V m c main_v1) (V m c main_v0) (V m c main_arg3) (V m c main_arg2) (V m c main_arg5) (V m c main_arg4)) (k0_pay7 (F := F))

/-- Their scales. -/
def scales (c : Dev nD) : Vec F S256x18 .f32 :=
  k0_pay3 (k0_pay5 (V m c main_v1) (V m c main_v0) (V m c main_arg3) (V m c main_arg2) (V m c main_arg5) (V m c main_arg4))
    (k0_pay6 (V m c main_v1) (V m c main_v0) (V m c main_arg3) (V m c main_arg2) (V m c main_arg5) (V m c main_arg4)) (k0_pay7 (F := F))

def t0 : Fin cfg0.N := ⟨0, by decide⟩

theorem final6 (c : Dev nD) : (dats m 0 c).arrAt 6 cfg0.N = codes m c := by
  have h := blocks6 m c t0 (by decide)
  rw [flushed6, whole0, whole1, whole2, whole3, whole4, whole5, out6_eq] at h
  funext y
  have e := congrFun h y
  change (dats m 0 c).arrAt 6 cfg0.N (((cfg0.win 6).blk t0).view.emb y) = codes m c y at e
  rw [emb6] at e
  exact e

theorem final7 (c : Dev nD) : (dats m 0 c).arrAt 7 cfg0.N = scales m c := by
  have h := blocks7 m c t0 (by decide)
  rw [flushed7, whole0, whole1, whole2, whole3, whole4, whole5, out7_eq] at h
  funext y
  have e := congrFun h y
  change (dats m 0 c).arrAt 7 cfg0.N (((cfg0.win 7).blk t0).view.emb y) = scales m c y at e
  rw [emb7] at e
  exact e

/-- A run of the reference leaves the codes and the scales, and its arguments as they were. -/
theorem run : θ_run defs (onTc (τ := τ) (main (F := F))) ⟨m, fun _ => 0, ρ⟩ fun r => ∀ c : Dev nD,
      r.2.mem ((c : Thread nD τ).loc main_v2_0) = codes m c
      ∧ r.2.mem ((c : Thread nD τ).loc main_v2_1) = scales m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      (post7 m r h c).trans (final7 m c),
      kept_main_arg0 m r h c,
      kept_main_arg1 m r h c,
      kept_main_arg2 m r h c,
      kept_main_arg3 m r h c,
      kept_main_arg4 m r h c,
      kept_main_arg5 m r h c⟩)
    (run_main m ρ)

end Cert.ReferenceIdeal.Value

end
-- ==== Proof.Alg.Level.lean ====
/- Powers of two and the exponent of a value: counting the powers of two a value reaches gives the same exponent as rounding down its logarithm. -/
module

public import Idealize.ShloMosaic.PureOps.Ideal.Laws
public import Mathlib.Analysis.SpecialFunctions.Log.Basic
public import Mathlib.Analysis.SpecialFunctions.Pow.Real
public import Mathlib.Tactic.Linarith
public import Mathlib.Tactic.Ring
public import Mathlib.Tactic.NormNum

@[expose] public section

noncomputable section

namespace Cert.Alg

open Idealize.ShloMosaic

/-- A power of two. -/
def two (j : ℤ) : ℝ := (2 : ℝ) ^ j

theorem two_lt {i j : ℤ} : two i < two j ↔ i < j := zpow_lt_zpow_iff_right₀ (by norm_num)
theorem two_le {i j : ℤ} : two i ≤ two j ↔ i ≤ j := zpow_le_zpow_iff_right₀ (by norm_num)
theorem two_pos (j : ℤ) : 0 < two j := zpow_pos (by norm_num) _

/-- The fields of the word whose exponent field is `n`. -/
theorem fields : ∀ n : Fin 255, ((BitVec.ofNat 32 n.val <<< 23).extractLsb' 23 8).toNat = n.val
    ∧ ((BitVec.ofNat 32 n.val <<< 23).extractLsb' 0 23).toNat = 0 ∧ ((BitVec.ofNat 32 n.val <<< 23).extractLsb' 31 1 == 1#1) = false := by
  decide +kernel

/-- That word is a power of two. -/
theorem ieee_two {n : ℕ} (h1 : 1 ≤ n) (h2 : n ≤ 254) : Ideal.ieee 8 23 (BitVec.ofNat 32 n <<< 23) = ((two ((n : ℤ) - 127) : ℝ) : EReal) := by
  obtain ⟨ha, hb, hc⟩ := fields ⟨n, by omega⟩
  dsimp only at ha hb hc
  have hs : (2 : ℝ) ^ 23 * (2 : ℝ) ^ ((n : ℤ) - (2 ^ (8 - 1) - 1) - (23 : ℕ)) = two ((n : ℤ) - 127) := by
    unfold two
    rw [show (n : ℤ) - 127 = (23 : ℕ) + ((n : ℤ) - (2 ^ (8 - 1) - 1) - (23 : ℕ)) by push_cast; ring, zpow_add₀ (by norm_num), zpow_natCast]
  unfold Ideal.ieee
  simp only [Nat.reduceAdd, ha, hb, hc, ← hs]
  rw [if_neg (by omega), if_neg (by omega)]
  refine congrArg _ ?_
  simp only [Bool.false_eq_true, if_false, one_mul, add_zero, Nat.cast_pow, Nat.cast_ofNat]

theorem bits_two {n : ℕ} (h1 : 1 ≤ n) (h2 : n ≤ 254) (w : BitVec 32) (hw : w = BitVec.ofNat 32 n <<< 23) :
    Ideal.ofBits .f32 w = ((two ((n : ℤ) - 127) : ℝ) : EReal) := by
  subst hw
  exact ieee_two h1 h2

/-- The `k`-th power the count compares with. -/
def lev (k : ℕ) : ℤ := ((min (k + 1) 253 : ℕ) : ℤ) - 127

/-- How many of the 255 powers a value reaches. -/
def cnt (v : EReal) : ℕ := ((Finset.univ : Finset (Fin 255)).filter fun k => ((two (lev k.val) : ℝ) : EReal) ≤ v).card

theorem card_lt : ∀ c : Fin 256, ((Finset.univ : Finset (Fin 255)).filter fun k => k.val < c.val).card = c.val := by decide +kernel

theorem cnt_low {v : EReal} (h : v < ((two (-126) : ℝ) : EReal)) : cnt v = 0 := by
  unfold cnt
  rw [Finset.card_eq_zero, Finset.filter_eq_empty_iff]
  intro k _ hk
  have h1 := lt_of_le_of_lt hk h
  rw [EReal.coe_lt_coe_iff, two_lt] at h1
  unfold lev at h1
  omega

theorem cnt_high {v : EReal} (h : ((two 126 : ℝ) : EReal) ≤ v) : cnt v = 255 := by
  unfold cnt
  rw [Finset.filter_true_of_mem]
  · rfl
  · intro k _
    refine le_trans ?_ h
    rw [EReal.coe_le_coe_iff, two_le]
    unfold lev
    omega

theorem cnt_mid {r : ℝ} {j : ℤ} (h1 : two j ≤ r) (h2 : r < two (j + 1)) (l : -126 ≤ j) (u : j ≤ 125) : cnt (r : EReal) = (j + 127).toNat := by
  have e : (Finset.univ : Finset (Fin 255)).filter (fun k => ((two (lev k.val) : ℝ) : EReal) ≤ (r : EReal))
      = Finset.univ.filter fun k : Fin 255 => k.val < (j + 127).toNat := by
    refine Finset.filter_congr fun k _ => ?_
    rw [EReal.coe_le_coe_iff]
    constructor
    · intro hk
      have := two_lt.1 (lt_of_le_of_lt hk h2)
      unfold lev at this
      omega
    · intro hk
      refine le_trans (two_le.2 ?_) h1
      unfold lev
      omega
  unfold cnt
  rw [e]
  exact card_lt ⟨(j + 127).toNat, by omega⟩

/-- The exponent word, the scale's word and its reciprocal's, from a count. -/
def eW (n : BitVec 32) : BitVec 32 := if n = 0#32 ∨ n = 255#32 then 0#32 else n - 126#32
def sW (n : BitVec 32) : BitVec 32 := (127#32 + eW n) <<< 23
def iW (n : BitVec 32) : BitVec 32 := (127#32 - eW n) <<< 23

theorem sW_mid : ∀ n : Fin 252, sW (BitVec.ofNat 32 (n.val + 1)) = BitVec.ofNat 32 (n.val + 2) <<< 23 := by decide +kernel
theorem iW_mid : ∀ n : Fin 252, iW (BitVec.ofNat 32 (n.val + 1)) = BitVec.ofNat 32 (252 - n.val) <<< 23 := by decide +kernel

/-- The exponent by the logarithm: rounded down, plus one, inside the range; zero outside. -/
def expo (v : EReal) : EReal :=
  if ((two (-126) : ℝ) : EReal) ≤ v ∧ v < ((two 126 : ℝ) : EReal) then
    Ideal.liftRound Int.floor (Ideal.div (Ideal.log v) (Ideal.log ((2 : ℝ) : EReal))) + 1 else 0

theorem log2_pos : 0 < Real.log 2 := Real.log_pos (by norm_num)

/-- A positive number lies between the powers its logarithm rounds to. -/
theorem floor_log {r : ℝ} (hr : 0 < r) : two ⌊Real.log r * (Real.log 2)⁻¹⌋ ≤ r ∧ r < two (⌊Real.log r * (Real.log 2)⁻¹⌋ + 1) := by
  have hl := log2_pos
  have e (j : ℤ) : Real.log (two j) = j * Real.log 2 := Real.log_zpow _ _
  have f1 := Int.floor_le (Real.log r * (Real.log 2)⁻¹)
  have f2 := Int.lt_floor_add_one (Real.log r * (Real.log 2)⁻¹)
  rw [← div_eq_mul_inv] at *
  rw [le_div_iff₀ hl] at f1
  rw [div_lt_iff₀ hl] at f2
  constructor
  · rw [← Real.log_le_log_iff (two_pos _) hr, e]; exact f1
  · rw [← Real.log_lt_log_iff hr (two_pos _), e]; push_cast; exact f2

theorem expo_real {r : ℝ} (l : two (-126) ≤ r) (u : r < two 126) : expo (r : EReal) = (((⌊Real.log r * (Real.log 2)⁻¹⌋ + 1 : ℤ) : ℝ) : EReal) := by
  have hr : 0 < r := lt_of_lt_of_le (two_pos _) l
  unfold expo
  rw [if_pos ⟨EReal.coe_le_coe_iff.2 l, EReal.coe_lt_coe_iff.2 u⟩]
  have a : Ideal.log (r : EReal) = ((Real.log r : ℝ) : EReal) := by
    show (if r ≤ 0 then ⊥ else ((Real.log r : ℝ) : EReal)) = _
    rw [if_neg (not_le.2 hr)]
  have b : Ideal.log ((2 : ℝ) : EReal) = ((Real.log 2 : ℝ) : EReal) := by
    show (if (2 : ℝ) ≤ 0 then ⊥ else ((Real.log 2 : ℝ) : EReal)) = _
    rw [if_neg (by norm_num)]
  rw [a, b]
  unfold Ideal.div
  rw [if_neg (by exact_mod_cast log2_pos.ne'), ← EReal.coe_inv, ← EReal.coe_mul]
  show (((⌊Real.log r * (Real.log 2)⁻¹⌋ : ℤ) : ℝ) : EReal) + 1 = _
  push_cast
  rfl

theorem exp2_int (j : ℤ) : Ideal.exp2 (((j : ℤ) : ℝ) : EReal) = ((two j : ℝ) : EReal) := by
  show ((Real.rpow 2 (j : ℝ) : ℝ) : EReal) = _
  congr 1
  exact Real.rpow_intCast 2 j

theorem exp2_zero : Ideal.exp2 (0 : EReal) = ((two 0 : ℝ) : EReal) := by
  have := exp2_int 0
  simpa using this

/-- The cases of a value: below the range, above it, or between two neighbouring powers inside it. -/
theorem cases (v : EReal) : (cnt v = 0 ∧ expo v = 0) ∨ (cnt v = 255 ∧ expo v = 0)
    ∨ ∃ n : Fin 252, cnt v = n.val + 1 ∧ expo v = ((((n.val : ℤ) - 125 : ℤ) : ℝ) : EReal) := by
  by_cases l : ((two (-126) : ℝ) : EReal) ≤ v
  · by_cases u : v < ((two 126 : ℝ) : EReal)
    · right; right
      induction v with
      | bot => exact absurd l (by simp)
      | top => exact absurd u (by simp)
      | coe r =>
        have l' := EReal.coe_le_coe_iff.1 l
        have u' := EReal.coe_lt_coe_iff.1 u
        obtain ⟨f1, f2⟩ := floor_log (lt_of_lt_of_le (two_pos _) l')
        have e := expo_real l' u'
        generalize ⌊Real.log r * (Real.log 2)⁻¹⌋ = j at f1 f2 e
        have j1 := two_lt.1 (lt_of_le_of_lt l' f2)
        have j2 := two_lt.1 (lt_of_le_of_lt f1 u')
        have c := cnt_mid f1 f2 (by omega) (by omega)
        refine ⟨⟨(j + 126).toNat, by omega⟩, by rw [c]; show _ = (j + 126).toNat + 1; omega, ?_⟩
        rw [e, show (((⟨(j + 126).toNat, by omega⟩ : Fin 252).val : ℤ) - 125) = j + 1 by show (((j + 126).toNat : ℕ) : ℤ) - 125 = _; omega]
    · right; left
      exact ⟨cnt_high (not_lt.1 u), by unfold expo; rw [if_neg fun h => u h.2]⟩
  · left
    exact ⟨cnt_low (not_le.1 l), by unfold expo; rw [if_neg fun h => l h.1]⟩

/-- The scale the bits spell is two to the exponent. -/
theorem scale_eq (v : EReal) : Ideal.ofBits .f32 (sW (BitVec.ofNat 32 (cnt v))) = Ideal.exp2 (expo v) := by
  rcases cases v with ⟨c, e⟩ | ⟨c, e⟩ | ⟨n, c, e⟩
  · rw [c, e, exp2_zero]; exact bits_two (n := 127) (by omega) (by omega) _ rfl
  · rw [c, e, exp2_zero]; exact bits_two (n := 127) (by omega) (by omega) _ rfl
  · rw [c, e, exp2_int, bits_two (by omega) (by omega) _ (sW_mid n)]
    congr 2; push_cast; ring

/-- And so is its reciprocal. -/
theorem inv_eq (v : EReal) : Ideal.ofBits .f32 (iW (BitVec.ofNat 32 (cnt v))) = Ideal.exp2 (0 - expo v) := by
  rcases cases v with ⟨c, e⟩ | ⟨c, e⟩ | ⟨n, c, e⟩
  · rw [c, e, sub_zero, exp2_zero]; exact bits_two (n := 127) (by omega) (by omega) _ rfl
  · rw [c, e, sub_zero, exp2_zero]; exact bits_two (n := 127) (by omega) (by omega) _ rfl
  · have hn := n.isLt
    rw [c, e, zero_sub, ← EReal.coe_neg, ← Int.cast_neg, exp2_int, bits_two (by omega) (by omega) _ (iW_mid n)]
    congr 2; push_cast [Nat.cast_sub (show n.val ≤ 252 by omega)]; ring

end Cert.Alg

end
-- ==== Proof.Alg.Spec.lean ====
/- What both programs compute, over the reals, as functions of the six arguments: the products, the gated product, a group's value, its scale and its codes. -/
module

public import proofs.«01_k».proof.Proof.Alg.Level
public import Idealize.ShloMosaic.Lib.Pointwise

@[expose] public section

noncomputable section

namespace Cert.Alg

open Idealize.ShloMosaic

abbrev TX : Shape := ⟨2, ![256, 18432]⟩
abbrev TXS : Shape := ⟨2, ![256, 144]⟩
abbrev TW : Shape := ⟨2, ![2304, 18432]⟩
abbrev TWS : Shape := ⟨2, ![18, 144]⟩

/-- An activation: its code times its group's scale. -/
def act (x : TX.Idx → EReal) (xs : TXS.Idx → EReal) (t : Fin 256) (k : Fin 18432) : EReal := x (ix2 t k) * xs (ix2 t ⟨k.val / 128, by omega⟩)

/-- A weight of output feature `l` of group `n`: its code times its block's scale. -/
def wgt (w : TW.Idx → EReal) (s : TWS.Idx → EReal) (n : Fin 18) (l : Fin 128) (k : Fin 18432) : EReal :=
  w (ix2 ⟨n.val * 128 + l.val, by omega⟩ k) * s (ix2 n ⟨k.val / 128, by omega⟩)

/-- A product of a token's row with a feature's row. -/
def dotv (x : TX.Idx → EReal) (xs : TXS.Idx → EReal) (w : TW.Idx → EReal) (s : TWS.Idx → EReal) (t : Fin 256) (n : Fin 18) (l : Fin 128) : EReal :=
  ∑ k : Fin 18432, act x xs t k * wgt w s n l k

variable (x : TX.Idx → EReal) (xs : TXS.Idx → EReal) (g : TW.Idx → EReal) (gs : TWS.Idx → EReal) (u : TW.Idx → EReal) (us : TWS.Idx → EReal)

/-- The gated product. -/
def hv (t : Fin 256) (n : Fin 18) (l : Fin 128) : EReal :=
  dotv x xs g gs t n l * Ideal.logistic (dotv x xs g gs t n l) * dotv x xs u us t n l

/-- The largest magnitude of a row of 128, over 448. -/
def top (f : Fin 128 → EReal) : EReal :=
  (Finset.univ : Finset (Fin 128)).fold max (Ideal.ofBits .f32 0xFF800000#32) (fun l => max (f l) (-(f l))) * Ideal.ofBits .f32 0x3B124925#32

/-- A group's scale. -/
def scv (t : Fin 256) (n : Fin 18) : EReal := Ideal.exp2 (expo (top fun l => hv x xs g gs u us t n l))

/-- One value of a row, over the row's scale, clipped. -/
def code (f : Fin 128 → EReal) (l : Fin 128) : EReal :=
  min (Ideal.ofBits .f32 0x43E00000#32) (max (Ideal.ofBits .f32 0xC3E00000#32) (f l * Ideal.exp2 (0 - expo (top f))))

/-- A code. -/
def cdv (t : Fin 256) (n : Fin 18) (l : Fin 128) : EReal := code (fun l => hv x xs g gs u us t n l) l

end Cert.Alg

end
-- ==== Proof.Alg.Quant.lean ====
/- What the kernel's quantiser of one 128 × 128 piece computes over the reals. -/
module

public import proofs.«01_k».proof.Proof.Body.Steps2
public import proofs.«01_k».proof.Proof.Alg.Spec
public import Idealize.ShloMosaic.Lib.WordSum

@[expose] public section

noncomputable section

namespace Cert.Alg

open Idealize.ShloMosaic Cert.KernelIdeal Cert.KernelIdeal.Body

theorem word : ∀ k : Fin 255, IntOp.shli .vector (IntOp.minsi (IntOp.addi (BitVec.ofNat 32 k.val) 1#32) 253#32) 23#32 = BitVec.ofNat 32 (min (k.val + 1) 253) <<< 23 := by
  decide +kernel

/-- The powers the count compares with. -/
theorem thresholds_apply (k : Fin 255) (c : Fin 128) : (thresholds (F := Ideal) (ix2 k c)) = ((two (lev k.val) : ℝ) : EReal) := by
  pointwise [thresholds]
  exact bits_two (n := min (k.val + 1) 253) (by omega) (by omega) _ (word k)

/-- Counting in words. -/
theorem fold_count {n : ℕ} (p : Fin n → Prop) [DecidablePred p] :
    (Finset.univ : Finset (Fin n)).fold IntOp.addi (0#32) (fun k => if p k then 1#32 else 0#32) = BitVec.ofNat 32 ((Finset.univ : Finset (Fin n)).filter p).card := by
  have h (s : Finset (Fin n)) : s.fold IntOp.addi (0#32) (fun k => if p k then 1#32 else 0#32) = BitVec.ofNat 32 (s.filter p).card := by
    induction s using Finset.induction_on with
    | empty => rfl
    | insert a s ha ih =>
      rw [Finset.fold_insert ha, ih, Finset.filter_insert]
      by_cases hp : p a
      · rw [if_pos hp, if_pos hp, Finset.card_insert_of_notMem (by simp [ha]), Nat.add_comm, BitVec.ofNat_add]
        rfl
      · rw [if_neg hp, if_neg hp]
        show 0#32 + _ = _
        rw [BitVec.zero_add]
  exact h _

theorem countOf_apply (v : FVec Ideal S1x128 .f32) (c : Fin 128) : countOf v (ix2 0 c) = BitVec.ofNat 32 (cnt (v (ix2 0 c))) := by
  pointwise [countOf]
  simp only [thresholds_apply]
  exact fold_count _

variable (h : FVec Ideal S128x128 .f32) (r c : Fin 128)

theorem vOf_apply : vOf h (ix2 0 c) = top fun l => h (ix2 l c) := by
  pointwise [vOf]
  rfl

theorem pick (n : BitVec 32) : Scalar.select (IntOp.ori (IntOp.cmpi .eq n 0#32) (IntOp.cmpi .eq n 255#32)) (0#32) (IntOp.subi n 126#32) = eW n := by
  unfold eW Scalar.select IntOp.ori IntOp.cmpi IntOp.subi
  by_cases h0 : n = 0#32
  · simp [h0]
  · by_cases h1 : n = 255#32
    · simp [h1]
    · have e0 : (n == 0#32) = false := beq_false_of_ne h0
      have e1 : (n == 255#32) = false := beq_false_of_ne h1
      simp [h0, h1, e0, e1]

theorem shl23 (a : BitVec 32) : IntOp.shli .vector a 23#32 = a <<< 23 := rfl

theorem scaleOf_apply : scaleOf h (ix2 0 c) = Ideal.exp2 (expo (top fun l => h (ix2 l c))) := by
  pointwise [scaleOf, eOf]
  rw [pick, countOf_apply, vOf_apply, shl23]
  exact scale_eq _

theorem invOf_apply : invOf h (ix2 0 c) = Ideal.exp2 (0 - expo (top fun l => h (ix2 l c))) := by
  pointwise [invOf, eOf]
  rw [pick, countOf_apply, vOf_apply, shl23]
  exact inv_eq _

theorem codesOf_apply : codesOf h (ix2 r c) = code (fun l => h (ix2 l r)) c := by
  pointwise [codesOf]
  rw [invOf_apply]
  rfl

theorem hOf_apply (g u : FVec Ideal S128x128 .f32) : hOf g u (ix2 r c) = (g (ix2 r c) * Ideal.logistic (g (ix2 r c)) * u (ix2 r c) : EReal) := by
  pointwise [hOf]

end Cert.Alg

end
-- ==== Proof.Alg.Tiles.lean ====
/- What the kernel's 72 passes over tiles of 256 add up to over the reals: the whole product. -/
module

public import proofs.«01_k».proof.Proof.Run.Quant
public import proofs.«01_k».proof.Proof.Alg.Quant
public import Idealize.ShloMosaic.Lib.MatmulPlain

@[expose] public section

noncomputable section

namespace Cert.Alg

open Idealize.ShloMosaic Cert.KernelIdeal Cert.KernelIdeal.Body

/-- An index spelt with numbers in range. -/
theorem ixT2 {a b : ℕ} (h : ∀ i, 0 < (⟨2, ![a, b]⟩ : Shape).size i) (r c : ℕ) (hr : r < a) (hc : c < b) :
    ixT ⟨2, ![a, b]⟩ h ![r, c] = ix2 ⟨r, hr⟩ ⟨c, hc⟩ := by
  funext d
  match d with
  | ⟨0, _⟩ => exact Fin.ext (Nat.mod_eq_of_lt hr)
  | ⟨1, _⟩ => exact Fin.ext (Nat.mod_eq_of_lt hc)

theorem scaled_apply (v : Vec Ideal S1x128x128 .fp8e4m3) (s : Elt Ideal .f32) (r c : Fin 128) : scaled v s (ix2 r c) = (v (ix3 0 r c) * s : EReal) := by
  pointwise [scaled]

theorem scaledX_apply (v : FVec Ideal S128x256 .bf16) (s : Vec Ideal S1x256 .f32) (r : Fin 128) (c : Fin 256) :
    scaledX v s (ix2 r c) = (v (ix2 r c) * s (ix2 0 c) : EReal) := by
  pointwise [scaledX]

variable (I : In Ideal)

/-- A weight of a pass. -/
theorem Lh_apply (W : Vec Ideal S2304x18432 .fp8e4m3) (S : Vec Ideal S18x144 .f32) (b t ch : ℕ) (hb : b < 3) (ht : t < 72) (hch : ch < 6)
    (r : Fin 128) (k : Fin 256) :
    Lh W S b t ch (ix2 r k) = wgt W S ⟨6 * b + ch, by omega⟩ r ⟨t * 256 + k.val, by omega⟩ := by
  unfold Lh
  pointwise [lhsOf]
  simp only [scaled_apply]
  unfold wgt
  by_cases h : k.val < 128
  · rw [dif_pos h]
    unfold wPiece
    rw [ixT2 pos_S _ _ (by omega) (by omega)]
    have e : ixT S2304x18432 pos_W ![768 * b + 128 * ch + r.val, 256 * t + k.val] = ix2 ⟨(6 * b + ch) * 128 + r.val, by omega⟩ ⟨t * 256 + k.val, by omega⟩ := by
      rw [ixT2 pos_W _ _ (by omega) (by omega)]
      congr 2 <;> omega
    have e' : (⟨2 * t, by omega⟩ : Fin 144) = ⟨(t * 256 + k.val) / 128, by omega⟩ := Fin.ext (by show 2 * t = (t * 256 + k.val) / 128; omega)
    exact congrArg₂ (fun i j => (W i * S (ix2 ⟨6 * b + ch, by omega⟩ j) : EReal)) e e'
  · rw [dif_neg h]
    unfold wPiece
    rw [ixT2 pos_S _ _ (by omega) (by omega)]
    have e : ixT S2304x18432 pos_W ![768 * b + 128 * ch + r.val, 256 * t + 128 + (k.val - 128)] = ix2 ⟨(6 * b + ch) * 128 + r.val, by omega⟩ ⟨t * 256 + k.val, by omega⟩ := by
      rw [ixT2 pos_W _ _ (by omega) (by omega)]
      congr 2 <;> omega
    have e' : (⟨2 * t + 1, by omega⟩ : Fin 144) = ⟨(t * 256 + k.val) / 128, by omega⟩ := Fin.ext (by show 2 * t + 1 = (t * 256 + k.val) / 128; omega)
    exact congrArg₂ (fun i j => (W i * S (ix2 ⟨6 * b + ch, by omega⟩ j) : EReal)) e e'

/-- An activation of a tile. -/
theorem XTile_apply (t : ℕ) (ht : t < 72) (k c : Fin 256) : XTile I t (ix2 k c) = act I.X I.XS c ⟨t * 256 + k.val, by omega⟩ := by
  unfold XTile
  pointwise [tileOf]
  simp only [scaledX_apply]
  unfold act
  by_cases h : k.val < 128
  · rw [dif_pos h]
    pointwise
    unfold xPiece xsRow
    have e : ixT S256x18432 pos_X ![c.val, 256 * t + k.val] = ix2 c ⟨t * 256 + k.val, by omega⟩ := by
      rw [ixT2 pos_X _ _ (by omega) (by omega)]
      congr 2; omega
    have e' : ixT S256x144 pos_XS ![c.val, 2 * t] = ix2 c ⟨(t * 256 + k.val) / 128, by omega⟩ := by
      rw [ixT2 pos_XS _ _ (by omega) (by omega)]
      congr 2; omega
    exact congrArg₂ (fun i j => (I.X i * I.XS j : EReal)) e e'
  · rw [dif_neg h]
    pointwise
    unfold xPiece xsRow
    have e : ixT S256x18432 pos_X ![c.val, 256 * t + (128 + (k.val - 128))] = ix2 c ⟨t * 256 + k.val, by omega⟩ := by
      rw [ixT2 pos_X _ _ (by omega) (by omega)]
      congr 2; omega
    have e' : ixT S256x144 pos_XS ![c.val, 2 * t + 1] = ix2 c ⟨(t * 256 + k.val) / 128, by omega⟩ := by
      rw [ixT2 pos_XS _ _ (by omega) (by omega)]
      congr 2; omega
    exact congrArg₂ (fun i j => (I.X i * I.XS j : EReal)) e e'

/-- One pass: a part of the product. -/
def part (W : Vec Ideal S2304x18432 .fp8e4m3) (S : Vec Ideal S18x144 .f32) (c : Fin 256) (n : Fin 18) (r : Fin 128) (t : Fin 72) : EReal :=
  ∑ k : Fin 256, act I.X I.XS c ⟨t.val * 256 + k.val, by omega⟩ * wgt W S n r ⟨t.val * 256 + k.val, by omega⟩

theorem mxuPass_plain {M K N : ℕ} {φ₁ φ₂ : FTy} (lhs : FVec Ideal ⟨2, ![M, K]⟩ φ₁) (rhs : FVec Ideal ⟨2, ![K, N]⟩ φ₂) (r : Fin M) (c : Fin N) :
    Ideal.mxuPass (DotDims.plain M K N) lhs rhs (ix2 r c) = ∑ k : Fin K, lhs (ix2 r k) * rhs (ix2 k c) := by
  have h := Ideal.matmul_plain_apply none lhs rhs (fun _ => (0 : EReal)) r c
  rw [zero_add] at h
  exact (zero_add _).symm.trans h

theorem pass_apply (q : Fin 2) (b ch t : ℕ) (hb : b < 3) (hch : ch < 6) (ht : t < 72) (r : Fin 128) (c : Fin 256) :
    pass I q b ch t (ix2 r c) = part I (I.w q) (I.s q) c ⟨6 * b + ch, by omega⟩ r ⟨t, ht⟩ := by
  refine (mxuPass_plain (φ₁ := .bf16) (φ₂ := .bf16) (Lh (I.w q) (I.s q) b t ch) (XTile I t) r c).trans ?_
  refine Finset.sum_congr rfl fun k _ => ?_
  rw [Lh_apply _ _ b t ch hb ht hch, XTile_apply I t ht, mul_comm]

theorem dep_apply (o : Option (FVec Ideal S128x256 .f32)) (p : FVec Ideal S128x256 .f32) (i : S128x256.Idx) :
    dep o p i = ((match o with | none => (0 : EReal) | some a => a i) + p i : EReal) := by
  cases o with
  | none => exact (zero_add _).symm
  | some a => rfl

/-- The sum after `n` tiles. -/
theorem sum_apply (q : Fin 2) (b ch : ℕ) (hb : b < 3) (hch : ch < 6) (r : Fin 128) (c : Fin 256) (n : ℕ) (hn : n ≤ 72) :
    (match sumO I q b ch n with | none => (0 : EReal) | some a => a (ix2 r c))
      = ∑ t : Fin n, part I (I.w q) (I.s q) c ⟨6 * b + ch, by omega⟩ r ⟨t.val, by omega⟩ := by
  induction n with
  | zero => rfl
  | succ n ih =>
    rw [Fin.sum_univ_castSucc]
    show dep (sumO I q b ch n) (pass I q b ch n) (ix2 r c) = _
    rw [dep_apply, ih (by omega), pass_apply I q b ch n hb hch (by omega)]
    rfl

/-- A finished sum is the product. -/
theorem total_apply (q : Fin 2) (b ch : ℕ) (hb : b < 3) (hch : ch < 6) (r : Fin 128) (c : Fin 256) :
    total I q b ch (ix2 r c) = dotv I.X I.XS (I.w q) (I.s q) c ⟨6 * b + ch, by omega⟩ r := by
  unfold dotv
  rw [Fin.sum_univ_tiles 72 256 (by norm_num)]
  exact sum_apply I q b ch hb hch r c 72 le_rfl

end Cert.Alg

end
-- ==== Proof.Alg.Eq.lean ====
/- The kernel's two results, element by element, over the reals. -/
module

public import proofs.«01_k».proof.Proof.Run.Out
public import proofs.«01_k».proof.Proof.Alg.Tiles

@[expose] public section

noncomputable section

namespace Cert.Alg

open Idealize.ShloMosaic Cert.KernelIdeal Cert.KernelIdeal.Body

variable (I : In Ideal)

/-- A piece of a product: row `l` is feature `128 n + l`, column `c` is token `128 j + c`. -/
theorem gPiece_apply (q : Fin 2) (n j : ℕ) (hn : n < 18) (hj : j < 2) (l c : Fin 128) :
    gPiece I q n j (ix2 l c) = dotv I.X I.XS (I.w q) (I.s q) ⟨128 * j + c.val, by omega⟩ ⟨n, hn⟩ l := by
  have h1 : 128 * (n % 6) + l.val < 768 := by omega
  have h2 : 128 * j + c.val < 256 := by omega
  have h3 : (128 * (n % 6) + l.val) % 128 < 128 := by omega
  show gVal I q (n / 6) (ixT S768x256 pos_H ![128 * (n % 6) + l.val, 128 * j + c.val]) = _
  rw [ixT2 pos_H _ _ h1 h2]
  show total I q (n / 6) ((128 * (n % 6) + l.val) / 128) (ixT S128x256 pos_G ![(128 * (n % 6) + l.val) % 128, 128 * j + c.val]) = _
  rw [ixT2 pos_G _ _ h3 h2, total_apply I q _ _ (by omega) (by omega)]
  congr 1
  · exact Fin.ext (show 6 * (n / 6) + (128 * (n % 6) + l.val) / 128 = n by omega)
  · exact Fin.ext (show (128 * (n % 6) + l.val) % 128 = l.val by omega)

/-- The gated product of a piece. -/
theorem hVal_apply (n j : ℕ) (hn : n < 18) (hj : j < 2) (l c : Fin 128) :
    hVal I n j (ix2 l c) = hv I.X I.XS I.WG I.WGS I.WU I.WUS ⟨128 * j + c.val, by omega⟩ ⟨n, hn⟩ l := by
  unfold hVal
  rw [hOf_apply, gPiece_apply I 0 n j hn hj, gPiece_apply I 1 n j hn hj]
  rfl

/-- A column of the gated product, its token spelt as the whole array has it. -/
theorem hVal_col (n : ℕ) (hn : n < 18) (t : Fin 256) (l : Fin 128) :
    hVal I n (t.val / 128) (ix2 l ⟨t.val % 128, Nat.mod_lt _ (by decide)⟩) = hv I.X I.XS I.WG I.WGS I.WU I.WUS t ⟨n, hn⟩ l := by
  rw [hVal_apply I n _ hn (by omega)]
  exact congrArg (fun s : Fin 256 => hv I.X I.XS I.WG I.WGS I.WU I.WUS s ⟨n, hn⟩ l) (Fin.ext (Nat.div_add_mod t.val 128))

/-- The codes: token `t`, feature `f`. -/
theorem cdVal_apply (t : Fin 256) (f : Fin 2304) :
    cdVal I (ix2 t f) = cdv I.X I.XS I.WG I.WGS I.WU I.WUS t ⟨f.val / 128, by omega⟩ ⟨f.val % 128, by omega⟩ := by
  have h1 : t.val % 128 < 128 := by omega
  have h2 : f.val % 128 < 128 := by omega
  show codesOf (hVal I (f.val / 128) (t.val / 128)) (ixT S128x128 pos_Q ![t.val % 128, f.val % 128]) = _
  rw [ixT2 pos_Q _ _ h1 h2, codesOf_apply]
  exact congrArg (fun h => code h ⟨f.val % 128, h2⟩) (funext fun l => hVal_col I _ (by omega) t l)

/-- The scales: token `t`, block `n`. -/
theorem scOut_apply (t : Fin 256) (n : Fin 18) : scOut I (ix2 t n) = scv I.X I.XS I.WG I.WGS I.WU I.WUS t n := by
  have h1 : t.val % 128 < 128 := by omega
  have hi : ixT S18x1x256 pos_SC ![n.val, 0, t.val] = ix3 n 0 t := by
    funext d
    match d with
    | ⟨0, _⟩ => exact Fin.ext (Nat.mod_eq_of_lt n.isLt)
    | ⟨1, _⟩ => rfl
    | ⟨2, _⟩ => exact Fin.ext (Nat.mod_eq_of_lt t.isLt)
  show scVal I (ixT S18x1x256 pos_SC ![n.val, 0, t.val]) = _
  rw [hi]
  show scaleOf (hVal I n.val (t.val / 128)) (ixT S1x128 pos_R ![0, t.val % 128]) = _
  rw [ixT2 pos_R _ _ (by omega) h1]
  refine (scaleOf_apply _ _).trans ?_
  exact congrArg (fun h => Ideal.exp2 (expo (top h))) (funext fun l => hVal_col I _ n.isLt t l)

end Cert.Alg

end
-- ==== Proof.Alg.Ref.lean ====
/- What the reference's payloads are at an index. -/
module

public import proofs.«01_k».proof.Proof.Gen.ReferenceIdeal.Skeleton
public import proofs.«01_k».proof.Proof.Alg.Spec

@[expose] public section

noncomputable section

namespace Cert.Alg

open Idealize.ShloMosaic Cert.ReferenceIdeal Cert.ReferenceIdeal.Gen

theorem bits_low : Ideal.ofBits .f32 0x00800000#32 = ((two (-126) : ℝ) : EReal) := bits_two (n := 1) (by omega) (by omega) _ rfl
theorem bits_high : Ideal.ofBits .f32 0x7E800000#32 = ((two 126 : ℝ) : EReal) := bits_two (n := 253) (by omega) (by omega) _ rfl
theorem bits_base : Ideal.ofBits .f32 0x40000000#32 = ((2 : ℝ) : EReal) := by
  rw [bits_two (n := 128) (by omega) (by omega) 0x40000000#32 rfl]
  unfold two
  norm_num

variable (xs : Vec Ideal S256x144 .f32) (x : Vec Ideal S256x18432 .fp8e4m3) (gs : Vec Ideal S18x144 .f32) (g : Vec Ideal S2304x18432 .fp8e4m3)
  (us : Vec Ideal S18x144 .f32) (u : Vec Ideal S2304x18432 .fp8e4m3)

/-- The gated product. -/
theorem pay4_apply (t : Fin 256) (n : Fin 18) (l : Fin 128) : k0_pay4 xs x gs g us u (ix3 t n l) = hv x xs g gs u us t n l := by
  pointwise [k0_pay4]
  rfl

/-- A group's value. -/
theorem pay5_apply (t : Fin 256) (n : Fin 18) : k0_pay5 xs x gs g us u (ix2 t n) = top fun l => hv x xs g gs u us t n l := by
  pointwise [k0_pay5]
  simp only [pay4_apply]
  rfl

theorem both (p q : Prop) [Decidable p] [Decidable q] (a b : EReal) :
    Scalar.select (IntOp.andi (BitVec.ofBool (decide p)) (BitVec.ofBool (decide q))) a b = if p ∧ q then a else b := by
  by_cases hp : p <;> by_cases hq : q <;> simp [hp, hq, Scalar.select, IntOp.andi]

/-- A group's exponent. -/
theorem pay1_apply (t : Fin 256) (n : Fin 18) :
    k0_pay1 (k0_pay5 xs x gs g us u) (k0_pay6 xs x gs g us u) k0_pay7 (ix2 t n) = expo (top fun l => hv x xs g gs u us t n l) := by
  pointwise [k0_pay1, k0_pay6, k0_pay7]
  rw [pay5_apply, both, bits_low, bits_high, bits_base]
  rfl

/-- The codes. -/
theorem pay2_apply (t : Fin 256) (f : Fin 2304) :
    k0_pay2 (k0_pay4 xs x gs g us u) (k0_pay5 xs x gs g us u) (k0_pay6 xs x gs g us u) k0_pay7 (ix2 t f)
      = cdv x xs g gs u us t ⟨f.val / 128, by omega⟩ ⟨f.val % 128, by omega⟩ := by
  pointwise [k0_pay2]
  rw [pay1_apply, pay4_apply]
  rfl

/-- The scales. -/
theorem pay3_apply (t : Fin 256) (n : Fin 18) :
    k0_pay3 (k0_pay5 xs x gs g us u) (k0_pay6 xs x gs g us u) k0_pay7 (ix2 t n) = scv x xs g gs u us t n := by
  pointwise [k0_pay3]
  rw [pay1_apply]
  rfl

end Cert.Alg

end
-- ==== Proof.Alg.Host.lean ====
/- What the two host lines leave: both programs flatten the activations and their scales. -/
module

public import proofs.«01_k».proof.Proof.Gen.KernelIdeal.Frame
public import proofs.«01_k».proof.Proof.Gen.ReferenceIdeal.Frame
public import proofs.«01_k».proof.Proof.Alg.Spec

@[expose] public section

noncomputable section

open Idealize.ShloMosaic Idealize.ShloMosaic.TcCoe Idealize.SL Idealize.SL.Sem

namespace Cert.KernelIdeal.Host

open Cert.KernelIdeal Cert.KernelIdeal.Gen

variable (m : (ℓ : Loc nD τ sig) → Buf (Elt Ideal) ℓ) (c : Dev nD)

theorem V0 : V m c main_v0 = shapeCast (α := Elt Ideal .fp8e4m3) S256x18432 (m ((c : Thread nD τ).loc main_arg0)) shapeCasts_S2x128x18432_S256x18432 := by
  unfold V hostOps0
  simp only [StableHlo.after_cons, StableHlo.after_nil]
  rw [StableHlo.reshape_result_ne _ _ _ _ _ _ _ (by decide), StableHlo.reshape_result]
  rfl

theorem V1 : V m c main_v1 = shapeCast (α := Elt Ideal .f32) S256x144 (m ((c : Thread nD τ).loc main_arg1)) shapeCasts_S2x128x144_S256x144 := by
  unfold V hostOps0
  simp only [StableHlo.after_cons, StableHlo.after_nil]
  rw [StableHlo.reshape_result, StableHlo.reshape_result_ne _ _ _ _ _ _ _ (by decide)]
  rfl

end Cert.KernelIdeal.Host

namespace Cert.ReferenceIdeal.Host

open Cert.ReferenceIdeal Cert.ReferenceIdeal.Gen

variable (m : (ℓ : Loc nD τ sig) → Buf (Elt Ideal) ℓ) (c : Dev nD)

theorem V0 : V m c main_v0 = shapeCast (α := Elt Ideal .fp8e4m3) S256x18432 (m ((c : Thread nD τ).loc main_arg0)) shapeCasts_S2x128x18432_S256x18432 := by
  unfold V hostOps0
  simp only [StableHlo.after_cons, StableHlo.after_nil]
  rw [StableHlo.reshape_result_ne _ _ _ _ _ _ _ (by decide), StableHlo.reshape_result]
  rfl

theorem V1 : V m c main_v1 = shapeCast (α := Elt Ideal .f32) S256x144 (m ((c : Thread nD τ).loc main_arg1)) shapeCasts_S2x128x144_S256x144 := by
  unfold V hostOps0
  simp only [StableHlo.after_cons, StableHlo.after_nil]
  rw [StableHlo.reshape_result, StableHlo.reshape_result_ne _ _ _ _ _ _ _ (by decide)]
  rfl

end Cert.ReferenceIdeal.Host

end
-- ==== Proof.Values.lean ====
/- The equation: over the reals the kernel and the reference leave the same codes and the same scales. -/
module

public import proofs.«01_k».proof.Defs
public import proofs.«01_k».proof.Proof.Run.Main
public import proofs.«01_k».proof.Proof.Ref.Value
public import proofs.«01_k».proof.Proof.Alg.Eq
public import proofs.«01_k».proof.Proof.Alg.Ref
public import proofs.«01_k».proof.Proof.Alg.Host

@[expose] public section

noncomputable section

namespace Cert.Proof

open Idealize.ShloMosaic Idealize.ShloMosaic.TcCoe Idealize.SL Idealize.SL.Sem
open Cert.KernelIdeal.Body (inOf cdVal scOut)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same arguments. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

variable {m m'} {c : Dev Cert.KernelIdeal.nD} (h : Agree m m' c)

section
include h

/-- What the reference's region reads is what the kernel's reads. -/
theorem same_x : Cert.ReferenceIdeal.Gen.V m' c Cert.ReferenceIdeal.main_v0 = (inOf m c).X :=
  (Cert.ReferenceIdeal.Host.V0 m' c).trans ((congrArg (fun a => shapeCast (α := Elt Ideal .fp8e4m3) Cert.KernelIdeal.S256x18432 a Cert.KernelIdeal.Gen.shapeCasts_S2x128x18432_S256x18432) h.1).trans (Cert.KernelIdeal.Host.V0 m c).symm)

theorem same_xs : Cert.ReferenceIdeal.Gen.V m' c Cert.ReferenceIdeal.main_v1 = (inOf m c).XS :=
  (Cert.ReferenceIdeal.Host.V1 m' c).trans ((congrArg (fun a => shapeCast (α := Elt Ideal .f32) Cert.KernelIdeal.S256x144 a Cert.KernelIdeal.Gen.shapeCasts_S2x128x144_S256x144) h.2.1).trans (Cert.KernelIdeal.Host.V1 m c).symm)

theorem same_g : Cert.ReferenceIdeal.Gen.V m' c Cert.ReferenceIdeal.main_arg2 = (inOf m c).WG :=
  (Cert.ReferenceIdeal.Gen.V_main_arg2 m' c).trans (h.2.2.1.trans (Cert.KernelIdeal.Gen.V_main_arg2 m c).symm)

theorem same_gs : Cert.ReferenceIdeal.Gen.V m' c Cert.ReferenceIdeal.main_arg3 = (inOf m c).WGS :=
  (Cert.ReferenceIdeal.Gen.V_main_arg3 m' c).trans (h.2.2.2.1.trans (Cert.KernelIdeal.Gen.V_main_arg3 m c).symm)

theorem same_u : Cert.ReferenceIdeal.Gen.V m' c Cert.ReferenceIdeal.main_arg4 = (inOf m c).WU :=
  (Cert.ReferenceIdeal.Gen.V_main_arg4 m' c).trans (h.2.2.2.2.1.trans (Cert.KernelIdeal.Gen.V_main_arg4 m c).symm)

theorem same_us : Cert.ReferenceIdeal.Gen.V m' c Cert.ReferenceIdeal.main_arg5 = (inOf m c).WUS :=
  (Cert.ReferenceIdeal.Gen.V_main_arg5 m' c).trans (h.2.2.2.2.2.trans (Cert.KernelIdeal.Gen.V_main_arg5 m c).symm)

/-- The codes are the same. -/
theorem codes_eq : Cert.ReferenceIdeal.Value.codes m' c = cdVal (inOf m c) := by
  unfold Cert.ReferenceIdeal.Value.codes
  rw [same_x h, same_xs h, same_g h, same_gs h, same_u h, same_us h]
  funext i
  rw [eq_ix2 i]
  exact (Cert.Alg.pay2_apply _ _ _ _ _ _ _ _).trans (Cert.Alg.cdVal_apply (inOf m c) _ _).symm

/-- The scales are the same. -/
theorem scales_eq : Cert.ReferenceIdeal.Value.scales m' c = scOut (inOf m c) := by
  unfold Cert.ReferenceIdeal.Value.scales
  rw [same_x h, same_xs h, same_g h, same_gs h, same_u h, same_us h]
  funext i
  rw [eq_ix2 i]
  exact (Cert.Alg.pay3_apply _ _ _ _ _ _ _ _).trans (Cert.Alg.scOut_apply (inOf m c) _ _).symm

end

/-- Both programs end, with equal results and their arguments as they were. -/
theorem algebraic : Cert.algebraic_KernelIdeal_ReferenceIdeal := by
  intro m g m' g' _ h
  exact ⟨fun c => cdVal (inOf m c), fun c => scOut (inOf m c),
    (θ_run _ _ _).mono (fun r e c => e.1 c) (Cert.KernelIdeal.Body.run (F := Ideal) m g),
    (θ_run _ _ _).mono (fun r e c => ⟨(e c).1.trans (codes_eq (h c)), (e c).2.1.trans (scales_eq (h c)), (e c).2.2⟩)
      (Cert.ReferenceIdeal.Value.run (F := Ideal) m' g')⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Values

@[expose] public section

noncomputable section

namespace Cert.Proof

theorem claim : Cert.Claim :=
  ⟨Cert.Kernel.Gen.facts, Cert.KernelIdeal.Gen.facts, Cert.ReferenceIdeal.Gen.facts, frameBits, frameIdeal, frameRef, trivial, algebraic⟩

end Cert.Proof

end
